-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_finite35 [hPre_finite35 : Cert.Pre_finite35.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_finite35 [hPre_finite35 : Cert.Pre_finite35.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2))) = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Kernel35Ideal_pre_finite35 [hKernel35Ideal : Cert.Kernel35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_finite35 m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Reference35Ideal_pre_finite35 [hReference35Ideal : Cert.Reference35Ideal.Facts] [hPre_finite35 : Cert.Pre_finite35.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_finite35 m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v1) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v37) = v0 c
          ∧ r.2.mem ((c.tc : Thread Cert.Reference17Ideal.nD Cert.Reference17Ideal.τ).loc Cert.Reference17Ideal.main_v20) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v12) = v2 c
          ∧ r.2.mem ((c.tc : Thread Cert.Reference22Ideal.nD Cert.Reference22Ideal.τ).loc Cert.Reference22Ideal.main_v18) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_v31) = v1 c
          ∧ r.2.mem ((c.tc : Thread Cert.Reference23Ideal.nD Cert.Reference23Ideal.τ).loc Cert.Reference23Ideal.main_v12) = v2 c
          ∧ r.2.mem ((c.tc : Thread Cert.Reference23Ideal.nD Cert.Reference23Ideal.τ).loc Cert.Reference23Ideal.main_v18) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_v31) = v1 c
          ∧ r.2.mem ((c.tc : Thread Cert.Reference24Ideal.nD Cert.Reference24Ideal.τ).loc Cert.Reference24Ideal.main_v12) = v2 c
          ∧ r.2.mem ((c.tc : Thread Cert.Reference24Ideal.nD Cert.Reference24Ideal.τ).loc Cert.Reference24Ideal.main_v18) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_v12) = v2 c
          ∧ r.2.mem ((c.tc : Thread Cert.Reference25Ideal.nD Cert.Reference25Ideal.τ).loc Cert.Reference25Ideal.main_v18) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_v31) = v1 c
          ∧ r.2.mem ((c.tc : Thread Cert.Reference26Ideal.nD Cert.Reference26Ideal.τ).loc Cert.Reference26Ideal.main_v12) = v2 c
          ∧ r.2.mem ((c.tc : Thread Cert.Reference26Ideal.nD Cert.Reference26Ideal.τ).loc Cert.Reference26Ideal.main_v18) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_v31) = v1 c
          ∧ r.2.mem ((c.tc : Thread Cert.Reference27Ideal.nD Cert.Reference27Ideal.τ).loc Cert.Reference27Ideal.main_v12) = v2 c
          ∧ r.2.mem ((c.tc : Thread Cert.Reference27Ideal.nD Cert.Reference27Ideal.τ).loc Cert.Reference27Ideal.main_v18) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v15) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v19) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal_pre_finite35 [hKernel35Ideal : Cert.Kernel35Ideal.Facts] [hReference35Ideal : Cert.Reference35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_finite35 m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v64) = v0 c
          ∧ r.2.mem ((c.tc : Thread Cert.Reference35Ideal.nD Cert.Reference35Ideal.τ).loc Cert.Reference35Ideal.main_v62) = v1 c
          ∧ r.2.mem ((c.tc : Thread Cert.Reference35Ideal.nD Cert.Reference35Ideal.τ).loc Cert.Reference35Ideal.main_v46) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v12) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v2) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v13) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite2 : Cert.Pre_finite2.Facts) (hPre_finite3 : Cert.Pre_finite3.Facts) (hPre_finite5 : Cert.Pre_finite5.Facts) (hPre_finite6 : Cert.Pre_finite6.Facts) (hPre_finite17 : Cert.Pre_finite17.Facts) (hPre_finite35 : Cert.Pre_finite35.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel35Ideal_pre_finite35 (hKernel35Ideal := hKernel35Ideal) (hPre_finite35 := hPre_finite35)
    ∧ quiescent_Reference35Ideal (hReference35Ideal := hReference35Ideal)
    ∧ quiescent_Reference35Ideal_pre_finite35 (hReference35Ideal := hReference35Ideal) (hPre_finite35 := hPre_finite35)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal_pre_finite35 (hKernel35Ideal := hKernel35Ideal) (hReference35Ideal := hReference35Ideal) (hPre_finite35 := hPre_finite35)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite17.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S8192x1024 .f32) : IVec S_ 1 :=
  let main_cst_5 : FVec F S_ .f32 := constant S_ .f32 0x7F800000#32
  let main_v17 : FVec F S8192x1024 .f32 := broadcastInDim S8192x1024 ![] bcast_S_S8192x1024 main_cst_5
  let main_v18 : IVec S8192x1024 1 := cmpf .olt main_v16 main_v17
  let main_c_6 : IVec S_ 1 := constantI S_ 1 1#1
  let main_v19 : IVec S_ 1 := (fun x v => Host.reduce IntOp.andi x v reducesTo_S8192x1024_S_d0_1 h_S_) main_v18 main_c_6
  let main_v20 : IVec S_ 1 := andi main_v15 main_v19
  let main_v21 : FVec F S1x1024 .f32 := Host.absf main_arg4
  let main_cst_7 : FVec F S_ .f32 := constant S_ .f32 0x7F800000#32
  let main_v22 : FVec F S1x1024 .f32 := broadcastInDim S1x1024 ![] bcast_S_S1x1024 main_cst_7
  let main_v23 : IVec S1x1024 1 := cmpf .olt main_v21 main_v22
  let main_c_8 : IVec S_ 1 := constantI S_ 1 1#1
  let main_v24 : IVec S_ 1 := (fun x v => Host.reduce IntOp.andi x v reducesTo_S1x1024_S_d0_1 h_S_) main_v23 main_c_8
  let main_v25 : IVec S_ 1 := andi main_v20 main_v24
  main_v25

def fn {F : FTy → Type} [FloatOps F] (main_arg0 : FVec F S8192x1024 .bf16) (main_arg1 : FVec F S1024x1024 .f32) (main_arg2 : FVec F S8192x1024 .f32) (main_arg3 : FVec F S8192x1024 .f32) (main_arg4 : FVec F S1x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_c_0 : IVec S_ 1 := constantI S_ 1 1#1
  let main_v5 : IVec S_ 1 := andi main_c_0 main_v4
  let main_v6 : FVec F S1024x1024 .f32 := Host.absf main_arg1
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_c_2 : IVec S_ 1 := constantI S_ 1 1#1
  let main_v9 : IVec S_ 1 := (fun x v => Host.reduce IntOp.andi x v reducesTo_S1024x1024_S_d0_1 h_S_) main_v8 main_c_2
  let main_v10 : IVec S_ 1 := andi main_v5 main_v9
  let main_v11 : FVec F S8192x1024 .f32 := Host.absf main_arg2
  let main_cst_3 : FVec F S_ .f32 := constant S_ .f32 0x7F800000#32
  let main_v12 : FVec F S8192x1024 .f32 := broadcastInDim S8192x1024 ![] bcast_S_S8192x1024 main_cst_3
  let main_v13 : IVec S8192x1024 1 := cmpf .olt main_v11 main_v12
  let main_c_4 : IVec S_ 1 := constantI S_ 1 1#1
  let main_v14 : IVec S_ 1 := (fun x v => Host.reduce IntOp.andi x v reducesTo_S8192x1024_S_d0_1 h_S_) main_v13 main_c_4
  let main_v15 : IVec S_ 1 := andi main_v10 main_v14
  let main_v16 : FVec F S8192x1024 .f32 := Host.absf main_arg3
  fn_part1 (F := F) main_arg4 main_v15 main_v16
-- ==== Pre_finite2.lean ====
abbrev S8192x1024 : Shape := ⟨2, ![8192, 1024]⟩
abbrev S1024x2048 : Shape := ⟨2, ![1024, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v11 : IVec S_ 1) (main_v16 : IVec S_ 1) : IVec S_ 1 :=
  let main_v17 : IVec S_ 1 := andi main_v11 main_v16
  main_v17

def fn {F : FTy → Type} [FloatOps F] (main_arg0 : FVec F S8192x1024 .bf16) (main_arg1 : FVec F S1024x2048 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_c_0 : IVec S_ 1 := constantI S_ 1 1#1
  let main_v5 : IVec S_ 1 := andi main_c_0 main_v4
  let main_v6 : FVec F S1024x2048 .f32 := (extf .f32 · bitsLt_bf16_f32) main_arg1
  let main_v7 : FVec F S1024x2048 .f32 := Host.absf main_v6
  let main_cst_1 : FVec F S_ .f32 := constant S_ .f32 0x7F800000#32
  let main_v8 : FVec F S1024x2048 .f32 := broadcastInDim S1024x2048 ![] bcast_S_S1024x2048 main_cst_1
  let main_v9 : IVec S1024x2048 1 := cmpf .olt main_v7 main_v8
  let main_c_2 : IVec S_ 1 := constantI S_ 1 1#1
  let main_v10 : IVec S_ 1 := (fun x v => Host.reduce IntOp.andi x v reducesTo_S1024x2048_S_d0_1 h_S_) main_v9 main_c_2
  let main_v11 : IVec S_ 1 := andi main_v5 main_v10
  let main_v12 : FVec F S8192x1024 .f32 := (extf .f32 · bitsLt_bf16_f32) main_arg2
  let main_v13 : FVec F S8192x1024 .f32 := Host.absf main_v12
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  let main_c_4 : IVec S_ 1 := constantI S_ 1 1#1
  let main_v16 : IVec S_ 1 := (fun x v => Host.reduce IntOp.andi x v reducesTo_S8192x1024_S_d0_1 h_S_) main_v15 main_c_4
  fn_part1 (F := F) main_v11 main_v16
-- ==== Pre_finite3.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v15 : IVec S_ 1) (main_v16 : FVec F S8192x2816 .f32) : IVec S_ 1 :=
  let main_v17 : FVec F S8192x2816 .f32 := Host.absf main_v16
  let main_cst_5 : FVec F S_ .f32 := constant S_ .f32 0x7F800000#32
  let main_v18 : FVec F S8192x2816 .f32 := broadcastInDim S8192x2816 ![] bcast_S_S8192x2816 main_cst_5
  let main_v19 : IVec S8192x2816 1 := cmpf .olt main_v17 main_v18
  let main_c_6 : IVec S_ 1 := constantI S_ 1 1#1
  let main_v20 : IVec S_ 1 := (fun x v => Host.reduce IntOp.andi x v reducesTo_S8192x2816_S_d0_1 h_S_) main_v19 main_c_6
  let main_v21 : IVec S_ 1 := andi main_v15 main_v20
  main_v21

def fn {F : FTy → Type} [FloatOps F] (main_arg0 : FVec F S8192x1024 .f32) (main_arg1 : FVec F S2816x1024 .f32) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S2816x1024 .f32 := Host.absf main_arg1
  let main_cst_1 : FVec F S_ .f32 := constant S_ .f32 0x7F800000#32
  let main_v6 : FVec F S2816x1024 .f32 := broadcastInDim S2816x1024 ![] bcast_S_S2816x1024 main_cst_1
  let main_v7 : IVec S2816x1024 1 := cmpf .olt main_v5 main_v6
  let main_c_2 : IVec S_ 1 := constantI S_ 1 1#1
  let main_v8 : IVec S_ 1 := (fun x v => Host.reduce IntOp.andi x v reducesTo_S2816x1024_S_d0_1 h_S_) main_v7 main_c_2
  let main_v9 : IVec S_ 1 := andi main_v4 main_v8
  let main_v10 : FVec F S8192x2816 .f32 := (extf .f32 · bitsLt_bf16_f32) main_arg2
  let main_v11 : FVec F S8192x2816 .f32 := Host.absf main_v10
  let main_cst_3 : FVec F S_ .f32 := constant S_ .f32 0x7F800000#32
  let main_v12 : FVec F S8192x2816 .f32 := broadcastInDim S8192x2816 ![] bcast_S_S8192x2816 main_cst_3
  let main_v13 : IVec S8192x2816 1 := cmpf .olt main_v11 main_v12
  let main_c_4 : IVec S_ 1 := constantI S_ 1 1#1
  let main_v14 : IVec S_ 1 := (fun x v => Host.reduce IntOp.andi x v reducesTo_S8192x2816_S_d0_1 h_S_) main_v13 main_c_4
  let main_v15 : IVec S_ 1 := andi main_v9 main_v14
  let main_v16 : FVec F S8192x2816 .f32 := (extf .f32 · bitsLt_bf16_f32) main_arg3
  fn_part1 (F := F) main_v15 main_v16
-- ==== Pre_finite35.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  main_v14
-- ==== Pre_finite5.lean ====
abbrev S8192x2816 : Shape := ⟨2, ![8192, 2816]⟩
abbrev S4x1024x1408 : Shape := ⟨3, ![4, 1024, 1408]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S8192x1024 .f32) (main_arg4 : FVec F S1x1024 .f32) (main_arg5 : FVec F S8192x1024 .f32) (main_v16 : IVec S_ 1) : IVec S_ 1 :=
  let main_v17 : FVec F S8192x1024 .f32 := Host.absf main_arg3
  let main_cst_5 : FVec F S_ .f32 := constant S_ .f32 0x7F800000#32
  let main_v18 : FVec F S8192x1024 .f32 := broadcastInDim S8192x1024 ![] bcast_S_S8192x1024 main_cst_5
  let main_v19 : IVec S8192x1024 1 := cmpf .olt main_v17 main_v18
  let main_c_6 : IVec S_ 1 := constantI S_ 1 1#1
  let main_v20 : IVec S_ 1 := (fun x v => Host.reduce IntOp.andi x v reducesTo_S8192x1024_S_d0_1 h_S_) main_v19 main_c_6
  let main_v21 : IVec S_ 1 := andi main_v16 main_v20
  let main_v22 : FVec F S1x1024 .f32 := Host.absf main_arg4
  let main_cst_7 : FVec F S_ .f32 := constant S_ .f32 0x7F800000#32
  let main_v23 : FVec F S1x1024 .f32 := broadcastInDim S1x1024 ![] bcast_S_S1x1024 main_cst_7
  let main_v24 : IVec S1x1024 1 := cmpf .olt main_v22 main_v23
  let main_c_8 : IVec S_ 1 := constantI S_ 1 1#1
  let main_v25 : IVec S_ 1 := (fun x v => Host.reduce IntOp.andi x v reducesTo_S1x1024_S_d0_1 h_S_) main_v24 main_c_8
  let main_v26 : IVec S_ 1 := andi main_v21 main_v25
  let main_v27 : FVec F S8192x1024 .f32 := Host.absf main_arg5
  let main_cst_9 : FVec F S_ .f32 := constant S_ .f32 0x7F800000#32
  let main_v28 : FVec F S8192x1024 .f32 := broadcastInDim S8192x1024 ![] bcast_S_S8192x1024 main_cst_9
  let main_v29 : IVec S8192x1024 1 := cmpf .olt main_v27 main_v28
  let main_c_10 : IVec S_ 1 := constantI S_ 1 1#1
  let main_v30 : IVec S_ 1 := (fun x v => Host.reduce IntOp.andi x v reducesTo_S8192x1024_S_d0_1 h_S_) main_v29 main_c_10
  let main_v31 : IVec S_ 1 := andi main_v26 main_v30
  main_v31

def fn {F : FTy → Type} [FloatOps F] (main_arg0 : FVec F S8192x2816 .bf16) (main_arg1 : FVec F S8192x2816 .bf16) (main_arg2 : FVec F S4x1024x1408 .f32) (main_arg3 : FVec F S8192x1024 .f32) (main_arg4 : FVec F S1x1024 .f32) (main_arg5 : FVec F S8192x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_c_0 : IVec S_ 1 := constantI S_ 1 1#1
  let main_v5 : IVec S_ 1 := andi main_c_0 main_v4
  let main_v6 : FVec F S8192x2816 .f32 := (extf .f32 · bitsLt_bf16_f32) main_arg1
  let main_v7 : FVec F S8192x2816 .f32 := Host.absf main_v6
  let main_cst_1 : FVec F S_ .f32 := constant S_ .f32 0x7F800000#32
  let main_v8 : FVec F S8192x2816 .f32 := broadcastInDim S8192x2816 ![] bcast_S_S8192x2816 main_cst_1
  let main_v9 : IVec S8192x2816 1 := cmpf .olt main_v7 main_v8
  let main_c_2 : IVec S_ 1 := constantI S_ 1 1#1
  let main_v10 : IVec S_ 1 := (fun x v => Host.reduce IntOp.andi x v reducesTo_S8192x2816_S_d0_1 h_S_) main_v9 main_c_2
  let main_v11 : IVec S_ 1 := andi main_v5 main_v10
  let main_v12 : FVec F S4x1024x1408 .f32 := Host.absf main_arg2
  let main_cst_3 : FVec F S_ .f32 := constant S_ .f32 0x7F800000#32
  let main_v13 : FVec F S4x1024x1408 .f32 := broadcastInDim S4x1024x1408 ![] bcast_S_S4x1024x1408 main_cst_3
  let main_v14 : IVec S4x1024x1408 1 := cmpf .olt main_v12 main_v13
  let main_c_4 : IVec S_ 1 := constantI S_ 1 1#1
  let main_v15 : IVec S_ 1 := (fun x v => Host.reduce IntOp.andi x v reducesTo_S4x1024x1408_S_d0_1_2 h_S_) main_v14 main_c_4
  let main_v16 : IVec S_ 1 := andi main_v11 main_v15
  fn_part1 (F := F) main_arg3 main_arg4 main_arg5 main_v16
-- ==== Pre_finite6.lean ====
abbrev S8192x10368 : Shape := ⟨2, ![8192, 10368]⟩
abbrev S1024x10368 : Shape := ⟨2, ![1024, 10368]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x10368 : S_.BroadcastsInDim S8192x10368 (![] : Fin 0 → Fin S8192x10368.rank)
  reducesTo_S8192x10368_S_d0_1 : S8192x10368.ReducesTo [0, 1] S_
  h_S_ : 0 < S_.numel
  bcast_S_S1024x10368 : S_.BroadcastsInDim S1024x10368 (![] : Fin 0 → Fin S1024x10368.rank)
  reducesTo_S1024x10368_S_d0_1 : S1024x10368.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S8192x1024 .f32) : IVec S_ 1 :=
  let main_cst_5 : FVec F S_ .f32 := constant S_ .f32 0x7F800000#32
  let main_v17 : FVec F S8192x1024 .f32 := broadcastInDim S8192x1024 ![] bcast_S_S8192x1024 main_cst_5
  let main_v18 : IVec S8192x1024 1 := cmpf .olt main_v16 main_v17
  let main_c_6 : IVec S_ 1 := constantI S_ 1 1#1
  let main_v19 : IVec S_ 1 := (fun x v => Host.reduce IntOp.andi x v reducesTo_S8192x1024_S_d0_1 h_S_) main_v18 main_c_6
  let main_v20 : IVec S_ 1 := andi main_v15 main_v19
  let main_v21 : FVec F S1x1024 .f32 := Host.absf main_arg4
  let main_cst_7 : FVec F S_ .f32 := constant S_ .f32 0x7F800000#32
  let main_v22 : FVec F S1x1024 .f32 := broadcastInDim S1x1024 ![] bcast_S_S1x1024 main_cst_7
  let main_v23 : IVec S1x1024 1 := cmpf .olt main_v21 main_v22
  let main_c_8 : IVec S_ 1 := constantI S_ 1 1#1
  let main_v24 : IVec S_ 1 := (fun x v => Host.reduce IntOp.andi x v reducesTo_S1x1024_S_d0_1 h_S_) main_v23 main_c_8
  let main_v25 : IVec S_ 1 := andi main_v20 main_v24
  main_v25

def fn {F : FTy → Type} [FloatOps F] (main_arg0 : FVec F S8192x10368 .bf16) (main_arg1 : FVec F S1024x10368 .f32) (main_arg2 : FVec F S8192x1024 .f32) (main_arg3 : FVec F S8192x1024 .f32) (main_arg4 : FVec F S1x1024 .f32) : IVec S_ 1 :=
  let main_v0 : FVec F S8192x10368 .f32 := (extf .f32 · bitsLt_bf16_f32) main_arg0
  let main_v1 : FVec F S8192x10368 .f32 := Host.absf main_v0
  let main_cst : FVec F S_ .f32 := constant S_ .f32 0x7F800000#32
  let main_v2 : FVec F S8192x10368 .f32 := broadcastInDim S8192x10368 ![] bcast_S_S8192x10368 main_cst
  let main_v3 : IVec S8192x10368 1 := cmpf .olt main_v1 main_v2
  let main_c : IVec S_ 1 := constantI S_ 1 1#1
  let main_v4 : IVec S_ 1 := (fun x v => Host.reduce IntOp.andi x v reducesTo_S8192x10368_S_d0_1 h_S_) main_v3 main_c
  let main_c_0 : IVec S_ 1 := constantI S_ 1 1#1
  let main_v5 : IVec S_ 1 := andi main_c_0 main_v4
  let main_v6 : FVec F S1024x10368 .f32 := Host.absf main_arg1
  let main_cst_1 : FVec F S_ .f32 := constant S_ .f32 0x7F800000#32
  let main_v7 : FVec F S1024x10368 .f32 := broadcastInDim S1024x10368 ![] bcast_S_S1024x10368 main_cst_1
  let main_v8 : IVec S1024x10368 1 := cmpf .olt main_v6 main_v7
  let main_c_2 : IVec S_ 1 := constantI S_ 1 1#1
  let main_v9 : IVec S_ 1 := (fun x v => Host.reduce IntOp.andi x v reducesTo_S1024x10368_S_d0_1 h_S_) main_v8 main_c_2
  let main_v10 : IVec S_ 1 := andi main_v5 main_v9
  let main_v11 : FVec F S8192x1024 .f32 := Host.absf main_arg2
  let main_cst_3 : FVec F S_ .f32 := constant S_ .f32 0x7F800000#32
  let main_v12 : FVec F S8192x1024 .f32 := broadcastInDim S8192x1024 ![] bcast_S_S8192x1024 main_cst_3
  let main_v13 : IVec S8192x1024 1 := cmpf .olt main_v11 main_v12
  let main_c_4 : IVec S_ 1 := constantI S_ 1 1#1
  let main_v14 : IVec S_ 1 := (fun x v => Host.reduce IntOp.andi x v reducesTo_S8192x1024_S_d0_1 h_S_) main_v13 main_c_4
  let main_v15 : IVec S_ 1 := andi main_v10 main_v14
  let main_v16 : FVec F S8192x1024 .f32 := Host.absf main_arg3
  fn_part1 (F := F) main_arg4 main_v15 main_v16
-- ==== Kernel2.lean ====
abbrev S8192x1024 : Shape := ⟨2, ![8192, 1024]⟩
abbrev S1024x2048 : Shape := ⟨2, ![1024, 2048]⟩
abbrev S1024x1024 : Shape := ⟨2, ![1024, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x1024, .f32⟩
  | .hbm, ⟨5, _⟩ => ⟨S1024x1024, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S8192x1024 : Shape := ⟨2, ![8192, 1024]⟩
abbrev S1024x2048 : Shape := ⟨2, ![1024, 2048]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S1024x2048, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S4x2048x4x256, .f32⟩
  | .hbm, ⟨8, _⟩ => ⟨S4x256x4x256, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .i1⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S_, .f32⟩
  | .hbm, ⟨23, _⟩ => ⟨S4x4x2048, .f32⟩
  | .hbm, ⟨24, _⟩ => ⟨S4x4x2048, .f32⟩
  | .hbm, ⟨25, _⟩ => ⟨S_, .f32⟩
  | .hbm, ⟨26, _⟩ => ⟨S4x4x2048, .f32⟩
  | .hbm, ⟨27, _⟩ => ⟨S4x4x2048, .i1⟩
  | .hbm, ⟨28, _⟩ => ⟨S_, .f32⟩
  | .hbm, ⟨29, _⟩ => ⟨S4x4x2048, .f32⟩
  | .hbm, ⟨30, _⟩ => ⟨S4x4x2048, .i1⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S4x4x2048, .f32⟩
  | .hbm, ⟨39, _⟩ => ⟨S4x4x2048x1, .f32⟩
  | .hbm, ⟨40, _⟩ => ⟨S4x4x2048x256, .f32⟩
  | .hbm, ⟨41, _⟩ => ⟨S4x4x2048x256, .f32⟩
  | .hbm, ⟨42, _⟩ => ⟨S4x4x2048x256, .f32⟩
  | .hbm, ⟨43, _⟩ => ⟨S_, .f32⟩
  | .hbm, ⟨44, _⟩ => ⟨S4x4x2048, .f32⟩
  | .hbm, ⟨45, _⟩ => ⟨S4x4x2048x1, .f32⟩
  | .hbm, ⟨46, _⟩ => ⟨S4x4x2048x256, .f32⟩
  | .hbm, ⟨47, _⟩ => ⟨S4x4x2048x256, .f32⟩
  | .hbm, ⟨48, _⟩ => ⟨S4x4x2048x1, .f32⟩
  | .hbm, ⟨49, _⟩ => ⟨S_, .f32⟩
  | .hbm, ⟨50, _⟩ => ⟨S4x4x2048x1, .f32⟩
  | .hbm, ⟨51, _⟩ => ⟨S4x4x2048x1, .f32⟩
  | .hbm, ⟨52, _⟩ => ⟨S4x4x256x2048, .f32⟩
  | .hbm, ⟨53, _⟩ => ⟨S4x2048x4x256, .f32⟩
  | .hbm, ⟨54, _⟩ => ⟨S8192x1024, .f32⟩
  | .hbm, ⟨55, _⟩ => ⟨S8192x1024, .f32⟩
  | .hbm, ⟨56, _⟩ => ⟨S4x2048x4x256, .f32⟩
  | .hbm, ⟨57, _⟩ => ⟨S4x4x256x2048, .f32⟩
  | .hbm, ⟨58, _⟩ => ⟨S4x4x2048x256, .f32⟩
  | .hbm, ⟨59, _⟩ => ⟨S4x4x256x256, .f32⟩
  | .hbm, ⟨60, _⟩ => ⟨S4x256x4x256, .f32⟩
  | .hbm, ⟨61, _⟩ => ⟨S4x4x2048x256, .f32⟩
  | .hbm, ⟨62, _⟩ => ⟨S4x4x2048x256, .f32⟩
  | .hbm, ⟨63, _⟩ => ⟨S4x4x2048x256, .f32⟩
  | .hbm, ⟨64, _⟩ => ⟨S_, .f32⟩
  | .hbm, ⟨65, _⟩ => ⟨S4x4x2048, .f32⟩
  | .hbm, ⟨66, _⟩ => ⟨S4x4x2048x1, .f32⟩
  | .hbm, ⟨67, _⟩ => ⟨S4x4x2048x1, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x256, .f32⟩
  | .hbm, ⟨73, _⟩ => ⟨S4x4x2048x256, .f32⟩
  | .hbm, ⟨74, _⟩ => ⟨S4x4x2048x256, .f32⟩
  | .hbm, ⟨75, _⟩ => ⟨S_, .f32⟩
  | .hbm, ⟨76, _⟩ => ⟨S4x4x2048x256, .f32⟩
  | .hbm, ⟨77, _⟩ => ⟨S4x4x2048x256, .f32⟩
  | .hbm, ⟨78, _⟩ => ⟨S4x4x256x256, .f32⟩
  | .hbm, ⟨79, _⟩ => ⟨S4x256x4x256, .f32⟩
  | .hbm, ⟨80, _⟩ => ⟨S4x4x2048x256, .f32⟩
  | .hbm, ⟨81, _⟩ => ⟨S4x2048x4x256, .f32⟩
  | .hbm, ⟨82, _⟩ => ⟨S1024x1024, .f32⟩
  | .hbm, ⟨83, _⟩ => ⟨S1024x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel3.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .f32⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel4.lean ====
abbrev S8192x10368 : Shape := ⟨2, ![8192, 10368]⟩
abbrev S8192x1024 : Shape := ⟨2, ![8192, 1024]⟩
abbrev S1024x1024 : Shape := ⟨2, ![1024, 1024]⟩
abbrev S512x2048 : Shape := ⟨2, ![512, 2048]⟩
abbrev S512x1024 : Shape := ⟨2, ![512, 1024]⟩
abbrev S8192x2048 : Shape := ⟨2, ![8192, 2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x10368, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .bf16⟩
  | .hbm, ⟨6, _⟩ => ⟨S8192x1024, .bf16⟩
  | .hbm, ⟨7, _⟩ => ⟨S8192x10368, .bf16⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | _, _ => ⟨S8192x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x10368 : Shape := ⟨2, ![8192, 10368]⟩
abbrev S8192x1024 : Shape := ⟨2, ![8192, 1024]⟩
abbrev S1024x1024 : Shape := ⟨2, ![1024, 1024]⟩
abbrev S_ : Shape := ⟨0, ![]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x10368, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x2048, .f32⟩
  | .hbm, ⟨47, _⟩ => ⟨S8192x2048, .bf16⟩
  | _, _ => ⟨S8192x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel5.lean ====
abbrev S8192x2816 : Shape := ⟨2, ![8192, 2816]⟩
abbrev S4x1024x1408 : Shape := ⟨3, ![4, 1024, 1408]⟩
abbrev S8192x1024 : Shape := ⟨2, ![8192, 1024]⟩
abbrev S1x1024 : Shape := ⟨2, ![1, 1024]⟩
abbrev S256x2816 : Shape := ⟨2, ![256, 2816]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S4x1024x1408, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x2816 : Shape := ⟨2, ![8192, 2816]⟩
abbrev S4x1024x1408 : Shape := ⟨3, ![4, 1024, 1408]⟩
abbrev S8192x1024 : Shape := ⟨2, ![8192, 1024]⟩
abbrev S1x1024 : Shape := ⟨2, ![1, 1024]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1x1024x1408, .f32⟩
  | .hbm, ⟨13, _⟩ => ⟨S1024x1408, .f32⟩
  | .hbm, ⟨14, _⟩ => ⟨S1024x5632, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x5632, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel6.lean ====
abbrev S8192x10368 : Shape := ⟨2, ![8192, 10368]⟩
abbrev S1024x10368 : Shape := ⟨2, ![1024, 10368]⟩
abbrev S8192x1024 : Shape := ⟨2, ![8192, 1024]⟩
abbrev S1x1024 : Shape := ⟨2, ![1, 1024]⟩
abbrev S512x3456 : Shape := ⟨2, ![512, 3456]⟩
abbrev S1024x3456 : Shape := ⟨2, ![1024, 3456]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x3456, .bf16⟩
  | .local _ .vmem, ⟨1, _⟩ => ⟨S512x3456, .bf16⟩
  | .local _ .vmem, ⟨2, _⟩ => ⟨S1024x3456, .f32⟩
  | .local _ .vmem, ⟨3, _⟩ => ⟨S1024x3456, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 3], ![false, false, false]⟩

def k0_cond4 (i : grid0.Coords) : BitVec 1 :=
  let arg2 : BitVec 32 := BitVec.ofNat 32 (i 2).val
  let c2_i32 : BitVec 32 := 2#32
  let v15 : BitVec 1 := Scalar.cmpi .eq arg2 c2_i32
  let v16 : BitVec 32 := Scalar.extui v15
  let c0_i32_9 : BitVec 32 := 0#32
  let v17 : BitVec 1 := Scalar.cmpi .ne v16 c0_i32_9
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference6Ideal.lean ====
abbrev S8192x10368 : Shape := ⟨2, ![8192, 10368]⟩
abbrev S1024x10368 : Shape := ⟨2, ![1024, 10368]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x10368, .f32⟩
  | .hbm, ⟨25, _⟩ => ⟨S8192x10368, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel7.lean ====
abbrev S8192x1024 : Shape := ⟨2, ![8192, 1024]⟩
abbrev S8192x10368 : Shape := ⟨2, ![8192, 10368]⟩
abbrev S1024x10368 : Shape := ⟨2, ![1024, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x10368, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x10368 : Shape := ⟨2, ![8192, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S_, .f32⟩
  | .hbm, ⟨3, _⟩ => ⟨S1024x10368, .f32⟩
  | .hbm, ⟨4, _⟩ => ⟨S8192x1024, .f32⟩
  | .hbm, ⟨5, _⟩ => ⟨S8192x10368, .f32⟩
  | .hbm, ⟨6, _⟩ => ⟨S8192x10368, .f32⟩
  | .hbm, ⟨7, _⟩ => ⟨S10368x1024, .f32⟩
  | .hbm, ⟨8, _⟩ => ⟨S1024x10368, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S2x1024x1408 : Shape := ⟨3, ![2, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1x1024x1408 : Shape := ⟨3, ![1, 1024, 1408]⟩
abbrev S2x1024x1408 : Shape := ⟨3, ![2, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x1408, .f32⟩
  | .hbm, ⟨10, _⟩ => ⟨S1024x1408, .f32⟩
  | .hbm, ⟨11, _⟩ => ⟨S1x1024x1408, .f32⟩
  | .hbm, ⟨12, _⟩ => ⟨S1x1024x1408, .f32⟩
  | .hbm, ⟨13, _⟩ => ⟨S2x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel10.lean ====
abbrev S8192x1024 : Shape := ⟨2, ![8192, 1024]⟩
abbrev S1024x10368 : Shape := ⟨2, ![1024, 10368]⟩
abbrev S8192x10368 : Shape := ⟨2, ![8192, 10368]⟩
abbrev S2048x1024 : Shape := ⟨2, ![2048, 1024]⟩
abbrev S1024x1152 : Shape := ⟨2, ![1024, 1152]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .f32⟩
  | .hbm, ⟨2, _⟩ => ⟨S8192x10368, .f32⟩
  | .local _ .vmem, ⟨0, _⟩ => ⟨S2048x1024, .bf16⟩
  | .local _ .vmem, ⟨1, _⟩ => ⟨S2048x1024, .bf16⟩
  | .local _ .vmem, ⟨2, _⟩ => ⟨S1024x1152, .f32⟩
  | .local _ .vmem, ⟨3, _⟩ => ⟨S1024x1152, .f32⟩
  | .local _ .vmem, ⟨4, _⟩ => ⟨S2048x1152, .f32⟩
  | .local _ .vmem, ⟨5, _⟩ => ⟨S2048x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x10368 : Shape := ⟨2, ![1024, 10368]⟩
abbrev S8192x10368 : Shape := ⟨2, ![8192, 10368]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .f32⟩
  | .hbm, ⟨2, _⟩ => ⟨S8192x1024, .f32⟩
  | .hbm, ⟨3, _⟩ => ⟨S8192x10368, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x1024 : Shape := ⟨2, ![8192, 1024]⟩
abbrev S4x1024x1408 : Shape := ⟨3, ![4, 1024, 1408]⟩
abbrev S8192x2816 : Shape := ⟨2, ![8192, 2816]⟩
abbrev S512x1024 : Shape := ⟨2, ![512, 1024]⟩
abbrev S2x1024x1408 : Shape := ⟨3, ![2, 1024, 1408]⟩
abbrev S512x2816 : Shape := ⟨2, ![512, 2816]⟩
abbrev S1x1024x256 : Shape := ⟨3, ![1, 1024, 256]⟩
abbrev S1024x256 : Shape := ⟨2, ![1024, 256]⟩
abbrev S512x256 : Shape := ⟨2, ![512, 256]⟩
abbrev S1x1024x384 : Shape := ⟨3, ![1, 1024, 384]⟩
abbrev S1024x384 : Shape := ⟨2, ![1024, 384]⟩
abbrev S512x384 : Shape := ⟨2, ![512, 384]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .f32⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1024x1408, .f32⟩
  | .local _ .vmem, ⟨3, _⟩ => ⟨S2x1024x1408, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .f32⟩
  | .hbm, ⟨2, _⟩ => ⟨S1x1024x1408, .f32⟩
  | .hbm, ⟨3, _⟩ => ⟨S1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1024x5632, .f32⟩
  | .hbm, ⟨11, _⟩ => ⟨S8192x1024, .f32⟩
  | .hbm, ⟨12, _⟩ => ⟨S8192x5632, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S8192x2816, .bf16⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference17Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .f32⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .f32⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S8x1920 : Shape := ⟨2, ![8, 1920]⟩

abbrev nBuf : Space → Nat
  | .hbm => 7
  | .vmem => 7
  | .smem => 0
  | _ => 0

abbrev bufTy : (tb : Table) → Fin (tcTables nBuf tb) → BufTy
  | .hbm, ⟨0, _⟩ => ⟨S8x1920, .f32⟩
  | .hbm, ⟨1, _⟩ => ⟨S8x1920, .f32⟩
  | .hbm, ⟨2, _⟩ => ⟨S8x1920, .f32⟩
  | .hbm, ⟨3, _⟩ => ⟨S8x1920, .f32⟩
  | .hbm, ⟨4, _⟩ => ⟨S8x1920, .f32⟩
  | .hbm, ⟨5, _⟩ => ⟨S8x1920, .f32⟩
  | .hbm, ⟨6, _⟩ => ⟨S8x1920, .f32⟩
  | .local _ .vmem, ⟨0, _⟩ => ⟨S8x1920, .f32⟩
  | .local _ .vmem, ⟨1, _⟩ => ⟨S8x1920, .f32⟩
  | .local _ .vmem, ⟨2, _⟩ => ⟨S8x1920, .f32⟩
  | .local _ .vmem, ⟨3, _⟩ => ⟨S8x1920, .f32⟩
  | .local _ .vmem, ⟨4, _⟩ => ⟨S8x1920, .f32⟩
  | .local _ .vmem, ⟨5, _⟩ => ⟨S8x1920, .f32⟩
  | .local _ .vmem, ⟨6, _⟩ => ⟨S8x1920, .f32⟩
  | _, _ => ⟨S8x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S8x1920 : Shape := ⟨2, ![8, 1920]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1920, .f32⟩
  | .hbm, ⟨1, _⟩ => ⟨S8x1920, .f32⟩
  | .hbm, ⟨2, _⟩ => ⟨S8x1920, .f32⟩
  | .hbm, ⟨3, _⟩ => ⟨S8x1920, .f32⟩
  | .hbm, ⟨4, _⟩ => ⟨S_, .f32⟩
  | .hbm, ⟨5, _⟩ => ⟨S8x1920, .f32⟩
  | .hbm, ⟨6, _⟩ => ⟨S8x1920, .f32⟩
  | .hbm, ⟨7, _⟩ => ⟨S_, .f32⟩
  | .hbm, ⟨8, _⟩ => ⟨S8x1920, .f32⟩
  | .hbm, ⟨9, _⟩ => ⟨S8x1920, .f32⟩
  | .hbm, ⟨10, _⟩ => ⟨S8x1920, .f32⟩
  | .hbm, ⟨11, _⟩ => ⟨S_, .f32⟩
  | .hbm, ⟨12, _⟩ => ⟨S8x1920, .f32⟩
  | .hbm, ⟨13, _⟩ => ⟨S8x1920, .f32⟩
  | .hbm, ⟨14, _⟩ => ⟨S8x1920, .f32⟩
  | .hbm, ⟨15, _⟩ => ⟨S_, .f32⟩
  | .hbm, ⟨16, _⟩ => ⟨S8x1920, .f32⟩
  | .hbm, ⟨17, _⟩ => ⟨S8x1920, .f32⟩
  | .hbm, ⟨18, _⟩ => ⟨S8x1920, .f32⟩
  | .hbm, ⟨19, _⟩ => ⟨S_, .f32⟩
  | .hbm, ⟨20, _⟩ => ⟨S8x1920, .f32⟩
  | .hbm, ⟨21, _⟩ => ⟨S8x1920, .f32⟩
  | .hbm, ⟨22, _⟩ => ⟨S_, .f32⟩
  | .hbm, ⟨23, _⟩ => ⟨S8x1920, .f32⟩
  | .hbm, ⟨24, _⟩ => ⟨S8x1920, .f32⟩
  | .hbm, ⟨25, _⟩ => ⟨S8x1920, .f32⟩
  | .hbm, ⟨26, _⟩ => ⟨S_, .f32⟩
  | .hbm, ⟨27, _⟩ => ⟨S8x1920, .f32⟩
  | .hbm, ⟨28, _⟩ => ⟨S8x1920, .f32⟩
  | .hbm, ⟨29, _⟩ => ⟨S8x1920, .f32⟩
  | .hbm, ⟨30, _⟩ => ⟨S_, .f32⟩
  | .hbm, ⟨31, _⟩ => ⟨S8x1920, .f32⟩
  | .hbm, ⟨32, _⟩ => ⟨S8x1920, .f32⟩
  | .hbm, ⟨33, _⟩ => ⟨S8x1920, .f32⟩
  | .hbm, ⟨34, _⟩ => ⟨S_, .f32⟩
  | .hbm, ⟨35, _⟩ => ⟨S8x1920, .f32⟩
  | .hbm, ⟨36, _⟩ => ⟨S8x1920, .f32⟩
  | _, _ => ⟨S8x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x1024x1408 : Shape := ⟨3, ![1, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1408, .f32⟩
  | .hbm, ⟨1, _⟩ => ⟨S512x1408, .f32⟩
  | .hbm, ⟨2, _⟩ => ⟨S512x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S1x1024x1408 : Shape := ⟨3, ![1, 1024, 1408]⟩
abbrev S512x1408 : Shape := ⟨2, ![512, 1408]⟩
abbrev S1 : Shape := ⟨1, ![1]⟩
abbrev S_ : Shape := ⟨0, ![]⟩
abbrev S1024x1408 : Shape := ⟨2, ![1024, 1408]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S512x1408, .f32⟩
  | .hbm, ⟨2, _⟩ => ⟨S512x1408, .f32⟩
  | .hbm, ⟨3, _⟩ => ⟨S1x1024x1408, .f32⟩
  | .hbm, ⟨4, _⟩ => ⟨S1x1024x1408, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1408, .f32⟩
  | .hbm, ⟨14, _⟩ => ⟨S1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S1x1024x1408, .f32⟩
  | .hbm, ⟨27, _⟩ => ⟨S_, .f32⟩
  | .hbm, ⟨28, _⟩ => ⟨S1x1024x1408, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | .hbm, ⟨37, _⟩ => ⟨S1x1024x1408, .f32⟩
  | .hbm, ⟨38, _⟩ => ⟨S_, .f32⟩
  | .hbm, ⟨39, _⟩ => ⟨S1x1024x1408, .f32⟩
  | .hbm, ⟨40, _⟩ => ⟨S1x1024x1408, .f32⟩
  | .hbm, ⟨41, _⟩ => ⟨S1x1024x1408, .f32⟩
  | .hbm, ⟨42, _⟩ => ⟨S_, .f32⟩
  | .hbm, ⟨43, _⟩ => ⟨S1x1024x1408, .f32⟩
  | .hbm, ⟨44, _⟩ => ⟨S1x1024x1408, .f32⟩
  | .hbm, ⟨45, _⟩ => ⟨S1x1024x1408, .f32⟩
  | .hbm, ⟨46, _⟩ => ⟨S_, .f32⟩
  | .hbm, ⟨47, _⟩ => ⟨S1x1024x1408, .f32⟩
  | .hbm, ⟨48, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel23.lean ====
abbrev S1x704x1024 : Shape := ⟨3, ![1, 704, 1024]⟩
abbrev S352x1024 : Shape := ⟨2, ![352, 1024]⟩
abbrev S1 : Shape := ⟨1, ![1]⟩
abbrev S1x352x1024 : Shape := ⟨3, ![1, 352, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x704x1024, .f32⟩
  | .hbm, ⟨1, _⟩ => ⟨S352x1024, .f32⟩
  | .hbm, ⟨2, _⟩ => ⟨S352x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .smem, ⟨0, _⟩ => ⟨S1, .i32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S1x704x1024 : Shape := ⟨3, ![1, 704, 1024]⟩
abbrev S352x1024 : Shape := ⟨2, ![352, 1024]⟩
abbrev S1 : Shape := ⟨1, ![1]⟩
abbrev S_ : Shape := ⟨0, ![]⟩
abbrev S704x1024 : Shape := ⟨2, ![704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S352x1024, .f32⟩
  | .hbm, ⟨2, _⟩ => ⟨S352x1024, .f32⟩
  | .hbm, ⟨3, _⟩ => ⟨S1x704x1024, .f32⟩
  | .hbm, ⟨4, _⟩ => ⟨S1x704x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S1x704x1024, .f32⟩
  | .hbm, ⟨16, _⟩ => ⟨S_, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | .hbm, ⟨41, _⟩ => ⟨S1x704x1024, .f32⟩
  | .hbm, ⟨42, _⟩ => ⟨S_, .f32⟩
  | .hbm, ⟨43, _⟩ => ⟨S1x704x1024, .f32⟩
  | .hbm, ⟨44, _⟩ => ⟨S1x704x1024, .f32⟩
  | .hbm, ⟨45, _⟩ => ⟨S1x704x1024, .f32⟩
  | .hbm, ⟨46, _⟩ => ⟨S_, .f32⟩
  | .hbm, ⟨47, _⟩ => ⟨S1x704x1024, .f32⟩
  | .hbm, ⟨48, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel24.lean ====
abbrev S1x1024x2568 : Shape := ⟨3, ![1, 1024, 2568]⟩
abbrev S512x2568 : Shape := ⟨2, ![512, 2568]⟩
abbrev S1 : Shape := ⟨1, ![1]⟩
abbrev S1x128x2568 : Shape := ⟨3, ![1, 128, 2568]⟩
abbrev S128x2568 : Shape := ⟨2, ![128, 2568]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x2568, .f32⟩
  | .hbm, ⟨1, _⟩ => ⟨S512x2568, .f32⟩
  | .hbm, ⟨2, _⟩ => ⟨S512x2568, .f32⟩
  | .hbm, ⟨3, _⟩ => ⟨S1x1024x2568, .f32⟩
  | .hbm, ⟨4, _⟩ => ⟨S1x1024x2568, .f32⟩
  | .hbm, ⟨5, _⟩ => ⟨S1x1024x2568, .f32⟩
  | .hbm, ⟨6, _⟩ => ⟨S1x1024x2568, .f32⟩
  | .hbm, ⟨7, _⟩ => ⟨S1x1024x2568, .f32⟩
  | .hbm, ⟨8, _⟩ => ⟨S1x1024x2568, .f32⟩
  | .local _ .vmem, ⟨0, _⟩ => ⟨S1x128x2568, .f32⟩
  | .local _ .vmem, ⟨1, _⟩ => ⟨S1x128x2568, .f32⟩
  | .local _ .vmem, ⟨2, _⟩ => ⟨S128x2568, .f32⟩
  | .local _ .vmem, ⟨3, _⟩ => ⟨S128x2568, .f32⟩
  | .local _ .vmem, ⟨4, _⟩ => ⟨S128x2568, .f32⟩
  | .local _ .vmem, ⟨5, _⟩ => ⟨S128x2568, .f32⟩
  | .local _ .vmem, ⟨6, _⟩ => ⟨S1x128x2568, .f32⟩
  | .local _ .vmem, ⟨7, _⟩ => ⟨S1x128x2568, .f32⟩
  | .local _ .vmem, ⟨8, _⟩ => ⟨S1x128x2568, .f32⟩
  | .local _ .vmem, ⟨9, _⟩ => ⟨S1x128x2568, .f32⟩
  | .local _ .vmem, ⟨10, _⟩ => ⟨S1x128x2568, .f32⟩
  | .local _ .vmem, ⟨11, _⟩ => ⟨S1x128x2568, .f32⟩
  | .local _ .vmem, ⟨12, _⟩ => ⟨S1x128x2568, .f32⟩
  | .local _ .vmem, ⟨13, _⟩ => ⟨S1x128x2568, .f32⟩
  | .local _ .vmem, ⟨14, _⟩ => ⟨S1x128x2568, .f32⟩
  | .local _ .vmem, ⟨15, _⟩ => ⟨S1x128x2568, .f32⟩
  | .local _ .vmem, ⟨16, _⟩ => ⟨S1x128x2568, .f32⟩
  | .local _ .vmem, ⟨17, _⟩ => ⟨S1x128x2568, .f32⟩
  | .local _ .smem, ⟨0, _⟩ => ⟨S1, .i32⟩
  | _, _ => ⟨S1x1024x2568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2568 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2568 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2568 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2568 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2568 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2568 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2568 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2568 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2568 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S1x1024x2568 : Shape := ⟨3, ![1, 1024, 2568]⟩
abbrev S512x2568 : Shape := ⟨2, ![512, 2568]⟩
abbrev S1 : Shape := ⟨1, ![1]⟩
abbrev S_ : Shape := ⟨0, ![]⟩
abbrev S1024x2568 : Shape := ⟨2, ![1024, 2568]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x2568, .f32⟩
  | .hbm, ⟨1, _⟩ => ⟨S512x2568, .f32⟩
  | .hbm, ⟨2, _⟩ => ⟨S512x2568, .f32⟩
  | .hbm, ⟨3, _⟩ => ⟨S1x1024x2568, .f32⟩
  | .hbm, ⟨4, _⟩ => ⟨S1x1024x2568, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x2568, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x2568, .f32⟩
  | .hbm, ⟨14, _⟩ => ⟨S1024x2568, .f32⟩
  | .hbm, ⟨15, _⟩ => ⟨S1x1024x2568, .f32⟩
  | .hbm, ⟨16, _⟩ => ⟨S_, .f32⟩
  | .hbm, ⟨17, _⟩ => ⟨S1x1024x2568, .f32⟩
  | .hbm, ⟨18, _⟩ => ⟨S1x1024x2568, .f32⟩
  | .hbm, ⟨19, _⟩ => ⟨S_, .f32⟩
  | .hbm, ⟨20, _⟩ => ⟨S1x1024x2568, .f32⟩
  | .hbm, ⟨21, _⟩ => ⟨S1x1024x2568, .f32⟩
  | .hbm, ⟨22, _⟩ => ⟨S1x1024x2568, .f32⟩
  | .hbm, ⟨23, _⟩ => ⟨S_, .f32⟩
  | .hbm, ⟨24, _⟩ => ⟨S1x1024x2568, .f32⟩
  | .hbm, ⟨25, _⟩ => ⟨S1x1024x2568, .f32⟩
  | .hbm, ⟨26, _⟩ => ⟨S1x1024x2568, .f32⟩
  | .hbm, ⟨27, _⟩ => ⟨S_, .f32⟩
  | .hbm, ⟨28, _⟩ => ⟨S1x1024x2568, .f32⟩
  | .hbm, ⟨29, _⟩ => ⟨S1x1024x2568, .f32⟩
  | .hbm, ⟨30, _⟩ => ⟨S1x1024x2568, .f32⟩
  | .hbm, ⟨31, _⟩ => ⟨S_, .f32⟩
  | .hbm, ⟨32, _⟩ => ⟨S1x1024x2568, .f32⟩
  | .hbm, ⟨33, _⟩ => ⟨S1x1024x2568, .f32⟩
  | .hbm, ⟨34, _⟩ => ⟨S_, .f32⟩
  | .hbm, ⟨35, _⟩ => ⟨S1x1024x2568, .f32⟩
  | .hbm, ⟨36, _⟩ => ⟨S1x1024x2568, .f32⟩
  | .hbm, ⟨37, _⟩ => ⟨S1x1024x2568, .f32⟩
  | .hbm, ⟨38, _⟩ => ⟨S_, .f32⟩
  | .hbm, ⟨39, _⟩ => ⟨S1x1024x2568, .f32⟩
  | .hbm, ⟨40, _⟩ => ⟨S1x1024x2568, .f32⟩
  | .hbm, ⟨41, _⟩ => ⟨S1x1024x2568, .f32⟩
  | .hbm, ⟨42, _⟩ => ⟨S_, .f32⟩
  | .hbm, ⟨43, _⟩ => ⟨S1x1024x2568, .f32⟩
  | .hbm, ⟨44, _⟩ => ⟨S1x1024x2568, .f32⟩
  | .hbm, ⟨45, _⟩ => ⟨S1x1024x2568, .f32⟩
  | .hbm, ⟨46, _⟩ => ⟨S_, .f32⟩
  | .hbm, ⟨47, _⟩ => ⟨S1x1024x2568, .f32⟩
  | .hbm, ⟨48, _⟩ => ⟨S1x1024x2568, .f32⟩
  | _, _ => ⟨S1x1024x2568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel25.lean ====
abbrev S1x256x1024 : Shape := ⟨3, ![1, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S1x256x1024 : Shape := ⟨3, ![1, 256, 1024]⟩
abbrev S128x1024 : Shape := ⟨2, ![128, 1024]⟩
abbrev S1 : Shape := ⟨1, ![1]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel26.lean ====
abbrev S1x512x1024 : Shape := ⟨3, ![1, 512, 1024]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S1x512x1024 : Shape := ⟨3, ![1, 512, 1024]⟩
abbrev S256x1024 : Shape := ⟨2, ![256, 1024]⟩
abbrev S1 : Shape := ⟨1, ![1]⟩
abbrev S_ : Shape := ⟨0, ![]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x1024, .f32⟩
  | .hbm, ⟨14, _⟩ => ⟨S512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | .hbm, ⟨41, _⟩ => ⟨S1x512x1024, .f32⟩
  | .hbm, ⟨42, _⟩ => ⟨S_, .f32⟩
  | .hbm, ⟨43, _⟩ => ⟨S1x512x1024, .f32⟩
  | .hbm, ⟨44, _⟩ => ⟨S1x512x1024, .f32⟩
  | .hbm, ⟨45, _⟩ => ⟨S1x512x1024, .f32⟩
  | .hbm, ⟨46, _⟩ => ⟨S_, .f32⟩
  | .hbm, ⟨47, _⟩ => ⟨S1x512x1024, .f32⟩
  | .hbm, ⟨48, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel27.lean ====
abbrev S1x1024x512 : Shape := ⟨3, ![1, 1024, 512]⟩
abbrev S512x512 : Shape := ⟨2, ![512, 512]⟩
abbrev S1 : Shape := ⟨1, ![1]⟩
abbrev S1x512x512 : Shape := ⟨3, ![1, 512, 512]⟩

abbrev nBuf : Space → Nat
  | .hbm => 9
  | .vmem => 16
  | .smem => 1
  | _ => 0

abbrev bufTy : (tb : Table) → Fin (tcTables nBuf tb) → BufTy
  | .hbm, ⟨0, _⟩ => ⟨S1x1024x512, .f32⟩
  | .hbm, ⟨1, _⟩ => ⟨S512x512, .f32⟩
  | .hbm, ⟨2, _⟩ => ⟨S512x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .smem, ⟨0, _⟩ => ⟨S1, .i32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S1x1024x512 : Shape := ⟨3, ![1, 1024, 512]⟩
abbrev S512x512 : Shape := ⟨2, ![512, 512]⟩
abbrev S1 : Shape := ⟨1, ![1]⟩
abbrev S_ : Shape := ⟨0, ![]⟩
abbrev S1024x512 : Shape := ⟨2, ![1024, 512]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S512x512, .f32⟩
  | .hbm, ⟨2, _⟩ => ⟨S512x512, .f32⟩
  | .hbm, ⟨3, _⟩ => ⟨S1x1024x512, .f32⟩
  | .hbm, ⟨4, _⟩ => ⟨S1x1024x512, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x512, .f32⟩
  | .hbm, ⟨14, _⟩ => ⟨S1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | .hbm, ⟨41, _⟩ => ⟨S1x1024x512, .f32⟩
  | .hbm, ⟨42, _⟩ => ⟨S_, .f32⟩
  | .hbm, ⟨43, _⟩ => ⟨S1x1024x512, .f32⟩
  | .hbm, ⟨44, _⟩ => ⟨S1x1024x512, .f32⟩
  | .hbm, ⟨45, _⟩ => ⟨S1x1024x512, .f32⟩
  | .hbm, ⟨46, _⟩ => ⟨S_, .f32⟩
  | .hbm, ⟨47, _⟩ => ⟨S1x1024x512, .f32⟩
  | .hbm, ⟨48, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel28.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference28Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel29.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x2048, .f32⟩
  | .hbm, ⟨3, _⟩ => ⟨S8192x1024, .f32⟩
  | .hbm, ⟨4, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x2048, .bf16⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S1024x1024 : Shape := ⟨2, ![1024, 1024]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x1024, .f32⟩
  | .hbm, ⟨3, _⟩ => ⟨S1024x2048, .f32⟩
  | .hbm, ⟨4, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S8192x1024 : Shape := ⟨2, ![8192, 1024]⟩
abbrev S1024x2048 : Shape := ⟨2, ![1024, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference32Ideal.lean ====
abbrev S8192x1024 : Shape := ⟨2, ![8192, 1024]⟩
abbrev S1024x2048 : Shape := ⟨2, ![1024, 2048]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x2048, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S4x2048x4x256, .f32⟩
  | .hbm, ⟨7, _⟩ => ⟨S4x256x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel33.lean ====
abbrev S8192x10368 : Shape := ⟨2, ![8192, 10368]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x10368, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S8192x10368 : Shape := ⟨2, ![8192, 10368]⟩
abbrev S8192x1024 : Shape := ⟨2, ![8192, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x10368, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel34.lean ====
abbrev S8x8x1920 : Shape := ⟨3, ![8, 8, 1920]⟩
abbrev S8x1920 : Shape := ⟨2, ![8, 1920]⟩
abbrev S1x8x1920 : Shape := ⟨3, ![1, 8, 1920]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1920, .f32⟩
  | .hbm, ⟨1, _⟩ => ⟨S8x1920, .f32⟩
  | .local _ .vmem, ⟨0, _⟩ => ⟨S8x8x1920, .f32⟩
  | .local _ .vmem, ⟨1, _⟩ => ⟨S8x1920, .f32⟩
  | _, _ => ⟨S8x8x1920, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference34Ideal.lean ====
abbrev S8x8x1920 : Shape := ⟨3, ![8, 8, 1920]⟩
abbrev S_ : Shape := ⟨0, ![]⟩
abbrev S8x1920 : Shape := ⟨2, ![8, 1920]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1920, .f32⟩
  | .hbm, ⟨1, _⟩ => ⟨S_, .f32⟩
  | .hbm, ⟨2, _⟩ => ⟨S8x1920, .f32⟩
  | _, _ => ⟨S8x8x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel35.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference35Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_cst_11 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_16 : Ref sig .tc := ⟨.hbm, 75, rfl⟩
abbrev main_v55 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Kernel36.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel37.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel38.lean ====
abbrev S1024x2048 : Shape := ⟨2, ![1024, 2048]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x1024, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference38Ideal.lean ====
abbrev S1024x2048 : Shape := ⟨2, ![1024, 2048]⟩
abbrev S_ : Shape := ⟨0, ![]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S_, .f32⟩
  | .hbm, ⟨3, _⟩ => ⟨S1024x1024, .f32⟩
  | .hbm, ⟨4, _⟩ => ⟨S1024x2048, .f32⟩
  | .hbm, ⟨5, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel39.lean ====
abbrev S1024x1024 : Shape := ⟨2, ![1024, 1024]⟩
abbrev S1024x2048 : Shape := ⟨2, ![1024, 2048]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S4x1024x512, .f32⟩
  | .local _ .vmem, ⟨0, _⟩ => ⟨S1024x1024, .bf16⟩
  | .local _ .vmem, ⟨1, _⟩ => ⟨S1024x512, .f32⟩
  | .local _ .vmem, ⟨2, _⟩ => ⟨S1024x512, .f32⟩
  | .local _ .vmem, ⟨3, _⟩ => ⟨S1x1024x512, .f32⟩
  | .local _ .vmem, ⟨4, _⟩ => ⟨S1x1024x512, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference39Ideal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S_, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S2048x1024, .f32⟩
  | .hbm, ⟨7, _⟩ => ⟨S1024x2048, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S4x1024x512, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.Ref2.lean ====
module

public import proofs.«01_k».proof.Defs
public import proofs.«01_k».proof.Proof.Gen.Reference2Ideal.Run

@[expose] public section

set_option maxRecDepth 16384

noncomputable section

/-! The results of the reference of the attention's gradient, by their intermediate arrays. -/

namespace Cert.Reference2Ideal.Ref

open Cert.Reference2Ideal Cert.Reference2Ideal.Gen Idealize.ShloMosaic Idealize.ShloMosaic.TcCoe Idealize.SL.Sem

/-- The queries by batch, row, head and lane. -/
def q4 (x0 : FVec Ideal S8192x1024 .bf16) : FVec Ideal S4x2048x4x256 .f32 :=
  shapeCast _ (extf .f32 x0 bitsLt_bf16_f32) shapeCasts_S8192x1024_S4x2048x4x256

/-- The keys by batch, row, head and lane. -/
def k4 (x1 : FVec Ideal S1024x2048 .bf16) : FVec Ideal S4x256x4x256 .f32 :=
  shapeCast _ (extractStridedSlice S1024x1024 ![0, 0] (extf .f32 x1 bitsLt_bf16_f32) slices_S1024x2048_S1024x1024_0_0) shapeCasts_S1024x1024_S4x256x4x256

/-- The values by batch, row, head and lane. -/
def v4 (x1 : FVec Ideal S1024x2048 .bf16) : FVec Ideal S4x256x4x256 .f32 :=
  shapeCast _ (extractStridedSlice S1024x1024 ![0, 1024] (extf .f32 x1 bitsLt_bf16_f32) slices_S1024x2048_S1024x1024_0_1024) shapeCasts_S1024x1024_S4x256x4x256

/-- The incoming gradient by batch, head, lane and row. -/
def o4 (x2 : FVec Ideal S8192x1024 .bf16) : FVec Ideal S4x4x256x2048 .f32 :=
  transpose S4x4x256x2048 [0, 2, 3, 1] (shapeCast _ (extf .f32 x2 bitsLt_bf16_f32) shapeCasts_S8192x1024_S4x2048x4x256 : FVec Ideal S4x2048x4x256 .f32) transposes_S4x2048x4x256_S4x4x256x2048_0_2_3_1

/-- The scaled scores. -/
def sc (q : FVec Ideal S4x2048x4x256 .f32) (k : FVec Ideal S4x256x4x256 .f32) : FVec Ideal S4x4x2048x256 .f32 :=
  mulf (Host.dotGeneral dot_S4x2048x4x256_S4x256x4x256_S4x4x2048x256_3_3_1_1_02_02 none q k) (broadcastInDim S4x4x2048x256 ![] bcast_S_S4x4x2048x256 (constant S_ .f32 0x3D800000#32))

/-- The rows' greatest scores. -/
def mx (s : FVec Ideal S4x4x2048x256 .f32) : FVec Ideal S4x4x2048 .f32 :=
  Host.reduce FloatOps.maximumf s (constant S_ .f32 0xFF800000#32) reducesTo_S4x4x2048x256_S4x4x2048_d3 h_S_

/-- The exponentials of the scores less their row's greatest. -/
def ex (s : FVec Ideal S4x4x2048x256 .f32) (m : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) m))))

/-- The rows' sums. -/
def sm (e : FVec Ideal S4x4x2048x256 .f32) : FVec Ideal S4x4x2048x1 .f32 :=
  broadcastInDim S4x4x2048x1 ![0, 1, 2] bcast_S4x4x2048_S4x4x2048x1_0_1_2 (Host.reduceAdd e (constant S_ .f32 0x00000000#32) reducesTo_S4x4x2048x256_S4x4x2048_d3 h_S_)

/-- The probabilities. -/
def pr (e : FVec Ideal S4x4x2048x256 .f32) (z : FVec Ideal S4x4x2048x1 .f32) : FVec Ideal S4x4x2048x256 .f32 :=
  Host.divf e (broadcastInDim S4x4x2048x256 ![0, 1, 2, 3] bcast_S4x4x2048x1_S4x4x2048x256_0_1_2_3 z)

/-- The gradient of the probabilities. -/
def dp (o : FVec Ideal S4x4x256x2048 .f32) (v : FVec Ideal S4x256x4x256 .f32) : FVec Ideal S4x4x2048x256 .f32 :=
  Host.dotGeneral dot_S4x4x256x2048_S4x256x4x256_S4x4x2048x256_2_3_3_1_01_02 none o v

/-- The gradient of the rows' sums. -/
def ng (d : FVec Ideal S4x4x2048x256 .f32) (z : FVec Ideal S4x4x2048x1 .f32) (e : FVec Ideal S4x4x2048x256 .f32) : FVec Ideal S4x4x2048 .f32 :=
  Host.reduceAdd (Host.negf (shapeCast _ (Host.reduceAdd (mulf (mulf d (broadcastInDim S4x4x2048x256 ![0, 1, 2, 3] bcast_S4x4x2048x1_S4x4x2048x256_0_1_2_3 (Host.divf (broadcastInDim S4x4x2048x1 ![] bcast_S_S4x4x2048x1 (constant S_ .f32 0x3F800000#32)) (mulf z z)))) e) (constant S_ .f32 0x00000000#32) reducesTo_S4x4x2048x256_S4x4x2048_d3 h_S_) shapeCasts_S4x4x2048_S4x4x2048x1 : FVec Ideal S4x4x2048x1 .f32)) (constant S_ .f32 0x00000000#32) reducesTo_S4x4x2048x1_S4x4x2048_d3 h_S_

/-- The gradient of the scores before the scale. -/
def ds (d : FVec Ideal S4x4x2048x256 .f32) (z : FVec Ideal S4x4x2048x1 .f32) (n : FVec Ideal S4x4x2048 .f32) (e : FVec Ideal S4x4x2048x256 .f32) : FVec Ideal S4x4x2048x256 .f32 :=
  mulf (mulf (addf (Host.divf d (broadcastInDim S4x4x2048x256 ![0, 1, 2, 3] bcast_S4x4x2048x1_S4x4x2048x256_0_1_2_3 z)) (broadcastInDim S4x4x2048x256 ![0, 1, 2] bcast_S4x4x2048_S4x4x2048x256_0_1_2 n)) e) (broadcastInDim S4x4x2048x256 ![] bcast_S_S4x4x2048x256 (constant S_ .f32 0x3D800000#32))

/-- The gradient of the queries. -/
def dq (s : FVec Ideal S4x4x2048x256 .f32) (k : FVec Ideal S4x256x4x256 .f32) : FVec Ideal S8192x1024 .bf16 :=
  truncf .bf16 (shapeCast _ (transpose S4x2048x4x256 [0, 2, 1, 3] (Host.dotGeneral dot_S4x4x2048x256_S4x256x4x256_S4x4x2048x256_3_1_2_3_01_02 none s k) transposes_S4x4x2048x256_S4x2048x4x256_0_2_1_3) shapeCasts_S4x2048x4x256_S8192x1024 : FVec Ideal S8192x1024 .f32) bitsLt_bf16_f32

/-- The gradient of the keys. -/
def dk (s : FVec Ideal S4x4x2048x256 .f32) (q : FVec Ideal S4x2048x4x256 .f32) : FVec Ideal S1024x1024 .f32 :=
  shapeCast _ (transpose S4x256x4x256 [0, 2, 1, 3] (Host.dotGeneral dot_S4x4x2048x256_S4x2048x4x256_S4x4x256x256_2_1_3_3_01_02 none s q) transposes_S4x4x256x256_S4x256x4x256_0_2_1_3) shapeCasts_S4x256x4x256_S1024x1024

/-- The gradient of the values. -/
def dv (o : FVec Ideal S4x4x256x2048 .f32) (p : FVec Ideal S4x4x2048x256 .f32) : FVec Ideal S1024x1024 .f32 :=
  shapeCast _ (transpose S4x256x4x256 [0, 3, 1, 2] (Host.dotGeneral dot_S4x4x256x2048_S4x4x2048x256_S4x4x256x256_3_2_2_3_01_01 none o p) transposes_S4x4x256x256_S4x256x4x256_0_3_1_2) shapeCasts_S4x256x4x256_S1024x1024

/-- The exponentials of the arguments' scores. -/
def exA (x0 : FVec Ideal S8192x1024 .bf16) (x1 : FVec Ideal S1024x2048 .bf16) : FVec Ideal S4x4x2048x256 .f32 := ex (sc (q4 x0) (k4 x1)) (mx (sc (q4 x0) (k4 x1)))

/-- The gradient of the arguments' scores. -/
def dsA (x0 : FVec Ideal S8192x1024 .bf16) (x1 : FVec Ideal S1024x2048 .bf16) (x2 : FVec Ideal S8192x1024 .bf16) : FVec Ideal S4x4x2048x256 .f32 :=
  ds (dp (o4 x2) (v4 x1)) (sm (exA x0 x1)) (ng (dp (o4 x2) (v4 x1)) (sm (exA x0 x1)) (exA x0 x1)) (exA x0 x1)

/-- Result 0 of the reference. -/
def res0 (x0 : FVec Ideal S8192x1024 .bf16) (x1 : FVec Ideal S1024x2048 .bf16) (x2 : FVec Ideal S8192x1024 .bf16) : FVec Ideal S8192x1024 .bf16 :=
  dq (dsA x0 x1 x2) (k4 x1)

/-- Result 1 of the reference. -/
def res1 (x0 : FVec Ideal S8192x1024 .bf16) (x1 : FVec Ideal S1024x2048 .bf16) (x2 : FVec Ideal S8192x1024 .bf16) : FVec Ideal S1024x1024 .f32 :=
  dk (dsA x0 x1 x2) (q4 x0)

/-- Result 2 of the reference. -/
def res2 (x0 : FVec Ideal S8192x1024 .bf16) (x1 : FVec Ideal S1024x2048 .bf16) (x2 : FVec Ideal S8192x1024 .bf16) : FVec Ideal S1024x1024 .f32 :=
  dv (o4 x2) (pr (exA x0 x1) (sm (exA x0 x1)))

end Cert.Reference2Ideal.Ref

end
-- ==== Proof.Real.lean ====
module

public import proofs.«01_k».proof.Defs
public import Idealize.ShloMosaic.Lib.ReduceAll
public import Idealize.ShloMosaic.Lib.Pointwise
public import Idealize.ShloMosaic.Lib.Pipeline.ValueKit

@[expose] public section

noncomputable section

/-! Finite arrays: what a precondition says of every entry, and how real numbers pass through sums and the operations. -/

open Idealize.ShloMosaic Idealize.SL.Sem

namespace Cert.Real

/-- The pattern of the largest bound is the top element. -/
theorem inf_bits : Ideal.ofBits .f32 0x7F800000#32 = (⊤ : EReal) := by
  simp [Ideal.ofBits, Ideal.ieee]

/-- An entry whose absolute value is below the top element is a real number. -/
theorem real_of_abs_lt {x : EReal} (h : max x (-x) < ⊤) : ∃ r : ℝ, x = (r : EReal) := by
  induction x using EReal.rec with
  | bot => simp at h
  | coe r => exact ⟨r, rfl⟩
  | top => simp at h

/-- The conjunction over an array of `|x| < ∞` makes every entry a real number. -/
theorem all_finite {s t u v : Shape} {axes : List (Fin s.rank)} [Subsingleton t.Idx] (x : FVec Ideal s .f32)
    (dims : Fin v.rank → Fin s.rank) (hb : v.BroadcastsInDim s dims) (one : u.Idx → BitVec 1) (hr : s.ReducesTo axes t) (hu : 0 < u.numel) (j : t.Idx)
    (e : Host.reduce IntOp.andi (cmpf .olt (Host.absf x) (broadcastInDim s dims hb (constant v .f32 0x7F800000#32))) one hr hu j = 1#1)
    (i : s.Idx) : ∃ r : ℝ, x i = (r : EReal) := by
  have h := Host.reduce_andi_all _ _ _ _ j e i
  refine real_of_abs_lt ?_
  have h' : Ideal.cmp .olt (max (x i) (-x i)) (Ideal.ofBits .f32 0x7F800000#32) = 1#1 := h
  rw [inf_bits] at h'
  simp only [Ideal.cmp] at h'
  by_contra hn
  rw [decide_eq_false hn] at h'
  simp at h'

/-- A conjunction of two bits that is one. -/
theorem andi_one {s : Shape} {a b : IVec s 1} {j : s.Idx} (h : andi a b j = 1#1) : a j = 1#1 ∧ b j = 1#1 :=
  IntOp.andi_eq_one.1 h

/-- A finite sum of real numbers, read in the extended reals. -/
theorem coe_sum {n : ℕ} (f : Fin n → ℝ) : ((∑ k, f k : ℝ) : EReal) = ∑ k, ((f k : ℝ) : EReal) := by
  classical
  induction n with
  | zero => simp
  | succ n ih => rw [Fin.sum_univ_succ, Fin.sum_univ_succ, EReal.coe_add, ih]

/-- A sum of products of real numbers is the sum of the products. -/
theorem sum_mul_coe {n : ℕ} (f g : Fin n → ℝ) : ∑ k, ((f k : ℝ) : EReal) * ((g k : ℝ) : EReal) = ((∑ k, f k * g k : ℝ) : EReal) := by
  rw [coe_sum]; exact Finset.sum_congr rfl fun k _ => (EReal.coe_mul _ _).symm

theorem half_bits : Ideal.ofBits .f32 0x3F000000#32 = (((1 / 2 : ℝ) : ℝ) : EReal) := by
  simp [Ideal.ofBits, Ideal.ieee, -EReal.coe_mul]; norm_num

theorem one_bits : Ideal.ofBits .f32 0x3F800000#32 = ((1 : ℝ) : EReal) := by
  simp [Ideal.ofBits, Ideal.ieee, -EReal.coe_mul]; try norm_num

/-- The quotient of two real numbers, the divisor not zero. -/
theorem div_real (x y : ℝ) (h : y ≠ 0) : Ideal.div (x : EReal) (y : EReal) = ((x / y : ℝ) : EReal) := by
  rw [Ideal.div_coe h, ← EReal.coe_mul]; congr 1; ring

/-- The logistic function of a real number. -/
theorem logistic_real (x : ℝ) : Ideal.logistic (x : EReal) = ((1 / (1 + Real.exp (-x)) : ℝ) : EReal) := by
  have h : (1 : ℝ) + Real.exp (-x) ≠ 0 := by positivity
  rw [Ideal.logistic, ← EReal.coe_neg, Ideal.exp_coe, ← EReal.coe_one, ← EReal.coe_add, div_real _ _ h]

end Cert.Real

end
-- ==== Proof.AttnRef.lean ====
module

public import proofs.«01_k».proof.Proof.Ref2
public import proofs.«01_k».proof.Proof.Real
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the attention's gradient, read at an index. -/

namespace Cert.Attn

open Cert.Reference2Ideal Cert.Reference2Ideal.Ref

/-- The scale of the scores. -/
abbrev cc : EReal := Ideal.ofBits .f32 0x3D800000#32

/-- The lowest element, as the programs write it. -/
abbrev lo : EReal := Ideal.ofBits .f32 0xFF800000#32

/-- A scaled score. -/
def S (q : Fin 2048 → Fin 256 → EReal) (k : Fin 256 → Fin 256 → EReal) (i : Fin 2048) (j : Fin 256) : EReal := (∑ d : Fin 256, q i d * k j d) * cc

/-- The exponential of a score less the greatest of its row. -/
def E (s : Fin 2048 → Fin 256 → EReal) (i : Fin 2048) (j : Fin 256) : EReal := Ideal.exp (s i j - Finset.fold max lo (fun x => s i x) Finset.univ)

/-- The gradient of a probability. -/
def DP (o : Fin 2048 → Fin 256 → EReal) (v : Fin 256 → Fin 256 → EReal) (i : Fin 2048) (j : Fin 256) : EReal := ∑ d : Fin 256, o i d * v j d

/-- Rows of queries of batch `b` and head `h`. -/
def Qf (x : (⟨2, ![8192, 1024]⟩ : Shape).Idx → EReal) (b h : Fin 4) (i : Fin 2048) (d : Fin 256) : EReal :=
  x (ix2 ⟨b.val * 2048 + i.val, by omega⟩ ⟨h.val * 256 + d.val, by omega⟩)

/-- Rows of keys of batch `b` and head `h`. -/
def Kf (x : (⟨2, ![1024, 2048]⟩ : Shape).Idx → EReal) (b h : Fin 4) (i : Fin 256) (d : Fin 256) : EReal :=
  x (ix2 ⟨b.val * 256 + i.val, by omega⟩ ⟨h.val * 256 + d.val, by omega⟩)

/-- Rows of values of batch `b` and head `h`. -/
def Vf (x : (⟨2, ![1024, 2048]⟩ : Shape).Idx → EReal) (b h : Fin 4) (i : Fin 256) (d : Fin 256) : EReal :=
  x (ix2 ⟨b.val * 256 + i.val, by omega⟩ ⟨1024 + (h.val * 256 + d.val), by omega⟩)

theorem q4_at (x0 : FVec Ideal S8192x1024 .bf16) (b : Fin 4) (i : Fin 2048) (h : Fin 4) (d : Fin 256) : q4 x0 (ix4 b i h d) = Qf x0 b h i d := by
  unfold Qf
  pointwise [q4]
  try blk_point []

theorem k4_at (x1 : FVec Ideal S1024x2048 .bf16) (b : Fin 4) (i : Fin 256) (h : Fin 4) (d : Fin 256) : k4 x1 (ix4 b i h d) = Kf x1 b h i d := by
  unfold Kf
  pointwise [k4]
  try blk_point []

theorem v4_at (x1 : FVec Ideal S1024x2048 .bf16) (b : Fin 4) (i : Fin 256) (h : Fin 4) (d : Fin 256) : v4 x1 (ix4 b i h d) = Vf x1 b h i d := by
  unfold Vf
  pointwise [v4]
  try blk_point []

theorem o4_at (x2 : FVec Ideal S8192x1024 .bf16) (b h : Fin 4) (d : Fin 256) (i : Fin 2048) : o4 x2 (ix4 b h d i) = Qf x2 b h i d := by
  unfold Qf
  pointwise [o4]
  try blk_point []

theorem sc_at (q : FVec Ideal S4x2048x4x256 .f32) (k : FVec Ideal S4x256x4x256 .f32) (b h : Fin 4) (i : Fin 2048) (j : Fin 256) :
    sc q k (ix4 b h i j) = (∑ d : Fin 256, q (ix4 b i h d) * k (ix4 b j h d)) * cc := by
  pointwise [sc]

/-- The greatest entry along the last of four axes. -/
theorem max_last {n0 n1 n2 n3 : ℕ} (x : FVec Ideal ⟨4, ![n0, n1, n2, n3]⟩ .f32) (w : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (d : Fin n2) :
    Host.reduce (FloatOps.maximumf (φ := .f32)) x w h hu (ix3 a b d) = Finset.fold max (w (Shape.Idx.first hu)) (fun k : Fin n3 => x (ix4 a b d k)) Finset.univ :=
  (Host.reduce_eq_fold _ x w h hu _).trans (h.fold_fiber_r4_a3 _ _ _ _)

theorem mx_at (s : FVec Ideal S4x4x2048x256 .f32) (b h : Fin 4) (i : Fin 2048) :
    mx s (ix3 b h i) = Finset.fold max lo (fun x : Fin 256 => s (ix4 b h i x)) Finset.univ :=
  max_last s _ _ _ b h i

theorem ex_at (s : FVec Ideal S4x4x2048x256 .f32) (m : FVec Ideal S4x4x2048 .f32) (b h : Fin 4) (i : Fin 2048) (j : Fin 256) :
    ex s m (ix4 b h i j) = Ideal.exp (s (ix4 b h i j) - max lo (m (ix3 b h i))) := by
  pointwise [ex]

theorem sm_at (e : FVec Ideal S4x4x2048x256 .f32) (b h : Fin 4) (i : Fin 2048) (j : Fin 1) : sm e (ix4 b h i j) = ∑ k : Fin 256, e (ix4 b h i k) := by
  pointwise [sm]

theorem pr_at (e : FVec Ideal S4x4x2048x256 .f32) (z : FVec Ideal S4x4x2048x1 .f32) (b h : Fin 4) (i : Fin 2048) (j : Fin 256) :
    pr e z (ix4 b h i j) = Ideal.div (e (ix4 b h i j)) (z (ix4 b h i 0)) := by
  pointwise [pr]

theorem dp_at (o : FVec Ideal S4x4x256x2048 .f32) (v : FVec Ideal S4x256x4x256 .f32) (b h : Fin 4) (i : Fin 2048) (j : Fin 256) :
    dp o v (ix4 b h i j) = ∑ d : Fin 256, o (ix4 b h d i) * v (ix4 b j h d) := by
  pointwise [dp]

theorem ng_at (d : FVec Ideal S4x4x2048x256 .f32) (z : FVec Ideal S4x4x2048x1 .f32) (e : FVec Ideal S4x4x2048x256 .f32) (b h : Fin 4) (i : Fin 2048) :
    ng d z e (ix3 b h i) = -∑ k : Fin 256, d (ix4 b h i k) * Ideal.div 1 (z (ix4 b h i 0) * z (ix4 b h i 0)) * e (ix4 b h i k) := by
  pointwise [ng]
  try (simp only [Finset.univ_unique, Finset.sum_singleton])

theorem ds_at (d : FVec Ideal S4x4x2048x256 .f32) (z : FVec Ideal S4x4x2048x1 .f32) (n : FVec Ideal S4x4x2048 .f32) (e : FVec Ideal S4x4x2048x256 .f32) (b h : Fin 4) (i : Fin 2048) (j : Fin 256) :
    ds d z n e (ix4 b h i j) = (Ideal.div (d (ix4 b h i j)) (z (ix4 b h i 0)) + n (ix3 b h i)) * e (ix4 b h i j) * cc := by
  pointwise [ds]

theorem dq_at (s : FVec Ideal S4x4x2048x256 .f32) (k : FVec Ideal S4x256x4x256 .f32) (b h : Fin 4) (i : Fin 2048) (d : Fin 256) (a : Fin 8192) (e : Fin 1024)
    (ha : a.val = b.val * 2048 + i.val) (he : e.val = h.val * 256 + d.val) :
    dq s k (ix2 a e) = ∑ j : Fin 256, s (ix4 b h i j) * k (ix4 b j h d) := by
  pointwise [dq]
  blk_point []

theorem dk_at (s : FVec Ideal S4x4x2048x256 .f32) (q : FVec Ideal S4x2048x4x256 .f32) (b h : Fin 4) (j : Fin 256) (d : Fin 256) (a : Fin 1024) (e : Fin 1024)
    (ha : a.val = b.val * 256 + j.val) (he : e.val = h.val * 256 + d.val) :
    dk s q (ix2 a e) = ∑ i : Fin 2048, s (ix4 b h i j) * q (ix4 b i h d) := by
  pointwise [dk]
  blk_point []

theorem dv_at (o : FVec Ideal S4x4x256x2048 .f32) (p : FVec Ideal S4x4x2048x256 .f32) (b h : Fin 4) (j : Fin 256) (d : Fin 256) (a : Fin 1024) (e : Fin 1024)
    (ha : a.val = b.val * 256 + j.val) (he : e.val = h.val * 256 + d.val) :
    dv o p (ix2 a e) = ∑ i : Fin 2048, o (ix4 b h d i) * p (ix4 b h i j) := by
  pointwise [dv]
  blk_point []

end Cert.Attn

end
-- ==== Proof.Attn.lean ====
module

public import proofs.«01_k».proof.Proof.Gen.Kernel2Ideal.Value
public import proofs.«01_k».proof.Proof.AttnRef

@[expose] public section

set_option maxRecDepth 16384

noncomputable section

open Idealize.ShloMosaic Idealize.ShloMosaic.TcCoe Idealize.SL.Sem
open Idealize.ShloMosaic.Pipeline (Dat)

/-! What the attention's gradient kernel leaves in its three result arrays. -/

namespace Cert.Attn

/-- The sum of a row's exponentials. -/
def Z (s : Fin 2048 → Fin 256 → EReal) (i : Fin 2048) : EReal := ∑ j : Fin 256, E s i j

/-- The probability the kernel takes from the scores. -/
def P (s : Fin 2048 → Fin 256 → EReal) (i : Fin 2048) (j : Fin 256) : EReal := Ideal.div (E s i j) (Z s i)

/-- The gradient of a score as the kernel takes it. -/
def DS (s p : Fin 2048 → Fin 256 → EReal) (i : Fin 2048) (j : Fin 256) : EReal := P s i j * (p i j - ∑ x : Fin 256, p i x * P s i x) * cc

/-- The gradient of the queries. -/
def gq (q : Fin 2048 → Fin 256 → EReal) (k v : Fin 256 → Fin 256 → EReal) (o : Fin 2048 → Fin 256 → EReal) (i : Fin 2048) (d : Fin 256) : EReal :=
  ∑ j : Fin 256, DS (S q k) (DP o v) i j * k j d

/-- The gradient of the keys. -/
def gk (q : Fin 2048 → Fin 256 → EReal) (k v : Fin 256 → Fin 256 → EReal) (o : Fin 2048 → Fin 256 → EReal) (j d : Fin 256) : EReal :=
  ∑ i : Fin 2048, DS (S q k) (DP o v) i j * q i d

/-- The gradient of the values. -/
def gv (q : Fin 2048 → Fin 256 → EReal) (k : Fin 256 → Fin 256 → EReal) (o : Fin 2048 → Fin 256 → EReal) (j d : Fin 256) : EReal :=
  ∑ i : Fin 2048, P (S q k) i j * o i d

end Cert.Attn

namespace Cert.Kernel2Ideal.Attn

open Cert.Kernel2Ideal Cert.Kernel2Ideal.Gen Cert.Attn

theorem pay5_at (q : FVec Ideal S2048x256 .bf16) (k : FVec Ideal S256x256 .bf16) (i : Fin 2048) (j : Fin 256) :
    k0_pay5 (F := Ideal) q k (ix2 i j) = P (S (fun i d => q (ix2 i d)) (fun j d => k (ix2 j d))) i j := by
  unfold P Z E S
  pointwise [k0_pay5]

theorem pay6_at (q : FVec Ideal S2048x256 .bf16) (k v : FVec Ideal S256x256 .bf16) (o : FVec Ideal S2048x256 .bf16) (i : Fin 2048) (j : Fin 256) :
    k0_pay6 (F := Ideal) q k v o (ix2 i j)
      = DS (S (fun i d => q (ix2 i d)) (fun j d => k (ix2 j d))) (DP (fun i d => o (ix2 i d)) (fun j d => v (ix2 j d))) i j := by
  unfold DS DP
  simp only [← pay5_at]
  generalize hp : k0_pay5 (F := Ideal) q k = p
  unfold k0_pay6
  rw [hp]
  pointwise

theorem pay7_at (q : FVec Ideal S2048x256 .bf16) (k v : FVec Ideal S256x256 .bf16) (o : FVec Ideal S2048x256 .bf16) (i : Fin 2048) (d : Fin 256) :
    k0_pay7 (F := Ideal) q k v o (ix2 i d) = gq (fun i d => q (ix2 i d)) (fun j d => k (ix2 j d)) (fun j d => v (ix2 j d)) (fun i d => o (ix2 i d)) i d := by
  unfold gq
  simp only [← pay6_at]
  generalize hp : k0_pay6 (F := Ideal) q k v o = p
  unfold k0_pay7
  rw [hp]
  pointwise

theorem pay1_at (q s : FVec Ideal S2048x256 .bf16) (w : FVec Ideal S256x256 .f32) (j d : Fin 256) :
    k0_pay1 (F := Ideal) q s w (ix2 j d) = w (ix2 j d) + ∑ i : Fin 2048, s (ix2 i j) * q (ix2 i d) := by
  pointwise [k0_pay1]

theorem pay2_at (o : FVec Ideal S2048x256 .bf16) (p : FVec Ideal S2048x256 .f32) (w : FVec Ideal S256x256 .f32) (j d : Fin 256) :
    k0_pay2 (F := Ideal) o p w (ix2 j d) = w (ix2 j d) + ∑ i : Fin 2048, p (ix2 i j) * o (ix2 i d) := by
  pointwise [k0_pay2]

theorem pay3_at (j d : Fin 256) : k0_pay3 (F := Ideal) (ix2 j d) = 0 := by
  pointwise [k0_pay3]

theorem pay4_at (j d : Fin 256) : k0_pay4 (F := Ideal) (ix2 j d) = 0 := by
  pointwise [k0_pay4]

variable (m : (ℓ : Loc nD τ sig) → Buf (Elt Ideal) ℓ)

theorem outs4 (c : Dev nD) (t : Fin cfg0.N) (i : Fin 2048) (d : Fin 256) : (outsAt0 m c t).1 (ix2 i d)
    = gq (fun i d => iblk m c 0 t (ix2 i d)) (fun j d => iblk m c 1 t (ix2 j d)) (fun j d => iblk m c 2 t (ix2 j d)) (fun i d => iblk m c 3 t (ix2 i d)) i d := by
  unfold outsAt0
  frame_out
  rw [pay7_at]

theorem outs5 (c : Dev nD) (t : Fin cfg0.N) (i : Fin 256) (d : Fin 256) : (outsAt0 m c t).2.1 (ix2 i d)
    = gk (fun i d => iblk m c 0 t (ix2 i d)) (fun j d => iblk m c 1 t (ix2 j d)) (fun j d => iblk m c 2 t (ix2 j d)) (fun i d => iblk m c 3 t (ix2 i d)) i d := by
  unfold outsAt0
  frame_out
  rw [pay1_at, pay3_at, zero_add]
  unfold gk
  simp only [pay6_at]

theorem outs6 (c : Dev nD) (t : Fin cfg0.N) (i : Fin 256) (d : Fin 256) : (outsAt0 m c t).2.2 (ix2 i d)
    = gv (fun i d => iblk m c 0 t (ix2 i d)) (fun j d => iblk m c 1 t (ix2 j d)) (fun i d => iblk m c 3 t (ix2 i d)) i d := by
  unfold outsAt0
  frame_out
  rw [pay2_at, pay4_at, zero_add]
  unfold gv
  simp only [pay5_at]

theorem idx : ∀ t : Fin cfg0.N, win0_0.index t = ![t.val / 4, t.val % 4] ∧ win0_1.index t = ![t.val / 4, t.val % 4] ∧ win0_2.index t = ![t.val / 4, 4 + t.val % 4]
    ∧ win0_3.index t = ![t.val / 4, t.val % 4] ∧ win0_4.index t = ![t.val / 4, t.val % 4] ∧ win0_5.index t = ![t.val / 4, t.val % 4] ∧ win0_6.index t = ![t.val / 4, t.val % 4] :=
  (by decide +kernel : ∀ t : Fin grid0.N, _)

/-- The batch of a row of queries. -/
def bq (a : Fin 8192) : Fin 4 := ⟨a.val / 2048, by omega⟩

/-- The row within its batch. -/
def rq (a : Fin 8192) : Fin 2048 := ⟨a.val % 2048, by omega⟩

/-- The head of a lane, or the batch of a row of keys. -/
def hd (a : Fin 1024) : Fin 4 := ⟨a.val / 256, by omega⟩

/-- The lane within its head, or the row of keys within its batch. -/
def ln (a : Fin 1024) : Fin 256 := ⟨a.val % 256, by omega⟩

theorem bq_eq (a : Fin 8192) (b : Fin 4) (i : Fin 2048) (h : a.val = b.val * 2048 + i.val) : bq a = b := Fin.ext (by unfold bq; dsimp only; omega)
theorem rq_eq (a : Fin 8192) (b : Fin 4) (i : Fin 2048) (h : a.val = b.val * 2048 + i.val) : rq a = i := Fin.ext (by unfold rq; dsimp only; omega)
theorem hd_eq (a : Fin 1024) (b : Fin 4) (i : Fin 256) (h : a.val = b.val * 256 + i.val) : hd a = b := Fin.ext (by unfold hd; dsimp only; omega)
theorem ln_eq (a : Fin 1024) (b : Fin 4) (i : Fin 256) (h : a.val = b.val * 256 + i.val) : ln a = i := Fin.ext (by unfold ln; dsimp only; omega)

/-- The gradient of the queries over the whole array. -/
def G4 (x0 : FVec Ideal S8192x1024 .bf16) (x1 : FVec Ideal S1024x2048 .bf16) (x2 : FVec Ideal S8192x1024 .bf16) (a : Fin 8192) (e : Fin 1024) : EReal :=
  gq (Qf x0 (bq a) (hd e)) (Kf x1 (bq a) (hd e)) (Vf x1 (bq a) (hd e)) (Qf x2 (bq a) (hd e)) (rq a) (ln e)

/-- The gradient of the keys over the whole array. -/
def G5 (x0 : FVec Ideal S8192x1024 .bf16) (x1 : FVec Ideal S1024x2048 .bf16) (x2 : FVec Ideal S8192x1024 .bf16) (a e : Fin 1024) : EReal :=
  gk (Qf x0 (hd a) (hd e)) (Kf x1 (hd a) (hd e)) (Vf x1 (hd a) (hd e)) (Qf x2 (hd a) (hd e)) (ln a) (ln e)

/-- The gradient of the values over the whole array. -/
def G6 (x0 : FVec Ideal S8192x1024 .bf16) (x1 : FVec Ideal S1024x2048 .bf16) (x2 : FVec Ideal S8192x1024 .bf16) (a e : Fin 1024) : EReal :=
  gv (Qf x0 (hd a) (hd e)) (Kf x1 (hd a) (hd e)) (Qf x2 (hd a) (hd e)) (ln a) (ln e)

/-- The batch of a grid point. -/
def tb (t : Fin cfg0.N) : Fin 4 := ⟨t.val / 4, by have : t.val < 16 := lt_of_lt_of_eq t.isLt (show cfg0.N = 16 from N_0); omega⟩

/-- The head of a grid point. -/
def th (t : Fin cfg0.N) : Fin 4 := ⟨t.val % 4, by omega⟩

theorem blk0 (c : Dev nD) (t : Fin cfg0.N) : (fun (i : Fin 2048) (d : Fin 256) => iblk m c 0 t (ix2 i d)) = Qf (m ((c : Thread nD τ).loc main_arg0)) (tb t) (th t) := by
  funext i d
  unfold Qf tb th
  blk_ext [iblk, V, idx t]

theorem blk1 (c : Dev nD) (t : Fin cfg0.N) : (fun (i : Fin 256) (d : Fin 256) => iblk m c 1 t (ix2 i d)) = Kf (m ((c : Thread nD τ).loc main_arg1)) (tb t) (th t) := by
  funext i d
  unfold Kf tb th
  blk_ext [iblk, V, idx t]

theorem blk2 (c : Dev nD) (t : Fin cfg0.N) : (fun (i : Fin 256) (d : Fin 256) => iblk m c 2 t (ix2 i d)) = Vf (m ((c : Thread nD τ).loc main_arg1)) (tb t) (th t) := by
  funext i d
  unfold Vf tb th
  blk_ext [iblk, V, idx t]

theorem blk3 (c : Dev nD) (t : Fin cfg0.N) : (fun (i : Fin 2048) (d : Fin 256) => iblk m c 3 t (ix2 i d)) = Qf (m ((c : Thread nD τ).loc main_arg2)) (tb t) (th t) := by
  funext i d
  unfold Qf tb th
  blk_ext [iblk, V, idx t]

theorem point4 (c : Dev nD) (t : Fin cfg0.N) (i : Fin 2048) (d : Fin 256) (a : Fin 8192) (e : Fin 1024)
    (ha : a.val = (tb t).val * 2048 + i.val) (he : e.val = (th t).val * 256 + d.val) : (outsAt0 m c t).1 (ix2 i d)
    = G4 (m ((c : Thread nD τ).loc main_arg0)) (m ((c : Thread nD τ).loc main_arg1)) (m ((c : Thread nD τ).loc main_arg2)) a e := by
  unfold G4
  rw [bq_eq a _ i ha, rq_eq a _ i ha, hd_eq e _ d he, ln_eq e _ d he, ← blk0, ← blk1, ← blk2, ← blk3]
  exact outs4 m c t i d

theorem point5 (c : Dev nD) (t : Fin cfg0.N) (i : Fin 256) (d : Fin 256) (a e : Fin 1024)
    (ha : a.val = (tb t).val * 256 + i.val) (he : e.val = (th t).val * 256 + d.val) : (outsAt0 m c t).2.1 (ix2 i d)
    = G5 (m ((c : Thread nD τ).loc main_arg0)) (m ((c : Thread nD τ).loc main_arg1)) (m ((c : Thread nD τ).loc main_arg2)) a e := by
  unfold G5
  rw [hd_eq a _ i ha, ln_eq a _ i ha, hd_eq e _ d he, ln_eq e _ d he, ← blk0, ← blk1, ← blk2, ← blk3]
  exact outs5 m c t i d

theorem point6 (c : Dev nD) (t : Fin cfg0.N) (i : Fin 256) (d : Fin 256) (a e : Fin 1024)
    (ha : a.val = (tb t).val * 256 + i.val) (he : e.val = (th t).val * 256 + d.val) : (outsAt0 m c t).2.2 (ix2 i d)
    = G6 (m ((c : Thread nD τ).loc main_arg0)) (m ((c : Thread nD τ).loc main_arg1)) (m ((c : Thread nD τ).loc main_arg2)) a e := by
  unfold G6
  rw [hd_eq a _ i ha, ln_eq a _ i ha, hd_eq e _ d he, ln_eq e _ d he, ← blk0, ← blk1, ← blk3]
  exact outs6 m c t i d

theorem final4 (c : Dev nD) (i : S8192x1024.Idx) : (dats m 0 c).arrAt 4 (cfgs 0).N i
    = G4 (m ((c : Thread nD τ).loc main_arg0)) (m ((c : Thread nD τ).loc main_arg1)) (m ((c : Thread nD τ).loc main_arg2)) (i 0) (i 1) := by
  refine congrFun ((dats m 0 c).arrAt_eq_of_covers 4 (fun i => G4 (m ((c : Thread nD τ).loc main_arg0)) (m ((c : Thread nD τ).loc main_arg1)) (m ((c : Thread nD τ).loc main_arg2)) (i 0) (i 1)) (by decide +kernel) fun t _ y => ?_) i
  rw [after0_4]
  refine Eq.trans (congrArg (outsAt0 m c t).1 (eq_ix2 y)) (point4 m c t (y 0) (y 1) _ _ ?_ ?_)
  · unfold tb; blk_simp; simp [idx t]
  · unfold th; blk_simp; simp [idx t]

theorem final5 (c : Dev nD) (i : S1024x1024.Idx) : (dats m 0 c).arrAt 5 (cfgs 0).N i
    = G5 (m ((c : Thread nD τ).loc main_arg0)) (m ((c : Thread nD τ).loc main_arg1)) (m ((c : Thread nD τ).loc main_arg2)) (i 0) (i 1) := by
  refine congrFun ((dats m 0 c).arrAt_eq_of_covers 5 (fun i => G5 (m ((c : Thread nD τ).loc main_arg0)) (m ((c : Thread nD τ).loc main_arg1)) (m ((c : Thread nD τ).loc main_arg2)) (i 0) (i 1)) (by decide +kernel) fun t _ y => ?_) i
  rw [after0_5]
  refine Eq.trans (congrArg (outsAt0 m c t).2.1 (eq_ix2 y)) (point5 m c t (y 0) (y 1) _ _ ?_ ?_)
  · unfold tb; blk_simp; simp [idx t]
  · unfold th; blk_simp; simp [idx t]

theorem final6 (c : Dev nD) (i : S1024x1024.Idx) : (dats m 0 c).arrAt 6 (cfgs 0).N i
    = G6 (m ((c : Thread nD τ).loc main_arg0)) (m ((c : Thread nD τ).loc main_arg1)) (m ((c : Thread nD τ).loc main_arg2)) (i 0) (i 1) := by
  refine congrFun ((dats m 0 c).arrAt_eq_of_covers 6 (fun i => G6 (m ((c : Thread nD τ).loc main_arg0)) (m ((c : Thread nD τ).loc main_arg1)) (m ((c : Thread nD τ).loc main_arg2)) (i 0) (i 1)) (by decide +kernel) fun t _ y => ?_) i
  rw [after0_6]
  refine Eq.trans (congrArg (outsAt0 m c t).2.2 (eq_ix2 y)) (point6 m c t (y 0) (y 1) _ _ ?_ ?_)
  · unfold tb; blk_simp; simp [idx t]
  · unfold th; blk_simp; simp [idx t]

end Cert.Kernel2Ideal.Attn

end
-- ==== Proof.AttnEq.lean ====
module

public import proofs.«01_k».proof.Proof.Attn

@[expose] public section

set_option maxRecDepth 16384

noncomputable section

open Idealize.ShloMosaic Idealize.ShloMosaic.TcCoe Idealize.SL.Sem

/-! The attention's gradient: the reference's arithmetic is the kernel's, over real numbers. -/

namespace Cert.Attn

open Cert.Reference2Ideal Cert.Reference2Ideal.Ref Cert.Kernel2Ideal.Attn

theorem lo_bits : lo = (⊥ : EReal) := by
  simp [lo, Ideal.ofBits, Ideal.ieee]

theorem cc_real : ∃ r : ℝ, cc = (r : EReal) :=
  ⟨1 / 16, by simp [cc, Ideal.ofBits, Ideal.ieee, -EReal.coe_mul]; norm_num⟩

theorem max_lo (f : Fin 256 → EReal) : max lo (Finset.fold max lo f Finset.univ) = Finset.fold max lo f Finset.univ :=
  max_eq_right ((Finset.le_fold_max _).2 (Or.inl le_rfl))

/-- The greatest of real numbers over a set is a real number, or the lowest element. -/
theorem fold_or (f : Fin 256 → ℝ) (s : Finset (Fin 256)) : Finset.fold max lo (fun x => (f x : EReal)) s = ⊥ ∨ ∃ r : ℝ, Finset.fold max lo (fun x => (f x : EReal)) s = (r : EReal) := by
  classical
  induction s using Finset.induction_on with
  | empty => exact Or.inl (by rw [Finset.fold_empty, lo_bits])
  | insert a s ha ih =>
    rw [Finset.fold_insert ha]
    rcases ih with h | ⟨r, h⟩
    · exact Or.inr ⟨f a, by rw [h, max_eq_left bot_le]⟩
    · exact Or.inr ⟨max (f a) r, by rw [h]; exact (EReal.coe_strictMono.monotone.map_max).symm⟩

/-- The greatest of a row of real numbers is a real number. -/
theorem fold_real (f : Fin 256 → ℝ) : ∃ r : ℝ, Finset.fold max lo (fun x => (f x : EReal)) Finset.univ = (r : EReal) := by
  rcases fold_or f Finset.univ with h | h
  · have h1 : (f 0 : EReal) ≤ Finset.fold max lo (fun x => (f x : EReal)) Finset.univ :=
      (Finset.le_fold_max _).2 (Or.inr ⟨0, Finset.mem_univ _, le_rfl⟩)
    rw [h] at h1
    exact absurd h1 (by simp)
  · exact h

/-- The exponentials of a row of real scores are positive real numbers. -/
theorem E_real (s : Fin 2048 → Fin 256 → EReal) (i : Fin 2048) (h : ∀ j, ∃ r : ℝ, s i j = (r : EReal)) :
    ∃ e : Fin 256 → ℝ, (∀ j, E s i j = (e j : EReal)) ∧ ∀ j, 0 < e j := by
  choose f hf using h
  obtain ⟨r, hr⟩ := fold_real f
  refine ⟨fun j => Real.exp (f j - r), fun j => ?_, fun j => Real.exp_pos _⟩
  unfold E
  rw [show (fun x => s i x) = fun x => (f x : EReal) from funext hf, hr, hf, ← EReal.coe_sub, Ideal.exp_coe]

/-- A product of two real rows is real. -/
theorem dot_real (f g : Fin 256 → EReal) (hf : ∀ j, ∃ r : ℝ, f j = (r : EReal)) (hg : ∀ j, ∃ r : ℝ, g j = (r : EReal)) :
    ∃ r : ℝ, ∑ d : Fin 256, f d * g d = (r : EReal) := by
  choose a ha using hf
  choose b hb using hg
  exact ⟨∑ d, a d * b d, by simp only [ha, hb]; exact Cert.Real.sum_mul_coe a b⟩

/-- The two ways to the gradient of a score. -/
theorem grad_eq (e p : Fin 256 → ℝ) (he : ∀ j, 0 < e j) (c : ℝ) (j : Fin 256) :
    (Ideal.div (p j : EReal) (∑ k, (e k : EReal)) + -∑ k, (p k : EReal) * Ideal.div 1 ((∑ k, (e k : EReal)) * ∑ k, (e k : EReal)) * (e k : EReal)) * (e j : EReal) * (c : EReal)
      = Ideal.div (e j : EReal) (∑ k, (e k : EReal)) * ((p j : EReal) - ∑ k, (p k : EReal) * Ideal.div (e k : EReal) (∑ k, (e k : EReal))) * (c : EReal) := by
  rw [← Cert.Real.coe_sum]
  have hz : (∑ k, e k) ≠ 0 := (Finset.sum_pos (fun k _ => he k) ⟨0, Finset.mem_univ _⟩).ne'
  generalize hz' : (∑ k, e k) = z at hz ⊢
  rw [← EReal.coe_mul z z, ← EReal.coe_one]
  simp only [Cert.Real.div_real _ _ hz, Cert.Real.div_real _ _ (mul_ne_zero hz hz), ← EReal.coe_mul, ← Cert.Real.coe_sum, ← EReal.coe_neg, ← EReal.coe_add, ← EReal.coe_sub]
  congr 1
  have h1 : ∑ k, p k * (1 / (z * z)) * e k = (∑ k, p k * e k) / (z * z) := by
    rw [Finset.sum_div]; exact Finset.sum_congr rfl fun k _ => by ring
  have h2 : ∑ k, p k * (e k / z) = (∑ k, p k * e k) / z := by
    rw [Finset.sum_div]; exact Finset.sum_congr rfl fun k _ => by ring
  rw [h1, h2]
  field_simp
  ring

theorem sA_at (x0 : FVec Ideal S8192x1024 .bf16) (x1 : FVec Ideal S1024x2048 .bf16) (b h : Fin 4) (i : Fin 2048) (j : Fin 256) :
    sc (q4 x0) (k4 x1) (ix4 b h i j) = S (Qf x0 b h) (Kf x1 b h) i j := by
  rw [sc_at]
  simp only [q4_at, k4_at]
  rfl

theorem exA_at (x0 : FVec Ideal S8192x1024 .bf16) (x1 : FVec Ideal S1024x2048 .bf16) (b h : Fin 4) (i : Fin 2048) (j : Fin 256) :
    exA x0 x1 (ix4 b h i j) = E (S (Qf x0 b h) (Kf x1 b h)) i j := by
  unfold exA
  rw [ex_at, mx_at]
  simp only [sA_at]
  rw [max_lo]
  rfl

theorem smA_at (x0 : FVec Ideal S8192x1024 .bf16) (x1 : FVec Ideal S1024x2048 .bf16) (b h : Fin 4) (i : Fin 2048) (j : Fin 1) :
    sm (exA x0 x1) (ix4 b h i j) = Z (S (Qf x0 b h) (Kf x1 b h)) i := by
  rw [sm_at]
  simp only [exA_at]
  rfl

theorem dpA_at (x1 : FVec Ideal S1024x2048 .bf16) (x2 : FVec Ideal S8192x1024 .bf16) (b h : Fin 4) (i : Fin 2048) (j : Fin 256) :
    dp (o4 x2) (v4 x1) (ix4 b h i j) = DP (Qf x2 b h) (Vf x1 b h) i j := by
  rw [dp_at]
  simp only [o4_at, v4_at]
  rfl

theorem dsA_at (x0 : FVec Ideal S8192x1024 .bf16) (x1 : FVec Ideal S1024x2048 .bf16) (x2 : FVec Ideal S8192x1024 .bf16)
    (h0 : ∀ i, ∃ r : ℝ, x0 i = (r : EReal)) (h1 : ∀ i, ∃ r : ℝ, x1 i = (r : EReal)) (h2 : ∀ i, ∃ r : ℝ, x2 i = (r : EReal))
    (b h : Fin 4) (i : Fin 2048) (j : Fin 256) :
    dsA x0 x1 x2 (ix4 b h i j) = DS (S (Qf x0 b h) (Kf x1 b h)) (DP (Qf x2 b h) (Vf x1 b h)) i j := by
  unfold dsA
  rw [ds_at, ng_at]
  simp only [exA_at, smA_at, dpA_at]
  obtain ⟨c, hc⟩ := cc_real
  obtain ⟨e, he, hpos⟩ := E_real (S (Qf x0 b h) (Kf x1 b h)) i (fun j => by
    obtain ⟨r, hr⟩ := dot_real (Qf x0 b h i) (Kf x1 b h j) (fun d => h0 _) (fun d => h1 _)
    exact ⟨r * c, by unfold S; rw [hr, hc, EReal.coe_mul]⟩)
  have hp : ∀ j, ∃ r : ℝ, DP (Qf x2 b h) (Vf x1 b h) i j = (r : EReal) := fun j => dot_real (Qf x2 b h i) (Vf x1 b h j) (fun d => h2 _) (fun d => h1 _)
  choose p hp using hp
  unfold DS P Z
  simp only [he, hp, hc]
  exact grad_eq e p hpos c j

theorem prA_at (x0 : FVec Ideal S8192x1024 .bf16) (x1 : FVec Ideal S1024x2048 .bf16) (b h : Fin 4) (i : Fin 2048) (j : Fin 256) :
    pr (exA x0 x1) (sm (exA x0 x1)) (ix4 b h i j) = P (S (Qf x0 b h) (Kf x1 b h)) i j := by
  rw [pr_at, exA_at, smA_at]
  rfl

theorem res0_at (x0 : FVec Ideal S8192x1024 .bf16) (x1 : FVec Ideal S1024x2048 .bf16) (x2 : FVec Ideal S8192x1024 .bf16)
    (h0 : ∀ i, ∃ r : ℝ, x0 i = (r : EReal)) (h1 : ∀ i, ∃ r : ℝ, x1 i = (r : EReal)) (h2 : ∀ i, ∃ r : ℝ, x2 i = (r : EReal)) (a : Fin 8192) (e : Fin 1024) :
    res0 x0 x1 x2 (ix2 a e) = G4 x0 x1 x2 a e := by
  unfold res0 G4 gq
  rw [dq_at _ _ (bq a) (hd e) (rq a) (ln e) a e (by unfold bq rq; dsimp only; omega) (by unfold hd ln; dsimp only; omega)]
  simp only [dsA_at x0 x1 x2 h0 h1 h2, k4_at]

theorem res1_at (x0 : FVec Ideal S8192x1024 .bf16) (x1 : FVec Ideal S1024x2048 .bf16) (x2 : FVec Ideal S8192x1024 .bf16)
    (h0 : ∀ i, ∃ r : ℝ, x0 i = (r : EReal)) (h1 : ∀ i, ∃ r : ℝ, x1 i = (r : EReal)) (h2 : ∀ i, ∃ r : ℝ, x2 i = (r : EReal)) (a e : Fin 1024) :
    res1 x0 x1 x2 (ix2 a e) = G5 x0 x1 x2 a e := by
  unfold res1 G5 gk
  rw [dk_at _ _ (hd a) (hd e) (ln a) (ln e) a e (by unfold hd ln; dsimp only; omega) (by unfold hd ln; dsimp only; omega)]
  simp only [dsA_at x0 x1 x2 h0 h1 h2, q4_at]

theorem res2_at (x0 : FVec Ideal S8192x1024 .bf16) (x1 : FVec Ideal S1024x2048 .bf16) (x2 : FVec Ideal S8192x1024 .bf16) (a e : Fin 1024) :
    res2 x0 x1 x2 (ix2 a e) = G6 x0 x1 x2 a e := by
  unfold res2 G6 gv
  rw [dv_at _ _ (hd a) (hd e) (ln a) (ln e) a e (by unfold hd ln; dsimp only; omega) (by unfold hd ln; dsimp only; omega)]
  simp only [prA_at, o4_at]
  exact Finset.sum_congr rfl fun i _ => mul_comm _ _

end Cert.Attn

end
-- ==== Proof.Claim2.lean ====
module

public import proofs.«01_k».proof.Proof.AttnEq
public import proofs.«01_k».proof.Proof.Gen.Kernel2.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the attention's gradient. -/

namespace Cert.Proof

theorem facts2 : Cert.Pre_finite2.Facts := by
  constructor <;> decide

/-- What the precondition says: every entry of every argument is a real number. -/
theorem pre2 [Cert.Pre_finite2.Facts] (x0 : FVec Ideal Cert.Pre_finite2.S8192x1024 .bf16) (x1 : FVec Ideal Cert.Pre_finite2.S1024x2048 .bf16)
    (x2 : FVec Ideal Cert.Pre_finite2.S8192x1024 .bf16) (h : Cert.Pre_finite2.fn (F := Ideal) x0 x1 x2 = fun _ => 1#1) :
    (∀ i, ∃ r : ℝ, x0 i = (r : EReal)) ∧ (∀ i, ∃ r : ℝ, x1 i = (r : EReal)) ∧ ∀ i, ∃ r : ℝ, x2 i = (r : EReal) := by
  have h' := congrFun h (fun a => a.elim0)
  unfold Cert.Pre_finite2.fn Cert.Pre_finite2.fn_part1 at h'
  obtain ⟨h', e2⟩ := Cert.Real.andi_one h'
  obtain ⟨h', e1⟩ := Cert.Real.andi_one h'
  obtain ⟨-, e0⟩ := Cert.Real.andi_one h'
  exact ⟨Cert.Real.all_finite _ _ _ _ _ _ _ e0, Cert.Real.all_finite _ _ _ _ _ _ _ e1, Cert.Real.all_finite _ _ _ _ _ _ _ e2⟩

theorem frame2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem attn0_val (m' : (ℓ : Loc Cert.Reference2Ideal.nD Cert.Reference2Ideal.τ Cert.Reference2Ideal.sig) → Buf (Elt Ideal) ℓ) (c : Dev Cert.Reference2Ideal.nD) :
    Cert.Reference2Ideal.Value.res_main_v68 (F := Ideal) m' c = Cert.Reference2Ideal.Ref.res0 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) := rfl

theorem attn1_val (m' : (ℓ : Loc Cert.Reference2Ideal.nD Cert.Reference2Ideal.τ Cert.Reference2Ideal.sig) → Buf (Elt Ideal) ℓ) (c : Dev Cert.Reference2Ideal.nD) :
    Cert.Reference2Ideal.Value.res_main_v66 (F := Ideal) m' c = Cert.Reference2Ideal.Ref.res1 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) := rfl

theorem attn0 (m : (ℓ : Loc Cert.Kernel2Ideal.nD Cert.Kernel2Ideal.τ Cert.Kernel2Ideal.sig) → Buf (Elt Ideal) ℓ) (c : Dev Cert.Kernel2Ideal.nD)
    [Cert.Pre_finite2.Facts] (hpre : Cert.Pre_Kernel2Ideal_finite2 m) :
    Cert.Reference2Ideal.Ref.res0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      = (Cert.Kernel2Ideal.Gen.dats m 0 c).arrAt 4 (Cert.Kernel2Ideal.cfgs 0).N := by
  obtain ⟨h0, h1, h2⟩ := pre2 _ _ _ (hpre c)
  funext i
  refine Eq.trans ?_ (Cert.Kernel2Ideal.Attn.final4 m c i).symm
  rw [eq_ix2 i]
  exact Cert.Attn.res0_at _ _ _ h0 h1 h2 (i 0) (i 1)

theorem attn1 (m : (ℓ : Loc Cert.Kernel2Ideal.nD Cert.Kernel2Ideal.τ Cert.Kernel2Ideal.sig) → Buf (Elt Ideal) ℓ) (c : Dev Cert.Kernel2Ideal.nD)
    [Cert.Pre_finite2.Facts] (hpre : Cert.Pre_Kernel2Ideal_finite2 m) :
    Cert.Reference2Ideal.Ref.res1 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      = (Cert.Kernel2Ideal.Gen.dats m 0 c).arrAt 5 (Cert.Kernel2Ideal.cfgs 0).N := by
  obtain ⟨h0, h1, h2⟩ := pre2 _ _ _ (hpre c)
  funext i
  refine Eq.trans ?_ (Cert.Kernel2Ideal.Attn.final5 m c i).symm
  rw [eq_ix2 i]
  exact Cert.Attn.res1_at _ _ _ h0 h1 h2 (i 0) (i 1)

theorem attn2 (m : (ℓ : Loc Cert.Kernel2Ideal.nD Cert.Kernel2Ideal.τ Cert.Kernel2Ideal.sig) → Buf (Elt Ideal) ℓ) (c : Dev Cert.Kernel2Ideal.nD) :
    Cert.Reference2Ideal.Ref.res2 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      = (Cert.Kernel2Ideal.Gen.dats m 0 c).arrAt 6 (Cert.Kernel2Ideal.cfgs 0).N := by
  funext i
  refine Eq.trans ?_ (Cert.Kernel2Ideal.Attn.final6 m c i).symm
  rw [eq_ix2 i]
  exact Cert.Attn.res2_at _ _ _ (i 0) (i 1)

theorem algebraic2 : Cert.algebraic_Kernel2Ideal_Reference2Ideal_pre_finite2 (hPre_finite2 := facts2) := by
  haveI := facts2
  pair_intro
  · run_from Cert.Kernel2Ideal.Gen.run_main m g
  · refine (θ_run Cert.Reference2Ideal.defs _ _).mono (fun r h c => ⟨(h c).1.trans ((attn0_val m' c).trans ?_), (h c).2.1.trans ((attn1_val m' c).trans ?_),
        (h c).2.2.1.trans ((show _ = Cert.Reference2Ideal.Ref.res2 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) from rfl).trans ?_), (h c).2.2.2⟩)
      (Cert.Reference2Ideal.Value.run (F := Ideal) m' g')
    · obtain ⟨a0, a1, a2⟩ := hagree c
      rw [a0, a1, a2]
      exact attn0 m c hpre
    · obtain ⟨a0, a1, a2⟩ := hagree c
      rw [a0, a1, a2]
      exact attn1 m c hpre
    · obtain ⟨a0, a1, a2⟩ := hagree c
      rw [a0, a1, a2]
      exact attn2 m c

end Cert.Proof

end
-- ==== Proof.Act.lean ====
module

public import proofs.«01_k».proof.Proof.Gen.Kernel3Ideal.Value
public import proofs.«01_k».proof.Proof.Real
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Act

open Cert.Kernel3Ideal Cert.Kernel3Ideal.Gen

/-- The block's product `d · wᵀ`, halved, at row `i` and column `j`. -/
def da (x0 : FVec Ideal S512x1024 .f32) (x1 : FVec Ideal S2816x1024 .f32) (y : S512x2816.Idx) : EReal :=
  Ideal.ofBits .f32 0x3F000000#32 * ∑ k : Fin 1024, x0 (ix2 (y 0) k) * x1 (ix2 (y 1) k)

/-- The gradient of `silu(g) * u` in `g`, times the incoming `a`. -/
def gateOf (a g u : EReal) : EReal :=
  (a * u) * (Ideal.logistic g * (Ideal.ofBits .f32 0x3F800000#32 + g * (Ideal.ofBits .f32 0x3F800000#32 - Ideal.logistic g)))

/-- The gradient of `silu(g) * u` in `u`, times the incoming `a`. -/
def upOf (a g : EReal) : EReal := a * (g * Ideal.logistic g)

theorem out4 (x0 : FVec Ideal S512x1024 .f32) (x1 : FVec Ideal S2816x1024 .f32) (x2 x3 : FVec Ideal S512x2816 .bf16) (y : S512x2816.Idx) :
    out0_4 (F := Ideal) x0 x1 x2 x3 y = gateOf (da x0 x1 y) (x2 y) (x3 y) := by
  unfold_out out0_4
  unfold gateOf da
  canon_tiles x h
  all_goals (open_payloads; pointwise; blk_point [])

theorem out5 (x0 : FVec Ideal S512x1024 .f32) (x1 : FVec Ideal S2816x1024 .f32) (x2 x3 : FVec Ideal S512x2816 .bf16) (y : S512x2816.Idx) :
    out0_5 (F := Ideal) x0 x1 x2 x3 y = upOf (da x0 x1 y) (x2 y) := by
  unfold_out out0_5
  unfold upOf da
  canon_tiles x h
  all_goals (open_payloads; pointwise; blk_point [])

/-- Entry `(i, j)` of the whole product `d · wᵀ`, halved. -/
def daAll (x0 : FVec Ideal S8192x1024 .f32) (x1 : FVec Ideal S2816x1024 .f32) (i : S8192x2816.Idx) : EReal :=
  Ideal.ofBits .f32 0x3F000000#32 * ∑ k : Fin 1024, x0 (ix2 (i 0) k) * x1 (ix2 (i 1) k)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

theorem final4 (c : Dev nD) (i : S8192x2816.Idx) : (dats m 0 c).arrAt 4 (cfgs 0).N i
    = gateOf (daAll (m ((c : Thread nD τ).loc main_arg0)) (m ((c : Thread nD τ).loc main_arg1)) i)
        (m ((c : Thread nD τ).loc main_arg2) i) (m ((c : Thread nD τ).loc main_arg3) i) := by
  refine congrFun ((dats m 0 c).arrAt_eq_of_covers 4 (fun i => gateOf (daAll (m ((c : Thread nD τ).loc main_arg0)) (m ((c : Thread nD τ).loc main_arg1)) i)
        (m ((c : Thread nD τ).loc main_arg2) i) (m ((c : Thread nD τ).loc main_arg3) i)) (by decide +kernel) fun t _ y => ?_) i
  blk_simp
  rw [after0_4, out4]
  unfold gateOf daAll da
  blk_point [iblk, V, idx t]

theorem final5 (c : Dev nD) (i : S8192x2816.Idx) : (dats m 0 c).arrAt 5 (cfgs 0).N i
    = upOf (daAll (m ((c : Thread nD τ).loc main_arg0)) (m ((c : Thread nD τ).loc main_arg1)) i)
        (m ((c : Thread nD τ).loc main_arg2) i) := by
  refine congrFun ((dats m 0 c).arrAt_eq_of_covers 5 (fun i => upOf (daAll (m ((c : Thread nD τ).loc main_arg0)) (m ((c : Thread nD τ).loc main_arg1)) i)
        (m ((c : Thread nD τ).loc main_arg2) i)) (by decide +kernel) fun t _ y => ?_) i
  blk_simp
  rw [after0_5, out5]
  unfold upOf daAll da
  blk_point [iblk, V, idx t]

end Cert.Kernel3Ideal.Act

end
-- ==== Proof.Ref3.lean ====
module

public import proofs.«01_k».proof.Defs
public import proofs.«01_k».proof.Proof.Gen.Reference3Ideal.Run

@[expose] public section

set_option maxRecDepth 16384

noncomputable section

/-! The results of the reference as terms over its argument arrays. -/

namespace Cert.Reference3Ideal.Ref

open Cert.Reference3Ideal Cert.Reference3Ideal.Gen Idealize.ShloMosaic Idealize.ShloMosaic.TcCoe Idealize.SL.Sem

/-- Result 0 of the reference. -/
abbrev res0 (x0 : FVec Ideal S8192x1024 .f32) (x1 : FVec Ideal S2816x1024 .f32) (x2 : FVec Ideal S8192x2816 .bf16) (x3 : FVec Ideal S8192x2816 .bf16) : FVec Ideal S8192x2816 .bf16 :=
  truncf .bf16 (addf (mulf (mulf (Host.dotGeneral dot_S8192x1024_S2816x1024_S8192x2816_1_1_0_0_n_n none (mulf (broadcastInDim S8192x1024 ![] bcast_S_S8192x1024 (constant S_ .f32 0x3F000000#32)) x0) x1) (extf .f32 x3 bitsLt_bf16_f32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 x2 bitsLt_bf16_f32)))))) (mulf (mulf (extf .f32 x2 bitsLt_bf16_f32) (mulf (Host.dotGeneral dot_S8192x1024_S2816x1024_S8192x2816_1_1_0_0_n_n none (mulf (broadcastInDim S8192x1024 ![] bcast_S_S8192x1024 (constant S_ .f32 0x3F000000#32)) x0) x1) (extf .f32 x3 bitsLt_bf16_f32))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 x2 bitsLt_bf16_f32))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 x2 bitsLt_bf16_f32))))))))) bitsLt_bf16_f32

/-- Result 1 of the reference. -/
abbrev res1 (x0 : FVec Ideal S8192x1024 .f32) (x1 : FVec Ideal S2816x1024 .f32) (x2 : FVec Ideal S8192x2816 .bf16) (x3 : FVec Ideal S8192x2816 .bf16) : FVec Ideal S8192x2816 .bf16 :=
  truncf .bf16 (mulf (mulf (extf .f32 x2 bitsLt_bf16_f32) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 x2 bitsLt_bf16_f32)))))) (Host.dotGeneral dot_S8192x1024_S2816x1024_S8192x2816_1_1_0_0_n_n none (mulf (broadcastInDim S8192x1024 ![] bcast_S_S8192x1024 (constant S_ .f32 0x3F000000#32)) x0) x1)) bitsLt_bf16_f32

end Cert.Reference3Ideal.Ref

end
-- ==== Proof.ActRef.lean ====
module

public import proofs.«01_k».proof.Proof.Act
public import proofs.«01_k».proof.Proof.Ref3
public import proofs.«01_k».proof.Proof.Real
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Act

open Cert.Kernel3Ideal Cert.Kernel3Ideal.Gen

/-- The reference's first result is the gate's gradient: the rule of a product of three real factors. -/
theorem ref0 (x0 : FVec Ideal S8192x1024 .f32) (x1 : FVec Ideal S2816x1024 .f32) (x2 x3 : FVec Ideal S8192x2816 .bf16)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (i : S8192x2816.Idx) :
    Cert.Reference3Ideal.Ref.res0 x0 x1 x2 x3 i = gateOf (daAll x0 x1 i) (x2 i) (x3 i) := by
  choose f0 e0 using h0
  choose f1 e1 using h1
  choose f2 e2 using h2
  choose f3 e3 using h3
  have hs : ∑ k : Fin 1024, ((1 / 2 : ℝ) : EReal) * x0 (ix2 (i 0) k) * x1 (ix2 (i 1) k)
      = ((1 / 2 * ∑ k : Fin 1024, f0 (ix2 (i 0) k) * f1 (ix2 (i 1) k) : ℝ) : EReal) := by
    simp only [e0, e1, ← EReal.coe_mul]
    rw [← Cert.Real.coe_sum, Finset.mul_sum]
    simp only [mul_assoc]
  have hd : ∑ k : Fin 1024, x0 (ix2 (i 0) k) * x1 (ix2 (i 1) k)
      = ((∑ k : Fin 1024, f0 (ix2 (i 0) k) * f1 (ix2 (i 1) k) : ℝ) : EReal) := by
    simp only [e0, e1, ← EReal.coe_mul]
    rw [← Cert.Real.coe_sum]
  unfold Cert.Reference3Ideal.Ref.res0
  pointwise
  simp only [← Ideal.logistic.eq_1]
  unfold gateOf daAll
  rw [Cert.Real.half_bits, Cert.Real.one_bits, hs, hd, e2, e3, Cert.Real.logistic_real]
  simp only [← EReal.coe_one, ← EReal.coe_mul, ← EReal.coe_sub, ← EReal.coe_add]
  congr 1
  ring

theorem ref1 (x0 : FVec Ideal S8192x1024 .f32) (x1 : FVec Ideal S2816x1024 .f32) (x2 x3 : FVec Ideal S8192x2816 .bf16)
    (h0 : ∀ i, ∃ r : ℝ, x0 i = (r : EReal)) (h1 : ∀ i, ∃ r : ℝ, x1 i = (r : EReal)) (i : S8192x2816.Idx) :
    Cert.Reference3Ideal.Ref.res1 x0 x1 x2 x3 i = upOf (daAll x0 x1 i) (x2 i) := by
  choose f0 e0 using h0
  choose f1 e1 using h1
  have hs : ∑ k : Fin 1024, ((1 / 2 : ℝ) : EReal) * x0 (ix2 (i 0) k) * x1 (ix2 (i 1) k)
      = ((1 / 2 : ℝ) : EReal) * ∑ k : Fin 1024, x0 (ix2 (i 0) k) * x1 (ix2 (i 1) k) := by
    simp only [e0, e1, ← EReal.coe_mul]
    rw [← Cert.Real.coe_sum, ← Cert.Real.coe_sum, ← EReal.coe_mul, Finset.mul_sum]
    simp only [mul_assoc]
  unfold Cert.Reference3Ideal.Ref.res1
  pointwise
  simp only [← Ideal.logistic.eq_1]
  unfold upOf daAll
  rw [Cert.Real.half_bits, hs, mul_comm]

end Cert.Kernel3Ideal.Act

end
-- ==== Proof.Claim3.lean ====
module

public import proofs.«01_k».proof.Proof.Act
public import proofs.«01_k».proof.Proof.ActRef
public import proofs.«01_k».proof.Proof.Gen.Kernel3.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the gate. -/

namespace Cert.Proof

theorem facts3 : Cert.Pre_finite3.Facts := by
  constructor <;> decide

/-- What the precondition says: every entry of every argument is a real number. -/
theorem pre3 [Cert.Pre_finite3.Facts] (x0 : FVec Ideal Cert.Pre_finite3.S8192x1024 .f32) (x1 : FVec Ideal Cert.Pre_finite3.S2816x1024 .f32)
    (x2 x3 : FVec Ideal Cert.Pre_finite3.S8192x2816 .bf16)
    (h : Cert.Pre_finite3.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have h' := congrFun h (fun a => a.elim0)
  unfold Cert.Pre_finite3.fn Cert.Pre_finite3.fn_part1 at h'
  obtain ⟨h', e3⟩ := Cert.Real.andi_one h'
  obtain ⟨h', e2⟩ := Cert.Real.andi_one h'
  obtain ⟨h', e1⟩ := Cert.Real.andi_one h'
  obtain ⟨-, e0⟩ := Cert.Real.andi_one h'
  exact ⟨Cert.Real.all_finite _ _ _ _ _ _ _ e0, Cert.Real.all_finite _ _ _ _ _ _ _ e1, Cert.Real.all_finite _ _ _ _ _ _ _ e2,
    Cert.Real.all_finite _ _ _ _ _ _ _ e3⟩

theorem frame3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal_pre_finite3 (hPre_finite3 := facts3) := by
  haveI := facts3
  pair_intro
  · run_from Cert.Kernel3Ideal.Gen.run_main m g
  · run_from Cert.Reference3Ideal.Value.run m' g'
    all_goals obtain ⟨h0, h1, h2, h3⟩ := pre3 _ _ _ _ (hpre c)
    · funext i
      exact (Cert.Kernel3Ideal.Act.ref0 _ _ _ _ h0 h1 h2 h3 i).trans (Cert.Kernel3Ideal.Act.final4 m c i).symm
    · funext i
      exact (Cert.Kernel3Ideal.Act.ref1 _ _ _ (m ((c.tc : Thread Cert.Kernel3Ideal.nD Cert.Kernel3Ideal.τ).loc Cert.Kernel3Ideal.main_arg3)) h0 h1 i).trans (Cert.Kernel3Ideal.Act.final5 m c i).symm

end Cert.Proof

end
-- ==== Proof.Ref4.lean ====
module

public import proofs.«01_k».proof.Defs
public import proofs.«01_k».proof.Proof.Gen.Reference4Ideal.Run

@[expose] public section

set_option maxRecDepth 16384

noncomputable section

/-! The results of the reference as terms over its argument arrays. -/

namespace Cert.Reference4Ideal.Ref

open Cert.Reference4Ideal Cert.Reference4Ideal.Gen Idealize.ShloMosaic Idealize.ShloMosaic.TcCoe Idealize.SL.Sem

/-- Result 0 of the reference. -/
abbrev res0 (x0 : FVec Ideal S8192x10368 .f32) (x1 : FVec Ideal S8192x1024 .bf16) (x2 : FVec Ideal S8192x1024 .bf16) (x3 : FVec Ideal S8192x1024 .f32) (x4 : FVec Ideal S1024x1024 .f32) : FVec Ideal S8192x1024 .bf16 :=
  truncf .bf16 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 8192] x0 slices_S8192x10368_S8192x1024_0_8192))))) (Host.dotGeneral dot_S8192x1024_S1024x1024_S8192x1024_1_1_0_0_n_n none x3 x4)) bitsLt_bf16_f32

/-- Result 1 of the reference. -/
abbrev res1 (x0 : FVec Ideal S8192x10368 .f32) (x1 : FVec Ideal S8192x1024 .bf16) (x2 : FVec Ideal S8192x1024 .bf16) (x3 : FVec Ideal S8192x1024 .f32) (x4 : FVec Ideal S1024x1024 .f32) : FVec Ideal S8192x1024 .bf16 :=
  truncf .bf16 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 9216] x0 slices_S8192x10368_S8192x1024_0_9216))))) (Host.dotGeneral dot_S8192x1024_S1024x1024_S8192x1024_1_1_0_0_n_n none x3 x4)) bitsLt_bf16_f32

/-- Result 2 of the reference. -/
abbrev res2 (x0 : FVec Ideal S8192x10368 .f32) (x1 : FVec Ideal S8192x1024 .bf16) (x2 : FVec Ideal S8192x1024 .bf16) (x3 : FVec Ideal S8192x1024 .f32) (x4 : FVec Ideal S1024x1024 .f32) : FVec Ideal S8192x2048 .bf16 :=
  truncf .bf16 (concatenate S8192x2048 1 [⟨S8192x1024, (mulf (mulf (Host.dotGeneral dot_S8192x1024_S1024x1024_S8192x1024_1_1_0_0_n_n none x3 x4) (extf .f32 x1 bitsLt_bf16_f32)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 8192] x0 slices_S8192x10368_S8192x1024_0_8192))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 8192] x0 slices_S8192x10368_S8192x1024_0_8192))))))))⟩, ⟨S8192x1024, (mulf (mulf (Host.dotGeneral dot_S8192x1024_S1024x1024_S8192x1024_1_1_0_0_n_n none x3 x4) (extf .f32 x2 bitsLt_bf16_f32)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 9216] x0 slices_S8192x10368_S8192x1024_0_9216))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 9216] x0 slices_S8192x10368_S8192x1024_0_9216))))))))⟩] concatenates_S8192x1024_S8192x1024_S8192x2048_d1) bitsLt_bf16_f32

end Cert.Reference4Ideal.Ref

end
-- ==== Proof.Merge.lean ====
module

public import proofs.«01_k».proof.Proof.Gen.Kernel4Ideal.Frame
public import proofs.«01_k».proof.Proof.Ref4
public import proofs.«01_k».proof.Proof.Real
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (m : (ℓ : Loc nD τ sig) → Buf (Elt Ideal) ℓ)

theorem idx : ∀ t : Fin cfg0.N, win0_0.index t = ![t.val, 4] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 4] :=
  (by decide +kernel : ∀ t : Fin grid0.N, _)

/-- The gate block of a point: columns 8192 to 10239 of the rows of the point. -/
theorem X0_at (c : Dev nD) (t : Fin cfg0.N) (j : S512x2048.Idx) (i : S8192x10368.Idx) (h0 : (i 0 : ℕ) = t.val * 512 + j 0) (h1 : (i 1 : ℕ) = 8192 + j 1) :
    X0_0 m c t j = m ((c : Thread nD τ).loc main_arg0) i := by
  unfold X0_0 Pipeline.Window.fill
  rw [dif_pos (moved0_0 t j)]
  blk_ext [iblk, V, idx t]

theorem final5 (c : Dev nD) : (dats m 0 c).arrAt 5 (cfgs 0).N
    = Cert.Reference4Ideal.Ref.res0 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  pointwise [k0_pay1, k0_pay2, k0_pay4, Cert.Reference4Ideal.Ref.res0]
  simp only [← Ideal.logistic.eq_1]
  rw [mul_comm]
  refine congrArg₂ (· * ·) (congrArg Ideal.logistic (X0_at m c t _ _ ?_ ?_)) ?_
  · blk_simp [idx t]
  · blk_simp [idx t] <;> omega
  · blk_point [iblk, V, idx t]

theorem final6 (c : Dev nD) : (dats m 0 c).arrAt 6 (cfgs 0).N
    = Cert.Reference4Ideal.Ref.res1 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; unfold outsAt0; frame_out
  pointwise [k0_pay1, k0_pay3, k0_pay5, Cert.Reference4Ideal.Ref.res1]
  simp only [← Ideal.logistic.eq_1]
  rw [mul_comm]
  refine congrArg₂ (· * ·) (congrArg Ideal.logistic (X0_at m c t _ _ ?_ ?_)) ?_
  · blk_simp [idx t]
  · show 9216 + ((((cfg0.win 6).blk t).view.emb y 1 : ℕ)) = 8192 + (1024 + ((y 1 : ℕ)))
    blk_simp [idx t]
    omega
  · blk_point [iblk, V, idx t]

/-- What window 7's array holds in the columns the kernel writes. -/
def gates (c : Dev nD) (i : S8192x10368.Idx) : EReal :=
  if h : 8192 ≤ (i 1 : ℕ) ∧ (i 1 : ℕ) < 10240 then
    Cert.Reference4Ideal.Ref.res2 (m ((c : Thread nD τ).loc main_arg0)) (m ((c : Thread nD τ).loc main_arg1)) (m ((c : Thread nD τ).loc main_arg2))
        (m ((c : Thread nD τ).loc main_arg3)) (m ((c : Thread nD τ).loc main_arg4)) (ix2 (i 0) ⟨(i 1 : ℕ) - 8192, by omega⟩) else 0

theorem point7 (c : Dev nD) (t : Fin cfg0.N) (y : S512x2048.Idx) (i : S8192x2048.Idx) (h0 : (i 0 : ℕ) = t.val * 512 + y 0) (h1 : (i 1 : ℕ) = y 1) :
    (outsAt0 m c t).2.2 y = Cert.Reference4Ideal.Ref.res2 (m ((c : Thread nD τ).loc main_arg0)) (m ((c : Thread nD τ).loc main_arg1)) (m ((c : Thread nD τ).loc main_arg2))
        (m ((c : Thread nD τ).loc main_arg3)) (m ((c : Thread nD τ).loc main_arg4)) i := by
  unfold outsAt0
  have hX := X0_at m c t
  generalize X0_0 m c t = X at hX ⊢
  frame_out
  canon_tiles x h
  · open_payloads; pointwise [Cert.Reference4Ideal.Ref.res2]
    rw [dif_neg (by omega)]
    simp only [← Ideal.logistic.eq_1]
    refine congrArg₂ (· * ·) ?_ (congrArg (fun z => Ideal.logistic z * (1 - Ideal.logistic z)) (hX _ _ ?_ ?_))
    · blk_point [iblk, V, idx t]
    · show (i 0 : ℕ) = t.val * 512 + (x 0 : ℕ)
      omega
    · show 9216 + ((i 1 : ℕ) - 1024) = 8192 + (1024 + (x 1 : ℕ))
      omega
  · open_payloads; pointwise [Cert.Reference4Ideal.Ref.res2]
    rw [dif_pos (by omega)]
    simp only [← Ideal.logistic.eq_1]
    refine congrArg₂ (· * ·) ?_ (congrArg (fun z => Ideal.logistic z * (1 - Ideal.logistic z)) (hX _ _ ?_ ?_))
    · blk_point [iblk, V, idx t]
    · show (i 0 : ℕ) = t.val * 512 + (x 0 : ℕ)
      omega
    · show 8192 + (i 1 : ℕ) = 8192 + (x 1 : ℕ)
      omega

end Cert.Kernel4Ideal.Merge

end
-- ==== Proof.Merge7.lean ====
module

public import proofs.«01_k».proof.Proof.Merge
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (m : (ℓ : Loc nD τ sig) → Buf (Elt Ideal) ℓ)

theorem emb7_0 (t : Fin cfg0.N) (y : ((cfg0.win 7).xblock (cfg0.grid.coords t)).Idx) :
    (((win0_7.blk t).view.emb y) 0 : ℕ) = t.val * 512 + (((cfg0.win 7).xinj (cfg0.grid.coords t) y) 0 : ℕ) := by
  blk_simp [idx t]

theorem emb7_1 (t : Fin cfg0.N) (y : ((cfg0.win 7).xblock (cfg0.grid.coords t)).Idx) :
    (((win0_7.blk t).view.emb y) 1 : ℕ) = 8192 + (((cfg0.win 7).xinj (cfg0.grid.coords t) y) 1 : ℕ) := by
  have h1 : win0_7.index t 1 = 4 := by rw [(idx t).2.2.2.2.2.2.2]; rfl
  refine (win0_7.rect_emb_val t y 1).trans ?_
  rw [h1]
  show 4 * 2048 + (y 1 : ℕ) = 8192 + (y 1 : ℕ)
  norm_num

theorem arr7 (c : Dev nD) (i : S8192x10368.Idx) (h : 8192 ≤ (i 1 : ℕ) ∧ (i 1 : ℕ) < 10240) : (dats m 0 c).arrAt 7 (cfgs 0).N i
    = gates m c i := by
  refine ((dats m 0 c).arrAt_apply_of_coversWhere 7 (gates m c) (P := fun i => 8192 ≤ (i 1 : ℕ) ∧ (i 1 : ℕ) < 10240) (fun β => β 1 = 4) (by decide +kernel) (fun t hf y => ?_)
    (fun j => by blk_simp [Pipeline.Window.cell_apply]; omega) i).trans ?_
  · blk_simp; rw [after0_7]
    have hy : (((cfg0.win 7).xinj (cfg0.grid.coords t) y) 1 : ℕ) < 2048 := (((cfg0.win 7).xinj (cfg0.grid.coords t) y) 1).isLt
    have e0 := emb7_0 t y
    have e1 := emb7_1 t y
    unfold gates
    rw [dif_pos (by omega)]
    refine point7 m c t _ _ e0 ?_
    show (((win0_7.blk t).view.emb y) 1 : ℕ) - 8192 = _
    omega
  · rw [if_pos h]

/-- The slice of window 7's array after the kernel is the reference's third result. -/
theorem final7 (c : Dev nD) : extractStridedSlice S8192x2048 ![0, 8192] ((dats m 0 c).arrAt 7 (cfgs 0).N) slices_S8192x10368_S8192x2048_0_8192
    = Cert.Reference4Ideal.Ref.res2 (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  have h := arr7 m c (ix2 (i 0) ⟨8192 + (i 1 : ℕ), by have := (i 1).isLt; change (i 1 : ℕ) < 2048 at this; omega⟩)
    ⟨by show 8192 ≤ 8192 + (i 1 : ℕ); omega, by have := (i 1).isLt; change (i 1 : ℕ) < 2048 at this; show 8192 + (i 1 : ℕ) < 10240; omega⟩
  unfold gates at h
  rw [dif_pos (by constructor <;> [show 8192 ≤ 8192 + (i 1 : ℕ); show 8192 + (i 1 : ℕ) < 10240] <;> have := (i 1).isLt <;> change (i 1 : ℕ) < 2048 at this <;> omega)] at h
  generalize (dats m 0 c).arrAt 7 (cfgs 0).N = A at h ⊢
  generalize Cert.Reference4Ideal.Ref.res2 (m ((c : Thread nD τ).loc main_arg0)) (m ((c : Thread nD τ).loc main_arg1)) (m ((c : Thread nD τ).loc main_arg2))
        (m ((c : Thread nD τ).loc main_arg3)) (m ((c : Thread nD τ).loc main_arg4)) = G at h ⊢
  pointwise
  have hk : ∀ (k : ℕ) (hk : k < 2048), k = (i 1 : ℕ) → (ix2 (i 0) (⟨k, hk⟩ : Fin 2048) : S8192x2048.Idx) = i := by
    intro k hk e
    blk_ext
  exact h.trans (congrArg G (hk _ _ (Nat.add_sub_cancel_left 8192 (i 1 : ℕ))))

end Cert.Kernel4Ideal.Merge

end
-- ==== Proof.Claim4.lean ====
module

public import proofs.«01_k».proof.Proof.Merge7
public import proofs.«01_k».proof.Proof.Gen.Kernel4.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the merge. -/

namespace Cert.Proof

theorem frame4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- After the slice that follows the kernel, the third result is the slice of window 7's array. -/
theorem tail4 (m : (ℓ : Loc Cert.Kernel4Ideal.nD Cert.Kernel4Ideal.τ Cert.Kernel4Ideal.sig) → Buf (Elt Ideal) ℓ) (c : Dev Cert.Kernel4Ideal.nD) :
    Pipeline.afterTail₀ Cert.Kernel4Ideal.cfgs (Cert.Kernel4Ideal.Gen.dats m) 0 (Cert.Kernel4Ideal.Gen.V0 m) [Cert.Kernel4Ideal.Gen.hostOps1] c Cert.Kernel4Ideal.main_v1
      = extractStridedSlice Cert.Kernel4Ideal.S8192x2048 ![0, 8192] ((Cert.Kernel4Ideal.Gen.dats m 0 c).arrAt 7 (Cert.Kernel4Ideal.cfgs 0).N)
          Cert.Kernel4Ideal.Gen.slices_S8192x10368_S8192x2048_0_8192 := by
  unfold Pipeline.afterTail₀
  refine Eq.trans (b := extractStridedSlice Cert.Kernel4Ideal.S8192x2048 ![0, 8192]
    (Pipeline.withArrays (Cert.Kernel4Ideal.cfgs 0).spec c (Cert.Kernel4Ideal.Gen.V0 m c) (fun w => (Cert.Kernel4Ideal.Gen.dats m 0 c).arrAt w (Cert.Kernel4Ideal.cfgs 0).N)
      (Proc.devRef .tc Cert.Kernel4Ideal.main_v0_2))
          Cert.Kernel4Ideal.Gen.slices_S8192x10368_S8192x2048_0_8192) ?_ ?_
  · simp only [List.flatten_cons, List.flatten_nil, List.append_nil]
    generalize Pipeline.withArrays (Cert.Kernel4Ideal.cfgs 0).spec c (Cert.Kernel4Ideal.Gen.V0 m c) (fun w => (Cert.Kernel4Ideal.Gen.dats m 0 c).arrAt w (Cert.Kernel4Ideal.cfgs 0).N) = W
    after_results
  · refine congrArg (fun (X : FVec Ideal Cert.Kernel4Ideal.S8192x10368 .bf16) => extractStridedSlice Cert.Kernel4Ideal.S8192x2048 ![0, 8192] X Cert.Kernel4Ideal.Gen.slices_S8192x10368_S8192x2048_0_8192) ?_
    exact Pipeline.withArrays_arr (Cert.Kernel4Ideal.cfgs 0).spec (by decide) c _ (fun w => (Cert.Kernel4Ideal.Gen.dats m 0 c).arrAt w (Cert.Kernel4Ideal.cfgs 0).N) 7

theorem algebraic4 : Cert.algebraic_Kernel4Ideal_Reference4Ideal := by
  pair_intro
  · run_from Cert.Kernel4Ideal.Gen.run_main m g
  · run_from Cert.Reference4Ideal.Value.run m' g'
    · exact (Cert.Kernel4Ideal.Merge.final5 m c).symm
    · exact (Cert.Kernel4Ideal.Merge.final6 m c).symm
    · try rw [(hagree c).2.2.2.2]
      rw [tail4]
      exact (Cert.Kernel4Ideal.Merge.final7 m c).symm

end Cert.Proof

end
-- ==== Proof.Ffn.lean ====
module

public import proofs.«01_k».proof.Proof.Gen.Kernel5Ideal.Value
public import proofs.«01_k».proof.Proof.Real
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

/-- The gradient of the normalised row, on a block: the four partial products added. -/
def dnB (x0 x1 : FVec Ideal S256x2816 .bf16) (x2 : FVec Ideal S4x1024x1408 .f32) (i : Fin 256) (j : Fin 1024) : EReal :=
  (∑ k : Fin 1408, x0 (ix2 i ⟨k.val, by omega⟩) * x2 (ix3 0 j k)) + (∑ k : Fin 1408, x0 (ix2 i ⟨1408 + k.val, by omega⟩) * x2 (ix3 1 j k))
    + (∑ k : Fin 1408, x1 (ix2 i ⟨k.val, by omega⟩) * x2 (ix3 2 j k)) + (∑ k : Fin 1408, x1 (ix2 i ⟨1408 + k.val, by omega⟩) * x2 (ix3 3 j k))

/-- The reciprocal root mean square of a row with sum of squares `s`. -/
def rr (s : EReal) : EReal := Ideal.rsqrt (Ideal.div s (Ideal.ofBits .f32 0x44800000#32) + Ideal.ofBits .f32 0x358637BD#32)

/-- The gradient of a row of the normalisation at one entry: `s` the row's sum of squares, `p` the row's product of
    the scaled gradient with the normalised row, `d` the gradient, `g` the gain, `x` the entry, `e` the residual's gradient. -/
def rowGrad (s p d g x e : EReal) : EReal :=
  rr s * (d * g - x * rr s * Ideal.div p (Ideal.ofBits .f32 0x44800000#32)) + e

theorem pay6_at (a0 a1 a2 a3 : FVec Ideal S256x1408 .bf16) (w0 w1 w2 w3 : FVec Ideal S1x1024x1408 .f32) (y : S256x1024.Idx) :
    k0_pay6 (F := Ideal) a0 w0 a1 w1 a2 w2 a3 w3 y
      = (∑ k : Fin 1408, a0 (ix2 (y 0) k) * w0 (ix3 0 (y 1) k)) + (∑ k : Fin 1408, a1 (ix2 (y 0) k) * w1 (ix3 0 (y 1) k))
        + (∑ k : Fin 1408, a2 (ix2 (y 0) k) * w2 (ix3 0 (y 1) k)) + (∑ k : Fin 1408, a3 (ix2 (y 0) k) * w3 (ix3 0 (y 1) k)) := by
  pointwise [k0_pay6]

theorem pay7_at (x : FVec Ideal S256x1024 .f32) (y : S256.Idx) :
    k0_pay7 (F := Ideal) x y = ∑ k : Fin 1024, x (ix2 (y 0) k) * x (ix2 (y 0) k) := by
  pointwise [k0_pay7]

theorem pay4_at (d x : FVec Ideal S256x1024 .f32) (s : FVec Ideal S256 .f32) (g : FVec Ideal S1x1024 .f32) (e : FVec Ideal S256x1024 .f32) (y : S256x1024.Idx) :
    k0_pay4 (F := Ideal) d x s g e y
      = rowGrad (s (ix1 (y 0))) (∑ k : Fin 1024, d (ix2 (y 0) k) * g (ix2 0 k) * (x (ix2 (y 0) k) * rr (s (ix1 (y 0))))) (d y) (g (ix2 0 (y 1))) (x y) (e y) := by
  unfold rowGrad rr
  pointwise [k0_pay4, k0_pay2, k0_pay1]

theorem pay3_at (d x : FVec Ideal S256x1024 .f32) (s : FVec Ideal S256 .f32) (acc : FVec Ideal S1x1024 .f32) (y : S1x1024.Idx) :
    k0_pay3 (F := Ideal) d x s acc y = acc y + ∑ k : Fin 256, d (ix2 k (y 1)) * (x (ix2 k (y 1)) * rr (s (ix1 k))) := by
  unfold rr
  pointwise [k0_pay3, k0_pay2, k0_pay1]

theorem hzero (y : S1x1024.Idx) : k0_pay5 (F := Ideal) y = 0 := by
  pointwise [k0_pay5]

end Cert.Kernel5Ideal.Ffn

end
-- ==== Proof.FfnRun.lean ====
module

public import proofs.«01_k».proof.Proof.Ffn

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

/-- The gradient of the normalised row over the whole array. -/
def dnAll (x0 x1 : FVec Ideal S8192x2816 .bf16) (x2 : FVec Ideal S4x1024x1408 .f32) (i : Fin 8192) (j : Fin 1024) : EReal :=
  (∑ k : Fin 1408, x0 (ix2 i ⟨k.val, by omega⟩) * x2 (ix3 0 j k)) + (∑ k : Fin 1408, x0 (ix2 i ⟨1408 + k.val, by omega⟩) * x2 (ix3 1 j k))
    + (∑ k : Fin 1408, x1 (ix2 i ⟨k.val, by omega⟩) * x2 (ix3 2 j k)) + (∑ k : Fin 1408, x1 (ix2 i ⟨1408 + k.val, by omega⟩) * x2 (ix3 3 j k))

/-- The sum of squares of row `i`. -/
def sqAll (x3 : FVec Ideal S8192x1024 .f32) (i : Fin 8192) : EReal := ∑ k : Fin 1024, x3 (ix2 i k) * x3 (ix2 i k)

/-- The sum of squares of a block's row `i`. -/
def sqB (x3 : FVec Ideal S256x1024 .f32) (i : Fin 256) : EReal := ∑ k : Fin 1024, x3 (ix2 i k) * x3 (ix2 i k)

/-- The result array: the gradient of the rows. -/
def G6 (x0 x1 : FVec Ideal S8192x2816 .bf16) (x2 : FVec Ideal S4x1024x1408 .f32) (x3 : FVec Ideal S8192x1024 .f32) (x4 : FVec Ideal S1x1024 .f32)
    (x5 : FVec Ideal S8192x1024 .f32) (i : S8192x1024.Idx) : EReal :=
  rowGrad (sqAll x3 (i 0)) (∑ k : Fin 1024, dnAll x0 x1 x2 (i 0) k * x4 (ix2 0 k) * (x3 (ix2 (i 0) k) * rr (sqAll x3 (i 0)))) (dnAll x0 x1 x2 (i 0) (i 1))
    (x4 (ix2 0 (i 1))) (x3 i) (x5 i)

/-- The same over a block. -/
def B6 (x0 x1 : FVec Ideal S256x2816 .bf16) (x2 : FVec Ideal S4x1024x1408 .f32) (x3 : FVec Ideal S256x1024 .f32) (x4 : FVec Ideal S1x1024 .f32)
    (x5 : FVec Ideal S256x1024 .f32) (i : S256x1024.Idx) : EReal :=
  rowGrad (sqB x3 (i 0)) (∑ k : Fin 1024, dnB x0 x1 x2 (i 0) k * x4 (ix2 0 k) * (x3 (ix2 (i 0) k) * rr (sqB x3 (i 0)))) (dnB x0 x1 x2 (i 0) (i 1))
    (x4 (ix2 0 (i 1))) (x3 i) (x5 i)

/-- The result array: the gradient of the gain. -/
def G7 (x0 x1 : FVec Ideal S8192x2816 .bf16) (x2 : FVec Ideal S4x1024x1408 .f32) (x3 : FVec Ideal S8192x1024 .f32) (i : S1x1024.Idx) : EReal :=
  ∑ k : Fin 8192, dnAll x0 x1 x2 k (i 1) * (x3 (ix2 k (i 1)) * rr (sqAll x3 k))

/-- One block's part of it. -/
def B7 (x0 x1 : FVec Ideal S256x2816 .bf16) (x2 : FVec Ideal S4x1024x1408 .f32) (x3 : FVec Ideal S256x1024 .f32) (i : S1x1024.Idx) : EReal :=
  ∑ k : Fin 256, dnB x0 x1 x2 k (i 1) * (x3 (ix2 k (i 1)) * rr (sqB x3 k))

variable (m : (ℓ : Loc nD τ sig) → Buf (Elt Ideal) ℓ)

theorem outs6_A (c : Dev nD) (t : Fin cfg0.N) (h : t.val % 32 = 0) (y : S256x1024.Idx) :
    (outsAt0 m c t.val t.isLt).1 y = B6 (iblk m c 0 t) (iblk m c 1 t) (iblk m c 2 t) (iblk m c 3 t) (iblk m c 4 t) (iblk m c 5 t) y := by
  rw [outsAt0_A m c t h]
  frame_out
  rw [pay4_at]
  unfold B6 sqB dnB
  pointwise [k0_pay6, k0_pay7]

theorem outs6_B (c : Dev nD) (t : Fin cfg0.N) (h : ¬t.val % 32 = 0) (y : S256x1024.Idx) :
    (outsAt0 m c t.val t.isLt).1 y = B6 (iblk m c 0 t) (iblk m c 1 t) (iblk m c 2 t) (iblk m c 3 t) (iblk m c 4 t) (iblk m c 5 t) y := by
  rw [outsAt0_B m c t h]
  frame_out
  rw [pay4_at]
  unfold B6 sqB dnB
  pointwise [k0_pay6, k0_pay7]

theorem outs7_A (c : Dev nD) (t : Fin cfg0.N) (h : t.val % 32 = 0) (y : S1x1024.Idx) :
    (outsAt0 m c t.val t.isLt).2 y = 0 + B7 (iblk m c 0 t) (iblk m c 1 t) (iblk m c 2 t) (iblk m c 3 t) y := by
  rw [outsAt0_A m c t h]
  frame_out
  rw [pay3_at, hzero]
  unfold B7 sqB dnB
  pointwise [k0_pay6, k0_pay7]

theorem outs7_B (c : Dev nD) (t : Fin cfg0.N) (h : ¬t.val % 32 = 0) (y : S1x1024.Idx) :
    (outsAt0 m c t.val t.isLt).2 y = (outsAt0 m c (t.val - 1) (Nat.lt_of_le_of_lt (Nat.sub_le _ _) t.isLt)).2 y
      + B7 (iblk m c 0 t) (iblk m c 1 t) (iblk m c 2 t) (iblk m c 3 t) y := by
  rw [outsAt0_B m c t h]
  frame_out
  rw [pay3_at]
  unfold B7 sqB dnB
  pointwise [k0_pay6, k0_pay7]

theorem idx : ∀ t : Fin cfg0.N, win0_0.index t = ![t.val, 0] ∧ win0_1.index t = ![t.val, 0] ∧ win0_2.index t = ![0, 0, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

theorem final6 (c : Dev nD) (i : S8192x1024.Idx) : (dats m 0 c).arrAt 6 (cfgs 0).N i
    = G6 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) i := by
  refine congrFun ((dats m 0 c).arrAt_eq_of_covers 6 (fun i => G6 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) i) (by decide +kernel) fun t _ y => ?_) i
  blk_simp
  rw [after0_6]
  have e : (outsAt0 m c t.val t.isLt).1 y = B6 (iblk m c 0 t) (iblk m c 1 t) (iblk m c 2 t) (iblk m c 3 t) (iblk m c 4 t) (iblk m c 5 t) y := by
    by_cases h : t.val % 32 = 0
    · exact outs6_A m c t h y
    · exact outs6_B m c t h y
  rw [e]
  unfold B6 G6 dnB dnAll sqB sqAll
  blk_point [iblk, V, idx t]

theorem final7 (c : Dev nD) (i : S1x1024.Idx) : (dats m 0 c).arrAt 7 (cfgs 0).N i
    = G7 (m ((c : Thread nD τ).loc main_arg0)) (m ((c : Thread nD τ).loc main_arg1)) (m ((c : Thread nD τ).loc main_arg2)) (m ((c : Thread nD τ).loc main_arg3)) i := by
  refine congrFun ((dats m 0 c).arrAt_eq_of_covers 7 (fun i => G7 (m ((c : Thread nD τ).loc main_arg0)) (m ((c : Thread nD τ).loc main_arg1)) (m ((c : Thread nD τ).loc main_arg2)) (m ((c : Thread nD τ).loc main_arg3)) i) (by decide +kernel) fun t hf y => ?_) i
  blk_simp
  rw [after0_7, Pipeline.eq_sum_fin_of_reset_step_apply_of_flush (fun n h => (outsAt0 m c n h).2) 32 (fun _ => 0)
    (fun p y => B7 (iblk m c 0 p) (iblk m c 1 p) (iblk m c 2 p) (iblk m c 3 p) y)
    (fun t h j => outs7_A m c t h j) (fun t h j => outs7_B m c t h j) t ((flush0_7 t).mp hf) _, zero_add]
  unfold B7 G7
  refine Fin.sum_mul_add_congr fun s k hl => ?_
  have hN : t.val < 32 := lt_of_lt_of_eq t.isLt (show cfg0.N = 32 from N_0)
  unfold dnB dnAll sqB sqAll
  blk_point [iblk, V, idx t, idx ⟨_, Pipeline.run_point_lt_of_flush t ((flush0_7 t).mp hf) s⟩]

end Cert.Kernel5Ideal.Ffn

end
-- ==== Proof.Ref5.lean ====
module

public import proofs.«01_k».proof.Defs
public import proofs.«01_k».proof.Proof.Gen.Reference5Ideal.Run

@[expose] public section

set_option maxRecDepth 16384

noncomputable section

/-! The results of the reference as terms over its argument arrays. -/

namespace Cert.Reference5Ideal.Ref

open Cert.Reference5Ideal Cert.Reference5Ideal.Gen Idealize.ShloMosaic Idealize.ShloMosaic.TcCoe Idealize.SL.Sem

/-- An intermediate array of the reference. -/
abbrev main_v50 (x0 : FVec Ideal S8192x2816 .bf16) (x1 : FVec Ideal S8192x2816 .bf16) (x2 : FVec Ideal S4x1024x1408 .f32) (x3 : FVec Ideal S8192x1024 .f32) (x4 : FVec Ideal S1x1024 .f32) (x5 : FVec Ideal S8192x1024 .f32) : FVec Ideal S8192x1024 .f32 :=
  addf (addf (addf x5 (mulf (mulf (Host.dotGeneral dot_S8192x5632_S1024x5632_S8192x1024_1_1_0_0_n_n none (concatenate S8192x5632 1 [⟨S8192x2816, (extf .f32 x0 bitsLt_bf16_f32 : FVec Ideal S8192x2816 .f32)⟩, ⟨S8192x2816, (extf .f32 x1 bitsLt_bf16_f32 : FVec Ideal S8192x2816 .f32)⟩] concatenates_S8192x2816_S8192x2816_S8192x5632_d1) ((concatenate S1024x5632 1 [⟨S1024x1408, ((shapeCast _ (extractStridedSlice S1x1024x1408 ![0, 0, 0] x2 slices_S4x1024x1408_S1x1024x1408_0_0_0) shapeCasts_S1x1024x1408_S1024x1408) : FVec Ideal S1024x1408 .f32)⟩, ⟨S1024x1408, ((shapeCast _ (extractStridedSlice S1x1024x1408 ![1, 0, 0] x2 slices_S4x1024x1408_S1x1024x1408_1_0_0) shapeCasts_S1x1024x1408_S1024x1408) : FVec Ideal S1024x1408 .f32)⟩, ⟨S1024x1408, ((shapeCast _ (extractStridedSlice S1x1024x1408 ![2, 0, 0] x2 slices_S4x1024x1408_S1x1024x1408_2_0_0) shapeCasts_S1x1024x1408_S1024x1408) : FVec Ideal S1024x1408 .f32)⟩, ⟨S1024x1408, ((shapeCast _ (extractStridedSlice S1x1024x1408 ![3, 0, 0] x2 slices_S4x1024x1408_S1x1024x1408_3_0_0) shapeCasts_S1x1024x1408_S1024x1408) : FVec Ideal S1024x1408 .f32)⟩] concatenates_S1024x1408_S1024x1408_S1024x1408_S1024x1408_S1024x5632_d1 : FVec Ideal S1024x5632 .f32))) (broadcastInDim S8192x1024 ![0, 1] bcast_S1x1024_S8192x1024_0_1 x4)) (broadcastInDim S8192x1024 ![0, 1] bcast_S8192x1_S8192x1024_0_1 (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x3 (broadcastInDim S8192x1024 ![0] bcast_S8192_S8192x1024_0 (Host.reduceAdd (Host.divf (mulf (shapeCast _ (Host.reduceAdd (mulf x3 (mulf (Host.dotGeneral dot_S8192x5632_S1024x5632_S8192x1024_1_1_0_0_n_n none (concatenate S8192x5632 1 [⟨S8192x2816, (extf .f32 x0 bitsLt_bf16_f32 : FVec Ideal S8192x2816 .f32)⟩, ⟨S8192x2816, (extf .f32 x1 bitsLt_bf16_f32 : FVec Ideal S8192x2816 .f32)⟩] concatenates_S8192x2816_S8192x2816_S8192x5632_d1) ((concatenate S1024x5632 1 [⟨S1024x1408, ((shapeCast _ (extractStridedSlice S1x1024x1408 ![0, 0, 0] x2 slices_S4x1024x1408_S1x1024x1408_0_0_0) shapeCasts_S1x1024x1408_S1024x1408) : FVec Ideal S1024x1408 .f32)⟩, ⟨S1024x1408, ((shapeCast _ (extractStridedSlice S1x1024x1408 ![1, 0, 0] x2 slices_S4x1024x1408_S1x1024x1408_1_0_0) shapeCasts_S1x1024x1408_S1024x1408) : FVec Ideal S1024x1408 .f32)⟩, ⟨S1024x1408, ((shapeCast _ (extractStridedSlice S1x1024x1408 ![2, 0, 0] x2 slices_S4x1024x1408_S1x1024x1408_2_0_0) shapeCasts_S1x1024x1408_S1024x1408) : FVec Ideal S1024x1408 .f32)⟩, ⟨S1024x1408, ((shapeCast _ (extractStridedSlice S1x1024x1408 ![3, 0, 0] x2 slices_S4x1024x1408_S1x1024x1408_3_0_0) shapeCasts_S1x1024x1408_S1024x1408) : FVec Ideal S1024x1408 .f32)⟩] concatenates_S1024x1408_S1024x1408_S1024x1408_S1024x1408_S1024x5632_d1 : FVec Ideal S1024x5632 .f32))) (broadcastInDim S8192x1024 ![0, 1] bcast_S1x1024_S8192x1024_0_1 x4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x3 (mulf (Host.dotGeneral dot_S8192x5632_S1024x5632_S8192x1024_1_1_0_0_n_n none (concatenate S8192x5632 1 [⟨S8192x2816, (extf .f32 x0 bitsLt_bf16_f32 : FVec Ideal S8192x2816 .f32)⟩, ⟨S8192x2816, (extf .f32 x1 bitsLt_bf16_f32 : FVec Ideal S8192x2816 .f32)⟩] concatenates_S8192x2816_S8192x2816_S8192x5632_d1) ((concatenate S1024x5632 1 [⟨S1024x1408, ((shapeCast _ (extractStridedSlice S1x1024x1408 ![0, 0, 0] x2 slices_S4x1024x1408_S1x1024x1408_0_0_0) shapeCasts_S1x1024x1408_S1024x1408) : FVec Ideal S1024x1408 .f32)⟩, ⟨S1024x1408, ((shapeCast _ (extractStridedSlice S1x1024x1408 ![1, 0, 0] x2 slices_S4x1024x1408_S1x1024x1408_1_0_0) shapeCasts_S1x1024x1408_S1024x1408) : FVec Ideal S1024x1408 .f32)⟩, ⟨S1024x1408, ((shapeCast _ (extractStridedSlice S1x1024x1408 ![2, 0, 0] x2 slices_S4x1024x1408_S1x1024x1408_2_0_0) shapeCasts_S1x1024x1408_S1024x1408) : FVec Ideal S1024x1408 .f32)⟩, ⟨S1024x1408, ((shapeCast _ (extractStridedSlice S1x1024x1408 ![3, 0, 0] x2 slices_S4x1024x1408_S1x1024x1408_3_0_0) shapeCasts_S1x1024x1408_S1024x1408) : FVec Ideal S1024x1408 .f32)⟩] concatenates_S1024x1408_S1024x1408_S1024x1408_S1024x1408_S1024x5632_d1 : FVec Ideal S1024x5632 .f32))) (broadcastInDim S8192x1024 ![0, 1] bcast_S1x1024_S8192x1024_0_1 x4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x3)

/-- Result 0 of the reference. -/
abbrev res0 (x0 : FVec Ideal S8192x2816 .bf16) (x1 : FVec Ideal S8192x2816 .bf16) (x2 : FVec Ideal S4x1024x1408 .f32) (x3 : FVec Ideal S8192x1024 .f32) (x4 : FVec Ideal S1x1024 .f32) (x5 : FVec Ideal S8192x1024 .f32) : FVec Ideal S8192x1024 .f32 :=
  (main_v50 x0 x1 x2 x3 x4 x5)

/-- Result 1 of the reference. -/
abbrev res1 (x0 : FVec Ideal S8192x2816 .bf16) (x1 : FVec Ideal S8192x2816 .bf16) (x2 : FVec Ideal S4x1024x1408 .f32) (x3 : FVec Ideal S8192x1024 .f32) (x4 : FVec Ideal S1x1024 .f32) (x5 : FVec Ideal S8192x1024 .f32) : FVec Ideal S1x1024 .f32 :=
  shapeCast _ (Host.reduceAdd (mulf (mulf x3 (broadcastInDim S8192x1024 ![0, 1] bcast_S8192x1_S8192x1024_0_1 (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x5632_S1024x5632_S8192x1024_1_1_0_0_n_n none (concatenate S8192x5632 1 [⟨S8192x2816, (extf .f32 x0 bitsLt_bf16_f32 : FVec Ideal S8192x2816 .f32)⟩, ⟨S8192x2816, (extf .f32 x1 bitsLt_bf16_f32 : FVec Ideal S8192x2816 .f32)⟩] concatenates_S8192x2816_S8192x2816_S8192x5632_d1) ((concatenate S1024x5632 1 [⟨S1024x1408, ((shapeCast _ (extractStridedSlice S1x1024x1408 ![0, 0, 0] x2 slices_S4x1024x1408_S1x1024x1408_0_0_0) shapeCasts_S1x1024x1408_S1024x1408) : FVec Ideal S1024x1408 .f32)⟩, ⟨S1024x1408, ((shapeCast _ (extractStridedSlice S1x1024x1408 ![1, 0, 0] x2 slices_S4x1024x1408_S1x1024x1408_1_0_0) shapeCasts_S1x1024x1408_S1024x1408) : FVec Ideal S1024x1408 .f32)⟩, ⟨S1024x1408, ((shapeCast _ (extractStridedSlice S1x1024x1408 ![2, 0, 0] x2 slices_S4x1024x1408_S1x1024x1408_2_0_0) shapeCasts_S1x1024x1408_S1024x1408) : FVec Ideal S1024x1408 .f32)⟩, ⟨S1024x1408, ((shapeCast _ (extractStridedSlice S1x1024x1408 ![3, 0, 0] x2 slices_S4x1024x1408_S1x1024x1408_3_0_0) shapeCasts_S1x1024x1408_S1024x1408) : FVec Ideal S1024x1408 .f32)⟩] concatenates_S1024x1408_S1024x1408_S1024x1408_S1024x1408_S1024x5632_d1 : FVec Ideal S1024x5632 .f32)))) (constant S_ .f32 0x00000000#32) reducesTo_S8192x1024_S1024_d0 h_S_) shapeCasts_S1024_S1x1024

end Cert.Reference5Ideal.Ref

end
-- ==== Proof.Norm.lean ====
module

public import proofs.«01_k».proof.Proof.Real

@[expose] public section

noncomputable section

/-! The gradient of the root mean square normalisation of a row of 1024 real numbers, in the two forms it is written. -/

open Idealize.ShloMosaic Idealize.SL.Sem

namespace Cert.Norm

/-- The small constant added to the mean of squares. -/
def eps : ℝ := 8796093 / 8796093022208

theorem eps_bits : Ideal.ofBits .f32 0x358637BD#32 = ((eps : ℝ) : EReal) := by
  unfold eps
  simp [Ideal.ofBits, Ideal.ieee, -EReal.coe_mul]; try norm_num

theorem width_bits : Ideal.ofBits .f32 0x44800000#32 = ((1024 : ℝ) : EReal) := by
  simp [Ideal.ofBits, Ideal.ieee, -EReal.coe_mul]; try norm_num

theorem neg_half_bits : Ideal.ofBits .f32 0xBF000000#32 = ((-(1 / 2) : ℝ) : EReal) := by
  simp [Ideal.ofBits, Ideal.ieee, -EReal.coe_mul]; try norm_num

/-- The mean of squares plus the constant. -/
def var (s : ℝ) : ℝ := s / 1024 + eps

theorem var_pos {s : ℝ} (h : 0 ≤ s) : 0 < var s := by
  have : (0 : ℝ) < eps := by unfold eps; norm_num
  unfold var; positivity

theorem var_real (s : ℝ) :
    Ideal.div (s : EReal) (Ideal.ofBits .f32 0x44800000#32) + Ideal.ofBits .f32 0x358637BD#32 = ((var s : ℝ) : EReal) := by
  rw [eps_bits, width_bits, Cert.Real.div_real _ _ (by norm_num), ← EReal.coe_add, var]

theorem rsqrt_real {v : ℝ} (h : 0 < v) : Ideal.rsqrt (v : EReal) = (((Real.sqrt v)⁻¹ : ℝ) : EReal) := by
  rw [Ideal.rsqrt_coe, if_neg (not_lt.mpr h.le), if_neg h.ne']

theorem div_width (x : ℝ) : Ideal.div (x : EReal) (Ideal.ofBits .f32 0x44800000#32) = ((x / 1024 : ℝ) : EReal) := by
  rw [width_bits, Cert.Real.div_real _ _ (by norm_num)]

/-- The two forms of the gradient at one entry agree: `a` the gradient times the gain, `p` the row's product of it with
    the row, `x` the entry, `v` the mean of squares plus the constant. -/
theorem row {v : ℝ} (h : 0 < v) (a p x e : ℝ) :
    e + a * (Real.sqrt v)⁻¹ + x * (p * (-(1 / 2) * ((Real.sqrt v)⁻¹ / v)) / 1024) + p * (-(1 / 2) * ((Real.sqrt v)⁻¹ / v)) / 1024 * x
      = (Real.sqrt v)⁻¹ * (a - x * (Real.sqrt v)⁻¹ * (p * (Real.sqrt v)⁻¹ / 1024)) + e := by
  have hs : (Real.sqrt v)⁻¹ * (Real.sqrt v)⁻¹ = v⁻¹ := by
    rw [← mul_inv, Real.mul_self_sqrt h.le]
  rw [div_eq_mul_inv (Real.sqrt v)⁻¹ v, ← hs]
  ring

end Cert.Norm

end
-- ==== Proof.FfnRef.lean ====
module

public import proofs.«01_k».proof.Proof.FfnRun
public import proofs.«01_k».proof.Proof.Ref5
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

/-- A sum of 5632 terms, by quarters. -/
theorem sum4 (f : Fin 5632 → EReal) :
    ∑ x, f x = (∑ k : Fin 1408, f ⟨k.val, by omega⟩) + (∑ k : Fin 1408, f ⟨1408 + k.val, by omega⟩) + (∑ k : Fin 1408, f ⟨1408 + 1408 + k.val, by omega⟩)
      + (∑ k : Fin 1408, f ⟨1408 + 1408 + 1408 + k.val, by omega⟩) := by
  have h1 := Fin.sum_univ_add (a := 1408 + 1408 + 1408) (b := 1408) f
  have h2 := Fin.sum_univ_add (a := 1408 + 1408) (b := 1408) fun k : Fin (1408 + 1408 + 1408) => f (Fin.castAdd 1408 k)
  have h3 := Fin.sum_univ_add (a := 1408) (b := 1408) fun k : Fin (1408 + 1408) => f (Fin.castAdd 1408 (Fin.castAdd 1408 k))
  refine h1.trans ?_
  rw [h2, h3]
  rfl

/-- The reference's contraction over the joined arrays is the four partial products added. -/
theorem dn_joined (x0 x1 : FVec Ideal S8192x2816 .bf16) (x2 : FVec Ideal S4x1024x1408 .f32) (i : Fin 8192) (j : Fin 1024) :
    (∑ x : Fin 5632, (if h : x.val < 2816 then x0 (ix2 i ⟨x.val, h⟩) else x1 (ix2 i ⟨x.val - 2816, by omega⟩)) *
        if h : x.val < 1408 then x2 (ix3 0 j ⟨x.val, h⟩)
        else if h : x.val - 1408 < 1408 then x2 (ix3 1 j ⟨x.val - 1408, h⟩)
          else if h : x.val - 1408 - 1408 < 1408 then x2 (ix3 2 j ⟨x.val - 1408 - 1408, h⟩)
            else x2 (ix3 3 j ⟨x.val - 1408 - 1408 - 1408, by omega⟩) : EReal) = dnAll x0 x1 x2 i j := by
  rw [sum4]
  unfold dnAll
  refine congr (congrArg HAdd.hAdd (congr (congrArg HAdd.hAdd (congr (congrArg HAdd.hAdd ?_) ?_)) ?_)) ?_
  · refine Finset.sum_congr rfl fun k _ => ?_
    have := k.isLt
    rw [dif_pos (by show k.val < 2816; omega), dif_pos this]
  · refine Finset.sum_congr rfl fun k _ => ?_
    have := k.isLt
    rw [dif_pos (by show 1408 + k.val < 2816; omega), dif_neg (by show ¬1408 + k.val < 1408; omega), dif_pos (by show 1408 + k.val - 1408 < 1408; omega)]
    simp only [Nat.add_sub_cancel_left]
  · refine Finset.sum_congr rfl fun k _ => ?_
    have := k.isLt
    rw [dif_neg (by show ¬1408 + 1408 + k.val < 2816; omega), dif_neg (by show ¬1408 + 1408 + k.val < 1408; omega),
      dif_neg (by show ¬1408 + 1408 + k.val - 1408 < 1408; omega), dif_pos (by show 1408 + 1408 + k.val - 1408 - 1408 < 1408; omega)]
    have e1 : 1408 + 1408 + k.val - 2816 = k.val := by omega
    have e2 : 1408 + 1408 + k.val - 1408 - 1408 = k.val := by omega
    simp only [e1, e2]
  · refine Finset.sum_congr rfl fun k _ => ?_
    have := k.isLt
    rw [dif_neg (by show ¬1408 + 1408 + 1408 + k.val < 2816; omega), dif_neg (by show ¬1408 + 1408 + 1408 + k.val < 1408; omega),
      dif_neg (by show ¬1408 + 1408 + 1408 + k.val - 1408 < 1408; omega), dif_neg (by show ¬1408 + 1408 + 1408 + k.val - 1408 - 1408 < 1408; omega)]
    have e1 : 1408 + 1408 + 1408 + k.val - 2816 = 1408 + k.val := by omega
    have e2 : 1408 + 1408 + 1408 + k.val - 1408 - 1408 - 1408 = k.val := by omega
    simp only [e1, e2]

theorem res1_at (x0 x1 : FVec Ideal S8192x2816 .bf16) (x2 : FVec Ideal S4x1024x1408 .f32) (x3 : FVec Ideal S8192x1024 .f32) (x4 : FVec Ideal S1x1024 .f32)
    (x5 : FVec Ideal S8192x1024 .f32) (b : Fin 1024) :
    Cert.Reference5Ideal.Ref.res1 x0 x1 x2 x3 x4 x5 (ix2 0 b) = G7 x0 x1 x2 x3 (ix2 0 b) := by
  unfold Cert.Reference5Ideal.Ref.res1
  unfold G7 rr
  pointwise
  simp only [dn_joined]
  refine Finset.sum_congr rfl fun k _ => ?_
  rw [mul_comm, sqAll]

/-- The gradient of the normalised row is real. -/
theorem dn_real (x0 x1 : FVec Ideal S8192x2816 .bf16) (x2 : FVec Ideal S4x1024x1408 .f32)
    (h0 : ∀ i, ∃ r : ℝ, x0 i = (r : EReal)) (h1 : ∀ i, ∃ r : ℝ, x1 i = (r : EReal)) (h2 : ∀ i, ∃ r : ℝ, x2 i = (r : EReal)) (i : Fin 8192) (j : Fin 1024) :
    ∃ r : ℝ, dnAll x0 x1 x2 i j = (r : EReal) := by
  choose f0 e0 using h0
  choose f1 e1 using h1
  choose f2 e2 using h2
  unfold dnAll
  simp only [e0, e1, e2, ← EReal.coe_mul, ← Cert.Real.coe_sum, ← EReal.coe_add]
  exact ⟨_, rfl⟩

theorem res0_at (x0 x1 : FVec Ideal S8192x2816 .bf16) (x2 : FVec Ideal S4x1024x1408 .f32) (x3 : FVec Ideal S8192x1024 .f32) (x4 : FVec Ideal S1x1024 .f32)
    (x5 : FVec Ideal S8192x1024 .f32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) (a : Fin 8192) (b : Fin 1024) :
    Cert.Reference5Ideal.Ref.res0 x0 x1 x2 x3 x4 x5 (ix2 a b) = G6 x0 x1 x2 x3 x4 x5 (ix2 a b) := by
  have hd := dn_real x0 x1 x2 h0 h1 h2
  choose D eD using hd
  choose f3 e3 using h3
  choose f4 e4 using h4
  choose f5 e5 using h5
  have hS : sqAll x3 a = ((∑ k : Fin 1024, f3 (ix2 a k) * f3 (ix2 a k) : ℝ) : EReal) := by
    unfold sqAll; simp only [e3]; exact Cert.Real.sum_mul_coe _ _
  have hv := Cert.Norm.var_pos (s := ∑ k : Fin 1024, f3 (ix2 a k) * f3 (ix2 a k)) (Finset.sum_nonneg fun k _ => mul_self_nonneg _)
  unfold Cert.Reference5Ideal.Ref.res0 Cert.Reference5Ideal.Ref.main_v50
  unfold G6 rowGrad rr
  pointwise
  simp only [dn_joined]
  unfold sqAll at hS ⊢
  simp only [hS]
  generalize ∑ k : Fin 1024, f3 (ix2 a k) * f3 (ix2 a k) = S at hv ⊢
  rw [Cert.Norm.var_real, Cert.Norm.rsqrt_real hv, Cert.Real.div_real _ _ hv.ne', Cert.Norm.neg_half_bits]
  simp only [eD, e3, e4, e5, ← EReal.coe_mul, ← Cert.Real.coe_sum, Cert.Norm.div_width, ← EReal.coe_add, ← EReal.coe_sub, Finset.univ_unique, Finset.sum_singleton]
  congr 1
  have hp : ∑ k : Fin 1024, D a k * f4 (ix2 0 k) * (f3 (ix2 a k) * (Real.sqrt (Cert.Norm.var S))⁻¹)
      = (∑ k : Fin 1024, f3 (ix2 a k) * (D a k * f4 (ix2 0 k))) * (Real.sqrt (Cert.Norm.var S))⁻¹ := by
    rw [Finset.sum_mul]
    exact Finset.sum_congr rfl fun k _ => by ring
  rw [hp]
  exact Cert.Norm.row hv _ _ _ _

end Cert.Kernel5Ideal.Ffn

end
-- ==== Proof.Claim5.lean ====
module

public import proofs.«01_k».proof.Proof.FfnRef
public import proofs.«01_k».proof.Proof.Gen.Kernel5.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the feed-forward block's input. -/

namespace Cert.Proof

theorem facts5 : Cert.Pre_finite5.Facts := by
  constructor <;> decide

/-- What the precondition says: every entry of every argument is a real number. -/
theorem pre5 [Cert.Pre_finite5.Facts] (x0 x1 : FVec Ideal Cert.Pre_finite5.S8192x2816 .bf16) (x2 : FVec Ideal Cert.Pre_finite5.S4x1024x1408 .f32)
    (x3 : FVec Ideal Cert.Pre_finite5.S8192x1024 .f32) (x4 : FVec Ideal Cert.Pre_finite5.S1x1024 .f32) (x5 : FVec Ideal Cert.Pre_finite5.S8192x1024 .f32)
    (h : Cert.Pre_finite5.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ ∀ i, ∃ r : ℝ, x5 i = (r : EReal) := by
  have h' := congrFun h (fun a => a.elim0)
  unfold Cert.Pre_finite5.fn Cert.Pre_finite5.fn_part1 at h'
  obtain ⟨h', e5⟩ := Cert.Real.andi_one h'
  obtain ⟨h', e4⟩ := Cert.Real.andi_one h'
  obtain ⟨h', e3⟩ := Cert.Real.andi_one h'
  obtain ⟨h', e2⟩ := Cert.Real.andi_one h'
  obtain ⟨h', e1⟩ := Cert.Real.andi_one h'
  obtain ⟨-, e0⟩ := Cert.Real.andi_one h'
  exact ⟨Cert.Real.all_finite _ _ _ _ _ _ _ e0, Cert.Real.all_finite _ _ _ _ _ _ _ e1, Cert.Real.all_finite _ _ _ _ _ _ _ e2,
    Cert.Real.all_finite _ _ _ _ _ _ _ e3, Cert.Real.all_finite _ _ _ _ _ _ _ e4, Cert.Real.all_finite _ _ _ _ _ _ _ e5⟩

theorem frame5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem res0_val (m' : (ℓ : Loc Cert.Reference5Ideal.nD Cert.Reference5Ideal.τ Cert.Reference5Ideal.sig) → Buf (Elt Ideal) ℓ) (c : Dev Cert.Reference5Ideal.nD) :
    Cert.Reference5Ideal.Value.res_main_v50 (F := Ideal) m' c
      = Cert.Reference5Ideal.Ref.res0 (m' ((c.tc : Thread _ _).loc Cert.Reference5Ideal.main_arg0)) (m' ((c.tc : Thread _ _).loc Cert.Reference5Ideal.main_arg1))
          (m' ((c.tc : Thread _ _).loc Cert.Reference5Ideal.main_arg2)) (m' ((c.tc : Thread _ _).loc Cert.Reference5Ideal.main_arg3))
          (m' ((c.tc : Thread _ _).loc Cert.Reference5Ideal.main_arg4)) (m' ((c.tc : Thread _ _).loc Cert.Reference5Ideal.main_arg5)) := rfl

theorem rows0 (m : (ℓ : Loc Cert.Kernel5Ideal.nD Cert.Kernel5Ideal.τ Cert.Kernel5Ideal.sig) → Buf (Elt Ideal) ℓ) (c : Dev Cert.Kernel5Ideal.nD)
    [Cert.Pre_finite5.Facts] (hpre : Cert.Pre_Kernel5Ideal_finite5 m) :
    Cert.Reference5Ideal.Ref.res0 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))
      = (Cert.Kernel5Ideal.Gen.dats m 0 c).arrAt 6 (Cert.Kernel5Ideal.cfgs 0).N := by
  obtain ⟨h0, h1, h2, h3, h4, h5⟩ := pre5 _ _ _ _ _ _ (hpre c)
  funext i
  refine Eq.trans ?_ (Cert.Kernel5Ideal.Ffn.final6 m c i).symm
  rw [eq_ix2 i]
  exact Cert.Kernel5Ideal.Ffn.res0_at _ _ _ _ _ _ h0 h1 h2 h3 h4 h5 (i 0) (i 1)

theorem rows1 (m : (ℓ : Loc Cert.Kernel5Ideal.nD Cert.Kernel5Ideal.τ Cert.Kernel5Ideal.sig) → Buf (Elt Ideal) ℓ) (c : Dev Cert.Kernel5Ideal.nD) :
    Cert.Reference5Ideal.Ref.res1 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))
      = (Cert.Kernel5Ideal.Gen.dats m 0 c).arrAt 7 (Cert.Kernel5Ideal.cfgs 0).N := by
  funext i
  refine Eq.trans ?_ (Cert.Kernel5Ideal.Ffn.final7 m c i).symm
  have e : i = ix2 0 (i 1) := (eq_ix2 i).trans (congrArg (fun a => ix2 a (i 1)) (Subsingleton.elim (α := Fin 1) _ _))
  rw [e]
  exact Cert.Kernel5Ideal.Ffn.res1_at _ _ _ _ _ _ (i 1)

theorem algebraic5 : Cert.algebraic_Kernel5Ideal_Reference5Ideal_pre_finite5 (hPre_finite5 := facts5) := by
  haveI := facts5
  pair_intro
  · run_from Cert.Kernel5Ideal.Gen.run_main m g
  · refine (θ_run Cert.Reference5Ideal.defs _ _).mono (fun r h c => ⟨(h c).1.trans ((res0_val m' c).trans ?_), (h c).2.1.trans ?_, (h c).2.2⟩)
      (Cert.Reference5Ideal.Value.run (F := Ideal) m' g')
    · obtain ⟨a0, a1, a2, a3, a4, a5⟩ := hagree c
      rw [a0, a1, a2, a3, a4, a5]
      exact rows0 m c hpre
    · obtain ⟨a0, a1, a2, a3, a4, a5⟩ := hagree c
      rw [a0, a1, a2, a3]
      exact rows1 m c

end Cert.Proof

end
-- ==== Proof.Mix.lean ====
module

public import proofs.«01_k».proof.Proof.Gen.Kernel6Ideal.Frame
public import proofs.«01_k».proof.Proof.Ffn
public import Idealize.ShloMosaic.Lib.Pipeline.ReadBack

@[expose] public section

set_option maxRecDepth 16384

noncomputable section

/-! The gradient of the mixing layer's input: the accumulator over three parts of the columns, and the two arrays. -/

open Idealize.ShloMosaic Idealize.ShloMosaic.TcCoe Idealize.SL.Sem
open Idealize.ShloMosaic.Pipeline (Dat)
open Cert.Kernel5Ideal.Ffn (rr rowGrad)

namespace Cert.Kernel6Ideal.Mix

open Cert.Kernel6Ideal Cert.Kernel6Ideal.Gen

/-- The product of one part of the columns, at one entry of the block. -/
def part (a : FVec Ideal S512x3456 .bf16) (b : FVec Ideal S1024x3456 .f32) (y : S512x1024.Idx) : EReal :=
  ∑ k : Fin 3456, a (ix2 (y 0) k) * b (ix2 (y 1) k)

/-- The gradient of the normalised row over the whole array. -/
def dnAll (x0 : FVec Ideal S8192x10368 .bf16) (x1 : FVec Ideal S1024x10368 .f32) (i : Fin 8192) (j : Fin 1024) : EReal :=
  ∑ k : Fin 10368, x0 (ix2 i k) * x1 (ix2 j k)

/-- The sum of squares of row `i`. -/
def sqAll (x3 : FVec Ideal S8192x1024 .f32) (i : Fin 8192) : EReal := ∑ k : Fin 1024, x3 (ix2 i k) * x3 (ix2 i k)

/-- The sum of squares of a block's row `i`. -/
def sqB (x3 : FVec Ideal S512x1024 .f32) (i : Fin 512) : EReal := ∑ k : Fin 1024, x3 (ix2 i k) * x3 (ix2 i k)

/-- The result array: the gradient of the rows. -/
def G5 (x0 : FVec Ideal S8192x10368 .bf16) (x1 : FVec Ideal S1024x10368 .f32) (x2 x3 : FVec Ideal S8192x1024 .f32) (x4 : FVec Ideal S1x1024 .f32)
    (i : S8192x1024.Idx) : EReal :=
  rowGrad (sqAll x3 (i 0)) (∑ k : Fin 1024, dnAll x0 x1 (i 0) k * x4 (ix2 0 k) * (x3 (ix2 (i 0) k) * rr (sqAll x3 (i 0)))) (dnAll x0 x1 (i 0) (i 1))
    (x4 (ix2 0 (i 1))) (x3 i) (x2 i)

/-- The same over a block, of the gradient `d` of the normalised row. -/
def B5 (d x2 x3 : FVec Ideal S512x1024 .f32) (x4 : FVec Ideal S1x1024 .f32) (i : S512x1024.Idx) : EReal :=
  rowGrad (sqB x3 (i 0)) (∑ k : Fin 1024, d (ix2 (i 0) k) * x4 (ix2 0 k) * (x3 (ix2 (i 0) k) * rr (sqB x3 (i 0)))) (d i) (x4 (ix2 0 (i 1))) (x3 i) (x2 i)

/-- The result array: the gradient of the gain. -/
def G6 (x0 : FVec Ideal S8192x10368 .bf16) (x1 : FVec Ideal S1024x10368 .f32) (x3 : FVec Ideal S8192x1024 .f32) (i : S1x1024.Idx) : EReal :=
  ∑ k : Fin 8192, dnAll x0 x1 k (i 1) * (x3 (ix2 k (i 1)) * rr (sqAll x3 k))

/-- One block's part of it. -/
def B6 (d x3 : FVec Ideal S512x1024 .f32) (i : S1x1024.Idx) : EReal :=
  ∑ k : Fin 512, d (ix2 k (i 1)) * (x3 (ix2 k (i 1)) * rr (sqB x3 k))

theorem pay3_at (a : FVec Ideal S512x3456 .bf16) (b : FVec Ideal S1024x3456 .f32) (y : S512x1024.Idx) :
    k0_pay3 (F := Ideal) a b y = 0 + part a b y := by
  unfold part
  rw [zero_add]
  pointwise [k0_pay3, k0_pay2]

theorem pay4_at (a : FVec Ideal S512x3456 .bf16) (b : FVec Ideal S1024x3456 .f32) (acc : FVec Ideal S512x1024 .f32) (y : S512x1024.Idx) :
    k0_pay4 (F := Ideal) a b acc y = acc y + part a b y := by
  unfold part
  pointwise [k0_pay4, k0_pay2]

theorem pay7_at (d x : FVec Ideal S512x1024 .f32) (acc : FVec Ideal S1x1024 .f32) (y : S1x1024.Idx) :
    k0_pay7 (F := Ideal) d x acc y = acc y + B6 d x y := by
  unfold B6 sqB rr
  pointwise [k0_pay7, k0_pay6, k0_pay5]

theorem pay8_at (d x : FVec Ideal S512x1024 .f32) (g : FVec Ideal S1x1024 .f32) (e : FVec Ideal S512x1024 .f32) (y : S512x1024.Idx) :
    k0_pay8 (F := Ideal) d x g e y = B5 d e x g y := by
  unfold B5 sqB rowGrad rr
  pointwise [k0_pay8, k0_pay6, k0_pay5]

theorem pay1_at (y : S1x1024.Idx) : k0_pay1 (F := Ideal) y = 0 := by
  pointwise [k0_pay1]

end Cert.Kernel6Ideal.Mix

end
-- ==== Proof.MixRun.lean ====
module

public import proofs.«01_k».proof.Proof.Mix

@[expose] public section

set_option maxRecDepth 16384

noncomputable section

open Idealize.ShloMosaic Idealize.ShloMosaic.TcCoe Idealize.SL.Sem
open Idealize.ShloMosaic.Pipeline (Dat)
open Cert.Kernel5Ideal.Ffn (rr rowGrad)

namespace Cert.Kernel6Ideal.Mix

open Cert.Kernel6Ideal Cert.Kernel6Ideal.Gen

variable (m : (ℓ : Loc nD τ sig) → Buf (Elt Ideal) ℓ)

/-- The accumulator after a first part. -/
theorem acc_first (c : Dev nD) (t : Fin cfg0.N) (h : t.val % 3 = 0) (y : S512x1024.Idx) :
    (outsAt0 m c t.val t.isLt).2.2 y = 0 + part (iblk m c 0 t) (iblk m c 1 t) y := by
  by_cases h0 : t.val % 48 = 0
  · rw [outsAt0_A m c t h0 h (by omega) (by omega)]
    frame_out
    rw [pay3_at]
  · rw [outsAt0_D m c t h0 h (by omega) (by omega)]
    frame_out
    rw [pay3_at]

/-- The accumulator after a further part: what it was, and the part added. -/
theorem acc_next (c : Dev nD) (t : Fin cfg0.N) (h : ¬t.val % 3 = 0) (y : S512x1024.Idx) :
    (outsAt0 m c t.val t.isLt).2.2 y = (outsAt0 m c (t.val - 1) (Nat.lt_of_le_of_lt (Nat.sub_le _ _) t.isLt)).2.2 y + part (iblk m c 0 t) (iblk m c 1 t) y := by
  by_cases h3 : t.val % 3 = 2
  · rw [outsAt0_C m c t (by omega) h (by omega) h3]
    frame_out
    rw [pay4_at, read_unread_whole]
  · rw [outsAt0_B m c t (by omega) h (by omega) h3]
    frame_out
    rw [pay4_at, read_unread_whole]

/-- The block of rows written after the last part. -/
theorem out_last (c : Dev nD) (t : Fin cfg0.N) (h3 : t.val % 3 = 2) (y : S512x1024.Idx) :
    (outsAt0 m c t.val t.isLt).1 y = B5 (outsAt0 m c t.val t.isLt).2.2 (iblk m c 2 t) (iblk m c 3 t) (iblk m c 4 t) y := by
  rw [outsAt0_C m c t (by omega) (by omega) (by omega) h3]
  frame_out
  rw [pay8_at]

/-- The gain's gradient before any block of rows. -/
theorem gain_first (c : Dev nD) (t : Fin cfg0.N) (h : t.val % 48 = 0) (y : S1x1024.Idx) :
    (outsAt0 m c t.val t.isLt).2.1 y = 0 := by
  rw [outsAt0_A m c t h (by omega) (by omega) (by omega)]
  frame_out
  rw [pay1_at]

/-- The gain's gradient where a block of rows is not finished: as it was. -/
theorem gain_keep (c : Dev nD) (t : Fin cfg0.N) (h : ¬t.val % 48 = 0) (h3 : ¬t.val % 3 = 2) (y : S1x1024.Idx) :
    (outsAt0 m c t.val t.isLt).2.1 y = (outsAt0 m c (t.val - 1) (Nat.lt_of_le_of_lt (Nat.sub_le _ _) t.isLt)).2.1 y := by
  by_cases h1 : t.val % 3 = 0
  · rw [outsAt0_D m c t h h1 (by omega) h3]
    rfl
  · rw [outsAt0_B m c t h h1 (by omega) h3]
    rfl

/-- The gain's gradient after a block of rows: the block's part added. -/
theorem gain_add (c : Dev nD) (t : Fin cfg0.N) (h3 : t.val % 3 = 2) (y : S1x1024.Idx) :
    (outsAt0 m c t.val t.isLt).2.1 y = (outsAt0 m c (t.val - 1) (Nat.lt_of_le_of_lt (Nat.sub_le _ _) t.isLt)).2.1 y
      + B6 (outsAt0 m c t.val t.isLt).2.2 (iblk m c 3 t) y := by
  rw [outsAt0_C m c t (by omega) (by omega) (by omega) h3]
  frame_out
  rw [pay7_at]

theorem idx : ∀ t : Fin cfg0.N, win0_0.index t = ![t.val / 3, t.val % 3] ∧ win0_1.index t = ![0, t.val % 3] ∧ win0_2.index t = ![t.val / 3, 0]
    ∧ win0_3.index t = ![t.val / 3, 0] ∧ win0_4.index t = ![0, 0] ∧ win0_5.index t = ![t.val / 3, 0] ∧ win0_6.index t = ![0, 0] :=
  (by decide +kernel : ∀ t : Fin grid0.N, _)

/-- The accumulator after the last part is the whole row's product. -/
theorem acc_last (c : Dev nD) (t : Fin cfg0.N) (h3 : t.val % 3 = 2) (y : S512x1024.Idx) :
    (outsAt0 m c t.val t.isLt).2.2 y = dnAll (m ((c : Thread nD τ).loc main_arg0)) (m ((c : Thread nD τ).loc main_arg1))
      ⟨t.val / 3 * 512 + (y 0).val, by have := (y 0).isLt; have hN : t.val < 48 := lt_of_lt_of_eq t.isLt (show cfg0.N = 48 from N_0); change (y 0).val < 512 at this; omega⟩ (y 1) := by
  rw [Pipeline.eq_sum_fin_of_reset_step_apply_of_flush (fun n h => (outsAt0 m c n h).2.2) 3 (fun _ => 0)
    (fun p y => part (iblk m c 0 p) (iblk m c 1 p) y)
    (fun t h j => acc_first m c t h j) (fun t h j => acc_next m c t h j) t h3 _, zero_add]
  unfold part dnAll
  refine Fin.sum_mul_add_congr fun s k hl => ?_
  have hN : t.val < 48 := lt_of_lt_of_eq t.isLt (show cfg0.N = 48 from N_0)
  blk_point [iblk, V, idx t, idx ⟨_, Pipeline.run_point_lt_of_flush t h3 s⟩]

theorem final5 (c : Dev nD) (i : S8192x1024.Idx) : (dats m 0 c).arrAt 5 (cfgs 0).N i
    = G5 (m ((c : Thread nD τ).loc main_arg0)) (m ((c : Thread nD τ).loc main_arg1)) (m ((c : Thread nD τ).loc main_arg2)) (m ((c : Thread nD τ).loc main_arg3))
        (m ((c : Thread nD τ).loc main_arg4)) i := by
  refine congrFun ((dats m 0 c).arrAt_eq_of_covers 5 (fun i => G5 (m ((c : Thread nD τ).loc main_arg0)) (m ((c : Thread nD τ).loc main_arg1)) (m ((c : Thread nD τ).loc main_arg2)) (m ((c : Thread nD τ).loc main_arg3))
        (m ((c : Thread nD τ).loc main_arg4)) i) (by decide +kernel) fun t hf y => ?_) i
  have h3 : t.val % 3 = 2 := (flush0_5 t).mp hf
  have hN : t.val < 48 := lt_of_lt_of_eq t.isLt (show cfg0.N = 48 from N_0)
  blk_simp
  rw [after0_5, out_last m c t h3]
  unfold B5 G5 sqB sqAll
  simp only [acc_last m c t h3]
  blk_point [iblk, V, idx t]

/-- What a point adds to the gain's gradient. -/
def gainPart (c : Dev nD) (p : Fin cfg0.N) (y : S1x1024.Idx) : EReal :=
  if p.val % 3 = 2 then B6 (outsAt0 m c p.val p.isLt).2.2 (iblk m c 3 p) y else 0

/-- A sum over 48 points of which only each third counts is one over 16. -/
theorem sum_third (f : Fin 48 → EReal) (h : ∀ s : Fin 48, ¬s.val % 3 = 2 → f s = 0) :
    ∑ s, f s = ∑ q : Fin 16, f ⟨3 * q.val + 2, by omega⟩ := by
  have hs : ∑ s, f s = ∑ p : Fin 16 × Fin 3, f (finProdFinEquiv p) := (Equiv.sum_comp (finProdFinEquiv (m := 16) (n := 3)) f).symm
  rw [hs, Fintype.sum_prod_type]
  refine Finset.sum_congr rfl fun q _ => ?_
  rw [Fin.sum_univ_three, h _ (by show ¬(0 + 3 * q.val) % 3 = 2; omega), h _ (by show ¬(1 + 3 * q.val) % 3 = 2; omega), zero_add, zero_add]
  exact congrArg f (Fin.ext (Nat.add_comm _ _))

theorem final6 (c : Dev nD) (i : S1x1024.Idx) : (dats m 0 c).arrAt 6 (cfgs 0).N i
    = G6 (m ((c : Thread nD τ).loc main_arg0)) (m ((c : Thread nD τ).loc main_arg1)) (m ((c : Thread nD τ).loc main_arg3)) i := by
  refine congrFun ((dats m 0 c).arrAt_eq_of_covers 6 (fun i => G6 (m ((c : Thread nD τ).loc main_arg0)) (m ((c : Thread nD τ).loc main_arg1)) (m ((c : Thread nD τ).loc main_arg3)) i) (by decide +kernel) fun t hf y => ?_) i
  have h47 : t.val % 48 = 47 := (flush0_6 t).mp hf
  have hN : t.val < 48 := lt_of_lt_of_eq t.isLt (show cfg0.N = 48 from N_0)
  blk_simp
  rw [after0_6, Pipeline.eq_sum_fin_of_reset_step_apply_of_flush (fun n h => (outsAt0 m c n h).2.1) 48 (fun _ => 0)
    (fun p y => gainPart m c p y)
    (fun t h j => by
      show (outsAt0 m c t.val t.isLt).2.1 j = 0 + gainPart m c t j
      rw [gain_first m c t h j, gainPart, if_neg (by omega), zero_add])
    (fun t h j => by
      show (outsAt0 m c t.val t.isLt).2.1 j = (outsAt0 m c (t.val - 1) (Nat.lt_of_le_of_lt (Nat.sub_le _ _) t.isLt)).2.1 j + gainPart m c t j
      by_cases h3 : t.val % 3 = 2
      · rw [gain_add m c t h3 j, gainPart, if_pos h3]
      · rw [gain_keep m c t h h3 j, gainPart, if_neg h3, add_zero]) t h47 _, zero_add]
  rw [sum_third _ fun s hs => by rw [gainPart, if_neg (by show ¬(48 * (t.val / 48) + s.val) % 3 = 2; omega)]]
  refine Eq.trans (Finset.sum_congr (M := EReal) rfl fun (q : Fin 16) _ => if_pos (show (48 * (t.val / 48) + (3 * q.val + 2)) % 3 = 2 by omega)) ?_
  unfold B6 G6
  refine Fin.sum_mul_add_congr fun s k hl => ?_
  have hp : (48 * (t.val / 48) + (3 * s.val + 2)) % 3 = 2 := by omega
  rw [acc_last m c ⟨48 * (t.val / 48) + (3 * s.val + 2), by rw [show cfg0.N = 48 from N_0]; omega⟩ hp]
  have er : (⟨(⟨48 * (t.val / 48) + (3 * s.val + 2), by rw [show cfg0.N = 48 from N_0]; omega⟩ : Fin cfg0.N).val / 3 * 512 + k.val, by show (48 * (t.val / 48) + (3 * s.val + 2)) / 3 * 512 + k.val < 8192; omega⟩ : Fin 8192)
      = ⟨s.val * 512 + k.val, hl⟩ := Fin.ext (by show (48 * (t.val / 48) + (3 * s.val + 2)) / 3 * 512 + k.val = s.val * 512 + k.val; omega)
  refine Eq.trans (congrArg (fun r => dnAll (m ((c : Thread nD τ).loc main_arg0)) (m ((c : Thread nD τ).loc main_arg1)) r (y 1) * _) er) ?_
  unfold sqB sqAll
  blk_point [iblk, V, idx t, idx ⟨48 * (t.val / 48) + (3 * s.val + 2), by rw [show cfg0.N = 48 from N_0]; omega⟩]

end Cert.Kernel6Ideal.Mix

end
-- ==== Proof.Ref6.lean ====
module

public import proofs.«01_k».proof.Defs
public import proofs.«01_k».proof.Proof.Gen.Reference6Ideal.Run

@[expose] public section

set_option maxRecDepth 16384

noncomputable section

/-! The results of the reference as terms over its argument arrays. -/

namespace Cert.Reference6Ideal.Ref

open Cert.Reference6Ideal Cert.Reference6Ideal.Gen Idealize.ShloMosaic Idealize.ShloMosaic.TcCoe Idealize.SL.Sem

/-- An intermediate array of the reference. -/
abbrev main_v37 (x0 : FVec Ideal S8192x10368 .bf16) (x1 : FVec Ideal S1024x10368 .f32) (x2 : FVec Ideal S8192x1024 .f32) (x3 : FVec Ideal S8192x1024 .f32) (x4 : FVec Ideal S1x1024 .f32) : FVec Ideal S8192x1024 .f32 :=
  addf (addf (addf x2 (mulf (mulf (Host.dotGeneral dot_S8192x10368_S1024x10368_S8192x1024_1_1_0_0_n_n none (extf .f32 x0 bitsLt_bf16_f32) x1) (broadcastInDim S8192x1024 ![0, 1] bcast_S1x1024_S8192x1024_0_1 x4)) (broadcastInDim S8192x1024 ![0, 1] bcast_S8192x1_S8192x1024_0_1 (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x3 (broadcastInDim S8192x1024 ![0] bcast_S8192_S8192x1024_0 (Host.reduceAdd (Host.divf (mulf (shapeCast _ (Host.reduceAdd (mulf x3 (mulf (Host.dotGeneral dot_S8192x10368_S1024x10368_S8192x1024_1_1_0_0_n_n none (extf .f32 x0 bitsLt_bf16_f32) x1) (broadcastInDim S8192x1024 ![0, 1] bcast_S1x1024_S8192x1024_0_1 x4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x3 (mulf (Host.dotGeneral dot_S8192x10368_S1024x10368_S8192x1024_1_1_0_0_n_n none (extf .f32 x0 bitsLt_bf16_f32) x1) (broadcastInDim S8192x1024 ![0, 1] bcast_S1x1024_S8192x1024_0_1 x4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x3)

/-- Result 0 of the reference. -/
abbrev res0 (x0 : FVec Ideal S8192x10368 .bf16) (x1 : FVec Ideal S1024x10368 .f32) (x2 : FVec Ideal S8192x1024 .f32) (x3 : FVec Ideal S8192x1024 .f32) (x4 : FVec Ideal S1x1024 .f32) : FVec Ideal S8192x1024 .f32 :=
  (main_v37 x0 x1 x2 x3 x4)

/-- Result 1 of the reference. -/
abbrev res1 (x0 : FVec Ideal S8192x10368 .bf16) (x1 : FVec Ideal S1024x10368 .f32) (x2 : FVec Ideal S8192x1024 .f32) (x3 : FVec Ideal S8192x1024 .f32) (x4 : FVec Ideal S1x1024 .f32) : FVec Ideal S1x1024 .f32 :=
  shapeCast _ (Host.reduceAdd (mulf (mulf x3 (broadcastInDim S8192x1024 ![0, 1] bcast_S8192x1_S8192x1024_0_1 (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x10368_S1024x10368_S8192x1024_1_1_0_0_n_n none (extf .f32 x0 bitsLt_bf16_f32) x1)) (constant S_ .f32 0x00000000#32) reducesTo_S8192x1024_S1024_d0 h_S_) shapeCasts_S1024_S1x1024

end Cert.Reference6Ideal.Ref

end
-- ==== Proof.MixRef.lean ====
module

public import proofs.«01_k».proof.Proof.MixRun
public import proofs.«01_k».proof.Proof.Ref6
public import proofs.«01_k».proof.Proof.Norm

@[expose] public section

set_option maxRecDepth 16384

noncomputable section

/-! The reference's two results as the same closed forms. -/

open Idealize.ShloMosaic Idealize.ShloMosaic.TcCoe Idealize.SL.Sem
open Cert.Kernel5Ideal.Ffn (rr rowGrad)

namespace Cert.Kernel6Ideal.Mix

open Cert.Kernel6Ideal Cert.Kernel6Ideal.Gen

theorem res1_at (x0 : FVec Ideal S8192x10368 .bf16) (x1 : FVec Ideal S1024x10368 .f32) (x2 x3 : FVec Ideal S8192x1024 .f32) (x4 : FVec Ideal S1x1024 .f32)
    (b : Fin 1024) : Cert.Reference6Ideal.Ref.res1 x0 x1 x2 x3 x4 (ix2 0 b) = G6 x0 x1 x3 (ix2 0 b) := by
  unfold Cert.Reference6Ideal.Ref.res1
  unfold G6 rr dnAll sqAll
  pointwise
  exact Finset.sum_congr rfl fun k _ => mul_comm _ _

/-- The gradient of the normalised row is real. -/
theorem dn_real (x0 : FVec Ideal S8192x10368 .bf16) (x1 : FVec Ideal S1024x10368 .f32)
    (h0 : ∀ i, ∃ r : ℝ, x0 i = (r : EReal)) (h1 : ∀ i, ∃ r : ℝ, x1 i = (r : EReal)) (i : Fin 8192) (j : Fin 1024) :
    ∃ r : ℝ, dnAll x0 x1 i j = (r : EReal) := by
  choose f0 e0 using h0
  choose f1 e1 using h1
  unfold dnAll
  simp only [e0, e1, ← EReal.coe_mul, ← Cert.Real.coe_sum]
  exact ⟨_, rfl⟩

theorem res0_at (x0 : FVec Ideal S8192x10368 .bf16) (x1 : FVec Ideal S1024x10368 .f32) (x2 x3 : FVec Ideal S8192x1024 .f32) (x4 : FVec Ideal S1x1024 .f32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (a : Fin 8192) (b : Fin 1024) :
    Cert.Reference6Ideal.Ref.res0 x0 x1 x2 x3 x4 (ix2 a b) = G5 x0 x1 x2 x3 x4 (ix2 a b) := by
  have hd := dn_real x0 x1 h0 h1
  choose D eD using hd
  choose f2 e2 using h2
  choose f3 e3 using h3
  choose f4 e4 using h4
  have hS : sqAll x3 a = ((∑ k : Fin 1024, f3 (ix2 a k) * f3 (ix2 a k) : ℝ) : EReal) := by
    unfold sqAll; simp only [e3]; exact Cert.Real.sum_mul_coe _ _
  have hv := Cert.Norm.var_pos (s := ∑ k : Fin 1024, f3 (ix2 a k) * f3 (ix2 a k)) (Finset.sum_nonneg fun k _ => mul_self_nonneg _)
  unfold Cert.Reference6Ideal.Ref.res0 Cert.Reference6Ideal.Ref.main_v37
  unfold G5 rowGrad rr
  pointwise
  unfold sqAll at hS ⊢
  simp only [hS]
  unfold dnAll at eD ⊢
  generalize ∑ k : Fin 1024, f3 (ix2 a k) * f3 (ix2 a k) = S at hv ⊢
  rw [Cert.Norm.var_real, Cert.Norm.rsqrt_real hv, Cert.Real.div_real _ _ hv.ne', Cert.Norm.neg_half_bits]
  simp only [eD, e2, e3, e4, ← EReal.coe_mul, ← Cert.Real.coe_sum, Cert.Norm.div_width, ← EReal.coe_add, ← EReal.coe_sub, Finset.univ_unique, Finset.sum_singleton]
  congr 1
  have hp : ∑ k : Fin 1024, D a k * f4 (ix2 0 k) * (f3 (ix2 a k) * (Real.sqrt (Cert.Norm.var S))⁻¹)
      = (∑ k : Fin 1024, f3 (ix2 a k) * (D a k * f4 (ix2 0 k))) * (Real.sqrt (Cert.Norm.var S))⁻¹ := by
    rw [Finset.sum_mul]
    exact Finset.sum_congr rfl fun k _ => by ring
  rw [hp]
  exact Cert.Norm.row hv _ _ _ _

end Cert.Kernel6Ideal.Mix

end
-- ==== Proof.Claim6.lean ====
module

public import proofs.«01_k».proof.Proof.MixRef
public import proofs.«01_k».proof.Proof.Gen.Kernel6.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the mixing layer's input. -/

namespace Cert.Proof

theorem facts6 : Cert.Pre_finite6.Facts := by
  constructor <;> decide

/-- What the precondition says: every entry of every argument is a real number. -/
theorem pre6 [Cert.Pre_finite6.Facts] (x0 : FVec Ideal Cert.Pre_finite6.S8192x10368 .bf16) (x1 : FVec Ideal Cert.Pre_finite6.S1024x10368 .f32)
    (x2 x3 : FVec Ideal Cert.Pre_finite6.S8192x1024 .f32) (x4 : FVec Ideal Cert.Pre_finite6.S1x1024 .f32)
    (h : Cert.Pre_finite6.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h' := congrFun h (fun a => a.elim0)
  unfold Cert.Pre_finite6.fn Cert.Pre_finite6.fn_part1 at h'
  obtain ⟨h', e4⟩ := Cert.Real.andi_one h'
  obtain ⟨h', e3⟩ := Cert.Real.andi_one h'
  obtain ⟨h', e2⟩ := Cert.Real.andi_one h'
  obtain ⟨h', e1⟩ := Cert.Real.andi_one h'
  obtain ⟨-, e0⟩ := Cert.Real.andi_one h'
  exact ⟨Cert.Real.all_finite _ _ _ _ _ _ _ e0, Cert.Real.all_finite _ _ _ _ _ _ _ e1, Cert.Real.all_finite _ _ _ _ _ _ _ e2,
    Cert.Real.all_finite _ _ _ _ _ _ _ e3, Cert.Real.all_finite _ _ _ _ _ _ _ e4⟩

theorem frame6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem res0_val6 (m' : (ℓ : Loc Cert.Reference6Ideal.nD Cert.Reference6Ideal.τ Cert.Reference6Ideal.sig) → Buf (Elt Ideal) ℓ) (c : Dev Cert.Reference6Ideal.nD) :
    Cert.Reference6Ideal.Value.res_main_v37 (F := Ideal) m' c
      = Cert.Reference6Ideal.Ref.res0 (m' ((c.tc : Thread _ _).loc Cert.Reference6Ideal.main_arg0)) (m' ((c.tc : Thread _ _).loc Cert.Reference6Ideal.main_arg1))
          (m' ((c.tc : Thread _ _).loc Cert.Reference6Ideal.main_arg2)) (m' ((c.tc : Thread _ _).loc Cert.Reference6Ideal.main_arg3))
          (m' ((c.tc : Thread _ _).loc Cert.Reference6Ideal.main_arg4)) := rfl

theorem rows6 (m : (ℓ : Loc Cert.Kernel6Ideal.nD Cert.Kernel6Ideal.τ Cert.Kernel6Ideal.sig) → Buf (Elt Ideal) ℓ) (c : Dev Cert.Kernel6Ideal.nD)
    [Cert.Pre_finite6.Facts] (hpre : Cert.Pre_Kernel6Ideal_finite6 m) :
    Cert.Reference6Ideal.Ref.res0 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))
      = (Cert.Kernel6Ideal.Gen.dats m 0 c).arrAt 5 (Cert.Kernel6Ideal.cfgs 0).N := by
  obtain ⟨h0, h1, h2, h3, h4⟩ := pre6 _ _ _ _ _ (hpre c)
  funext i
  refine Eq.trans ?_ (Cert.Kernel6Ideal.Mix.final5 m c i).symm
  rw [eq_ix2 i]
  exact Cert.Kernel6Ideal.Mix.res0_at _ _ _ _ _ h0 h1 h2 h3 h4 (i 0) (i 1)

theorem gain6 (m : (ℓ : Loc Cert.Kernel6Ideal.nD Cert.Kernel6Ideal.τ Cert.Kernel6Ideal.sig) → Buf (Elt Ideal) ℓ) (c : Dev Cert.Kernel6Ideal.nD) :
    Cert.Reference6Ideal.Ref.res1 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))
      = (Cert.Kernel6Ideal.Gen.dats m 0 c).arrAt 6 (Cert.Kernel6Ideal.cfgs 0).N := by
  funext i
  refine Eq.trans ?_ (Cert.Kernel6Ideal.Mix.final6 m c i).symm
  have e : i = ix2 0 (i 1) := (eq_ix2 i).trans (congrArg (fun a => ix2 a (i 1)) (Subsingleton.elim (α := Fin 1) _ _))
  rw [e]
  exact Cert.Kernel6Ideal.Mix.res1_at _ _ _ _ _ (i 1)

theorem algebraic6 : Cert.algebraic_Kernel6Ideal_Reference6Ideal_pre_finite6 (hPre_finite6 := facts6) := by
  haveI := facts6
  pair_intro
  · run_from Cert.Kernel6Ideal.Gen.run_main m g
  · refine (θ_run Cert.Reference6Ideal.defs _ _).mono (fun r h c => ⟨(h c).1.trans ((res0_val6 m' c).trans ?_), (h c).2.1.trans ?_, (h c).2.2⟩)
      (Cert.Reference6Ideal.Value.run (F := Ideal) m' g')
    · obtain ⟨a0, a1, a2, a3, a4⟩ := hagree c
      rw [a0, a1, a2, a3, a4]
      exact rows6 m c hpre
    · obtain ⟨a0, a1, a2, a3, a4⟩ := hagree c
      rw [a0, a1, a3]
      exact gain6 m c

end Cert.Proof

end
-- ==== Proof.Ref7.lean ====
module

public import proofs.«01_k».proof.Defs
public import proofs.«01_k».proof.Proof.Gen.Reference7Ideal.Run

@[expose] public section

set_option maxRecDepth 16384

noncomputable section

/-! The results of the reference as terms over its argument arrays. -/

namespace Cert.Reference7Ideal.Ref

open Cert.Reference7Ideal Cert.Reference7Ideal.Gen Idealize.ShloMosaic Idealize.ShloMosaic.TcCoe Idealize.SL.Sem

/-- Result 0 of the reference. -/
abbrev res0 (x0 : FVec Ideal S8192x1024 .bf16) (x1 : FVec Ideal S8192x10368 .bf16) : FVec Ideal S1024x10368 .f32 :=
  transpose S1024x10368 [1, 0] (Host.dotGeneral dot_S8192x10368_S8192x1024_S10368x1024_0_0_1_1_n_n none (extf .f32 x1 bitsLt_bf16_f32) (extf .f32 x0 bitsLt_bf16_f32)) transposes_S10368x1024_S1024x10368_1_0

end Cert.Reference7Ideal.Ref

end
-- ==== Proof.InW.lean ====
module

public import proofs.«01_k».proof.Proof.Gen.Kernel7Ideal.Frame
public import proofs.«01_k».proof.Proof.Ref7
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the input projection's weight: the accumulator over four parts of the rows, and the whole array. -/

open Idealize.ShloMosaic Idealize.ShloMosaic.TcCoe Idealize.SL.Sem
open Idealize.ShloMosaic.Pipeline (Dat)

namespace Cert.Kernel7Ideal.Weight

open Cert.Kernel7Ideal Cert.Kernel7Ideal.Gen

/-- The product of one part of the rows, at one entry of the block. -/
def part (a : FVec Ideal S2048x1024 .bf16) (b : FVec Ideal S2048x1152 .bf16) (y : S1024x1152.Idx) : EReal :=
  ∑ k : Fin 2048, a (ix2 k (y 0)) * b (ix2 k (y 1))

/-- The gradient of the weight: the product over all rows. -/
def G (x0 : FVec Ideal S8192x1024 .bf16) (x1 : FVec Ideal S8192x10368 .bf16) (i : S1024x10368.Idx) : EReal :=
  ∑ k : Fin 8192, x0 (ix2 k (i 0)) * x1 (ix2 k (i 1))

theorem pay2_at (a : FVec Ideal S2048x1024 .bf16) (b : FVec Ideal S2048x1152 .bf16) (y : S1024x1152.Idx) :
    k0_pay2 (F := Ideal) a b y = 0 + part a b y := by
  unfold part
  rw [zero_add]
  pointwise [k0_pay2, k0_pay1]

theorem pay3_at (a : FVec Ideal S2048x1024 .bf16) (b : FVec Ideal S2048x1152 .bf16) (acc : FVec Ideal S1024x1152 .f32) (y : S1024x1152.Idx) :
    k0_pay3 (F := Ideal) a b acc y = acc y + part a b y := by
  unfold part
  pointwise [k0_pay3, k0_pay1]

variable (m : (ℓ : Loc nD τ sig) → Buf (Elt Ideal) ℓ)

/-- The accumulator after a first part. -/
theorem acc_first (c : Dev nD) (t : Fin cfg0.N) (h : t.val % 4 = 0) (y : S1024x1152.Idx) :
    (outsAt0 m c t.val t.isLt).2 y = 0 + part (iblk m c 0 t) (iblk m c 1 t) y := by
  rw [outsAt0_A m c t h (by omega) (by omega)]
  frame_out
  rw [pay2_at]

/-- The accumulator after a further part: what it was, and the part added. -/
theorem acc_next (c : Dev nD) (t : Fin cfg0.N) (h : ¬t.val % 4 = 0) (y : S1024x1152.Idx) :
    (outsAt0 m c t.val t.isLt).2 y = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [pay3_at, read_unread_whole]
  · rw [outsAt0_B m c t h (by omega) h3]
    frame_out
    rw [pay3_at, read_unread_whole]

/-- The block written after the last part is the accumulator. -/
theorem out_last (c : Dev nD) (t : Fin cfg0.N) (h3 : t.val % 4 = 3) (y : S1024x1152.Idx) :
    (outsAt0 m c t.val t.isLt).1 y = (outsAt0 m c t.val t.isLt).2 y := by
  rw [outsAt0_C m c t (by omega) (by omega) h3]
  frame_out

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem final (c : Dev nD) (i : S1024x10368.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t hf y => ?_) i
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p y => part (iblk m c 0 p) (iblk m c 1 p) y)
    (fun t h j => acc_first m c t h j) (fun t h j => acc_next m c t h j) t h3 _, zero_add]
  unfold part G
  refine Fin.sum_mul_add_congr fun s k hl => ?_
  have hN : t.val < 36 := lt_of_lt_of_eq t.isLt (show cfg0.N = 36 from N_0)
  blk_point [iblk, V, idx t, idx ⟨_, Pipeline.run_point_lt_of_flush t h3 s⟩]

end Cert.Kernel7Ideal.Weight

end
-- ==== Proof.Claim7.lean ====
module

public import proofs.«01_k».proof.Proof.InW
public import proofs.«01_k».proof.Proof.Gen.Kernel7.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the input projection's weight. -/

namespace Cert.Proof

theorem frame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem res7_at (x0 : FVec Ideal Cert.Kernel7Ideal.S8192x1024 .bf16) (x1 : FVec Ideal Cert.Kernel7Ideal.S8192x10368 .bf16) (i : Cert.Kernel7Ideal.S1024x10368.Idx) :
    Cert.Reference7Ideal.Ref.res0 x0 x1 i = Cert.Kernel7Ideal.Weight.G x0 x1 i := by
  unfold Cert.Reference7Ideal.Ref.res0 Cert.Kernel7Ideal.Weight.G
  pointwise
  exact Finset.sum_congr rfl fun k _ => mul_comm _ _

theorem algebraic7 : Cert.algebraic_Kernel7Ideal_Reference7Ideal := by
  pair_intro
  · run_from Cert.Kernel7Ideal.Gen.run_main m g
  · refine (θ_run Cert.Reference7Ideal.defs _ _).mono (fun r h c => ⟨(h c).1.trans ?_, (h c).2⟩)
      (Cert.Reference7Ideal.Value.run (F := Ideal) m' g')
    obtain ⟨a0, a1⟩ := hagree c
    rw [a0, a1]
    funext i
    exact (res7_at _ _ i).trans (Cert.Kernel7Ideal.Weight.final m c i).symm

end Cert.Proof

end
-- ==== Proof.Ref8.lean ====
module

public import proofs.«01_k».proof.Defs
public import proofs.«01_k».proof.Proof.Gen.Reference8Ideal.Run

@[expose] public section

set_option maxRecDepth 16384

noncomputable section

/-! The results of the reference as terms over its argument arrays. -/

namespace Cert.Reference8Ideal.Ref

open Cert.Reference8Ideal Cert.Reference8Ideal.Gen Idealize.ShloMosaic Idealize.ShloMosaic.TcCoe Idealize.SL.Sem

/-- Result 0 of the reference. -/
abbrev res0 (x0 : FVec Ideal S8192x1024 .bf16) (x1 : FVec Ideal S8192x2816 .bf16) : FVec Ideal S2x1024x1408 .f32 :=
  concatenate S2x1024x1408 0 [⟨S1x1024x1408, (broadcastInDim S1x1024x1408 ![1, 2] bcast_S1024x1408_S1x1024x1408_1_2 (extractStridedSlice S1024x1408 ![0, 0] (transpose S1024x2816 [1, 0] (Host.dotGeneral dot_S8192x2816_S8192x1024_S2816x1024_0_0_1_1_n_n none (extf .f32 x1 bitsLt_bf16_f32) (extf .f32 x0 bitsLt_bf16_f32)) transposes_S2816x1024_S1024x2816_1_0) slices_S1024x2816_S1024x1408_0_0))⟩, ⟨S1x1024x1408, (broadcastInDim S1x1024x1408 ![1, 2] bcast_S1024x1408_S1x1024x1408_1_2 (extractStridedSlice S1024x1408 ![0, 1408] (transpose S1024x2816 [1, 0] (Host.dotGeneral dot_S8192x2816_S8192x1024_S2816x1024_0_0_1_1_n_n none (extf .f32 x1 bitsLt_bf16_f32) (extf .f32 x0 bitsLt_bf16_f32)) transposes_S2816x1024_S1024x2816_1_0) slices_S1024x2816_S1024x1408_0_1408))⟩] concatenates_S1x1024x1408_S1x1024x1408_S2x1024x1408_d0

end Cert.Reference8Ideal.Ref

end
-- ==== Proof.GateW.lean ====
module

public import proofs.«01_k».proof.Proof.Gen.Kernel8Ideal.Frame
public import proofs.«01_k».proof.Proof.Ref8
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the gate projection's weight, in its two column shards: the accumulator over four parts of the rows, and the whole array. -/

open Idealize.ShloMosaic Idealize.ShloMosaic.TcCoe Idealize.SL.Sem
open Idealize.ShloMosaic.Pipeline (Dat)

namespace Cert.Kernel8Ideal.Weight

open Cert.Kernel8Ideal Cert.Kernel8Ideal.Gen

/-- The product of one part of the rows, at one entry of the block. -/
def part (a : FVec Ideal S2048x1024 .bf16) (b : FVec Ideal S2048x1408 .bf16) (y : S1024x1408.Idx) : EReal :=
  ∑ k : Fin 2048, a (ix2 k (y 0)) * b (ix2 k (y 1))

/-- The gradient of the weight: the product over all rows. -/
def G (x0 : FVec Ideal S8192x1024 .bf16) (x1 : FVec Ideal S8192x2816 .bf16) (i : S2x1024x1408.Idx) : EReal :=
  ∑ k : Fin 8192, x0 (ix2 k (i 1)) * x1 (ix2 k ⟨(i 0).val * 1408 + (i 2).val, by have h0 : (i 0).val < 2 := (i 0).isLt; have h2 : (i 2).val < 1408 := (i 2).isLt; omega⟩)

theorem pay2_at (a : FVec Ideal S2048x1024 .bf16) (b : FVec Ideal S2048x1408 .bf16) (y : S1024x1408.Idx) :
    k0_pay2 (F := Ideal) a b y = 0 + part a b y := by
  unfold part
  rw [zero_add]
  pointwise [k0_pay2, k0_pay1]

theorem pay3_at (a : FVec Ideal S2048x1024 .bf16) (b : FVec Ideal S2048x1408 .bf16) (acc : FVec Ideal S1024x1408 .f32) (y : S1024x1408.Idx) :
    k0_pay3 (F := Ideal) a b acc y = acc y + part a b y := by
  unfold part
  pointwise [k0_pay3, k0_pay1]

theorem pay4_at (v : FVec Ideal S1024x1408 .f32) (y : S1x1024x1408.Idx) : k0_pay4 (F := Ideal) v y = v (ix2 (y 1) (y 2)) := by
  pointwise [k0_pay4]

variable (m : (ℓ : Loc nD τ sig) → Buf (Elt Ideal) ℓ)

/-- The accumulator after a first part. -/
theorem acc_first (c : Dev nD) (t : Fin cfg0.N) (h : t.val % 4 = 0) (y : S1024x1408.Idx) :
    (outsAt0 m c t.val t.isLt).2 y = 0 + part (iblk m c 0 t) (iblk m c 1 t) y := by
  rw [outsAt0_A m c t h (by omega) (by omega)]
  frame_out
  rw [pay2_at]

/-- The accumulator after a further part: what it was, and the part added. -/
theorem acc_next (c : Dev nD) (t : Fin cfg0.N) (h : ¬t.val % 4 = 0) (y : S1024x1408.Idx) :
    (outsAt0 m c t.val t.isLt).2 y = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [pay3_at, read_unread_whole]
  · rw [outsAt0_B m c t h (by omega) h3]
    frame_out
    rw [pay3_at, read_unread_whole]

/-- The block written after the last part is the accumulator. -/
theorem out_last (c : Dev nD) (t : Fin cfg0.N) (h3 : t.val % 4 = 3) (y : S1x1024x1408.Idx) :
    (outsAt0 m c t.val t.isLt).1 y = (outsAt0 m c t.val t.isLt).2 (ix2 (y 1) (y 2)) := by
  rw [outsAt0_C m c t (by omega) (by omega) h3]
  frame_out
  rw [pay4_at]

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem final (c : Dev nD) (i : S2x1024x1408.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t hf y => ?_) i
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p y => part (iblk m c 0 p) (iblk m c 1 p) y)
    (fun t h j => acc_first m c t h j) (fun t h j => acc_next m c t h j) t h3 _, zero_add]
  unfold part G
  refine Fin.sum_mul_add_congr fun s k hl => ?_
  have hN : t.val < 8 := lt_of_lt_of_eq t.isLt (show cfg0.N = 8 from N_0)
  blk_point [iblk, V, idx t, idx ⟨_, Pipeline.run_point_lt_of_flush t h3 s⟩]

end Cert.Kernel8Ideal.Weight

end
-- ==== Proof.Claim8.lean ====
module

public import proofs.«01_k».proof.Proof.GateW
public import proofs.«01_k».proof.Proof.Gen.Kernel8.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the gate's weight. -/

namespace Cert.Proof

theorem frame8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem res8_at (x0 : FVec Ideal Cert.Kernel8Ideal.S8192x1024 .bf16) (x1 : FVec Ideal Cert.Kernel8Ideal.S8192x2816 .bf16) (i : Cert.Kernel8Ideal.S2x1024x1408.Idx) :
    Cert.Reference8Ideal.Ref.res0 x0 x1 i = Cert.Kernel8Ideal.Weight.G x0 x1 i := by
  unfold Cert.Reference8Ideal.Ref.res0 Cert.Kernel8Ideal.Weight.G
  pointwise
  have h2 : (i 0).val < 2 := (i 0).isLt
  split
  · refine Finset.sum_congr rfl fun k _ => (mul_comm _ _).trans ?_
    have e : (i 2).val = (i 0).val * 1408 + (i 2).val := by omega
    simp only [← e]
  · refine Finset.sum_congr rfl fun k _ => (mul_comm _ _).trans ?_
    have e : 1408 + (i 2).val = (i 0).val * 1408 + (i 2).val := by omega
    simp only [e]

theorem algebraic8 : Cert.algebraic_Kernel8Ideal_Reference8Ideal := by
  pair_intro
  · run_from Cert.Kernel8Ideal.Gen.run_main m g
  · refine (θ_run Cert.Reference8Ideal.defs _ _).mono (fun r h c => ⟨(h c).1.trans ?_, (h c).2⟩)
      (Cert.Reference8Ideal.Value.run (F := Ideal) m' g')
    obtain ⟨a0, a1⟩ := hagree c
    rw [a0, a1]
    funext i
    exact (res8_at _ _ i).trans (Cert.Kernel8Ideal.Weight.final m c i).symm

end Cert.Proof

end
-- ==== Proof.Ref9.lean ====
module

public import proofs.«01_k».proof.Defs
public import proofs.«01_k».proof.Proof.Gen.Reference9Ideal.Run

@[expose] public section

set_option maxRecDepth 16384

noncomputable section

/-! The results of the reference as terms over its argument arrays. -/

namespace Cert.Reference9Ideal.Ref

open Cert.Reference9Ideal Cert.Reference9Ideal.Gen Idealize.ShloMosaic Idealize.ShloMosaic.TcCoe Idealize.SL.Sem

/-- Result 0 of the reference. -/
abbrev res0 (x0 : FVec Ideal S8192x2816 .bf16) (x1 : FVec Ideal S8192x1024 .f32) : FVec Ideal S2816x1024 .f32 :=
  transpose S2816x1024 [1, 0] (Host.dotGeneral dot_S8192x1024_S8192x2816_S1024x2816_0_0_1_1_n_n none (mulf (broadcastInDim S8192x1024 ![] bcast_S_S8192x1024 (constant S_ .f32 0x3F000000#32)) x1) (extf .f32 x0 bitsLt_bf16_f32)) transposes_S1024x2816_S2816x1024_1_0

end Cert.Reference9Ideal.Ref

end
-- ==== Proof.DownW.lean ====
module

public import proofs.«01_k».proof.Proof.Gen.Kernel9Ideal.Frame
public import proofs.«01_k».proof.Proof.Ref9
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the down projection's weight: the accumulator over four parts of the rows, and the whole array. -/

open Idealize.ShloMosaic Idealize.ShloMosaic.TcCoe Idealize.SL.Sem
open Idealize.ShloMosaic.Pipeline (Dat)

namespace Cert.Kernel9Ideal.Weight

open Cert.Kernel9Ideal Cert.Kernel9Ideal.Gen

/-- The product of one part of the rows, at one entry of the block. -/
def part (a : FVec Ideal S2048x1408 .bf16) (b : FVec Ideal S2048x1024 .f32) (y : S1408x1024.Idx) : EReal :=
  ∑ k : Fin 2048, a (ix2 k (y 0)) * b (ix2 k (y 1))

/-- The gradient of the weight: the product over all rows. -/
def G (x0 : FVec Ideal S8192x2816 .bf16) (x1 : FVec Ideal S8192x1024 .f32) (i : S2816x1024.Idx) : EReal :=
  (∑ k : Fin 8192, x0 (ix2 k (i 0)) * x1 (ix2 k (i 1))) * Ideal.ofBits .f32 0x3F000000#32

theorem pay2_at (a : FVec Ideal S2048x1408 .bf16) (b : FVec Ideal S2048x1024 .f32) (y : S1408x1024.Idx) :
    k0_pay2 (F := Ideal) a b y = 0 + part a b y := by
  unfold part
  rw [zero_add]
  pointwise [k0_pay2, k0_pay1]

theorem pay3_at (a : FVec Ideal S2048x1408 .bf16) (b : FVec Ideal S2048x1024 .f32) (acc : FVec Ideal S1408x1024 .f32) (y : S1408x1024.Idx) :
    k0_pay3 (F := Ideal) a b acc y = acc y + part a b y := by
  unfold part
  pointwise [k0_pay3, k0_pay1]

theorem pay4_at (v : FVec Ideal S1408x1024 .f32) (y : S1408x1024.Idx) : k0_pay4 (F := Ideal) v y = v y * Ideal.ofBits .f32 0x3F000000#32 := by
  pointwise [k0_pay4]

variable (m : (ℓ : Loc nD τ sig) → Buf (Elt Ideal) ℓ)

/-- The accumulator after a first part. -/
theorem acc_first (c : Dev nD) (t : Fin cfg0.N) (h : t.val % 4 = 0) (y : S1408x1024.Idx) :
    (outsAt0 m c t.val t.isLt).2 y = 0 + part (iblk m c 0 t) (iblk m c 1 t) y := by
  rw [outsAt0_A m c t h (by omega) (by omega)]
  frame_out
  rw [pay2_at]

/-- The accumulator after a further part: what it was, and the part added. -/
theorem acc_next (c : Dev nD) (t : Fin cfg0.N) (h : ¬t.val % 4 = 0) (y : S1408x1024.Idx) :
    (outsAt0 m c t.val t.isLt).2 y = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [pay3_at, read_unread_whole]
  · rw [outsAt0_B m c t h (by omega) h3]
    frame_out
    rw [pay3_at, read_unread_whole]

/-- The block written after the last part is the accumulator, times the residual's factor. -/
theorem out_last (c : Dev nD) (t : Fin cfg0.N) (h3 : t.val % 4 = 3) (y : S1408x1024.Idx) :
    (outsAt0 m c t.val t.isLt).1 y = (outsAt0 m c t.val t.isLt).2 y * Ideal.ofBits .f32 0x3F000000#32 := by
  rw [outsAt0_C m c t (by omega) (by omega) h3]
  frame_out
  rw [pay4_at]

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem final (c : Dev nD) (i : S2816x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t hf y => ?_) i
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p y => part (iblk m c 0 p) (iblk m c 1 p) y)
    (fun t h j => acc_first m c t h j) (fun t h j => acc_next m c t h j) t h3 _, zero_add]
  unfold part G
  congr 1
  refine Fin.sum_mul_add_congr fun s k hl => ?_
  have hN : t.val < 8 := lt_of_lt_of_eq t.isLt (show cfg0.N = 8 from N_0)
  blk_point [iblk, V, idx t, idx ⟨_, Pipeline.run_point_lt_of_flush t h3 s⟩]

end Cert.Kernel9Ideal.Weight

end
-- ==== Proof.Claim9.lean ====
module

public import proofs.«01_k».proof.Proof.DownW
public import proofs.«01_k».proof.Proof.Gen.Kernel9.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the weight of the product down. -/

namespace Cert.Proof

theorem frame9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- A factor of one half, inside a sum or outside it. -/
theorem sum_half {n : Nat} (f g : Fin n → EReal) :
    ∑ k, Ideal.ofBits .f32 0x3F000000#32 * f k * g k = (∑ k, f k * g k) * Ideal.ofBits .f32 0x3F000000#32 := by
  have hr : ∃ r : ℝ, 0 ≤ r ∧ Ideal.ofBits .f32 0x3F000000#32 = (r : EReal) := ⟨1 / 2, by norm_num, by
    simp [Ideal.ofBits, Ideal.ieee, -EReal.coe_mul]; try norm_num⟩
  obtain ⟨r, h0, e⟩ := hr
  rw [e, mul_comm (∑ k, f k * g k)]
  have key : ∀ s : Finset (Fin n), ∑ k ∈ s, (r : EReal) * f k * g k = (r : EReal) * ∑ k ∈ s, f k * g k := by
    intro s
    induction s using Finset.induction_on with
    | empty => simp
    | insert a s ha ih =>
      rw [Finset.sum_insert ha, Finset.sum_insert ha, ih, EReal.left_distrib_of_nonneg_of_ne_top (EReal.coe_nonneg.mpr h0) (EReal.coe_ne_top r), mul_assoc]
  exact key Finset.univ

theorem res9_at (x0 : FVec Ideal Cert.Kernel9Ideal.S8192x2816 .bf16) (x1 : FVec Ideal Cert.Kernel9Ideal.S8192x1024 .f32) (i : Cert.Kernel9Ideal.S2816x1024.Idx) :
    Cert.Reference9Ideal.Ref.res0 x0 x1 i = Cert.Kernel9Ideal.Weight.G x0 x1 i := by
  unfold Cert.Reference9Ideal.Ref.res0 Cert.Kernel9Ideal.Weight.G
  pointwise
  rw [sum_half]
  refine congrArg (· * _) (Finset.sum_congr rfl fun k _ => mul_comm _ _)

theorem algebraic9 : Cert.algebraic_Kernel9Ideal_Reference9Ideal := by
  pair_intro
  · run_from Cert.Kernel9Ideal.Gen.run_main m g
  · refine (θ_run Cert.Reference9Ideal.defs _ _).mono (fun r h c => ⟨(h c).1.trans ?_, (h c).2⟩)
      (Cert.Reference9Ideal.Value.run (F := Ideal) m' g')
    obtain ⟨a0, a1⟩ := hagree c
    rw [a0, a1]
    funext i
    exact (res9_at _ _ i).trans (Cert.Kernel9Ideal.Weight.final m c i).symm

end Cert.Proof

end
-- ==== Proof.InProj.lean ====
module

public import proofs.«01_k».proof.Proof.Gen.Kernel10Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The input projection: each block of the product, and the whole array. -/

open Idealize.ShloMosaic Idealize.ShloMosaic.TcCoe Idealize.SL.Sem
open Idealize.ShloMosaic.Pipeline (Dat)

namespace Cert.Kernel10Ideal.Prod

open Cert.Kernel10Ideal Cert.Kernel10Ideal.Gen

/-- The product with the weight. -/
def G (x0 : FVec Ideal S8192x1024 .bf16) (x1 : FVec Ideal S1024x10368 .f32) (i : S8192x10368.Idx) : EReal :=
  ∑ k : Fin 1024, x0 (ix2 (i 0) k) * x1 (ix2 k (i 1))

/-- The same over the blocks of a point. -/
def B (x0 : FVec Ideal S2048x1024 .bf16) (x1 : FVec Ideal S1024x1152 .f32) (y : S2048x1152.Idx) : EReal :=
  ∑ k : Fin 1024, x0 (ix2 (y 0) k) * x1 (ix2 k (y 1))

theorem out_at (x0 : FVec Ideal S2048x1024 .bf16) (x1 : FVec Ideal S1024x1152 .f32) (y : S2048x1152.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![t.val / 9, 0] ∧ win0_1.index t = ![0, t.val % 9] ∧ win0_2.index t = ![t.val / 9, t.val % 9] :=
  (by decide +kernel : ∀ t : Fin grid0.N, _)

theorem final (c : Dev nD) (i : S8192x10368.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel10Ideal.Prod

end
-- ==== Proof.Ref10.lean ====
module

public import proofs.«01_k».proof.Defs
public import proofs.«01_k».proof.Proof.Gen.Reference10Ideal.Run

@[expose] public section

set_option maxRecDepth 16384

noncomputable section

/-! The results of the reference as terms over its argument arrays. -/

namespace Cert.Reference10Ideal.Ref

open Cert.Reference10Ideal Cert.Reference10Ideal.Gen Idealize.ShloMosaic Idealize.ShloMosaic.TcCoe Idealize.SL.Sem

/-- Result 0 of the reference. -/
abbrev res0 (x0 : FVec Ideal S8192x1024 .bf16) (x1 : FVec Ideal S1024x10368 .f32) : FVec Ideal S8192x10368 .f32 :=
  Host.dotGeneral dot_S8192x1024_S1024x10368_S8192x10368_1_0_0_1_n_n none (extf .f32 x0 bitsLt_bf16_f32) x1

end Cert.Reference10Ideal.Ref

end
-- ==== Proof.Claim10.lean ====
module

public import proofs.«01_k».proof.Proof.InProj
public import proofs.«01_k».proof.Proof.Ref10
public import proofs.«01_k».proof.Proof.Gen.Kernel10.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the input projection. -/

namespace Cert.Proof

theorem frame10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem res10_at (x0 : FVec Ideal Cert.Kernel10Ideal.S8192x1024 .bf16) (x1 : FVec Ideal Cert.Kernel10Ideal.S1024x10368 .f32) (i : Cert.Kernel10Ideal.S8192x10368.Idx) :
    Cert.Reference10Ideal.Ref.res0 x0 x1 i = Cert.Kernel10Ideal.Prod.G x0 x1 i := by
  unfold Cert.Reference10Ideal.Ref.res0 Cert.Kernel10Ideal.Prod.G
  pointwise

theorem algebraic10 : Cert.algebraic_Kernel10Ideal_Reference10Ideal := by
  pair_intro
  · run_from Cert.Kernel10Ideal.Gen.run_main m g
  · refine (θ_run Cert.Reference10Ideal.defs _ _).mono (fun r h c => ⟨(h c).1.trans ?_, (h c).2⟩)
      (Cert.Reference10Ideal.Value.run (F := Ideal) m' g')
    obtain ⟨a0, a1⟩ := hagree c
    rw [a0, a1]
    funext i
    exact (res10_at _ _ i).trans (Cert.Kernel10Ideal.Prod.final m c i).symm

end Cert.Proof

end
-- ==== Proof.GateUp.lean ====
module

public import proofs.«01_k».proof.Proof.Gen.Kernel11Ideal.Frame
public import Idealize.ShloMosaic.Lib.Pointwise
public import Idealize.ShloMosaic.Lib.Pipeline.ValueKit

@[expose] public section

set_option maxRecDepth 16384

noncomputable section

/-! The gate and the up products of the feed-forward block and the activation: each block, and the three arrays. -/

open Idealize.ShloMosaic Idealize.ShloMosaic.TcCoe Idealize.SL.Sem
open Idealize.ShloMosaic.Pipeline (Dat)

namespace Cert.Kernel11Ideal.Gate

open Cert.Kernel11Ideal Cert.Kernel11Ideal.Gen

/-- The product of a block of rows with two weight shards side by side. -/
def prodB (x0 : FVec Ideal S512x1024 .bf16) (x1 : FVec Ideal S2x1024x1408 .f32) (i : Fin 512) (j : Fin 2816) : EReal :=
  if h : j.val < 1408 then ∑ k : Fin 1024, x0 (ix2 i k) * x1 (ix3 0 k ⟨j.val, h⟩)
  else ∑ k : Fin 1024, x0 (ix2 i k) * x1 (ix3 1 k ⟨j.val - 1408, by omega⟩)

/-- The product of all rows with the weight shards `a` and `b` side by side. -/
def prodAll (a b : Fin 4) (x0 : FVec Ideal S8192x1024 .bf16) (x1 : FVec Ideal S4x1024x1408 .f32) (i : Fin 8192) (j : Fin 2816) : EReal :=
  if h : j.val < 1408 then ∑ k : Fin 1024, x0 (ix2 i k) * x1 (ix3 a k ⟨j.val, h⟩)
  else ∑ k : Fin 1024, x0 (ix2 i k) * x1 (ix3 b k ⟨j.val - 1408, by omega⟩)

/-- The activation of a gate and an up entry. -/
def actOf (g u : EReal) : EReal := g * Ideal.logistic g * u

theorem prodB_lo (x0 : FVec Ideal S512x1024 .bf16) (x1 : FVec Ideal S2x1024x1408 .f32) (i i' : Fin 512) (j : Fin 2816) (q : Fin 1408)
    (hi : (i : ℕ) = i') (hj : (j : ℕ) = q) : ∑ k : Fin 1024, x0 (ix2 i' k) * x1 (ix3 0 k q) = prodB x0 x1 i j := by
  obtain rfl : i = i' := Fin.ext hi
  have e : q = ⟨j.val, by have := q.isLt; omega⟩ := Fin.ext hj.symm
  unfold prodB
  rw [dif_pos (by have := q.isLt; omega)]
  exact congrArg (fun r => ∑ k : Fin 1024, x0 (ix2 i k) * x1 (ix3 0 k r)) e

theorem prodB_hi (x0 : FVec Ideal S512x1024 .bf16) (x1 : FVec Ideal S2x1024x1408 .f32) (i i' : Fin 512) (j : Fin 2816) (q : Fin 1408)
    (hi : (i : ℕ) = i') (hj : (j : ℕ) = 1408 + q) : ∑ k : Fin 1024, x0 (ix2 i' k) * x1 (ix3 1 k q) = prodB x0 x1 i j := by
  obtain rfl : i = i' := Fin.ext hi
  have e : q = ⟨j.val - 1408, by omega⟩ := Fin.ext (by show (q : ℕ) = (j : ℕ) - 1408; omega)
  unfold prodB
  rw [dif_neg (by omega)]
  exact congrArg (fun r => ∑ k : Fin 1024, x0 (ix2 i k) * x1 (ix3 1 k r)) e

variable (m : (ℓ : Loc nD τ sig) → Buf (Elt Ideal) ℓ)

theorem idx : ∀ t : Fin cfg0.N, win0_0.index t = ![t.val, 0] ∧ win0_1.index t = ![0, 0, 0] ∧ win0_2.index t = ![1, 0, 0] ∧ win0_3.index t = ![t.val, 0]
    ∧ win0_4.index t = ![t.val, 0] ∧ win0_5.index t = ![t.val, 0] :=
  (by decide +kernel : ∀ t : Fin grid0.N, _)

theorem out3 (c : Dev nD) (t : Fin cfg0.N) (y : S512x2816.Idx) :
    (outsAt0 m c t).1 y = prodB (iblk m c 0 t) (iblk m c 1 t) (y 0) (y 1) := by
  unfold outsAt0
  generalize (iblk m c 0 t) = x0
  generalize (iblk m c 1 t) = x1
  generalize (iblk m c 2 t) = x2
  frame_out
  canon_tiles x h using View.cover_of_tiledBy _ ![512, 128] (by sl_kernel_rfl) y
  all_goals (open_payloads; pointwise)
  all_goals first | exact prodB_hi _ _ _ _ _ _ h0 (by dsimp only; omega) | exact prodB_lo _ _ _ _ _ _ h0 (by dsimp only; omega)

theorem out4 (c : Dev nD) (t : Fin cfg0.N) (y : S512x2816.Idx) :
    (outsAt0 m c t).2.1 y = prodB (iblk m c 0 t) (iblk m c 2 t) (y 0) (y 1) := by
  unfold outsAt0
  generalize (iblk m c 0 t) = x0
  generalize (iblk m c 1 t) = x1
  generalize (iblk m c 2 t) = x2
  frame_out
  canon_tiles x h using View.cover_of_tiledBy _ ![512, 128] (by sl_kernel_rfl) y
  all_goals (open_payloads; pointwise)
  all_goals first | exact prodB_hi _ _ _ _ _ _ h0 (by dsimp only; omega) | exact prodB_lo _ _ _ _ _ _ h0 (by dsimp only; omega)

theorem out5 (c : Dev nD) (t : Fin cfg0.N) (y : S512x2816.Idx) :
    (outsAt0 m c t).2.2 y = actOf (prodB (iblk m c 0 t) (iblk m c 1 t) (y 0) (y 1)) (prodB (iblk m c 0 t) (iblk m c 2 t) (y 0) (y 1)) := by
  unfold outsAt0
  generalize (iblk m c 0 t) = x0
  generalize (iblk m c 1 t) = x1
  generalize (iblk m c 2 t) = x2
  frame_out
  canon_tiles x h using View.cover_of_tiledBy _ ![512, 128] (by sl_kernel_rfl) y
  all_goals (open_payloads; pointwise; try simp only [← Ideal.logistic.eq_1])
  all_goals refine Eq.trans (b := actOf _ _) rfl (congrArg₂ actOf ?_ ?_)
  all_goals first | exact prodB_hi _ _ _ _ _ _ h0 (by dsimp only; omega) | exact prodB_lo _ _ _ _ _ _ h0 (by dsimp only; omega)

/-- A block of the gate product is the whole one's rows of the point. -/
theorem gate_block (c : Dev nD) (t : Fin cfg0.N) (p : Fin 512) (q : Fin 2816) (i : Fin 8192) (j : Fin 2816) (hi : (i : ℕ) = t.val * 512 + p) (hj : (j : ℕ) = q) :
    prodB (iblk m c 0 t) (iblk m c 1 t) p q = prodAll 0 1 (m ((c : Thread nD τ).loc main_arg0)) (m ((c : Thread nD τ).loc main_arg1)) i j := by
  obtain rfl : j = q := Fin.ext hj
  unfold prodB prodAll
  by_cases h : j.val < 1408
  · rw [dif_pos h, dif_pos h]
    blk_point [iblk, V, idx t]
  · rw [dif_neg h, dif_neg h]
    blk_point [iblk, V, idx t]

/-- A block of the up product is the whole one's rows of the point. -/
theorem up_block (c : Dev nD) (t : Fin cfg0.N) (p : Fin 512) (q : Fin 2816) (i : Fin 8192) (j : Fin 2816) (hi : (i : ℕ) = t.val * 512 + p) (hj : (j : ℕ) = q) :
    prodB (iblk m c 0 t) (iblk m c 2 t) p q = prodAll 2 3 (m ((c : Thread nD τ).loc main_arg0)) (m ((c : Thread nD τ).loc main_arg1)) i j := by
  obtain rfl : j = q := Fin.ext hj
  unfold prodB prodAll
  by_cases h : j.val < 1408
  · rw [dif_pos h, dif_pos h]
    blk_point [iblk, V, idx t]
  · rw [dif_neg h, dif_neg h]
    blk_point [iblk, V, idx t]

theorem final3 (c : Dev nD) (i : S8192x2816.Idx) : (dats m 0 c).arrAt 3 (cfgs 0).N i
    = prodAll 0 1 (m ((c : Thread nD τ).loc main_arg0)) (m ((c : Thread nD τ).loc main_arg1)) (i 0) (i 1) := by
  refine congrFun ((dats m 0 c).arrAt_eq_of_covers 3 (fun i => prodAll 0 1 (m ((c : Thread nD τ).loc main_arg0)) (m ((c : Thread nD τ).loc main_arg1)) (i 0) (i 1)) (by decide +kernel) fun t _ y => ?_) i
  blk_simp
  rw [after0_3, out3]
  refine gate_block m c t _ _ _ _ ?_ ?_
  all_goals blk_simp [idx t]

theorem final4 (c : Dev nD) (i : S8192x2816.Idx) : (dats m 0 c).arrAt 4 (cfgs 0).N i
    = prodAll 2 3 (m ((c : Thread nD τ).loc main_arg0)) (m ((c : Thread nD τ).loc main_arg1)) (i 0) (i 1) := by
  refine congrFun ((dats m 0 c).arrAt_eq_of_covers 4 (fun i => prodAll 2 3 (m ((c : Thread nD τ).loc main_arg0)) (m ((c : Thread nD τ).loc main_arg1)) (i 0) (i 1)) (by decide +kernel) fun t _ y => ?_) i
  blk_simp
  rw [after0_4, out4]
  refine up_block m c t _ _ _ _ ?_ ?_
  all_goals blk_simp [idx t]

theorem final5 (c : Dev nD) (i : S8192x2816.Idx) : (dats m 0 c).arrAt 5 (cfgs 0).N i
    = actOf (prodAll 0 1 (m ((c : Thread nD τ).loc main_arg0)) (m ((c : Thread nD τ).loc main_arg1)) (i 0) (i 1)) (prodAll 2 3 (m ((c : Thread nD τ).loc main_arg0)) (m ((c : Thread nD τ).loc main_arg1)) (i 0) (i 1)) := by
  refine congrFun ((dats m 0 c).arrAt_eq_of_covers 5 (fun i => actOf (prodAll 0 1 (m ((c : Thread nD τ).loc main_arg0)) (m ((c : Thread nD τ).loc main_arg1)) (i 0) (i 1)) (prodAll 2 3 (m ((c : Thread nD τ).loc main_arg0)) (m ((c : Thread nD τ).loc main_arg1)) (i 0) (i 1))) (by decide +kernel) fun t _ y => ?_) i
  blk_simp
  rw [after0_5, out5]
  refine congrArg₂ actOf (gate_block m c t _ _ _ _ ?_ ?_) (up_block m c t _ _ _ _ ?_ ?_)
  all_goals blk_simp [idx t]

end Cert.Kernel11Ideal.Gate

end
-- ==== Proof.Ref11.lean ====
module

public import proofs.«01_k».proof.Defs
public import proofs.«01_k».proof.Proof.Gen.Reference11Ideal.Run

@[expose] public section

set_option maxRecDepth 16384

noncomputable section

/-! The results of the reference as terms over its argument arrays. -/

namespace Cert.Reference11Ideal.Ref

open Cert.Reference11Ideal Cert.Reference11Ideal.Gen Idealize.ShloMosaic Idealize.ShloMosaic.TcCoe Idealize.SL.Sem

/-- Result 0 of the reference. -/
abbrev res0 (x0 : FVec Ideal S8192x1024 .bf16) (x1 : FVec Ideal S4x1024x1408 .f32) : FVec Ideal S8192x2816 .bf16 :=
  truncf .bf16 (extractStridedSlice S8192x2816 ![0, 0] (Host.dotGeneral dot_S8192x1024_S1024x5632_S8192x5632_1_0_0_1_n_n none (extf .f32 x0 bitsLt_bf16_f32) ((concatenate S1024x5632 1 [⟨S1024x1408, ((shapeCast _ (extractStridedSlice S1x1024x1408 ![0, 0, 0] x1 slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] x1 slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] x1 slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] x1 slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : FVec Ideal S1024x5632 .f32))) slices_S8192x5632_S8192x2816_0_0) bitsLt_bf16_f32

/-- Result 1 of the reference. -/
abbrev res1 (x0 : FVec Ideal S8192x1024 .bf16) (x1 : FVec Ideal S4x1024x1408 .f32) : FVec Ideal S8192x2816 .bf16 :=
  truncf .bf16 (extractStridedSlice S8192x2816 ![0, 2816] (Host.dotGeneral dot_S8192x1024_S1024x5632_S8192x5632_1_0_0_1_n_n none (extf .f32 x0 bitsLt_bf16_f32) ((concatenate S1024x5632 1 [⟨S1024x1408, ((shapeCast _ (extractStridedSlice S1x1024x1408 ![0, 0, 0] x1 slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] x1 slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] x1 slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] x1 slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : FVec Ideal S1024x5632 .f32))) slices_S8192x5632_S8192x2816_0_2816) bitsLt_bf16_f32

/-- An intermediate array of the reference. -/
abbrev main_v17 (x0 : FVec Ideal S8192x1024 .bf16) (x1 : FVec Ideal S4x1024x1408 .f32) : FVec Ideal S8192x2816 .bf16 :=
  truncf .bf16 (mulf (mulf (extractStridedSlice S8192x2816 ![0, 0] (Host.dotGeneral dot_S8192x1024_S1024x5632_S8192x5632_1_0_0_1_n_n none (extf .f32 x0 bitsLt_bf16_f32) ((concatenate S1024x5632 1 [⟨S1024x1408, ((shapeCast _ (extractStridedSlice S1x1024x1408 ![0, 0, 0] x1 slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] x1 slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] x1 slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] x1 slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : FVec Ideal S1024x5632 .f32))) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (Host.dotGeneral dot_S8192x1024_S1024x5632_S8192x5632_1_0_0_1_n_n none (extf .f32 x0 bitsLt_bf16_f32) ((concatenate S1024x5632 1 [⟨S1024x1408, ((shapeCast _ (extractStridedSlice S1x1024x1408 ![0, 0, 0] x1 slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] x1 slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] x1 slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] x1 slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : FVec Ideal S1024x5632 .f32))) slices_S8192x5632_S8192x2816_0_0)))))) (extractStridedSlice S8192x2816 ![0, 2816] (Host.dotGeneral dot_S8192x1024_S1024x5632_S8192x5632_1_0_0_1_n_n none (extf .f32 x0 bitsLt_bf16_f32) ((concatenate S1024x5632 1 [⟨S1024x1408, ((shapeCast _ (extractStridedSlice S1x1024x1408 ![0, 0, 0] x1 slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] x1 slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] x1 slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] x1 slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : FVec Ideal S1024x5632 .f32))) slices_S8192x5632_S8192x2816_0_2816)) bitsLt_bf16_f32

/-- Result 2 of the reference. -/
abbrev res2 (x0 : FVec Ideal S8192x1024 .bf16) (x1 : FVec Ideal S4x1024x1408 .f32) : FVec Ideal S8192x2816 .bf16 :=
  (main_v17 x0 x1)

end Cert.Reference11Ideal.Ref

end
-- ==== Proof.Claim11.lean ====
module

public import proofs.«01_k».proof.Proof.GateUp
public import proofs.«01_k».proof.Proof.Real
public import proofs.«01_k».proof.Proof.Ref11
public import proofs.«01_k».proof.Proof.Gen.Kernel11.Frame
public import Idealize.ShloMosaic.Lib.Claim
public import Idealize.ShloMosaic.Lib.Quiescent

@[expose] public section

set_option maxRecDepth 16384

noncomputable section

open Idealize.ShloMosaic Idealize.ShloMosaic.TcCoe Idealize.SL.Sem
open Cert.Kernel11Ideal.Gate (prodAll actOf)

/-! The claims about the feed-forward block's gate and up products. -/

namespace Cert.Proof

theorem frame11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem gate11_at (x0 : FVec Ideal Cert.Kernel11Ideal.S8192x1024 .bf16) (x1 : FVec Ideal Cert.Kernel11Ideal.S4x1024x1408 .f32) (p : Fin 8192) (q : Fin 2816) :
    Cert.Reference11Ideal.Ref.res0 x0 x1 (ix2 p q) = prodAll 0 1 x0 x1 p q := by
  have hq := q.isLt
  unfold Cert.Reference11Ideal.Ref.res0 prodAll
  pointwise
  by_cases h : q.val < 1408
  · simp only [dif_pos h]
  · simp only [dif_neg h, dif_pos (show q.val - 1408 < 1408 by omega)]

theorem up11_at (x0 : FVec Ideal Cert.Kernel11Ideal.S8192x1024 .bf16) (x1 : FVec Ideal Cert.Kernel11Ideal.S4x1024x1408 .f32) (p : Fin 8192) (q : Fin 2816) :
    Cert.Reference11Ideal.Ref.res1 x0 x1 (ix2 p q) = prodAll 2 3 x0 x1 p q := by
  have hq := q.isLt
  unfold Cert.Reference11Ideal.Ref.res1 prodAll
  pointwise
  by_cases h : q.val < 1408
  · have e : 2816 + q.val - 1408 - 1408 = q.val := by omega
    simp only [dif_pos h, dif_neg (show ¬2816 + q.val < 1408 by omega), dif_neg (show ¬2816 + q.val - 1408 < 1408 by omega),
      dif_pos (show 2816 + q.val - 1408 - 1408 < 1408 by omega), e]
  · have e : 2816 + q.val - 1408 - 1408 - 1408 = q.val - 1408 := by omega
    simp only [dif_neg h, dif_neg (show ¬2816 + q.val < 1408 by omega), dif_neg (show ¬2816 + q.val - 1408 < 1408 by omega),
      dif_neg (show ¬2816 + q.val - 1408 - 1408 < 1408 by omega), e]

theorem act11_at (x0 : FVec Ideal Cert.Kernel11Ideal.S8192x1024 .bf16) (x1 : FVec Ideal Cert.Kernel11Ideal.S4x1024x1408 .f32) (p : Fin 8192) (q : Fin 2816) :
    Cert.Reference11Ideal.Ref.res2 x0 x1 (ix2 p q) = actOf (prodAll 0 1 x0 x1 p q) (prodAll 2 3 x0 x1 p q) := by
  have hq := q.isLt
  rw [← gate11_at, ← up11_at]
  unfold Cert.Reference11Ideal.Ref.res2 Cert.Reference11Ideal.Ref.main_v17 Cert.Reference11Ideal.Ref.res0 Cert.Reference11Ideal.Ref.res1 actOf Ideal.logistic
  pointwise

theorem res2_val11 (m' : (ℓ : Loc Cert.Reference11Ideal.nD Cert.Reference11Ideal.τ Cert.Reference11Ideal.sig) → Buf (Elt Ideal) ℓ) (c : Dev Cert.Reference11Ideal.nD) :
    Cert.Reference11Ideal.Value.res_main_v17 (F := Ideal) m' c
      = Cert.Reference11Ideal.Ref.res2 (m' ((c.tc : Thread _ _).loc Cert.Reference11Ideal.main_arg0)) (m' ((c.tc : Thread _ _).loc Cert.Reference11Ideal.main_arg1)) := rfl

theorem algebraic11 : Cert.algebraic_Kernel11Ideal_Reference11Ideal := by
  pair_intro
  · run_from Cert.Kernel11Ideal.Gen.run_main m g
  · refine (θ_run Cert.Reference11Ideal.defs _ _).mono (fun r h c => ⟨(h c).1.trans ?_, (h c).2.1.trans ?_, (h c).2.2.1.trans ?_, (h c).2.2.2⟩)
      (Cert.Reference11Ideal.Value.run (F := Ideal) m' g')
    · obtain ⟨a0, a1⟩ := hagree c
      rw [a0, a1]
      funext i
      refine Eq.trans ?_ (Cert.Kernel11Ideal.Gate.final3 m c i).symm
      rw [eq_ix2 i]
      exact gate11_at _ _ (i 0) (i 1)
    · obtain ⟨a0, a1⟩ := hagree c
      rw [a0, a1]
      funext i
      refine Eq.trans ?_ (Cert.Kernel11Ideal.Gate.final4 m c i).symm
      rw [eq_ix2 i]
      exact up11_at _ _ (i 0) (i 1)
    · refine (res2_val11 m' c).trans ?_
      obtain ⟨a0, a1⟩ := hagree c
      rw [a0, a1]
      funext i
      refine Eq.trans ?_ (Cert.Kernel11Ideal.Gate.final5 m c i).symm
      rw [eq_ix2 i]
      exact act11_at _ _ (i 0) (i 1)

end Cert.Proof

end
-- ==== Proof.DownN.lean ====
module

public import proofs.«01_k».proof.Proof.Gen.Kernel12Ideal.Frame
public import proofs.«01_k».proof.Proof.Ffn
public import Idealize.ShloMosaic.Lib.Pipeline.ReadBack
public import Idealize.ShloMosaic.Lib.Pointwise
public import Idealize.ShloMosaic.Lib.Pipeline.ValueKit

@[expose] public section

set_option maxRecDepth 16384

noncomputable section

/-! The feed-forward block's product down and the normalised rows after it: each block, and the two arrays. -/

open Idealize.ShloMosaic Idealize.ShloMosaic.TcCoe Idealize.SL.Sem
open Idealize.ShloMosaic.Pipeline (Dat)
open Cert.Kernel5Ideal.Ffn (rr)

namespace Cert.Kernel12Ideal.Prod

open Cert.Kernel12Ideal Cert.Kernel12Ideal.Gen

/-- Half the product with the weight, and the residual. -/
def row (x0 : FVec Ideal S8192x2816 .bf16) (x1 : FVec Ideal S2816x1024 .f32) (x2 : FVec Ideal S8192x1024 .f32) (p : Fin 8192) (q : Fin 1024) : EReal :=
  (∑ k : Fin 2816, x0 (ix2 p k) * x1 (ix2 k q)) * Ideal.ofBits .f32 0x3F000000#32 + x2 (ix2 p q)

/-- The same over a block. -/
def rowB (x0 : FVec Ideal S1024x2816 .bf16) (x1 : FVec Ideal S2816x1024 .f32) (x2 : FVec Ideal S1024x1024 .f32) (p q : Fin 1024) : EReal :=
  (∑ k : Fin 2816, x0 (ix2 p k) * x1 (ix2 k q)) * Ideal.ofBits .f32 0x3F000000#32 + x2 (ix2 p q)

/-- The first result array. -/
def G4 (x0 : FVec Ideal S8192x2816 .bf16) (x1 : FVec Ideal S2816x1024 .f32) (x2 : FVec Ideal S8192x1024 .f32) (i : S8192x1024.Idx) : EReal := row x0 x1 x2 (i 0) (i 1)

/-- The second: the rows normalised, times the gain. -/
def G5 (x0 : FVec Ideal S8192x2816 .bf16) (x1 : FVec Ideal S2816x1024 .f32) (x2 : FVec Ideal S8192x1024 .f32) (x3 : FVec Ideal S1x1024 .f32) (i : S8192x1024.Idx) : EReal :=
  row x0 x1 x2 (i 0) (i 1) * rr (∑ k : Fin 1024, row x0 x1 x2 (i 0) k * row x0 x1 x2 (i 0) k) * x3 (ix2 0 (i 1))

/-- The same over a block. -/
def B5 (x0 : FVec Ideal S1024x2816 .bf16) (x1 : FVec Ideal S2816x1024 .f32) (x2 : FVec Ideal S1024x1024 .f32) (x3 : FVec Ideal S1x1024 .f32) (i : S1024x1024.Idx) : EReal :=
  rowB x0 x1 x2 (i 0) (i 1) * rr (∑ k : Fin 1024, rowB x0 x1 x2 (i 0) k * rowB x0 x1 x2 (i 0) k) * x3 (ix2 0 (i 1))

theorem out4_at (x0 : FVec Ideal S1024x2816 .bf16) (x1 : FVec Ideal S2816x1024 .f32) (x2 : FVec Ideal S1024x1024 .f32) (x3 : FVec Ideal S1x1024 .f32) (y : S1024x1024.Idx) : out0_4 (F := Ideal) x0 x1 x2 x3 y = rowB x0 x1 x2 (y 0) (y 1) := by
  unfold out0_4
  unfold rowB
  canon_tiles x h
  all_goals (open_payloads; pointwise; try blk_point [])

theorem out5_at (x0 : FVec Ideal S1024x2816 .bf16) (x1 : FVec Ideal S2816x1024 .f32) (x2 : FVec Ideal S1024x1024 .f32) (x3 : FVec Ideal S1x1024 .f32) (y : S1024x1024.Idx) : out0_5 (F := Ideal) x0 x1 x2 x3 y = B5 x0 x1 x2 x3 y := by
  unfold out0_5
  unfold B5 rowB rr
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem final4 (c : Dev nD) (i : S8192x1024.Idx) : (dats m 0 c).arrAt 4 (cfgs 0).N i = G4 (m ((c : Thread nD τ).loc main_arg0)) (m ((c : Thread nD τ).loc main_arg1)) (m ((c : Thread nD τ).loc main_arg2)) i := by
  refine congrFun ((dats m 0 c).arrAt_eq_of_covers 4 (fun i => G4 (m ((c : Thread nD τ).loc main_arg0)) (m ((c : Thread nD τ).loc main_arg1)) (m ((c : Thread nD τ).loc main_arg2)) i) (by decide +kernel) fun t _ y => ?_) i
  blk_simp
  rw [after0_4, out4_at]
  unfold G4 row rowB
  blk_point [iblk, V, idx t]

theorem final5 (c : Dev nD) (i : S8192x1024.Idx) : (dats m 0 c).arrAt 5 (cfgs 0).N i = G5 (m ((c : Thread nD τ).loc main_arg0)) (m ((c : Thread nD τ).loc main_arg1)) (m ((c : Thread nD τ).loc main_arg2)) (m ((c : Thread nD τ).loc main_arg3)) i := by
  refine congrFun ((dats m 0 c).arrAt_eq_of_covers 5 (fun i => G5 (m ((c : Thread nD τ).loc main_arg0)) (m ((c : Thread nD τ).loc main_arg1)) (m ((c : Thread nD τ).loc main_arg2)) (m ((c : Thread nD τ).loc main_arg3)) i) (by decide +kernel) fun t _ y => ?_) i
  blk_simp
  rw [after0_5, out5_at]
  unfold G5 B5 row rowB
  blk_point [iblk, V, idx t]

end Cert.Kernel12Ideal.Prod

end
-- ==== Proof.Ref12.lean ====
module

public import proofs.«01_k».proof.Defs
public import proofs.«01_k».proof.Proof.Gen.Reference12Ideal.Run

@[expose] public section

set_option maxRecDepth 16384

noncomputable section

/-! The results of the reference as terms over its argument arrays. -/

namespace Cert.Reference12Ideal.Ref

open Cert.Reference12Ideal Cert.Reference12Ideal.Gen Idealize.ShloMosaic Idealize.ShloMosaic.TcCoe Idealize.SL.Sem

/-- Result 0 of the reference. -/
abbrev res0 (x0 : FVec Ideal S8192x2816 .bf16) (x1 : FVec Ideal S2816x1024 .f32) (x2 : FVec Ideal S8192x1024 .f32) (x3 : FVec Ideal S1x1024 .f32) : FVec Ideal S8192x1024 .f32 :=
  addf x2 (mulf (broadcastInDim S8192x1024 ![] bcast_S_S8192x1024 (constant S_ .f32 0x3F000000#32)) (Host.dotGeneral dot_S8192x2816_S2816x1024_S8192x1024_1_0_0_1_n_n none (extf .f32 x0 bitsLt_bf16_f32) x1))

/-- Result 1 of the reference. -/
abbrev res1 (x0 : FVec Ideal S8192x2816 .bf16) (x1 : FVec Ideal S2816x1024 .f32) (x2 : FVec Ideal S8192x1024 .f32) (x3 : FVec Ideal S1x1024 .f32) : FVec Ideal S8192x1024 .bf16 :=
  truncf .bf16 (mulf (mulf (addf x2 (mulf (broadcastInDim S8192x1024 ![] bcast_S_S8192x1024 (constant S_ .f32 0x3F000000#32)) (Host.dotGeneral dot_S8192x2816_S2816x1024_S8192x1024_1_0_0_1_n_n none (extf .f32 x0 bitsLt_bf16_f32) x1))) (broadcastInDim S8192x1024 ![0, 1] bcast_S8192x1_S8192x1024_0_1 (Host.rsqrt (addf (Host.divf (broadcastInDim S8192x1 ![0] bcast_S8192_S8192x1_0 (Host.reduceAdd (mulf (addf x2 (mulf (broadcastInDim S8192x1024 ![] bcast_S_S8192x1024 (constant S_ .f32 0x3F000000#32)) (Host.dotGeneral dot_S8192x2816_S2816x1024_S8192x1024_1_0_0_1_n_n none (extf .f32 x0 bitsLt_bf16_f32) x1))) (addf x2 (mulf (broadcastInDim S8192x1024 ![] bcast_S_S8192x1024 (constant S_ .f32 0x3F000000#32)) (Host.dotGeneral dot_S8192x2816_S2816x1024_S8192x1024_1_0_0_1_n_n none (extf .f32 x0 bitsLt_bf16_f32) x1)))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x3)) bitsLt_bf16_f32

end Cert.Reference12Ideal.Ref

end
-- ==== Proof.Claim12.lean ====
module

public import proofs.«01_k».proof.Proof.DownN
public import proofs.«01_k».proof.Proof.Ref12
public import proofs.«01_k».proof.Proof.Gen.Kernel12.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the first feed-forward block's product down. -/

namespace Cert.Proof

theorem frame12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem sum12 (x0 : FVec Ideal Cert.Kernel12Ideal.S8192x2816 .bf16) (x1 : FVec Ideal Cert.Kernel12Ideal.S2816x1024 .f32) (x2 : FVec Ideal Cert.Kernel12Ideal.S8192x1024 .f32)
    (x3 : FVec Ideal Cert.Kernel12Ideal.S1x1024 .f32)
    (p : Fin 8192) (q : Fin 1024) : Cert.Reference12Ideal.Ref.res0 x0 x1 x2 x3 (ix2 p q) = Cert.Kernel12Ideal.Prod.row x0 x1 x2 p q := by
  unfold Cert.Reference12Ideal.Ref.res0 Cert.Kernel12Ideal.Prod.row
  pointwise
  rw [add_comm, mul_comm]

theorem res12_at (x0 : FVec Ideal Cert.Kernel12Ideal.S8192x2816 .bf16) (x1 : FVec Ideal Cert.Kernel12Ideal.S2816x1024 .f32) (x2 : FVec Ideal Cert.Kernel12Ideal.S8192x1024 .f32)
    (x3 : FVec Ideal Cert.Kernel12Ideal.S1x1024 .f32)
    (i : Cert.Kernel12Ideal.S8192x1024.Idx) : Cert.Reference12Ideal.Ref.res0 x0 x1 x2 x3 i = Cert.Kernel12Ideal.Prod.G4 x0 x1 x2 i := by
  rw [eq_ix2 i]
  exact sum12 x0 x1 x2 x3 (i 0) (i 1)

theorem norm12_at (x0 : FVec Ideal Cert.Kernel12Ideal.S8192x2816 .bf16) (x1 : FVec Ideal Cert.Kernel12Ideal.S2816x1024 .f32) (x2 : FVec Ideal Cert.Kernel12Ideal.S8192x1024 .f32)
    (x3 : FVec Ideal Cert.Kernel12Ideal.S1x1024 .f32)
    (p : Fin 8192) (q : Fin 1024) : Cert.Reference12Ideal.Ref.res1 x0 x1 x2 x3 (ix2 p q) = Cert.Kernel12Ideal.Prod.G5 x0 x1 x2 x3 (ix2 p q) := by
  have e : ∀ (p : Fin 8192) (q : Fin 1024), Cert.Kernel12Ideal.Prod.row x0 x1 x2 p q
      = x2 (ix2 p q) + Ideal.ofBits .f32 0x3F000000#32 * ∑ k : Fin 2816, x0 (ix2 p k) * x1 (ix2 k q) := fun p q => by
    unfold Cert.Kernel12Ideal.Prod.row
    rw [add_comm, mul_comm]
  unfold Cert.Reference12Ideal.Ref.res1 Cert.Kernel12Ideal.Prod.G5 Cert.Kernel5Ideal.Ffn.rr
  pointwise
  simp only [e]

theorem algebraic12 : Cert.algebraic_Kernel12Ideal_Reference12Ideal := by
  pair_intro
  · run_from Cert.Kernel12Ideal.Gen.run_main m g
  · refine (θ_run Cert.Reference12Ideal.defs _ _).mono (fun r h c => ⟨(h c).1.trans ?_, (h c).2.1.trans ?_, (h c).2.2⟩)
      (Cert.Reference12Ideal.Value.run (F := Ideal) m' g')
    · obtain ⟨a0, a1, a2, a3⟩ := hagree c
      rw [a0, a1, a2]
      funext i
      exact (res12_at _ _ _ (m ((c.tc : Thread Cert.Kernel12Ideal.nD Cert.Kernel12Ideal.τ).loc Cert.Kernel12Ideal.main_arg3)) i).trans (Cert.Kernel12Ideal.Prod.final4 m c i).symm
    · obtain ⟨a0, a1, a2, a3⟩ := hagree c
      rw [a0, a1, a2, a3]
      funext i
      refine Eq.trans ?_ (Cert.Kernel12Ideal.Prod.final5 m c i).symm
      rw [eq_ix2 i]
      exact norm12_at _ _ _ _ (i 0) (i 1)

end Cert.Proof

end
-- ==== Proof.Down.lean ====
module

public import proofs.«01_k».proof.Proof.Gen.Kernel13Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The feed-forward block's product down: each block with the residual added, and the whole array. -/

open Idealize.ShloMosaic Idealize.ShloMosaic.TcCoe Idealize.SL.Sem
open Idealize.ShloMosaic.Pipeline (Dat)

namespace Cert.Kernel13Ideal.Prod

open Cert.Kernel13Ideal Cert.Kernel13Ideal.Gen

/-- Half the product with the weight, and the residual. -/
def G (x0 : FVec Ideal S8192x2816 .bf16) (x1 : FVec Ideal S2816x1024 .f32) (x2 : FVec Ideal S8192x1024 .f32) (i : S8192x1024.Idx) : EReal :=
  (∑ k : Fin 2816, x0 (ix2 (i 0) k) * x1 (ix2 k (i 1))) * Ideal.ofBits .f32 0x3F000000#32 + x2 i

/-- The same over the blocks of a point. -/
def B (x0 : FVec Ideal S1024x2816 .bf16) (x1 : FVec Ideal S2816x1024 .f32) (x2 : FVec Ideal S1024x1024 .f32) (y : S1024x1024.Idx) : EReal :=
  (∑ k : Fin 2816, x0 (ix2 (y 0) k) * x1 (ix2 k (y 1))) * Ideal.ofBits .f32 0x3F000000#32 + x2 y

theorem out_at (x0 : FVec Ideal S1024x2816 .bf16) (x1 : FVec Ideal S2816x1024 .f32) (x2 : FVec Ideal S1024x1024 .f32) (y : S1024x1024.Idx) : out0_3 (F := Ideal) x0 x1 x2 y = B x0 x1 x2 y := by
  unfold out0_3
  unfold B
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final (c : Dev nD) (i : S8192x1024.Idx) : (dats m 0 c).arrAt 3 (cfgs 0).N i
    = G (m ((c : Thread nD τ).loc main_arg0)) (m ((c : Thread nD τ).loc main_arg1)) (m ((c : Thread nD τ).loc main_arg2)) i := by
  refine congrFun ((dats m 0 c).arrAt_eq_of_covers 3 (fun i => G (m ((c : Thread nD τ).loc main_arg0)) (m ((c : Thread nD τ).loc main_arg1)) (m ((c : Thread nD τ).loc main_arg2)) i) (by decide +kernel) fun t _ y => ?_) i
  blk_simp
  rw [after0_3, out_at]
  unfold G B
  blk_point [iblk, V, idx t]

end Cert.Kernel13Ideal.Prod

end
-- ==== Proof.Ref13.lean ====
module

public import proofs.«01_k».proof.Defs
public import proofs.«01_k».proof.Proof.Gen.Reference13Ideal.Run

@[expose] public section

set_option maxRecDepth 16384

noncomputable section

/-! The results of the reference as terms over its argument arrays. -/

namespace Cert.Reference13Ideal.Ref

open Cert.Reference13Ideal Cert.Reference13Ideal.Gen Idealize.ShloMosaic Idealize.ShloMosaic.TcCoe Idealize.SL.Sem

/-- Result 0 of the reference. -/
abbrev res0 (x0 : FVec Ideal S8192x2816 .bf16) (x1 : FVec Ideal S2816x1024 .f32) (x2 : FVec Ideal S8192x1024 .f32) : FVec Ideal S8192x1024 .f32 :=
  addf x2 (mulf (broadcastInDim S8192x1024 ![] bcast_S_S8192x1024 (constant S_ .f32 0x3F000000#32)) (Host.dotGeneral dot_S8192x2816_S2816x1024_S8192x1024_1_0_0_1_n_n none (extf .f32 x0 bitsLt_bf16_f32) x1))

end Cert.Reference13Ideal.Ref

end
-- ==== Proof.Claim13.lean ====
module

public import proofs.«01_k».proof.Proof.Down
public import proofs.«01_k».proof.Proof.Ref13
public import proofs.«01_k».proof.Proof.Gen.Kernel13.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the second feed-forward block's product down. -/

namespace Cert.Proof

theorem frame13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem res13_at (x0 : FVec Ideal Cert.Kernel13Ideal.S8192x2816 .bf16) (x1 : FVec Ideal Cert.Kernel13Ideal.S2816x1024 .f32) (x2 : FVec Ideal Cert.Kernel13Ideal.S8192x1024 .f32) (i : Cert.Kernel13Ideal.S8192x1024.Idx) :
    Cert.Reference13Ideal.Ref.res0 x0 x1 x2 i = Cert.Kernel13Ideal.Prod.G x0 x1 x2 i := by
  unfold Cert.Reference13Ideal.Ref.res0 Cert.Kernel13Ideal.Prod.G
  pointwise
  rw [add_comm, mul_comm]

theorem algebraic13 : Cert.algebraic_Kernel13Ideal_Reference13Ideal := by
  pair_intro
  · run_from Cert.Kernel13Ideal.Gen.run_main m g
  · refine (θ_run Cert.Reference13Ideal.defs _ _).mono (fun r h c => ⟨(h c).1.trans ?_, (h c).2⟩)
      (Cert.Reference13Ideal.Value.run (F := Ideal) m' g')
    obtain ⟨a0, a1, a2⟩ := hagree c
    rw [a0, a1, a2]
    funext i
    exact (res13_at _ _ _ i).trans (Cert.Kernel13Ideal.Prod.final m c i).symm

end Cert.Proof

end
-- ==== Proof.QueryW.lean ====
module

public import proofs.«01_k».proof.Proof.Gen.Kernel14Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the query projection's weight: the accumulator over four parts of the rows, and the whole array. -/

open Idealize.ShloMosaic Idealize.ShloMosaic.TcCoe Idealize.SL.Sem
open Idealize.ShloMosaic.Pipeline (Dat)

namespace Cert.Kernel14Ideal.Weight

open Cert.Kernel14Ideal Cert.Kernel14Ideal.Gen

/-- The product of one part of the rows, at one entry of the block. -/
def part (a : FVec Ideal S2048x1024 .bf16) (b : FVec Ideal S2048x1024 .bf16) (y : S1024x1024.Idx) : EReal :=
  ∑ k : Fin 2048, a (ix2 k (y 0)) * b (ix2 k (y 1))

/-- The gradient of the weight: the product over all rows. -/
def G (x0 : FVec Ideal S8192x1024 .bf16) (x1 : FVec Ideal S8192x1024 .bf16) (i : S1024x1024.Idx) : EReal :=
  ∑ k : Fin 8192, x0 (ix2 k (i 0)) * x1 (ix2 k (i 1))

theorem pay2_at (a : FVec Ideal S2048x1024 .bf16) (b : FVec Ideal S2048x1024 .bf16) (y : S1024x1024.Idx) :
    k0_pay2 (F := Ideal) a b y = 0 + part a b y := by
  unfold part
  rw [zero_add]
  pointwise [k0_pay2, k0_pay1]

theorem pay3_at (a : FVec Ideal S2048x1024 .bf16) (b : FVec Ideal S2048x1024 .bf16) (acc : FVec Ideal S1024x1024 .f32) (y : S1024x1024.Idx) :
    k0_pay3 (F := Ideal) a b acc y = acc y + part a b y := by
  unfold part
  pointwise [k0_pay3, k0_pay1]

variable (m : (ℓ : Loc nD τ sig) → Buf (Elt Ideal) ℓ)

/-- The accumulator after a first part. -/
theorem acc_first (c : Dev nD) (t : Fin cfg0.N) (h : t.val % 4 = 0) (y : S1024x1024.Idx) :
    (outsAt0 m c t.val t.isLt).2 y = 0 + part (iblk m c 0 t) (iblk m c 1 t) y := by
  have hN : t.val < 4 := lt_of_lt_of_eq t.isLt (show cfg0.N = 4 from N_0)
  rw [outsAt0_A m c t h (by omega) (by omega)]
  frame_out
  rw [pay2_at]

/-- The accumulator after a further part: what it was, and the part added. -/
theorem acc_next (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  have hN : t.val < 4 := lt_of_lt_of_eq t.isLt (show cfg0.N = 4 from N_0)
  by_cases h3 : t.val % 4 = 3
  · rw [outsAt0_C m c t h (by omega) h3]
    frame_out
    rw [pay3_at, read_unread_whole]
  · rw [outsAt0_B m c t h (by omega) h3]
    frame_out
    rw [pay3_at, read_unread_whole]

/-- The block written after the last part is the accumulator. -/
theorem out_last (c : Dev nD) (t : Fin cfg0.N) (h3 : t.val % 4 = 3) (y : S1024x1024.Idx) :
    (outsAt0 m c t.val t.isLt).1 y = (outsAt0 m c t.val t.isLt).2 y := by
  have hN : t.val < 4 := lt_of_lt_of_eq t.isLt (show cfg0.N = 4 from N_0)
  rw [outsAt0_C m c t (by omega) (by omega) h3]
  frame_out

theorem idx : ∀ t : Fin cfg0.N, win0_0.index t = ![t.val, 0] ∧ win0_1.index t = ![t.val, 0] ∧ win0_2.index t = ![0, 0] :=
  (by decide +kernel : ∀ t : Fin grid0.N, _)

theorem final (c : Dev nD) (i : S1024x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t hf y => ?_) i
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p y => part (iblk m c 0 p) (iblk m c 1 p) y)
    (fun t h j => acc_first m c t h j) (fun t h j => acc_next m c t h j) t h3 _, zero_add]
  unfold part G
  refine Fin.sum_mul_add_congr fun s k hl => ?_
  have hN : t.val < 4 := lt_of_lt_of_eq t.isLt (show cfg0.N = 4 from N_0)
  blk_point [iblk, V, idx t, idx ⟨_, Pipeline.run_point_lt_of_flush t h3 s⟩]

end Cert.Kernel14Ideal.Weight

end
-- ==== Proof.Ref14.lean ====
module

public import proofs.«01_k».proof.Defs
public import proofs.«01_k».proof.Proof.Gen.Reference14Ideal.Run

@[expose] public section

set_option maxRecDepth 16384

noncomputable section

/-! The results of the reference as terms over its argument arrays. -/

namespace Cert.Reference14Ideal.Ref

open Cert.Reference14Ideal Cert.Reference14Ideal.Gen Idealize.ShloMosaic Idealize.ShloMosaic.TcCoe Idealize.SL.Sem

/-- Result 0 of the reference. -/
abbrev res0 (x0 : FVec Ideal S8192x1024 .bf16) (x1 : FVec Ideal S8192x1024 .bf16) : FVec Ideal S1024x1024 .f32 :=
  transpose S1024x1024 [1, 0] (Host.dotGeneral dot_S8192x1024_S8192x1024_S1024x1024_0_0_1_1_n_n none (extf .f32 x1 bitsLt_bf16_f32) (extf .f32 x0 bitsLt_bf16_f32)) transposes_S1024x1024_S1024x1024_1_0

end Cert.Reference14Ideal.Ref

end
-- ==== Proof.Claim14.lean ====
module

public import proofs.«01_k».proof.Proof.QueryW
public import proofs.«01_k».proof.Proof.Ref14
public import proofs.«01_k».proof.Proof.Gen.Kernel14.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the query projection's weight. -/

namespace Cert.Proof

theorem frame14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem res14_at (x0 : FVec Ideal Cert.Kernel14Ideal.S8192x1024 .bf16) (x1 : FVec Ideal Cert.Kernel14Ideal.S8192x1024 .bf16) (i : Cert.Kernel14Ideal.S1024x1024.Idx) :
    Cert.Reference14Ideal.Ref.res0 x0 x1 i = Cert.Kernel14Ideal.Weight.G x0 x1 i := by
  unfold Cert.Reference14Ideal.Ref.res0 Cert.Kernel14Ideal.Weight.G
  pointwise
  exact Finset.sum_congr rfl fun k _ => mul_comm _ _

theorem algebraic14 : Cert.algebraic_Kernel14Ideal_Reference14Ideal := by
  pair_intro
  · run_from Cert.Kernel14Ideal.Gen.run_main m g
  · refine (θ_run Cert.Reference14Ideal.defs _ _).mono (fun r h c => ⟨(h c).1.trans ?_, (h c).2⟩)
      (Cert.Reference14Ideal.Value.run (F := Ideal) m' g')
    obtain ⟨a0, a1⟩ := hagree c
    rw [a0, a1]
    funext i
    exact (res14_at _ _ i).trans (Cert.Kernel14Ideal.Weight.final m c i).symm

end Cert.Proof

end
-- ==== Proof.OutXW.lean ====
module

public import proofs.«01_k».proof.Proof.Gen.Kernel15Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the attention's output weight: the accumulator over four parts of the rows, and the whole array. -/

open Idealize.ShloMosaic Idealize.ShloMosaic.TcCoe Idealize.SL.Sem
open Idealize.ShloMosaic.Pipeline (Dat)

namespace Cert.Kernel15Ideal.Weight

open Cert.Kernel15Ideal Cert.Kernel15Ideal.Gen

/-- The product of one part of the rows, at one entry of the block. -/
def part (a : FVec Ideal S2048x1024 .bf16) (b : FVec Ideal S2048x1024 .f32) (y : S1024x1024.Idx) : EReal :=
  ∑ k : Fin 2048, a (ix2 k (y 0)) * b (ix2 k (y 1))

/-- The gradient of the weight: the product over all rows. -/
def G (x0 : FVec Ideal S8192x1024 .bf16) (x1 : FVec Ideal S8192x1024 .f32) (i : S1024x1024.Idx) : EReal :=
  ∑ k : Fin 8192, x0 (ix2 k (i 0)) * x1 (ix2 k (i 1))

theorem pay2_at (a : FVec Ideal S2048x1024 .bf16) (b : FVec Ideal S2048x1024 .f32) (y : S1024x1024.Idx) :
    k0_pay2 (F := Ideal) a b y = 0 + part a b y := by
  unfold part
  rw [zero_add]
  pointwise [k0_pay2, k0_pay1]

theorem pay3_at (a : FVec Ideal S2048x1024 .bf16) (b : FVec Ideal S2048x1024 .f32) (acc : FVec Ideal S1024x1024 .f32) (y : S1024x1024.Idx) :
    k0_pay3 (F := Ideal) a b acc y = acc y + part a b y := by
  unfold part
  pointwise [k0_pay3, k0_pay1]

variable (m : (ℓ : Loc nD τ sig) → Buf (Elt Ideal) ℓ)

/-- The accumulator after a first part. -/
theorem acc_first (c : Dev nD) (t : Fin cfg0.N) (h : t.val % 4 = 0) (y : S1024x1024.Idx) :
    (outsAt0 m c t.val t.isLt).2 y = 0 + part (iblk m c 0 t) (iblk m c 1 t) y := by
  have hN : t.val < 4 := lt_of_lt_of_eq t.isLt (show cfg0.N = 4 from N_0)
  rw [outsAt0_A m c t h (by omega) (by omega)]
  frame_out
  rw [pay2_at]

/-- The accumulator after a further part: what it was, and the part added. -/
theorem acc_next (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  have hN : t.val < 4 := lt_of_lt_of_eq t.isLt (show cfg0.N = 4 from N_0)
  by_cases h3 : t.val % 4 = 3
  · rw [outsAt0_C m c t h (by omega) h3]
    frame_out
    rw [pay3_at, read_unread_whole]
  · rw [outsAt0_B m c t h (by omega) h3]
    frame_out
    rw [pay3_at, read_unread_whole]

/-- The block written after the last part is the accumulator. -/
theorem out_last (c : Dev nD) (t : Fin cfg0.N) (h3 : t.val % 4 = 3) (y : S1024x1024.Idx) :
    (outsAt0 m c t.val t.isLt).1 y = (outsAt0 m c t.val t.isLt).2 y := by
  have hN : t.val < 4 := lt_of_lt_of_eq t.isLt (show cfg0.N = 4 from N_0)
  rw [outsAt0_C m c t (by omega) (by omega) h3]
  frame_out

theorem idx : ∀ t : Fin cfg0.N, win0_0.index t = ![t.val, 0] ∧ win0_1.index t = ![t.val, 0] ∧ win0_2.index t = ![0, 0] :=
  (by decide +kernel : ∀ t : Fin grid0.N, _)

theorem final (c : Dev nD) (i : S1024x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t hf y => ?_) i
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p y => part (iblk m c 0 p) (iblk m c 1 p) y)
    (fun t h j => acc_first m c t h j) (fun t h j => acc_next m c t h j) t h3 _, zero_add]
  unfold part G
  refine Fin.sum_mul_add_congr fun s k hl => ?_
  have hN : t.val < 4 := lt_of_lt_of_eq t.isLt (show cfg0.N = 4 from N_0)
  blk_point [iblk, V, idx t, idx ⟨_, Pipeline.run_point_lt_of_flush t h3 s⟩]

end Cert.Kernel15Ideal.Weight

end
-- ==== Proof.Ref15.lean ====
module

public import proofs.«01_k».proof.Defs
public import proofs.«01_k».proof.Proof.Gen.Reference15Ideal.Run

@[expose] public section

set_option maxRecDepth 16384

noncomputable section

/-! The results of the reference as terms over its argument arrays. -/

namespace Cert.Reference15Ideal.Ref

open Cert.Reference15Ideal Cert.Reference15Ideal.Gen Idealize.ShloMosaic Idealize.ShloMosaic.TcCoe Idealize.SL.Sem

/-- Result 0 of the reference. -/
abbrev res0 (x0 : FVec Ideal S8192x1024 .bf16) (x1 : FVec Ideal S8192x1024 .f32) : FVec Ideal S1024x1024 .f32 :=
  transpose S1024x1024 [1, 0] (Host.dotGeneral dot_S8192x1024_S8192x1024_S1024x1024_0_0_1_1_n_n none x1 (extf .f32 x0 bitsLt_bf16_f32)) transposes_S1024x1024_S1024x1024_1_0

end Cert.Reference15Ideal.Ref

end
-- ==== Proof.Claim15.lean ====
module

public import proofs.«01_k».proof.Proof.OutXW
public import proofs.«01_k».proof.Proof.Ref15
public import proofs.«01_k».proof.Proof.Gen.Kernel15.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the attention's output weight. -/

namespace Cert.Proof

theorem frame15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem res15_at (x0 : FVec Ideal Cert.Kernel15Ideal.S8192x1024 .bf16) (x1 : FVec Ideal Cert.Kernel15Ideal.S8192x1024 .f32) (i : Cert.Kernel15Ideal.S1024x1024.Idx) :
    Cert.Reference15Ideal.Ref.res0 x0 x1 i = Cert.Kernel15Ideal.Weight.G x0 x1 i := by
  unfold Cert.Reference15Ideal.Ref.res0 Cert.Kernel15Ideal.Weight.G
  pointwise
  exact Finset.sum_congr rfl fun k _ => mul_comm _ _

theorem algebraic15 : Cert.algebraic_Kernel15Ideal_Reference15Ideal := by
  pair_intro
  · run_from Cert.Kernel15Ideal.Gen.run_main m g
  · refine (θ_run Cert.Reference15Ideal.defs _ _).mono (fun r h c => ⟨(h c).1.trans ?_, (h c).2⟩)
      (Cert.Reference15Ideal.Value.run (F := Ideal) m' g')
    obtain ⟨a0, a1⟩ := hagree c
    rw [a0, a1]
    funext i
    exact (res15_at _ _ i).trans (Cert.Kernel15Ideal.Weight.final m c i).symm

end Cert.Proof

end
-- ==== Proof.OutSsmW.lean ====
module

public import proofs.«01_k».proof.Proof.Gen.Kernel16Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the second branch's weight: the accumulator over four parts of the rows, and the whole array. -/

open Idealize.ShloMosaic Idealize.ShloMosaic.TcCoe Idealize.SL.Sem
open Idealize.ShloMosaic.Pipeline (Dat)

namespace Cert.Kernel16Ideal.Weight

open Cert.Kernel16Ideal Cert.Kernel16Ideal.Gen

/-- The product of one part of the rows, at one entry of the block. -/
def part (a : FVec Ideal S2048x1024 .bf16) (b : FVec Ideal S2048x1024 .bf16) (y : S1024x1024.Idx) : EReal :=
  ∑ k : Fin 2048, a (ix2 k (y 0)) * b (ix2 k (y 1))

/-- The gradient of the weight: the product over all rows. -/
def G (x0 : FVec Ideal S8192x2048 .bf16) (x1 : FVec Ideal S8192x1024 .bf16) (i : S2048x1024.Idx) : EReal :=
  ∑ k : Fin 8192, x0 (ix2 k (i 0)) * x1 (ix2 k (i 1))

theorem pay2_at (a : FVec Ideal S2048x1024 .bf16) (b : FVec Ideal S2048x1024 .bf16) (y : S1024x1024.Idx) :
    k0_pay2 (F := Ideal) a b y = 0 + part a b y := by
  unfold part
  rw [zero_add]
  pointwise [k0_pay2, k0_pay1]

theorem pay3_at (a : FVec Ideal S2048x1024 .bf16) (b : FVec Ideal S2048x1024 .bf16) (acc : FVec Ideal S1024x1024 .f32) (y : S1024x1024.Idx) :
    k0_pay3 (F := Ideal) a b acc y = acc y + part a b y := by
  unfold part
  pointwise [k0_pay3, k0_pay1]

variable (m : (ℓ : Loc nD τ sig) → Buf (Elt Ideal) ℓ)

/-- The accumulator after a first part. -/
theorem acc_first (c : Dev nD) (t : Fin cfg0.N) (h : t.val % 4 = 0) (y : S1024x1024.Idx) :
    (outsAt0 m c t.val t.isLt).2 y = 0 + part (iblk m c 0 t) (iblk m c 1 t) y := by
  have hN : t.val < 8 := lt_of_lt_of_eq t.isLt (show cfg0.N = 8 from N_0)
  rw [outsAt0_A m c t h (by omega) (by omega)]
  frame_out
  rw [pay2_at]

/-- The accumulator after a further part: what it was, and the part added. -/
theorem acc_next (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + part (iblk m c 0 t) (iblk m c 1 t) y := by
  have hN : t.val < 8 := lt_of_lt_of_eq t.isLt (show cfg0.N = 8 from N_0)
  by_cases h3 : t.val % 4 = 3
  · rw [outsAt0_C m c t h (by omega) h3]
    frame_out
    rw [pay3_at, read_unread_whole]
  · rw [outsAt0_B m c t h (by omega) h3]
    frame_out
    rw [pay3_at, read_unread_whole]

/-- The block written after the last part is the accumulator. -/
theorem out_last (c : Dev nD) (t : Fin cfg0.N) (h3 : t.val % 4 = 3) (y : S1024x1024.Idx) :
    (outsAt0 m c t.val t.isLt).1 y = (outsAt0 m c t.val t.isLt).2 y := by
  have hN : t.val < 8 := lt_of_lt_of_eq t.isLt (show cfg0.N = 8 from N_0)
  rw [outsAt0_C m c t (by omega) (by omega) h3]
  frame_out

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem final (c : Dev nD) (i : S2048x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t hf y => ?_) i
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p y => part (iblk m c 0 p) (iblk m c 1 p) y)
    (fun t h j => acc_first m c t h j) (fun t h j => acc_next m c t h j) t h3 _, zero_add]
  unfold part G
  refine Fin.sum_mul_add_congr fun s k hl => ?_
  have hN : t.val < 8 := lt_of_lt_of_eq t.isLt (show cfg0.N = 8 from N_0)
  blk_point [iblk, V, idx t, idx ⟨_, Pipeline.run_point_lt_of_flush t h3 s⟩]

end Cert.Kernel16Ideal.Weight

end
-- ==== Proof.Ref16.lean ====
module

public import proofs.«01_k».proof.Defs
public import proofs.«01_k».proof.Proof.Gen.Reference16Ideal.Run

@[expose] public section

set_option maxRecDepth 16384

noncomputable section

/-! The results of the reference as terms over its argument arrays. -/

namespace Cert.Reference16Ideal.Ref

open Cert.Reference16Ideal Cert.Reference16Ideal.Gen Idealize.ShloMosaic Idealize.ShloMosaic.TcCoe Idealize.SL.Sem

/-- Result 0 of the reference. -/
abbrev res0 (x0 : FVec Ideal S8192x2048 .bf16) (x1 : FVec Ideal S8192x1024 .bf16) : FVec Ideal S2048x1024 .f32 :=
  transpose S2048x1024 [1, 0] (Host.dotGeneral dot_S8192x1024_S8192x2048_S1024x2048_0_0_1_1_n_n none (extf .f32 x1 bitsLt_bf16_f32) (extf .f32 x0 bitsLt_bf16_f32)) transposes_S1024x2048_S2048x1024_1_0

end Cert.Reference16Ideal.Ref

end
-- ==== Proof.Claim16.lean ====
module

public import proofs.«01_k».proof.Proof.OutSsmW
public import proofs.«01_k».proof.Proof.Ref16
public import proofs.«01_k».proof.Proof.Gen.Kernel16.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the second branch's weight. -/

namespace Cert.Proof

theorem frame16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem res16_at (x0 : FVec Ideal Cert.Kernel16Ideal.S8192x2048 .bf16) (x1 : FVec Ideal Cert.Kernel16Ideal.S8192x1024 .bf16) (i : Cert.Kernel16Ideal.S2048x1024.Idx) :
    Cert.Reference16Ideal.Ref.res0 x0 x1 i = Cert.Kernel16Ideal.Weight.G x0 x1 i := by
  unfold Cert.Reference16Ideal.Ref.res0 Cert.Kernel16Ideal.Weight.G
  pointwise
  exact Finset.sum_congr rfl fun k _ => mul_comm _ _

theorem algebraic16 : Cert.algebraic_Kernel16Ideal_Reference16Ideal := by
  pair_intro
  · run_from Cert.Kernel16Ideal.Gen.run_main m g
  · refine (θ_run Cert.Reference16Ideal.defs _ _).mono (fun r h c => ⟨(h c).1.trans ?_, (h c).2⟩)
      (Cert.Reference16Ideal.Value.run (F := Ideal) m' g')
    obtain ⟨a0, a1⟩ := hagree c
    rw [a0, a1]
    funext i
    exact (res16_at _ _ i).trans (Cert.Kernel16Ideal.Weight.final m c i).symm

end Cert.Proof

end
-- ==== Proof.QueryN.lean ====
module

public import proofs.«01_k».proof.Proof.Gen.Kernel17Ideal.Frame
public import proofs.«01_k».proof.Proof.Ffn
public import Idealize.ShloMosaic.Lib.Pipeline.ReadBack
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the cross attention's input through the query projection and the normalisation: the blocks, and the two arrays. -/

open Idealize.ShloMosaic Idealize.ShloMosaic.TcCoe Idealize.SL.Sem
open Idealize.ShloMosaic.Pipeline (Dat)
open Cert.Kernel5Ideal.Ffn (rr rowGrad)

namespace Cert.Kernel17Ideal.Query

open Cert.Kernel17Ideal Cert.Kernel17Ideal.Gen

/-- The gradient of the normalised row over the whole array. -/
def dnAll (x0 : FVec Ideal S8192x1024 .bf16) (x1 : FVec Ideal S1024x1024 .f32) (i : Fin 8192) (j : Fin 1024) : EReal :=
  ∑ k : Fin 1024, x0 (ix2 i k) * x1 (ix2 j k)

/-- The same over a block. -/
def dnB (x0 : FVec Ideal S512x1024 .bf16) (x1 : FVec Ideal S1024x1024 .f32) (i : Fin 512) (j : Fin 1024) : EReal :=
  ∑ k : Fin 1024, x0 (ix2 i k) * x1 (ix2 j k)

/-- The sum of squares of row `i`. -/
def sqAll (x3 : FVec Ideal S8192x1024 .f32) (i : Fin 8192) : EReal := ∑ k : Fin 1024, x3 (ix2 i k) * x3 (ix2 i k)

/-- The sum of squares of a block's row `i`. -/
def sqB (x3 : FVec Ideal S512x1024 .f32) (i : Fin 512) : EReal := ∑ k : Fin 1024, x3 (ix2 i k) * x3 (ix2 i k)

/-- The result array: the gradient of the rows. -/
def G5 (x0 : FVec Ideal S8192x1024 .bf16) (x1 : FVec Ideal S1024x1024 .f32) (x2 x3 : FVec Ideal S8192x1024 .f32) (x4 : FVec Ideal S1x1024 .f32) (i : S8192x1024.Idx) : EReal :=
  rowGrad (sqAll x3 (i 0)) (∑ k : Fin 1024, dnAll x0 x1 (i 0) k * x4 (ix2 0 k) * (x3 (ix2 (i 0) k) * rr (sqAll x3 (i 0)))) (dnAll x0 x1 (i 0) (i 1))
    (x4 (ix2 0 (i 1))) (x3 i) (x2 i)

/-- The same over a block. -/
def B5 (x0 : FVec Ideal S512x1024 .bf16) (x1 : FVec Ideal S1024x1024 .f32) (x2 x3 : FVec Ideal S512x1024 .f32) (x4 : FVec Ideal S1x1024 .f32) (i : S512x1024.Idx) : EReal :=
  rowGrad (sqB x3 (i 0)) (∑ k : Fin 1024, dnB x0 x1 (i 0) k * x4 (ix2 0 k) * (x3 (ix2 (i 0) k) * rr (sqB x3 (i 0)))) (dnB x0 x1 (i 0) (i 1))
    (x4 (ix2 0 (i 1))) (x3 i) (x2 i)

/-- The result array: the gradient of the gain. -/
def G6 (x0 : FVec Ideal S8192x1024 .bf16) (x1 : FVec Ideal S1024x1024 .f32) (x3 : FVec Ideal S8192x1024 .f32) (i : S1x1024.Idx) : EReal :=
  ∑ k : Fin 8192, dnAll x0 x1 k (i 1) * (x3 (ix2 k (i 1)) * rr (sqAll x3 k))

/-- One block's part of it. -/
def B6 (x0 : FVec Ideal S512x1024 .bf16) (x1 : FVec Ideal S1024x1024 .f32) (x3 : FVec Ideal S512x1024 .f32) (i : S1x1024.Idx) : EReal :=
  ∑ k : Fin 512, dnB x0 x1 k (i 1) * (x3 (ix2 k (i 1)) * rr (sqB x3 k))

theorem pay1_at (x0 : FVec Ideal S512x1024 .bf16) (x1 : FVec Ideal S1024x1024 .f32) (x2 x3 : FVec Ideal S512x1024 .f32) (x4 : FVec Ideal S1x1024 .f32) (y : S512x1024.Idx) :
    k0_pay1 (F := Ideal) (k0_pay4 x3) (k0_pay5 x3) (k0_pay7 x0 x1 x4) (k0_pay8 x0 x1 x3 x4) (Scalar.ofBits .f32 0x44800000#32) x2 y = B5 x0 x1 x2 x3 x4 y := by
  unfold B5 sqB dnB rowGrad rr
  pointwise [k0_pay1, k0_pay8, k0_pay7, k0_pay5, k0_pay4, k0_pay3]

theorem pay6_at (x0 : FVec Ideal S512x1024 .bf16) (x1 : FVec Ideal S1024x1024 .f32) (x3 : FVec Ideal S512x1024 .f32) (acc : FVec Ideal S1x1024 .f32) (y : S1x1024.Idx) :
    k0_pay6 (F := Ideal) x0 x1 x3 acc y = acc y + B6 x0 x1 x3 y := by
  unfold B6 sqB dnB rr
  pointwise [k0_pay6, k0_pay5, k0_pay4, k0_pay3]

theorem pay2_at (y : S1x1024.Idx) : k0_pay2 (F := Ideal) y = 0 := by
  pointwise [k0_pay2]

variable (m : (ℓ : Loc nD τ sig) → Buf (Elt Ideal) ℓ)

theorem rows_at (c : Dev nD) (t : Fin cfg0.N) (y : S512x1024.Idx) :
    (outsAt0 m c t.val t.isLt).1 y = B5 (iblk m c 0 t) (iblk m c 1 t) (iblk m c 2 t) (iblk m c 3 t) (iblk m c 4 t) y := by
  by_cases h : t.val % 16 = 0
  · rw [outsAt0_A m c t h]
    frame_out
    rw [pay1_at]
  · rw [outsAt0_B m c t h]
    frame_out
    rw [pay1_at]

theorem gain_first (c : Dev nD) (t : Fin cfg0.N) (h : t.val % 16 = 0) (y : S1x1024.Idx) :
    (outsAt0 m c t.val t.isLt).2 y = 0 + B6 (iblk m c 0 t) (iblk m c 1 t) (iblk m c 3 t) y := by
  rw [outsAt0_A m c t h]
  frame_out
  rw [pay6_at, pay2_at]

theorem gain_next (c : Dev nD) (t : Fin cfg0.N) (h : ¬t.val % 16 = 0) (y : S1x1024.Idx) :
    (outsAt0 m c t.val t.isLt).2 y = (outsAt0 m c (t.val - 1) (Nat.lt_of_le_of_lt (Nat.sub_le _ _) t.isLt)).2 y
      + B6 (iblk m c 0 t) (iblk m c 1 t) (iblk m c 3 t) y := by
  rw [outsAt0_B m c t h]
  frame_out
  rw [pay6_at]

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

theorem final5 (c : Dev nD) (i : S8192x1024.Idx) : (dats m 0 c).arrAt 5 (cfgs 0).N i
    = G5 (m ((c : Thread nD τ).loc main_arg0)) (m ((c : Thread nD τ).loc main_arg1)) (m ((c : Thread nD τ).loc main_arg2)) (m ((c : Thread nD τ).loc main_arg3)) (m ((c : Thread nD τ).loc main_arg4)) i := by
  refine congrFun ((dats m 0 c).arrAt_eq_of_covers 5 (fun i => G5 (m ((c : Thread nD τ).loc main_arg0)) (m ((c : Thread nD τ).loc main_arg1)) (m ((c : Thread nD τ).loc main_arg2)) (m ((c : Thread nD τ).loc main_arg3)) (m ((c : Thread nD τ).loc main_arg4)) i) (by decide +kernel) fun t _ y => ?_) i
  blk_simp
  rw [after0_5, rows_at m c t]
  unfold B5 G5 dnB dnAll sqB sqAll
  blk_point [iblk, V, idx t]

theorem final6 (c : Dev nD) (i : S1x1024.Idx) : (dats m 0 c).arrAt 6 (cfgs 0).N i
    = G6 (m ((c : Thread nD τ).loc main_arg0)) (m ((c : Thread nD τ).loc main_arg1)) (m ((c : Thread nD τ).loc main_arg3)) i := by
  refine congrFun ((dats m 0 c).arrAt_eq_of_covers 6 (fun i => G6 (m ((c : Thread nD τ).loc main_arg0)) (m ((c : Thread nD τ).loc main_arg1)) (m ((c : Thread nD τ).loc main_arg3)) i) (by decide +kernel) fun t hf y => ?_) i
  blk_simp
  rw [after0_6, Pipeline.eq_sum_fin_of_reset_step_apply_of_flush (fun n h => (outsAt0 m c n h).2) 16 (fun _ => 0)
    (fun p y => B6 (iblk m c 0 p) (iblk m c 1 p) (iblk m c 3 p) y)
    (fun t h j => gain_first m c t h j) (fun t h j => gain_next m c t h j) t ((flush0_6 t).mp hf) _, zero_add]
  unfold B6 G6
  refine Fin.sum_mul_add_congr fun s k hl => ?_
  have hN : t.val < 16 := lt_of_lt_of_eq t.isLt (show cfg0.N = 16 from N_0)
  unfold dnB dnAll sqB sqAll
  blk_point [iblk, V, idx t, idx ⟨_, Pipeline.run_point_lt_of_flush t ((flush0_6 t).mp hf) s⟩]

end Cert.Kernel17Ideal.Query

end
-- ==== Proof.Ref17.lean ====
module

public import proofs.«01_k».proof.Defs
public import proofs.«01_k».proof.Proof.Gen.Reference17Ideal.Run

@[expose] public section

set_option maxRecDepth 16384

noncomputable section

/-! The results of the reference as terms over its argument arrays. -/

namespace Cert.Reference17Ideal.Ref

open Cert.Reference17Ideal Cert.Reference17Ideal.Gen Idealize.ShloMosaic Idealize.ShloMosaic.TcCoe Idealize.SL.Sem

/-- An intermediate array of the reference. -/
abbrev main_v37 (x0 : FVec Ideal S8192x1024 .bf16) (x1 : FVec Ideal S1024x1024 .f32) (x2 : FVec Ideal S8192x1024 .f32) (x3 : FVec Ideal S8192x1024 .f32) (x4 : FVec Ideal S1x1024 .f32) : FVec Ideal S8192x1024 .f32 :=
  addf (addf (addf x2 (mulf (mulf (Host.dotGeneral dot_S8192x1024_S1024x1024_S8192x1024_1_1_0_0_n_n none (extf .f32 x0 bitsLt_bf16_f32) x1) (broadcastInDim S8192x1024 ![0, 1] bcast_S1x1024_S8192x1024_0_1 x4)) (broadcastInDim S8192x1024 ![0, 1] bcast_S8192x1_S8192x1024_0_1 (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x3 (broadcastInDim S8192x1024 ![0] bcast_S8192_S8192x1024_0 (Host.reduceAdd (Host.divf (mulf (shapeCast _ (Host.reduceAdd (mulf x3 (mulf (Host.dotGeneral dot_S8192x1024_S1024x1024_S8192x1024_1_1_0_0_n_n none (extf .f32 x0 bitsLt_bf16_f32) x1) (broadcastInDim S8192x1024 ![0, 1] bcast_S1x1024_S8192x1024_0_1 x4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x3 (mulf (Host.dotGeneral dot_S8192x1024_S1024x1024_S8192x1024_1_1_0_0_n_n none (extf .f32 x0 bitsLt_bf16_f32) x1) (broadcastInDim S8192x1024 ![0, 1] bcast_S1x1024_S8192x1024_0_1 x4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x3)

/-- Result 0 of the reference. -/
abbrev res0 (x0 : FVec Ideal S8192x1024 .bf16) (x1 : FVec Ideal S1024x1024 .f32) (x2 : FVec Ideal S8192x1024 .f32) (x3 : FVec Ideal S8192x1024 .f32) (x4 : FVec Ideal S1x1024 .f32) : FVec Ideal S8192x1024 .f32 :=
  (main_v37 x0 x1 x2 x3 x4)

/-- Result 1 of the reference. -/
abbrev res1 (x0 : FVec Ideal S8192x1024 .bf16) (x1 : FVec Ideal S1024x1024 .f32) (x2 : FVec Ideal S8192x1024 .f32) (x3 : FVec Ideal S8192x1024 .f32) (x4 : FVec Ideal S1x1024 .f32) : FVec Ideal S1x1024 .f32 :=
  shapeCast _ (Host.reduceAdd (mulf (mulf x3 (broadcastInDim S8192x1024 ![0, 1] bcast_S8192x1_S8192x1024_0_1 (Host.rsqrt (addf (Host.divf (broadcastInDim S8192x1 ![0] bcast_S8192_S8192x1_0 (Host.reduceAdd (mulf x3 x3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x1024_S1024x1024_S8192x1024_1_1_0_0_n_n none (extf .f32 x0 bitsLt_bf16_f32) x1)) (constant S_ .f32 0x00000000#32) reducesTo_S8192x1024_S1024_d0 h_S_) shapeCasts_S1024_S1x1024

end Cert.Reference17Ideal.Ref

end
-- ==== Proof.QueryRef.lean ====
module

public import proofs.«01_k».proof.Proof.QueryN
public import proofs.«01_k».proof.Proof.Ref17
public import proofs.«01_k».proof.Proof.Norm

@[expose] public section

set_option maxRecDepth 16384

noncomputable section

/-! The reference's two results as the same closed forms. -/

open Idealize.ShloMosaic Idealize.ShloMosaic.TcCoe Idealize.SL.Sem
open Cert.Kernel5Ideal.Ffn (rr rowGrad)

namespace Cert.Kernel17Ideal.Query

open Cert.Kernel17Ideal Cert.Kernel17Ideal.Gen

theorem res1_at (x0 : FVec Ideal S8192x1024 .bf16) (x1 : FVec Ideal S1024x1024 .f32) (x2 x3 : FVec Ideal S8192x1024 .f32) (x4 : FVec Ideal S1x1024 .f32)
    (b : Fin 1024) : Cert.Reference17Ideal.Ref.res1 x0 x1 x2 x3 x4 (ix2 0 b) = G6 x0 x1 x3 (ix2 0 b) := by
  unfold Cert.Reference17Ideal.Ref.res1
  unfold G6 rr dnAll sqAll
  pointwise
  exact Finset.sum_congr rfl fun k _ => mul_comm _ _

/-- The gradient of the normalised row is real. -/
theorem dn_real (x0 : FVec Ideal S8192x1024 .bf16) (x1 : FVec Ideal S1024x1024 .f32)
    (h0 : ∀ i, ∃ r : ℝ, x0 i = (r : EReal)) (h1 : ∀ i, ∃ r : ℝ, x1 i = (r : EReal)) (i : Fin 8192) (j : Fin 1024) :
    ∃ r : ℝ, dnAll x0 x1 i j = (r : EReal) := by
  choose f0 e0 using h0
  choose f1 e1 using h1
  unfold dnAll
  simp only [e0, e1, ← EReal.coe_mul, ← Cert.Real.coe_sum]
  exact ⟨_, rfl⟩

theorem res0_at (x0 : FVec Ideal S8192x1024 .bf16) (x1 : FVec Ideal S1024x1024 .f32) (x2 x3 : FVec Ideal S8192x1024 .f32) (x4 : FVec Ideal S1x1024 .f32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (a : Fin 8192) (b : Fin 1024) :
    Cert.Reference17Ideal.Ref.res0 x0 x1 x2 x3 x4 (ix2 a b) = G5 x0 x1 x2 x3 x4 (ix2 a b) := by
  have hd := dn_real x0 x1 h0 h1
  choose D eD using hd
  choose f2 e2 using h2
  choose f3 e3 using h3
  choose f4 e4 using h4
  have hS : sqAll x3 a = ((∑ k : Fin 1024, f3 (ix2 a k) * f3 (ix2 a k) : ℝ) : EReal) := by
    unfold sqAll; simp only [e3]; exact Cert.Real.sum_mul_coe _ _
  have hv := Cert.Norm.var_pos (s := ∑ k : Fin 1024, f3 (ix2 a k) * f3 (ix2 a k)) (Finset.sum_nonneg fun k _ => mul_self_nonneg _)
  unfold Cert.Reference17Ideal.Ref.res0 Cert.Reference17Ideal.Ref.main_v37
  unfold G5 rowGrad rr
  pointwise
  unfold sqAll at hS ⊢
  simp only [hS]
  unfold dnAll at eD ⊢
  generalize ∑ k : Fin 1024, f3 (ix2 a k) * f3 (ix2 a k) = S at hv ⊢
  rw [Cert.Norm.var_real, Cert.Norm.rsqrt_real hv, Cert.Real.div_real _ _ hv.ne', Cert.Norm.neg_half_bits]
  simp only [eD, e2, e3, e4, ← EReal.coe_mul, ← Cert.Real.coe_sum, Cert.Norm.div_width, ← EReal.coe_add, ← EReal.coe_sub, Finset.univ_unique, Finset.sum_singleton]
  congr 1
  have hp : ∑ k : Fin 1024, D a k * f4 (ix2 0 k) * (f3 (ix2 a k) * (Real.sqrt (Cert.Norm.var S))⁻¹)
      = (∑ k : Fin 1024, f3 (ix2 a k) * (D a k * f4 (ix2 0 k))) * (Real.sqrt (Cert.Norm.var S))⁻¹ := by
    rw [Finset.sum_mul]
    exact Finset.sum_congr rfl fun k _ => by ring
  rw [hp]
  exact Cert.Norm.row hv _ _ _ _

end Cert.Kernel17Ideal.Query

end
-- ==== Proof.Claim17.lean ====
module

public import proofs.«01_k».proof.Proof.QueryRef
public import proofs.«01_k».proof.Proof.Gen.Kernel17.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the cross attention's input. -/

namespace Cert.Proof

theorem facts17 : Cert.Pre_finite17.Facts := by
  constructor <;> decide

/-- What the precondition says: every entry of every argument is a real number. -/
theorem pre17 [Cert.Pre_finite17.Facts] (x0 : FVec Ideal Cert.Pre_finite17.S8192x1024 .bf16) (x1 : FVec Ideal Cert.Pre_finite17.S1024x1024 .f32)
    (x2 x3 : FVec Ideal Cert.Pre_finite17.S8192x1024 .f32) (x4 : FVec Ideal Cert.Pre_finite17.S1x1024 .f32)
    (h : Cert.Pre_finite17.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h' := congrFun h (fun a => a.elim0)
  unfold Cert.Pre_finite17.fn Cert.Pre_finite17.fn_part1 at h'
  obtain ⟨h', e4⟩ := Cert.Real.andi_one h'
  obtain ⟨h', e3⟩ := Cert.Real.andi_one h'
  obtain ⟨h', e2⟩ := Cert.Real.andi_one h'
  obtain ⟨h', e1⟩ := Cert.Real.andi_one h'
  obtain ⟨-, e0⟩ := Cert.Real.andi_one h'
  exact ⟨Cert.Real.all_finite _ _ _ _ _ _ _ e0, Cert.Real.all_finite _ _ _ _ _ _ _ e1, Cert.Real.all_finite _ _ _ _ _ _ _ e2,
    Cert.Real.all_finite _ _ _ _ _ _ _ e3, Cert.Real.all_finite _ _ _ _ _ _ _ e4⟩

theorem frame17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

theorem res0_val17 (m' : (ℓ : Loc Cert.Reference17Ideal.nD Cert.Reference17Ideal.τ Cert.Reference17Ideal.sig) → Buf (Elt Ideal) ℓ) (c : Dev Cert.Reference17Ideal.nD) :
    Cert.Reference17Ideal.Value.res_main_v37 (F := Ideal) m' c
      = Cert.Reference17Ideal.Ref.res0 (m' ((c.tc : Thread _ _).loc Cert.Reference17Ideal.main_arg0)) (m' ((c.tc : Thread _ _).loc Cert.Reference17Ideal.main_arg1))
          (m' ((c.tc : Thread _ _).loc Cert.Reference17Ideal.main_arg2)) (m' ((c.tc : Thread _ _).loc Cert.Reference17Ideal.main_arg3))
          (m' ((c.tc : Thread _ _).loc Cert.Reference17Ideal.main_arg4)) := rfl

theorem rows17 (m : (ℓ : Loc Cert.Kernel17Ideal.nD Cert.Kernel17Ideal.τ Cert.Kernel17Ideal.sig) → Buf (Elt Ideal) ℓ) (c : Dev Cert.Kernel17Ideal.nD)
    [Cert.Pre_finite17.Facts] (hpre : Cert.Pre_Kernel17Ideal_finite17 m) :
    Cert.Reference17Ideal.Ref.res0 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))
      = (Cert.Kernel17Ideal.Gen.dats m 0 c).arrAt 5 (Cert.Kernel17Ideal.cfgs 0).N := by
  obtain ⟨h0, h1, h2, h3, h4⟩ := pre17 _ _ _ _ _ (hpre c)
  funext i
  refine Eq.trans ?_ (Cert.Kernel17Ideal.Query.final5 m c i).symm
  rw [eq_ix2 i]
  exact Cert.Kernel17Ideal.Query.res0_at _ _ _ _ _ h0 h1 h2 h3 h4 (i 0) (i 1)

theorem gain17 (m : (ℓ : Loc Cert.Kernel17Ideal.nD Cert.Kernel17Ideal.τ Cert.Kernel17Ideal.sig) → Buf (Elt Ideal) ℓ) (c : Dev Cert.Kernel17Ideal.nD) :
    Cert.Reference17Ideal.Ref.res1 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))
      = (Cert.Kernel17Ideal.Gen.dats m 0 c).arrAt 6 (Cert.Kernel17Ideal.cfgs 0).N := by
  funext i
  refine Eq.trans ?_ (Cert.Kernel17Ideal.Query.final6 m c i).symm
  have e : i = ix2 0 (i 1) := (eq_ix2 i).trans (congrArg (fun a => ix2 a (i 1)) (Subsingleton.elim (α := Fin 1) _ _))
  rw [e]
  exact Cert.Kernel17Ideal.Query.res1_at _ _ _ _ _ (i 1)

theorem algebraic17 : Cert.algebraic_Kernel17Ideal_Reference17Ideal_pre_finite17 (hPre_finite17 := facts17) := by
  haveI := facts17
  pair_intro
  · run_from Cert.Kernel17Ideal.Gen.run_main m g
  · refine (θ_run Cert.Reference17Ideal.defs _ _).mono (fun r h c => ⟨(h c).1.trans ((res0_val17 m' c).trans ?_), (h c).2.1.trans ?_, (h c).2.2⟩)
      (Cert.Reference17Ideal.Value.run (F := Ideal) m' g')
    · obtain ⟨a0, a1, a2, a3, a4⟩ := hagree c
      rw [a0, a1, a2, a3, a4]
      exact rows17 m c hpre
    · obtain ⟨a0, a1, a2, a3, a4⟩ := hagree c
      rw [a0, a1, a3]
      exact gain17 m c

end Cert.Proof

end
-- ==== Proof.AttnO.lean ====
module

public import proofs.«01_k».proof.Proof.Gen.Kernel18Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the attention's output: each block of the product, and the whole array. -/

open Idealize.ShloMosaic Idealize.ShloMosaic.TcCoe Idealize.SL.Sem
open Idealize.ShloMosaic.Pipeline (Dat)

namespace Cert.Kernel18Ideal.Prod

open Cert.Kernel18Ideal Cert.Kernel18Ideal.Gen

/-- The product with the transposed weight. -/
def G (x0 : FVec Ideal S8192x1024 .f32) (x1 : FVec Ideal S1024x1024 .f32) (i : S8192x1024.Idx) : EReal :=
  ∑ k : Fin 1024, x0 (ix2 (i 0) k) * x1 (ix2 (i 1) k)

/-- The same over the blocks of a point. -/
def B (x0 : FVec Ideal S1024x1024 .f32) (x1 : FVec Ideal S1024x1024 .f32) (y : S1024x1024.Idx) : EReal :=
  ∑ k : Fin 1024, x0 (ix2 (y 0) k) * x1 (ix2 (y 1) k)

theorem out_at (x0 : FVec Ideal S1024x1024 .f32) (x1 : FVec Ideal S1024x1024 .f32) (y : S1024x1024.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S8192x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel18Ideal.Prod

end
-- ==== Proof.Ref18.lean ====
module

public import proofs.«01_k».proof.Defs
public import proofs.«01_k».proof.Proof.Gen.Reference18Ideal.Run

@[expose] public section

set_option maxRecDepth 16384

noncomputable section

/-! The results of the reference as terms over its argument arrays. -/

namespace Cert.Reference18Ideal.Ref

open Cert.Reference18Ideal Cert.Reference18Ideal.Gen Idealize.ShloMosaic Idealize.ShloMosaic.TcCoe Idealize.SL.Sem

/-- Result 0 of the reference. -/
abbrev res0 (x0 : FVec Ideal S8192x1024 .f32) (x1 : FVec Ideal S1024x1024 .f32) : FVec Ideal S8192x1024 .bf16 :=
  truncf .bf16 (Host.dotGeneral dot_S8192x1024_S1024x1024_S8192x1024_1_1_0_0_n_n none x0 x1) bitsLt_bf16_f32

end Cert.Reference18Ideal.Ref

end
-- ==== Proof.Claim18.lean ====
module

public import proofs.«01_k».proof.Proof.AttnO
public import proofs.«01_k».proof.Proof.Ref18
public import proofs.«01_k».proof.Proof.Gen.Kernel18.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the attention's output. -/

namespace Cert.Proof

theorem frame18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem res18_at (x0 : FVec Ideal Cert.Kernel18Ideal.S8192x1024 .f32) (x1 : FVec Ideal Cert.Kernel18Ideal.S1024x1024 .f32) (i : Cert.Kernel18Ideal.S8192x1024.Idx) :
    Cert.Reference18Ideal.Ref.res0 x0 x1 i = Cert.Kernel18Ideal.Prod.G x0 x1 i := by
  unfold Cert.Reference18Ideal.Ref.res0 Cert.Kernel18Ideal.Prod.G
  pointwise

theorem algebraic18 : Cert.algebraic_Kernel18Ideal_Reference18Ideal := by
  pair_intro
  · run_from Cert.Kernel18Ideal.Gen.run_main m g
  · refine (θ_run Cert.Reference18Ideal.defs _ _).mono (fun r h c => ⟨(h c).1.trans ?_, (h c).2⟩)
      (Cert.Reference18Ideal.Value.run (F := Ideal) m' g')
    obtain ⟨a0, a1⟩ := hagree c
    rw [a0, a1]
    funext i
    exact (res18_at _ _ i).trans (Cert.Kernel18Ideal.Prod.final m c i).symm

end Cert.Proof

end
-- ==== Proof.OutA.lean ====
module

public import proofs.«01_k».proof.Proof.Gen.Kernel19Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the first branch before its projection: each block of the product, and the whole array. -/

open Idealize.ShloMosaic Idealize.ShloMosaic.TcCoe Idealize.SL.Sem
open Idealize.ShloMosaic.Pipeline (Dat)

namespace Cert.Kernel19Ideal.Prod

open Cert.Kernel19Ideal Cert.Kernel19Ideal.Gen

/-- The product with the transposed weight. -/
def G (x0 : FVec Ideal S8192x1024 .bf16) (x1 : FVec Ideal S1024x1024 .f32) (i : S8192x1024.Idx) : EReal :=
  ∑ k : Fin 1024, x0 (ix2 (i 0) k) * x1 (ix2 (i 1) k)

/-- The same over the blocks of a point. -/
def B (x0 : FVec Ideal S1024x1024 .bf16) (x1 : FVec Ideal S1024x1024 .f32) (y : S1024x1024.Idx) : EReal :=
  ∑ k : Fin 1024, x0 (ix2 (y 0) k) * x1 (ix2 (y 1) k)

theorem out_at (x0 : FVec Ideal S1024x1024 .bf16) (x1 : FVec Ideal S1024x1024 .f32) (y : S1024x1024.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S8192x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel19Ideal.Prod

end
-- ==== Proof.Ref19.lean ====
module

public import proofs.«01_k».proof.Defs
public import proofs.«01_k».proof.Proof.Gen.Reference19Ideal.Run

@[expose] public section

set_option maxRecDepth 16384

noncomputable section

/-! The results of the reference as terms over its argument arrays. -/

namespace Cert.Reference19Ideal.Ref

open Cert.Reference19Ideal Cert.Reference19Ideal.Gen Idealize.ShloMosaic Idealize.ShloMosaic.TcCoe Idealize.SL.Sem

/-- Result 0 of the reference. -/
abbrev res0 (x0 : FVec Ideal S8192x1024 .bf16) (x1 : FVec Ideal S1024x1024 .f32) : FVec Ideal S8192x1024 .f32 :=
  Host.dotGeneral dot_S8192x1024_S1024x1024_S8192x1024_1_1_0_0_n_n none (extf .f32 x0 bitsLt_bf16_f32) x1

end Cert.Reference19Ideal.Ref

end
-- ==== Proof.Claim19.lean ====
module

public import proofs.«01_k».proof.Proof.OutA
public import proofs.«01_k».proof.Proof.Ref19
public import proofs.«01_k».proof.Proof.Gen.Kernel19.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the first branch before its projection. -/

namespace Cert.Proof

theorem frame19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem res19_at (x0 : FVec Ideal Cert.Kernel19Ideal.S8192x1024 .bf16) (x1 : FVec Ideal Cert.Kernel19Ideal.S1024x1024 .f32) (i : Cert.Kernel19Ideal.S8192x1024.Idx) :
    Cert.Reference19Ideal.Ref.res0 x0 x1 i = Cert.Kernel19Ideal.Prod.G x0 x1 i := by
  unfold Cert.Reference19Ideal.Ref.res0 Cert.Kernel19Ideal.Prod.G
  pointwise

theorem algebraic19 : Cert.algebraic_Kernel19Ideal_Reference19Ideal := by
  pair_intro
  · run_from Cert.Kernel19Ideal.Gen.run_main m g
  · refine (θ_run Cert.Reference19Ideal.defs _ _).mono (fun r h c => ⟨(h c).1.trans ?_, (h c).2⟩)
      (Cert.Reference19Ideal.Value.run (F := Ideal) m' g')
    obtain ⟨a0, a1⟩ := hagree c
    rw [a0, a1]
    funext i
    exact (res19_at _ _ i).trans (Cert.Kernel19Ideal.Prod.final m c i).symm

end Cert.Proof

end
-- ==== Proof.OutSsm.lean ====
module

public import proofs.«01_k».proof.Proof.Gen.Kernel20Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the second branch before its projection: each block of the product, and the whole array. -/

open Idealize.ShloMosaic Idealize.ShloMosaic.TcCoe Idealize.SL.Sem
open Idealize.ShloMosaic.Pipeline (Dat)

namespace Cert.Kernel20Ideal.Prod

open Cert.Kernel20Ideal Cert.Kernel20Ideal.Gen

/-- The product with the transposed weight. -/
def G (x0 : FVec Ideal S8192x1024 .bf16) (x1 : FVec Ideal S2048x1024 .f32) (i : S8192x2048.Idx) : EReal :=
  ∑ k : Fin 1024, x0 (ix2 (i 0) k) * x1 (ix2 (i 1) k)

/-- The same over the blocks of a point. -/
def B (x0 : FVec Ideal S1024x1024 .bf16) (x1 : FVec Ideal S2048x1024 .f32) (y : S1024x2048.Idx) : EReal :=
  ∑ k : Fin 1024, x0 (ix2 (y 0) k) * x1 (ix2 (y 1) k)

theorem out_at (x0 : FVec Ideal S1024x1024 .bf16) (x1 : FVec Ideal S2048x1024 .f32) (y : S1024x2048.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S8192x2048.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel20Ideal.Prod

end
-- ==== Proof.Ref20.lean ====
module

public import proofs.«01_k».proof.Defs
public import proofs.«01_k».proof.Proof.Gen.Reference20Ideal.Run

@[expose] public section

set_option maxRecDepth 16384

noncomputable section

/-! The results of the reference as terms over its argument arrays. -/

namespace Cert.Reference20Ideal.Ref

open Cert.Reference20Ideal Cert.Reference20Ideal.Gen Idealize.ShloMosaic Idealize.ShloMosaic.TcCoe Idealize.SL.Sem

/-- Result 0 of the reference. -/
abbrev res0 (x0 : FVec Ideal S8192x1024 .bf16) (x1 : FVec Ideal S2048x1024 .f32) : FVec Ideal S8192x2048 .f32 :=
  Host.dotGeneral dot_S8192x1024_S2048x1024_S8192x2048_1_1_0_0_n_n none (extf .f32 x0 bitsLt_bf16_f32) x1

end Cert.Reference20Ideal.Ref

end
-- ==== Proof.Claim20.lean ====
module

public import proofs.«01_k».proof.Proof.OutSsm
public import proofs.«01_k».proof.Proof.Ref20
public import proofs.«01_k».proof.Proof.Gen.Kernel20.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the gradient of the second branch before its projection. -/

namespace Cert.Proof

theorem frame20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem res20_at (x0 : FVec Ideal Cert.Kernel20Ideal.S8192x1024 .bf16) (x1 : FVec Ideal Cert.Kernel20Ideal.S2048x1024 .f32) (i : Cert.Kernel20Ideal.S8192x2048.Idx) :
    Cert.Reference20Ideal.Ref.res0 x0 x1 i = Cert.Kernel20Ideal.Prod.G x0 x1 i := by
  unfold Cert.Reference20Ideal.Ref.res0 Cert.Kernel20Ideal.Prod.G
  pointwise

theorem algebraic20 : Cert.algebraic_Kernel20Ideal_Reference20Ideal := by
  pair_intro
  · run_from Cert.Kernel20Ideal.Gen.run_main m g
  · refine (θ_run Cert.Reference20Ideal.defs _ _).mono (fun r h c => ⟨(h c).1.trans ?_, (h c).2⟩)
      (Cert.Reference20Ideal.Value.run (F := Ideal) m' g')
    obtain ⟨a0, a1⟩ := hagree c
    rw [a0, a1]
    funext i
    exact (res20_at _ _ i).trans (Cert.Kernel20Ideal.Prod.final m c i).symm

end Cert.Proof

end
-- ==== Proof.Ref21.lean ====
module

public import proofs.«01_k».proof.Defs
public import proofs.«01_k».proof.Proof.Gen.Reference21Ideal.Run

@[expose] public section

set_option maxRecDepth 16384

noncomputable section

/-! The results of the reference as terms over its argument arrays. -/

namespace Cert.Reference21Ideal.Ref

open Cert.Reference21Ideal Cert.Reference21Ideal.Gen Idealize.ShloMosaic Idealize.ShloMosaic.TcCoe Idealize.SL.Sem

/-- Result 0 of the reference. -/
abbrev res0 (x0 : FVec Ideal S8x1920 .f32) (x1 : FVec Ideal S8x1920 .f32) (x2 : FVec Ideal S8x1920 .f32) (x3 : FVec Ideal S8x1920 .f32) : FVec Ideal S8x1920 .f32 :=
  mulf (broadcastInDim S8x1920 ![] bcast_S_S8x1920 (constant S_ .f32 0xBA83126F#32)) (addf (Host.divf (Host.divf (addf (mulf (broadcastInDim S8x1920 ![] bcast_S_S8x1920 (constant S_ .f32 0x3F666666#32)) x2) (mulf (broadcastInDim S8x1920 ![] bcast_S_S8x1920 (constant S_ .f32 0x3DCCCCCD#32)) x1)) (broadcastInDim S8x1920 ![] bcast_S_S8x1920 (constant S_ .f32 0x3F26BD02#32))) (addf (Host.sqrt (Host.divf (addf (mulf (broadcastInDim S8x1920 ![] bcast_S_S8x1920 (constant S_ .f32 0x3F7FBE77#32)) x3) (mulf (broadcastInDim S8x1920 ![] bcast_S_S8x1920 (constant S_ .f32 0x3A83126F#32)) (mulf x1 x1))) (broadcastInDim S8x1920 ![] bcast_S_S8x1920 (constant S_ .f32 0x3C231ACC#32)))) (broadcastInDim S8x1920 ![] bcast_S_S8x1920 (constant S_ .f32 0x322BCC77#32)))) (mulf (broadcastInDim S8x1920 ![] bcast_S_S8x1920 (constant S_ .f32 0x3C23D70A#32)) x0))

/-- Result 1 of the reference. -/
abbrev res1 (x0 : FVec Ideal S8x1920 .f32) (x1 : FVec Ideal S8x1920 .f32) (x2 : FVec Ideal S8x1920 .f32) (x3 : FVec Ideal S8x1920 .f32) : FVec Ideal S8x1920 .f32 :=
  addf (mulf (broadcastInDim S8x1920 ![] bcast_S_S8x1920 (constant S_ .f32 0x3F666666#32)) x2) (mulf (broadcastInDim S8x1920 ![] bcast_S_S8x1920 (constant S_ .f32 0x3DCCCCCD#32)) x1)

/-- Result 2 of the reference. -/
abbrev res2 (x0 : FVec Ideal S8x1920 .f32) (x1 : FVec Ideal S8x1920 .f32) (x2 : FVec Ideal S8x1920 .f32) (x3 : FVec Ideal S8x1920 .f32) : FVec Ideal S8x1920 .f32 :=
  addf (mulf (broadcastInDim S8x1920 ![] bcast_S_S8x1920 (constant S_ .f32 0x3F7FBE77#32)) x3) (mulf (broadcastInDim S8x1920 ![] bcast_S_S8x1920 (constant S_ .f32 0x3A83126F#32)) (mulf x1 x1))

end Cert.Reference21Ideal.Ref

end
-- ==== Proof.Claim21.lean ====
module

public import proofs.«01_k».proof.Proof.Gen.Kernel21Ideal.Value
public import proofs.«01_k».proof.Proof.Gen.Kernel21.Frame
public import proofs.«01_k».proof.Proof.Ref21
public import Idealize.ShloMosaic.Lib.Claim
public import Idealize.ShloMosaic.Lib.Pointwise
public import Idealize.ShloMosaic.Lib.Quiescent

@[expose] public section

set_option maxRecDepth 16384

noncomputable section

/-! The claims about the update of the small weights. -/

open Idealize.ShloMosaic Idealize.ShloMosaic.TcCoe Idealize.SL.Sem

namespace Cert.Proof

theorem frame21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

theorem algebraic21 : Cert.algebraic_Kernel21Ideal_Reference21Ideal := by
  pair_intro
  · run_from Cert.Kernel21Ideal.Value.run m g
  · run_from Cert.Reference21Ideal.Value.run m' g'
    all_goals (funext i; pointwise)

end Cert.Proof

end
-- ==== Proof.Ref22.lean ====
module

public import proofs.«01_k».proof.Defs
public import proofs.«01_k».proof.Proof.Gen.Reference22Ideal.Run

@[expose] public section

set_option maxRecDepth 16384

noncomputable section

/-! The results of the reference as terms over its argument arrays. -/

open Idealize.ShloMosaic Idealize.ShloMosaic.TcCoe Idealize.SL.Sem

namespace Cert.Reference22Ideal.Ref

open Cert.Reference22Ideal Cert.Reference22Ideal.Gen

/-- The gradient put together from its two halves: the first result. -/
abbrev res0 (x1 : FVec Ideal S512x1408 .f32) (x2 : FVec Ideal S512x1408 .f32) (x5 : IVec S1 32) : FVec Ideal S1x1024x1408 .f32 :=
  broadcastInDim S1x1024x1408 ![1, 2] bcast_S1024x1408_S1x1024x1408_1_2 (concatenate S1024x1408 0 [⟨S512x1408, (select (broadcastInDim S512x1408 ![] bcast_S_S512x1408 (cmpi .eq (shapeCast _ x5 shapeCasts_S1_S_) (constantI S_ 32 0#32))) x1 x2)⟩, ⟨S512x1408, (select (broadcastInDim S512x1408 ![] bcast_S_S512x1408 (cmpi .eq (shapeCast _ x5 shapeCasts_S1_S_) (constantI S_ 32 1#32))) x1 x2)⟩] concatenates_S512x1408_S512x1408_S1024x1408_d0)

/-- The new first moment: the third result. -/
abbrev res2 (x3 : FVec Ideal S1x1024x1408 .f32) (g : FVec Ideal S1x1024x1408 .f32) : FVec Ideal S1x1024x1408 .f32 :=
  addf (mulf (broadcastInDim S1x1024x1408 ![] bcast_S_S1x1024x1408 (constant S_ .f32 0x3F666666#32)) x3) (mulf (broadcastInDim S1x1024x1408 ![] bcast_S_S1x1024x1408 (constant S_ .f32 0x3DCCCCCD#32)) g)

/-- The new second moment: the fourth result. -/
abbrev res3 (x4 : FVec Ideal S1x1024x1408 .f32) (g : FVec Ideal S1x1024x1408 .f32) : FVec Ideal S1x1024x1408 .f32 :=
  addf (mulf (broadcastInDim S1x1024x1408 ![] bcast_S_S1x1024x1408 (constant S_ .f32 0x3F7FBE77#32)) x4) (mulf (broadcastInDim S1x1024x1408 ![] bcast_S_S1x1024x1408 (constant S_ .f32 0x3A83126F#32)) (mulf g g))

/-- The change of the weight: the second result. -/
abbrev res1 (x0 : FVec Ideal S1x1024x1408 .f32) (x3 : FVec Ideal S1x1024x1408 .f32) (x4 : FVec Ideal S1x1024x1408 .f32) (g : FVec Ideal S1x1024x1408 .f32) : FVec Ideal S1x1024x1408 .f32 :=
  mulf (broadcastInDim S1x1024x1408 ![] bcast_S_S1x1024x1408 (constant S_ .f32 0xBA83126F#32)) (addf (Host.divf (Host.divf (res2 x3 g) (broadcastInDim S1x1024x1408 ![] bcast_S_S1x1024x1408 (constant S_ .f32 0x3F26BD02#32))) (addf (Host.sqrt (Host.divf (res3 x4 g) (broadcastInDim S1x1024x1408 ![] bcast_S_S1x1024x1408 (constant S_ .f32 0x3C231ACC#32)))) (broadcastInDim S1x1024x1408 ![] bcast_S_S1x1024x1408 (constant S_ .f32 0x322BCC77#32)))) (mulf (broadcastInDim S1x1024x1408 ![] bcast_S_S1x1024x1408 (constant S_ .f32 0x3C23D70A#32)) x0))

end Cert.Reference22Ideal.Ref

end
-- ==== Proof.Adam.lean ====
module

public import Idealize.ShloMosaic.Lib.Pointwise

@[expose] public section

noncomputable section

/-! One entry of the update of a weight: the two moments and the change, as functions of the weight, the gradient and the moments before. -/

open Idealize.ShloMosaic

namespace Cert.Adam

/-- The new first moment. -/
def first (a g : EReal) : EReal := Ideal.ofBits .f32 0x3F666666#32 * a + Ideal.ofBits .f32 0x3DCCCCCD#32 * g

/-- The new second moment. -/
def second (b g : EReal) : EReal := Ideal.ofBits .f32 0x3F7FBE77#32 * b + Ideal.ofBits .f32 0x3A83126F#32 * (g * g)

/-- The change of the weight. -/
def change (w a b g : EReal) : EReal :=
  Ideal.ofBits .f32 0xBA83126F#32 * (Ideal.div (Ideal.div (first a g) (Ideal.ofBits .f32 0x3F26BD02#32))
    (Ideal.sqrt (Ideal.div (second b g) (Ideal.ofBits .f32 0x3C231ACC#32)) + Ideal.ofBits .f32 0x322BCC77#32) + Ideal.ofBits .f32 0x3C23D70A#32 * w)

theorem select_eq {α : Type} (v w : BitVec 32) (a b : α) : Scalar.select (IntOp.cmpi .eq v w) a b = if v = w then a else b := by
  unfold Scalar.select IntOp.cmpi
  by_cases e : v = w
  · subst e; simp
  · have f : (v == w) = false := by simpa using e
    rw [if_neg e]
    show (if BitVec.ofBool (v == w) = 1 then a else b) = b
    rw [f]
    rfl

end Cert.Adam

end
-- ==== Proof.Upd22.lean ====
module

public import proofs.«01_k».proof.Proof.Gen.Kernel22Ideal.Frame
public import proofs.«01_k».proof.Proof.Ref22
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Covers

@[expose] public section

set_option maxRecDepth 16384

noncomputable section

/-! The update of a feed-forward block's weight up: each block, and the four arrays. -/

open Idealize.ShloMosaic Idealize.ShloMosaic.TcCoe Idealize.SL.Sem
open Idealize.ShloMosaic.Pipeline (Dat)

namespace Cert.Kernel22Ideal.Update

open Cert.Kernel22Ideal Cert.Kernel22Ideal.Gen
open Cert.Adam

/-- The half a point takes its gradient from: the core's own where the point's half has the core's number. -/
theorem pay6_at (i : grid0.Coords) (w : BitVec 32) (a b : FVec Ideal S256x1408 .f32) (y : S256x1408.Idx) :
    k0_pay6 (F := Ideal) i w a b y = if BitVec.ofNat 32 ((i 0 : ℕ) / 2) = w then a y else b y := by
  have h : ∀ v : BitVec 32, Scalar.select (Scalar.cmpi .eq v w) a b y = if v = w then a y else b y := fun v =>
    (congrFun (select_eq v w a b) y).trans (by split <;> rfl)
  obtain ⟨n, hn⟩ : ∃ n, n = i 0 := ⟨_, rfl⟩
  rw [← h]
  unfold k0_pay6
  rw [← hn]
  fin_cases n <;> rfl

/-- The joined gradient at an entry. -/
theorem res0_at (x1 x2 : FVec Ideal S512x1408 .f32) (x5 : IVec S1 32) (i : S1x1024x1408.Idx) (j : S512x1408.Idx) (h0 : (j 0 : ℕ) = (i 1 : ℕ) % 512) (h1 : (j 1 : ℕ) = (i 2 : ℕ)) :
    Cert.Reference22Ideal.Ref.res0 x1 x2 x5 i = if BitVec.ofNat 32 ((i 1 : ℕ) / 512) = x5 (ix1 0) then x1 j else x2 j := by
  have h : ∀ (w v : BitVec 32) (a b : EReal), Scalar.select (IntOp.cmpi .eq w v) a b = if v = w then a else b := fun w v a b =>
    (select_eq w v a b).trans (if_congr eq_comm rfl rfl)
  have hi : (i 1 : ℕ) < 1024 := (i 1).isLt
  have hj : j = ix2 (j 0) (j 1) := eq_ix2 j
  pointwise [Cert.Reference22Ideal.Ref.res0]
  split
  · rw [h, show (i 1 : ℕ) / 512 = 0 by omega, hj]
    refine if_congr Iff.rfl ?_ ?_ <;> blk_point []
  · rw [h, show (i 1 : ℕ) / 512 = 1 by omega, hj]
    refine if_congr Iff.rfl ?_ ?_ <;> blk_point []

/-- What the kernel writes from one entry of its gradient and of the three other arrays. -/
theorem pay345_at (g : FVec Ideal S256x1408 .f32) (a0 a3 a4 : FVec Ideal S1x256x1408 .f32) (y : S1x256x1408.Idx) :
    k0_pay3 (F := Ideal) g (k0_pay8 a0) (k0_pay9 a4) (k0_pay10 a3) y = change (a0 y) (a3 y) (a4 y) (g (ix2 (y 1) (y 2)))
    ∧ k0_pay4 (F := Ideal) g (k0_pay10 a3) y = first (a3 y) (g (ix2 (y 1) (y 2)))
    ∧ k0_pay5 (F := Ideal) g (k0_pay9 a4) y = second (a4 y) (g (ix2 (y 1) (y 2))) := by
  unfold change first second
  refine ⟨?_, ?_, ?_⟩ <;> (pointwise [k0_pay1, k0_pay2, k0_pay3, k0_pay4, k0_pay5, k0_pay8, k0_pay9, k0_pay10])

theorem res_at (x0 x3 x4 g : FVec Ideal S1x1024x1408 .f32) (i : S1x1024x1408.Idx) :
    Cert.Reference22Ideal.Ref.res1 x0 x3 x4 g i = change (x0 i) (x3 i) (x4 i) (g i) ∧ Cert.Reference22Ideal.Ref.res2 x3 g i = first (x3 i) (g i) ∧ Cert.Reference22Ideal.Ref.res3 x4 g i = second (x4 i) (g i) := by
  unfold change first second
  refine ⟨?_, ?_, ?_⟩ <;> pointwise

variable (m : (ℓ : Loc nD τ sig) → Buf (Elt Ideal) ℓ)

theorem ok : Ok m := trivial

theorem idx0 : ∀ t : Fin grid0.N, cc0_transform_0 (grid0.coords t) = ![0, t.val, 0] ∧ cc0_transform_1 (grid0.coords t) = ![t.val % 2, 0] ∧ cc0_transform_2 (grid0.coords t) = ![t.val % 2, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] := by
  decide +kernel

theorem idx (t : Fin (cfgM m (ok m)).N) : ((cfgM m (ok m)).win 0).index t = ![0, t.val, 0] ∧ ((cfgM m (ok m)).win 1).index t = ![t.val % 2, 0] ∧ ((cfgM m (ok m)).win 2).index t = ![t.val % 2, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  idx0 t

theorem covers : ((cfgM m (ok m)).win 5).Covers ∧ ((cfgM m (ok m)).win 6).Covers ∧ ((cfgM m (ok m)).win 7).Covers ∧ ((cfgM m (ok m)).win 8).Covers := by
  refine ⟨?_, ?_, ?_, ?_⟩
  all_goals
    refine Pipeline.Window.covers_of_index_surj _ rfl (show ∀ a : Fin 3, 0 < (![1, 256, 1408] : Fin 3 → ℕ) a by decide) fun β => ?_
    have h1 : (β (1 : Fin 3)).val < grid0.N := lt_of_lt_of_eq (β (1 : Fin 3)).isLt (by sl_kernel_rfl)
    have h0 : (β (0 : Fin 3)).val < 1 := lt_of_lt_of_eq (β (0 : Fin 3)).isLt (by sl_kernel_rfl)
    have h2 : (β (2 : Fin 3)).val < 1 := lt_of_lt_of_eq (β (2 : Fin 3)).isLt (by sl_kernel_rfl)
    refine ⟨⟨(β (1 : Fin 3)).val, h1⟩, ?_⟩
    simp only [idx m _]
    show ∀ a : Fin 3, (![0, (β (1 : Fin 3)).val, 0] : Fin 3 → ℕ) a = (β a).val
    intro a
    match a with
    | 0 => show 0 = _; omega
    | 1 => rfl
    | 2 => show 0 = _; omega

/-- The word the points read. -/
theorem word (c : Dev nD) (q : (Rect.unit (s := S1) ![0] ![1] inb_S1_S1_0).shape.Idx) : View.readAt (Elt Ideal) (View.whole main_arg5) (Rect.unit ![0] ![1] inb_S1_S1_0).toLoadRect (tbl m 0) q = (m ((c : Thread nD τ).loc main_arg5)) (ix1 0) := by
  obtain rfl : c = 0 := Subsingleton.elim _ _
  refine congrArg (m (((0 : Dev nD) : Thread nD τ).loc main_arg5)) (funext fun a => ?_)
  match a with
  | 0 => exact Subsingleton.elim (α := Fin 1) _ _

/-- The blocks of the three arrays of the weight's shape. -/
theorem blk_at (c : Dev nD) (t : Fin (cfgM m (ok m)).N) (y : S1x256x1408.Idx) (i : S1x1024x1408.Idx) (h1 : (i 1 : ℕ) = t.val * 256 + y 1) (h2 : (i 2 : ℕ) = y 2) :
    (iblk m (ok m) c 0 t : FVec Ideal S1x256x1408 .f32) y = (m ((c : Thread nD τ).loc main_arg0)) i ∧ (iblk m (ok m) c 3 t : FVec Ideal S1x256x1408 .f32) y = (m ((c : Thread nD τ).loc main_arg3)) i
    ∧ (iblk m (ok m) c 4 t : FVec Ideal S1x256x1408 .f32) y = (m ((c : Thread nD τ).loc main_arg4)) i := by
  have hi : (i 0 : ℕ) < 1 := (i 0).isLt
  have hy : (y 0 : ℕ) < 1 := (y 0).isLt
  refine ⟨?_, ?_, ?_⟩ <;> blk_ext [iblk, V, idx m t]

/-- The gradient of a point at an entry. -/
theorem grad_at (c : Dev nD) (t : Fin (cfgM m (ok m)).N) (y : S1x256x1408.Idx) (i : S1x1024x1408.Idx) (h1 : (i 1 : ℕ) = t.val * 256 + y 1) (h2 : (i 2 : ℕ) = y 2) :
    k0_pay6 (F := Ideal) (grid0.coords t) ((m ((c : Thread nD τ).loc main_arg5)) (ix1 0)) (iblk m (ok m) c 1 t) (iblk m (ok m) c 2 t) (ix2 (y 1) (y 2)) = Cert.Reference22Ideal.Ref.res0 (m ((c : Thread nD τ).loc main_arg1)) (m ((c : Thread nD τ).loc main_arg2)) (m ((c : Thread nD τ).loc main_arg5)) i := by
  have hc : ∀ t : Fin grid0.N, (grid0.coords t 0 : ℕ) = t.val ∧ t.val < 4 := by decide +kernel
  have hy : (y 1 : ℕ) < 256 := (y 1).isLt
  obtain ⟨ht, hN⟩ := hc t
  have hi : (i 1 : ℕ) % 512 < 512 := Nat.mod_lt _ (by decide)
  rw [res0_at _ _ _ i (ix2 ⟨(i 1 : ℕ) % 512, hi⟩ (i 2)) rfl rfl]
  refine (pay6_at _ _ _ _ _).trans ?_
  rw [ht, show (i 1 : ℕ) / 512 = t.val / 2 by omega]
  refine if_congr Iff.rfl ?_ ?_
  all_goals blk_ext [iblk, V, idx m t]

/-- What a point leaves in the blocks of the four outputs. -/
theorem outs_at (c : Dev nD) (t : Fin (cfgM m (ok m)).N) (y : S1x256x1408.Idx) (i : S1x1024x1408.Idx) (h1 : (i 1 : ℕ) = t.val * 256 + y 1) (h2 : (i 2 : ℕ) = y 2) :
    (outsAt0 m (ok m) c t).1 y = (Cert.Reference22Ideal.Ref.res0 (m ((c : Thread nD τ).loc main_arg1)) (m ((c : Thread nD τ).loc main_arg2)) (m ((c : Thread nD τ).loc main_arg5))) i
    ∧ (outsAt0 m (ok m) c t).2.1 y = Cert.Reference22Ideal.Ref.res1 (m ((c : Thread nD τ).loc main_arg0)) (m ((c : Thread nD τ).loc main_arg3)) (m ((c : Thread nD τ).loc main_arg4)) (Cert.Reference22Ideal.Ref.res0 (m ((c : Thread nD τ).loc main_arg1)) (m ((c : Thread nD τ).loc main_arg2)) (m ((c : Thread nD τ).loc main_arg5))) i
    ∧ (outsAt0 m (ok m) c t).2.2.1 y = Cert.Reference22Ideal.Ref.res2 (m ((c : Thread nD τ).loc main_arg3)) (Cert.Reference22Ideal.Ref.res0 (m ((c : Thread nD τ).loc main_arg1)) (m ((c : Thread nD τ).loc main_arg2)) (m ((c : Thread nD τ).loc main_arg5))) i
    ∧ (outsAt0 m (ok m) c t).2.2.2 y = Cert.Reference22Ideal.Ref.res3 (m ((c : Thread nD τ).loc main_arg4)) (Cert.Reference22Ideal.Ref.res0 (m ((c : Thread nD τ).loc main_arg1)) (m ((c : Thread nD τ).loc main_arg2)) (m ((c : Thread nD τ).loc main_arg5))) i := by
  obtain ⟨b0, b3, b4⟩ := blk_at m c t y i h1 h2
  have hg := grad_at m c t y i h1 h2
  obtain ⟨r1, r2, r3⟩ := res_at (m ((c : Thread nD τ).loc main_arg0)) (m ((c : Thread nD τ).loc main_arg3)) (m ((c : Thread nD τ).loc main_arg4)) (Cert.Reference22Ideal.Ref.res0 (m ((c : Thread nD τ).loc main_arg1)) (m ((c : Thread nD τ).loc main_arg2)) (m ((c : Thread nD τ).loc main_arg5))) i
  have e0 := (hs0_0 m (ok m) t).read_unread (Val := Elt Ideal) (iblk m (ok m) c 0 t)
  have e1 := (hs0_1 m (ok m) t).read_unread (Val := Elt Ideal) (iblk m (ok m) c 1 t)
  have e2 := (hs0_2 m (ok m) t).read_unread (Val := Elt Ideal) (iblk m (ok m) c 2 t)
  have e3 := (hs0_3 m (ok m) t).read_unread (Val := Elt Ideal) (iblk m (ok m) c 3 t)
  have e4 := (hs0_4 m (ok m) t).read_unread (Val := Elt Ideal) (iblk m (ok m) c 4 t)
  obtain ⟨p3, p4, p5⟩ := pay345_at (k0_pay6 (grid0.coords t) ((m ((c : Thread nD τ).loc main_arg5)) (ix1 0)) (iblk m (ok m) c 1 t) (iblk m (ok m) c 2 t)) (iblk m (ok m) c 0 t) (iblk m (ok m) c 3 t) (iblk m (ok m) c 4 t) y
  rw [r1, r2, r3, ← hg, ← b0, ← b3, ← b4]
  unfold outsAt0
  refine ⟨?_, ?_, ?_, ?_⟩
  · frame_out
    refine (congrFun (congr (congr (congrArg (k0_pay7 _) (word m c _)) e1) e2) y).trans ?_
    unfold k0_pay7
    pointwise
  · frame_out
    exact (congrFun (congr (congr (congr (congrArg k0_pay3 (congr (congr (congrArg (k0_pay6 _) (word m c _)) e1) e2)) (congrArg k0_pay8 e0)) (congrArg k0_pay9 e4)) (congrArg k0_pay10 e3)) y).trans p3
  · frame_out
    exact (congrFun (congr (congrArg k0_pay4 (congr (congr (congrArg (k0_pay6 _) (word m c _)) e1) e2)) (congrArg k0_pay10 e3)) y).trans p4
  · frame_out
    exact (congrFun (congr (congrArg k0_pay5 (congr (congr (congrArg (k0_pay6 _) (word m c _)) e1) e2)) (congrArg k0_pay9 e4)) y).trans p5

theorem final5 (c : Dev nD) : (dats m (ok m) 0 c).arrAt 5 (cfgM m (ok m)).N = Cert.Reference22Ideal.Ref.res0 (m ((c : Thread nD τ).loc main_arg1)) (m ((c : Thread nD τ).loc main_arg2)) (m ((c : Thread nD τ).loc main_arg5)) := by
  refine (dats m (ok m) 0 c).arrAt_eq_of_covers 5 _ (covers m).1 fun t _ y => ?_
  blk_simp
  rw [after0_5]
  exact (outs_at m c t y _ (by blk_simp [idx m t]) (by blk_simp [idx m t])).1

theorem final6 (c : Dev nD) : (dats m (ok m) 0 c).arrAt 6 (cfgM m (ok m)).N = Cert.Reference22Ideal.Ref.res1 (m ((c : Thread nD τ).loc main_arg0)) (m ((c : Thread nD τ).loc main_arg3)) (m ((c : Thread nD τ).loc main_arg4)) (Cert.Reference22Ideal.Ref.res0 (m ((c : Thread nD τ).loc main_arg1)) (m ((c : Thread nD τ).loc main_arg2)) (m ((c : Thread nD τ).loc main_arg5))) := by
  refine (dats m (ok m) 0 c).arrAt_eq_of_covers 6 _ (covers m).2.1 fun t _ y => ?_
  blk_simp
  rw [after0_6]
  exact (outs_at m c t y _ (by blk_simp [idx m t]) (by blk_simp [idx m t])).2.1

theorem final7 (c : Dev nD) : (dats m (ok m) 0 c).arrAt 7 (cfgM m (ok m)).N = Cert.Reference22Ideal.Ref.res2 (m ((c : Thread nD τ).loc main_arg3)) (Cert.Reference22Ideal.Ref.res0 (m ((c : Thread nD τ).loc main_arg1)) (m ((c : Thread nD τ).loc main_arg2)) (m ((c : Thread nD τ).loc main_arg5))) := by
  refine (dats m (ok m) 0 c).arrAt_eq_of_covers 7 _ (covers m).2.2.1 fun t _ y => ?_
  blk_simp
  rw [after0_7]
  exact (outs_at m c t y _ (by blk_simp [idx m t]) (by blk_simp [idx m t])).2.2.1

theorem final8 (c : Dev nD) : (dats m (ok m) 0 c).arrAt 8 (cfgM m (ok m)).N = Cert.Reference22Ideal.Ref.res3 (m ((c : Thread nD τ).loc main_arg4)) (Cert.Reference22Ideal.Ref.res0 (m ((c : Thread nD τ).loc main_arg1)) (m ((c : Thread nD τ).loc main_arg2)) (m ((c : Thread nD τ).loc main_arg5))) := by
  refine (dats m (ok m) 0 c).arrAt_eq_of_covers 8 _ (covers m).2.2.2 fun t _ y => ?_
  blk_simp
  rw [after0_8]
  exact (outs_at m c t y _ (by blk_simp [idx m t]) (by blk_simp [idx m t])).2.2.2

end Cert.Kernel22Ideal.Update

end
-- ==== Proof.Claim22.lean ====
module

public import proofs.«01_k».proof.Proof.Upd22
public import proofs.«01_k».proof.Proof.Ref22
public import proofs.«01_k».proof.Proof.Gen.Kernel22.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the update of a feed-forward block's weight up. -/

namespace Cert.Proof

theorem frame22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem algebraic22 : Cert.algebraic_Kernel22Ideal_Reference22Ideal := by
  intro m g m' g' hpre hagree
  let A (c : Dev Cert.Kernel22Ideal.nD) (b) := m ((c.tc : Thread Cert.Kernel22Ideal.nD Cert.Kernel22Ideal.τ).loc b)
  let G (c : Dev Cert.Kernel22Ideal.nD) := Cert.Reference22Ideal.Ref.res0 (A c Cert.Kernel22Ideal.main_arg1) (A c Cert.Kernel22Ideal.main_arg2) (A c Cert.Kernel22Ideal.main_arg5)
  refine ⟨G, fun c => Cert.Reference22Ideal.Ref.res1 (A c Cert.Kernel22Ideal.main_arg0) (A c Cert.Kernel22Ideal.main_arg3) (A c Cert.Kernel22Ideal.main_arg4) (G c),
    fun c => Cert.Reference22Ideal.Ref.res2 (A c Cert.Kernel22Ideal.main_arg3) (G c), fun c => Cert.Reference22Ideal.Ref.res3 (A c Cert.Kernel22Ideal.main_arg4) (G c), ?_, ?_⟩
  · exact (θ_run Cert.Kernel22Ideal.defs _ _).mono (fun r h c => ⟨((h.2 c).1 5).trans (Cert.Kernel22Ideal.Update.final5 m c), ((h.2 c).1 6).trans (Cert.Kernel22Ideal.Update.final6 m c),
        ((h.2 c).1 7).trans (Cert.Kernel22Ideal.Update.final7 m c), ((h.2 c).1 8).trans (Cert.Kernel22Ideal.Update.final8 m c), h.1 c⟩)
      (θ_run_and (Cert.Kernel22Ideal.Gen.unchanged m g (Cert.Kernel22Ideal.Update.ok m)) (Cert.Kernel22Ideal.Gen.run_main m g (Cert.Kernel22Ideal.Update.ok m)))
  · refine (θ_run Cert.Reference22Ideal.defs _ _).mono (fun r h c => ⟨(h c).1.trans ?_, (h c).2.1.trans ?_, (h c).2.2.1.trans ?_, (h c).2.2.2.1.trans ?_, (h c).2.2.2.2⟩)
      (Cert.Reference22Ideal.Value.run (F := Ideal) m' g') <;> obtain ⟨a0, a1, a2, a3, a4, a5⟩ := hagree c
    · rw [a1, a2, a5]
    · rw [a0, a1, a2, a3, a4, a5]
    · rw [a1, a2, a3, a5]
    · rw [a1, a2, a4, a5]

end Cert.Proof

end
-- ==== Proof.Ref23.lean ====
module

public import proofs.«01_k».proof.Defs
public import proofs.«01_k».proof.Proof.Gen.Reference23Ideal.Run

@[expose] public section

set_option maxRecDepth 16384

noncomputable section

/-! The results of the reference as terms over its argument arrays. -/

open Idealize.ShloMosaic Idealize.ShloMosaic.TcCoe Idealize.SL.Sem

namespace Cert.Reference23Ideal.Ref

open Cert.Reference23Ideal Cert.Reference23Ideal.Gen

/-- The gradient put together from its two halves: the first result. -/
abbrev res0 (x1 : FVec Ideal S352x1024 .f32) (x2 : FVec Ideal S352x1024 .f32) (x5 : IVec S1 32) : FVec Ideal S1x704x1024 .f32 :=
  broadcastInDim S1x704x1024 ![1, 2] bcast_S704x1024_S1x704x1024_1_2 (concatenate S704x1024 0 [⟨S352x1024, (select (broadcastInDim S352x1024 ![] bcast_S_S352x1024 (cmpi .eq (shapeCast _ x5 shapeCasts_S1_S_) (constantI S_ 32 0#32))) x1 x2)⟩, ⟨S352x1024, (select (broadcastInDim S352x1024 ![] bcast_S_S352x1024 (cmpi .eq (shapeCast _ x5 shapeCasts_S1_S_) (constantI S_ 32 1#32))) x1 x2)⟩] concatenates_S352x1024_S352x1024_S704x1024_d0)

/-- The new first moment: the third result. -/
abbrev res2 (x3 : FVec Ideal S1x704x1024 .f32) (g : FVec Ideal S1x704x1024 .f32) : FVec Ideal S1x704x1024 .f32 :=
  addf (mulf (broadcastInDim S1x704x1024 ![] bcast_S_S1x704x1024 (constant S_ .f32 0x3F666666#32)) x3) (mulf (broadcastInDim S1x704x1024 ![] bcast_S_S1x704x1024 (constant S_ .f32 0x3DCCCCCD#32)) g)

/-- The new second moment: the fourth result. -/
abbrev res3 (x4 : FVec Ideal S1x704x1024 .f32) (g : FVec Ideal S1x704x1024 .f32) : FVec Ideal S1x704x1024 .f32 :=
  addf (mulf (broadcastInDim S1x704x1024 ![] bcast_S_S1x704x1024 (constant S_ .f32 0x3F7FBE77#32)) x4) (mulf (broadcastInDim S1x704x1024 ![] bcast_S_S1x704x1024 (constant S_ .f32 0x3A83126F#32)) (mulf g g))

/-- The change of the weight: the second result. -/
abbrev res1 (x0 : FVec Ideal S1x704x1024 .f32) (x3 : FVec Ideal S1x704x1024 .f32) (x4 : FVec Ideal S1x704x1024 .f32) (g : FVec Ideal S1x704x1024 .f32) : FVec Ideal S1x704x1024 .f32 :=
  mulf (broadcastInDim S1x704x1024 ![] bcast_S_S1x704x1024 (constant S_ .f32 0xBA83126F#32)) (addf (Host.divf (Host.divf (res2 x3 g) (broadcastInDim S1x704x1024 ![] bcast_S_S1x704x1024 (constant S_ .f32 0x3F26BD02#32))) (addf (Host.sqrt (Host.divf (res3 x4 g) (broadcastInDim S1x704x1024 ![] bcast_S_S1x704x1024 (constant S_ .f32 0x3C231ACC#32)))) (broadcastInDim S1x704x1024 ![] bcast_S_S1x704x1024 (constant S_ .f32 0x322BCC77#32)))) (mulf (broadcastInDim S1x704x1024 ![] bcast_S_S1x704x1024 (constant S_ .f32 0x3C23D70A#32)) x0))

end Cert.Reference23Ideal.Ref

end
-- ==== Proof.Upd23.lean ====
module

public import proofs.«01_k».proof.Proof.Gen.Kernel23Ideal.Frame
public import proofs.«01_k».proof.Proof.Ref23
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Covers

@[expose] public section

set_option maxRecDepth 16384

noncomputable section

/-! The update of a feed-forward block's weight down: each block, and the four arrays. -/

open Idealize.ShloMosaic Idealize.ShloMosaic.TcCoe Idealize.SL.Sem
open Idealize.ShloMosaic.Pipeline (Dat)

namespace Cert.Kernel23Ideal.Update

open Cert.Kernel23Ideal Cert.Kernel23Ideal.Gen
open Cert.Adam

/-- The half a point takes its gradient from: the core's own where the point's half has the core's number. -/
theorem pay6_at (i : grid0.Coords) (w : BitVec 32) (a b : FVec Ideal S352x1024 .f32) (y : S352x1024.Idx) :
    k0_pay6 (F := Ideal) i w a b y = if BitVec.ofNat 32 ((i 0 : ℕ) / 1) = w then a y else b y := by
  have h : ∀ v : BitVec 32, Scalar.select (Scalar.cmpi .eq v w) a b y = if v = w then a y else b y := fun v =>
    (congrFun (select_eq v w a b) y).trans (by split <;> rfl)
  obtain ⟨n, hn⟩ : ∃ n, n = i 0 := ⟨_, rfl⟩
  rw [← h]
  unfold k0_pay6
  rw [← hn]
  fin_cases n <;> rfl

/-- The joined gradient at an entry. -/
theorem res0_at (x1 x2 : FVec Ideal S352x1024 .f32) (x5 : IVec S1 32) (i : S1x704x1024.Idx) (j : S352x1024.Idx) (h0 : (j 0 : ℕ) = (i 1 : ℕ) % 352) (h1 : (j 1 : ℕ) = (i 2 : ℕ)) :
    Cert.Reference23Ideal.Ref.res0 x1 x2 x5 i = if BitVec.ofNat 32 ((i 1 : ℕ) / 352) = x5 (ix1 0) then x1 j else x2 j := by
  have h : ∀ (w v : BitVec 32) (a b : EReal), Scalar.select (IntOp.cmpi .eq w v) a b = if v = w then a else b := fun w v a b =>
    (select_eq w v a b).trans (if_congr eq_comm rfl rfl)
  have hi : (i 1 : ℕ) < 704 := (i 1).isLt
  have hj : j = ix2 (j 0) (j 1) := eq_ix2 j
  pointwise [Cert.Reference23Ideal.Ref.res0]
  split
  · rw [h, show (i 1 : ℕ) / 352 = 0 by omega, hj]
    refine if_congr Iff.rfl ?_ ?_ <;> blk_point []
  · rw [h, show (i 1 : ℕ) / 352 = 1 by omega, hj]
    refine if_congr Iff.rfl ?_ ?_ <;> blk_point []

/-- What the kernel writes from one entry of its gradient and of the three other arrays. -/
theorem pay345_at (g : FVec Ideal S352x1024 .f32) (a0 a3 a4 : FVec Ideal S1x352x1024 .f32) (y : S1x352x1024.Idx) :
    k0_pay3 (F := Ideal) g (k0_pay8 a0) (k0_pay9 a4) (k0_pay10 a3) y = change (a0 y) (a3 y) (a4 y) (g (ix2 (y 1) (y 2)))
    ∧ k0_pay4 (F := Ideal) g (k0_pay10 a3) y = first (a3 y) (g (ix2 (y 1) (y 2)))
    ∧ k0_pay5 (F := Ideal) g (k0_pay9 a4) y = second (a4 y) (g (ix2 (y 1) (y 2))) := by
  unfold change first second
  refine ⟨?_, ?_, ?_⟩ <;> (pointwise [k0_pay1, k0_pay2, k0_pay3, k0_pay4, k0_pay5, k0_pay8, k0_pay9, k0_pay10])

theorem res_at (x0 x3 x4 g : FVec Ideal S1x704x1024 .f32) (i : S1x704x1024.Idx) :
    Cert.Reference23Ideal.Ref.res1 x0 x3 x4 g i = change (x0 i) (x3 i) (x4 i) (g i) ∧ Cert.Reference23Ideal.Ref.res2 x3 g i = first (x3 i) (g i) ∧ Cert.Reference23Ideal.Ref.res3 x4 g i = second (x4 i) (g i) := by
  unfold change first second
  refine ⟨?_, ?_, ?_⟩ <;> pointwise

variable (m : (ℓ : Loc nD τ sig) → Buf (Elt Ideal) ℓ)

theorem ok : Ok m := trivial

theorem idx0 : ∀ t : Fin grid0.N, cc0_transform_0 (grid0.coords t) = ![0, t.val, 0] ∧ cc0_transform_1 (grid0.coords t) = ![0, 0] ∧ cc0_transform_2 (grid0.coords t) = ![0, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] := by
  decide +kernel

theorem idx (t : Fin (cfgM m (ok m)).N) : ((cfgM m (ok m)).win 0).index t = ![0, t.val, 0] ∧ ((cfgM m (ok m)).win 1).index t = ![0, 0] ∧ ((cfgM m (ok m)).win 2).index t = ![0, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  idx0 t

theorem covers : ((cfgM m (ok m)).win 5).Covers ∧ ((cfgM m (ok m)).win 6).Covers ∧ ((cfgM m (ok m)).win 7).Covers ∧ ((cfgM m (ok m)).win 8).Covers := by
  refine ⟨?_, ?_, ?_, ?_⟩
  all_goals
    refine Pipeline.Window.covers_of_index_surj _ rfl (show ∀ a : Fin 3, 0 < (![1, 352, 1024] : Fin 3 → ℕ) a by decide) fun β => ?_
    have h1 : (β (1 : Fin 3)).val < grid0.N := lt_of_lt_of_eq (β (1 : Fin 3)).isLt (by sl_kernel_rfl)
    have h0 : (β (0 : Fin 3)).val < 1 := lt_of_lt_of_eq (β (0 : Fin 3)).isLt (by sl_kernel_rfl)
    have h2 : (β (2 : Fin 3)).val < 1 := lt_of_lt_of_eq (β (2 : Fin 3)).isLt (by sl_kernel_rfl)
    refine ⟨⟨(β (1 : Fin 3)).val, h1⟩, ?_⟩
    simp only [idx m _]
    show ∀ a : Fin 3, (![0, (β (1 : Fin 3)).val, 0] : Fin 3 → ℕ) a = (β a).val
    intro a
    match a with
    | 0 => show 0 = _; omega
    | 1 => rfl
    | 2 => show 0 = _; omega

/-- The word the points read. -/
theorem word (c : Dev nD) (q : (Rect.unit (s := S1) ![0] ![1] inb_S1_S1_0).shape.Idx) : View.readAt (Elt Ideal) (View.whole main_arg5) (Rect.unit ![0] ![1] inb_S1_S1_0).toLoadRect (tbl m 0) q = (m ((c : Thread nD τ).loc main_arg5)) (ix1 0) := by
  obtain rfl : c = 0 := Subsingleton.elim _ _
  refine congrArg (m (((0 : Dev nD) : Thread nD τ).loc main_arg5)) (funext fun a => ?_)
  match a with
  | 0 => exact Subsingleton.elim (α := Fin 1) _ _

/-- The blocks of the three arrays of the weight's shape. -/
theorem blk_at (c : Dev nD) (t : Fin (cfgM m (ok m)).N) (y : S1x352x1024.Idx) (i : S1x704x1024.Idx) (h1 : (i 1 : ℕ) = t.val * 352 + y 1) (h2 : (i 2 : ℕ) = y 2) :
    (iblk m (ok m) c 0 t : FVec Ideal S1x352x1024 .f32) y = (m ((c : Thread nD τ).loc main_arg0)) i ∧ (iblk m (ok m) c 3 t : FVec Ideal S1x352x1024 .f32) y = (m ((c : Thread nD τ).loc main_arg3)) i
    ∧ (iblk m (ok m) c 4 t : FVec Ideal S1x352x1024 .f32) y = (m ((c : Thread nD τ).loc main_arg4)) i := by
  have hi : (i 0 : ℕ) < 1 := (i 0).isLt
  have hy : (y 0 : ℕ) < 1 := (y 0).isLt
  refine ⟨?_, ?_, ?_⟩ <;> blk_ext [iblk, V, idx m t]

/-- The gradient of a point at an entry. -/
theorem grad_at (c : Dev nD) (t : Fin (cfgM m (ok m)).N) (y : S1x352x1024.Idx) (i : S1x704x1024.Idx) (h1 : (i 1 : ℕ) = t.val * 352 + y 1) (h2 : (i 2 : ℕ) = y 2) :
    k0_pay6 (F := Ideal) (grid0.coords t) ((m ((c : Thread nD τ).loc main_arg5)) (ix1 0)) (iblk m (ok m) c 1 t) (iblk m (ok m) c 2 t) (ix2 (y 1) (y 2)) = Cert.Reference23Ideal.Ref.res0 (m ((c : Thread nD τ).loc main_arg1)) (m ((c : Thread nD τ).loc main_arg2)) (m ((c : Thread nD τ).loc main_arg5)) i := by
  have hc : ∀ t : Fin grid0.N, (grid0.coords t 0 : ℕ) = t.val ∧ t.val < 2 := by decide +kernel
  have hy : (y 1 : ℕ) < 352 := (y 1).isLt
  obtain ⟨ht, hN⟩ := hc t
  have hi : (i 1 : ℕ) % 352 < 352 := Nat.mod_lt _ (by decide)
  rw [res0_at _ _ _ i (ix2 ⟨(i 1 : ℕ) % 352, hi⟩ (i 2)) rfl rfl]
  refine (pay6_at _ _ _ _ _).trans ?_
  rw [ht, show (i 1 : ℕ) / 352 = t.val / 1 by omega]
  refine if_congr Iff.rfl ?_ ?_
  all_goals blk_ext [iblk, V, idx m t]

/-- What a point leaves in the blocks of the four outputs. -/
theorem outs_at (c : Dev nD) (t : Fin (cfgM m (ok m)).N) (y : S1x352x1024.Idx) (i : S1x704x1024.Idx) (h1 : (i 1 : ℕ) = t.val * 352 + y 1) (h2 : (i 2 : ℕ) = y 2) :
    (outsAt0 m (ok m) c t).1 y = (Cert.Reference23Ideal.Ref.res0 (m ((c : Thread nD τ).loc main_arg1)) (m ((c : Thread nD τ).loc main_arg2)) (m ((c : Thread nD τ).loc main_arg5))) i
    ∧ (outsAt0 m (ok m) c t).2.1 y = Cert.Reference23Ideal.Ref.res1 (m ((c : Thread nD τ).loc main_arg0)) (m ((c : Thread nD τ).loc main_arg3)) (m ((c : Thread nD τ).loc main_arg4)) (Cert.Reference23Ideal.Ref.res0 (m ((c : Thread nD τ).loc main_arg1)) (m ((c : Thread nD τ).loc main_arg2)) (m ((c : Thread nD τ).loc main_arg5))) i
    ∧ (outsAt0 m (ok m) c t).2.2.1 y = Cert.Reference23Ideal.Ref.res2 (m ((c : Thread nD τ).loc main_arg3)) (Cert.Reference23Ideal.Ref.res0 (m ((c : Thread nD τ).loc main_arg1)) (m ((c : Thread nD τ).loc main_arg2)) (m ((c : Thread nD τ).loc main_arg5))) i
    ∧ (outsAt0 m (ok m) c t).2.2.2 y = Cert.Reference23Ideal.Ref.res3 (m ((c : Thread nD τ).loc main_arg4)) (Cert.Reference23Ideal.Ref.res0 (m ((c : Thread nD τ).loc main_arg1)) (m ((c : Thread nD τ).loc main_arg2)) (m ((c : Thread nD τ).loc main_arg5))) i := by
  obtain ⟨b0, b3, b4⟩ := blk_at m c t y i h1 h2
  have hg := grad_at m c t y i h1 h2
  obtain ⟨r1, r2, r3⟩ := res_at (m ((c : Thread nD τ).loc main_arg0)) (m ((c : Thread nD τ).loc main_arg3)) (m ((c : Thread nD τ).loc main_arg4)) (Cert.Reference23Ideal.Ref.res0 (m ((c : Thread nD τ).loc main_arg1)) (m ((c : Thread nD τ).loc main_arg2)) (m ((c : Thread nD τ).loc main_arg5))) i
  have e0 := (hs0_0 m (ok m) t).read_unread (Val := Elt Ideal) (iblk m (ok m) c 0 t)
  have e1 := (hs0_1 m (ok m) t).read_unread (Val := Elt Ideal) (iblk m (ok m) c 1 t)
  have e2 := (hs0_2 m (ok m) t).read_unread (Val := Elt Ideal) (iblk m (ok m) c 2 t)
  have e3 := (hs0_3 m (ok m) t).read_unread (Val := Elt Ideal) (iblk m (ok m) c 3 t)
  have e4 := (hs0_4 m (ok m) t).read_unread (Val := Elt Ideal) (iblk m (ok m) c 4 t)
  obtain ⟨p3, p4, p5⟩ := pay345_at (k0_pay6 (grid0.coords t) ((m ((c : Thread nD τ).loc main_arg5)) (ix1 0)) (iblk m (ok m) c 1 t) (iblk m (ok m) c 2 t)) (iblk m (ok m) c 0 t) (iblk m (ok m) c 3 t) (iblk m (ok m) c 4 t) y
  rw [r1, r2, r3, ← hg, ← b0, ← b3, ← b4]
  unfold outsAt0
  refine ⟨?_, ?_, ?_, ?_⟩
  · frame_out
    refine (congrFun (congr (congr (congrArg (k0_pay7 _) (word m c _)) e1) e2) y).trans ?_
    unfold k0_pay7
    pointwise
  · frame_out
    exact (congrFun (congr (congr (congr (congrArg k0_pay3 (congr (congr (congrArg (k0_pay6 _) (word m c _)) e1) e2)) (congrArg k0_pay8 e0)) (congrArg k0_pay9 e4)) (congrArg k0_pay10 e3)) y).trans p3
  · frame_out
    exact (congrFun (congr (congrArg k0_pay4 (congr (congr (congrArg (k0_pay6 _) (word m c _)) e1) e2)) (congrArg k0_pay10 e3)) y).trans p4
  · frame_out
    exact (congrFun (congr (congrArg k0_pay5 (congr (congr (congrArg (k0_pay6 _) (word m c _)) e1) e2)) (congrArg k0_pay9 e4)) y).trans p5

theorem final5 (c : Dev nD) : (dats m (ok m) 0 c).arrAt 5 (cfgM m (ok m)).N = Cert.Reference23Ideal.Ref.res0 (m ((c : Thread nD τ).loc main_arg1)) (m ((c : Thread nD τ).loc main_arg2)) (m ((c : Thread nD τ).loc main_arg5)) := by
  refine (dats m (ok m) 0 c).arrAt_eq_of_covers 5 _ (covers m).1 fun t _ y => ?_
  blk_simp
  rw [after0_5]
  exact (outs_at m c t y _ (by blk_simp [idx m t]) (by blk_simp [idx m t])).1

theorem final6 (c : Dev nD) : (dats m (ok m) 0 c).arrAt 6 (cfgM m (ok m)).N = Cert.Reference23Ideal.Ref.res1 (m ((c : Thread nD τ).loc main_arg0)) (m ((c : Thread nD τ).loc main_arg3)) (m ((c : Thread nD τ).loc main_arg4)) (Cert.Reference23Ideal.Ref.res0 (m ((c : Thread nD τ).loc main_arg1)) (m ((c : Thread nD τ).loc main_arg2)) (m ((c : Thread nD τ).loc main_arg5))) := by
  refine (dats m (ok m) 0 c).arrAt_eq_of_covers 6 _ (covers m).2.1 fun t _ y => ?_
  blk_simp
  rw [after0_6]
  exact (outs_at m c t y _ (by blk_simp [idx m t]) (by blk_simp [idx m t])).2.1

theorem final7 (c : Dev nD) : (dats m (ok m) 0 c).arrAt 7 (cfgM m (ok m)).N = Cert.Reference23Ideal.Ref.res2 (m ((c : Thread nD τ).loc main_arg3)) (Cert.Reference23Ideal.Ref.res0 (m ((c : Thread nD τ).loc main_arg1)) (m ((c : Thread nD τ).loc main_arg2)) (m ((c : Thread nD τ).loc main_arg5))) := by
  refine (dats m (ok m) 0 c).arrAt_eq_of_covers 7 _ (covers m).2.2.1 fun t _ y => ?_
  blk_simp
  rw [after0_7]
  exact (outs_at m c t y _ (by blk_simp [idx m t]) (by blk_simp [idx m t])).2.2.1

theorem final8 (c : Dev nD) : (dats m (ok m) 0 c).arrAt 8 (cfgM m (ok m)).N = Cert.Reference23Ideal.Ref.res3 (m ((c : Thread nD τ).loc main_arg4)) (Cert.Reference23Ideal.Ref.res0 (m ((c : Thread nD τ).loc main_arg1)) (m ((c : Thread nD τ).loc main_arg2)) (m ((c : Thread nD τ).loc main_arg5))) := by
  refine (dats m (ok m) 0 c).arrAt_eq_of_covers 8 _ (covers m).2.2.2 fun t _ y => ?_
  blk_simp
  rw [after0_8]
  exact (outs_at m c t y _ (by blk_simp [idx m t]) (by blk_simp [idx m t])).2.2.2

end Cert.Kernel23Ideal.Update

end
-- ==== Proof.Claim23.lean ====
module

public import proofs.«01_k».proof.Proof.Upd23
public import proofs.«01_k».proof.Proof.Ref23
public import proofs.«01_k».proof.Proof.Gen.Kernel23.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the update of a feed-forward block's weight down. -/

namespace Cert.Proof

theorem frame23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem algebraic23 : Cert.algebraic_Kernel23Ideal_Reference23Ideal := by
  intro m g m' g' hpre hagree
  let A (c : Dev Cert.Kernel23Ideal.nD) (b) := m ((c.tc : Thread Cert.Kernel23Ideal.nD Cert.Kernel23Ideal.τ).loc b)
  let G (c : Dev Cert.Kernel23Ideal.nD) := Cert.Reference23Ideal.Ref.res0 (A c Cert.Kernel23Ideal.main_arg1) (A c Cert.Kernel23Ideal.main_arg2) (A c Cert.Kernel23Ideal.main_arg5)
  refine ⟨G, fun c => Cert.Reference23Ideal.Ref.res1 (A c Cert.Kernel23Ideal.main_arg0) (A c Cert.Kernel23Ideal.main_arg3) (A c Cert.Kernel23Ideal.main_arg4) (G c),
    fun c => Cert.Reference23Ideal.Ref.res2 (A c Cert.Kernel23Ideal.main_arg3) (G c), fun c => Cert.Reference23Ideal.Ref.res3 (A c Cert.Kernel23Ideal.main_arg4) (G c), ?_, ?_⟩
  · exact (θ_run Cert.Kernel23Ideal.defs _ _).mono (fun r h c => ⟨((h.2 c).1 5).trans (Cert.Kernel23Ideal.Update.final5 m c), ((h.2 c).1 6).trans (Cert.Kernel23Ideal.Update.final6 m c),
        ((h.2 c).1 7).trans (Cert.Kernel23Ideal.Update.final7 m c), ((h.2 c).1 8).trans (Cert.Kernel23Ideal.Update.final8 m c), h.1 c⟩)
      (θ_run_and (Cert.Kernel23Ideal.Gen.unchanged m g (Cert.Kernel23Ideal.Update.ok m)) (Cert.Kernel23Ideal.Gen.run_main m g (Cert.Kernel23Ideal.Update.ok m)))
  · refine (θ_run Cert.Reference23Ideal.defs _ _).mono (fun r h c => ⟨(h c).1.trans ?_, (h c).2.1.trans ?_, (h c).2.2.1.trans ?_, (h c).2.2.2.1.trans ?_, (h c).2.2.2.2⟩)
      (Cert.Reference23Ideal.Value.run (F := Ideal) m' g') <;> obtain ⟨a0, a1, a2, a3, a4, a5⟩ := hagree c
    · rw [a1, a2, a5]
    · rw [a0, a1, a2, a3, a4, a5]
    · rw [a1, a2, a3, a5]
    · rw [a1, a2, a4, a5]

end Cert.Proof

end
-- ==== Proof.Ref24.lean ====
module

public import proofs.«01_k».proof.Defs
public import proofs.«01_k».proof.Proof.Gen.Reference24Ideal.Run

@[expose] public section

set_option maxRecDepth 16384

noncomputable section

/-! The results of the reference as terms over its argument arrays. -/

open Idealize.ShloMosaic Idealize.ShloMosaic.TcCoe Idealize.SL.Sem

namespace Cert.Reference24Ideal.Ref

open Cert.Reference24Ideal Cert.Reference24Ideal.Gen

/-- The gradient put together from its two halves: the first result. -/
abbrev res0 (x1 : FVec Ideal S512x2568 .f32) (x2 : FVec Ideal S512x2568 .f32) (x5 : IVec S1 32) : FVec Ideal S1x1024x2568 .f32 :=
  broadcastInDim S1x1024x2568 ![1, 2] bcast_S1024x2568_S1x1024x2568_1_2 (concatenate S1024x2568 0 [⟨S512x2568, (select (broadcastInDim S512x2568 ![] bcast_S_S512x2568 (cmpi .eq (shapeCast _ x5 shapeCasts_S1_S_) (constantI S_ 32 0#32))) x1 x2)⟩, ⟨S512x2568, (select (broadcastInDim S512x2568 ![] bcast_S_S512x2568 (cmpi .eq (shapeCast _ x5 shapeCasts_S1_S_) (constantI S_ 32 1#32))) x1 x2)⟩] concatenates_S512x2568_S512x2568_S1024x2568_d0)

/-- The new first moment: the third result. -/
abbrev res2 (x3 : FVec Ideal S1x1024x2568 .f32) (g : FVec Ideal S1x1024x2568 .f32) : FVec Ideal S1x1024x2568 .f32 :=
  addf (mulf (broadcastInDim S1x1024x2568 ![] bcast_S_S1x1024x2568 (constant S_ .f32 0x3F666666#32)) x3) (mulf (broadcastInDim S1x1024x2568 ![] bcast_S_S1x1024x2568 (constant S_ .f32 0x3DCCCCCD#32)) g)

/-- The new second moment: the fourth result. -/
abbrev res3 (x4 : FVec Ideal S1x1024x2568 .f32) (g : FVec Ideal S1x1024x2568 .f32) : FVec Ideal S1x1024x2568 .f32 :=
  addf (mulf (broadcastInDim S1x1024x2568 ![] bcast_S_S1x1024x2568 (constant S_ .f32 0x3F7FBE77#32)) x4) (mulf (broadcastInDim S1x1024x2568 ![] bcast_S_S1x1024x2568 (constant S_ .f32 0x3A83126F#32)) (mulf g g))

/-- The change of the weight: the second result. -/
abbrev res1 (x0 : FVec Ideal S1x1024x2568 .f32) (x3 : FVec Ideal S1x1024x2568 .f32) (x4 : FVec Ideal S1x1024x2568 .f32) (g : FVec Ideal S1x1024x2568 .f32) : FVec Ideal S1x1024x2568 .f32 :=
  mulf (broadcastInDim S1x1024x2568 ![] bcast_S_S1x1024x2568 (constant S_ .f32 0xBA83126F#32)) (addf (Host.divf (Host.divf (res2 x3 g) (broadcastInDim S1x1024x2568 ![] bcast_S_S1x1024x2568 (constant S_ .f32 0x3F26BD02#32))) (addf (Host.sqrt (Host.divf (res3 x4 g) (broadcastInDim S1x1024x2568 ![] bcast_S_S1x1024x2568 (constant S_ .f32 0x3C231ACC#32)))) (broadcastInDim S1x1024x2568 ![] bcast_S_S1x1024x2568 (constant S_ .f32 0x322BCC77#32)))) (mulf (broadcastInDim S1x1024x2568 ![] bcast_S_S1x1024x2568 (constant S_ .f32 0x3C23D70A#32)) x0))

end Cert.Reference24Ideal.Ref

end
-- ==== Proof.Upd24.lean ====
module

public import proofs.«01_k».proof.Proof.Gen.Kernel24Ideal.Frame
public import proofs.«01_k».proof.Proof.Ref24
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Covers

@[expose] public section

set_option maxRecDepth 16384

noncomputable section

/-! The update of the mixer's input weight: each block, and the four arrays. -/

open Idealize.ShloMosaic Idealize.ShloMosaic.TcCoe Idealize.SL.Sem
open Idealize.ShloMosaic.Pipeline (Dat)

namespace Cert.Kernel24Ideal.Update

open Cert.Kernel24Ideal Cert.Kernel24Ideal.Gen
open Cert.Adam

/-- The half a point takes its gradient from: the core's own where the point's half has the core's number. -/
theorem pay6_at (i : grid0.Coords) (w : BitVec 32) (a b : FVec Ideal S128x2568 .f32) (y : S128x2568.Idx) :
    k0_pay6 (F := Ideal) i w a b y = if BitVec.ofNat 32 ((i 0 : ℕ) / 4) = w then a y else b y := by
  have h : ∀ v : BitVec 32, Scalar.select (Scalar.cmpi .eq v w) a b y = if v = w then a y else b y := fun v =>
    (congrFun (select_eq v w a b) y).trans (by split <;> rfl)
  obtain ⟨n, hn⟩ : ∃ n, n = i 0 := ⟨_, rfl⟩
  rw [← h]
  unfold k0_pay6
  rw [← hn]
  fin_cases n <;> rfl

/-- The joined gradient at an entry. -/
theorem res0_at (x1 x2 : FVec Ideal S512x2568 .f32) (x5 : IVec S1 32) (i : S1x1024x2568.Idx) (j : S512x2568.Idx) (h0 : (j 0 : ℕ) = (i 1 : ℕ) % 512) (h1 : (j 1 : ℕ) = (i 2 : ℕ)) :
    Cert.Reference24Ideal.Ref.res0 x1 x2 x5 i = if BitVec.ofNat 32 ((i 1 : ℕ) / 512) = x5 (ix1 0) then x1 j else x2 j := by
  have h : ∀ (w v : BitVec 32) (a b : EReal), Scalar.select (IntOp.cmpi .eq w v) a b = if v = w then a else b := fun w v a b =>
    (select_eq w v a b).trans (if_congr eq_comm rfl rfl)
  have hi : (i 1 : ℕ) < 1024 := (i 1).isLt
  have hj : j = ix2 (j 0) (j 1) := eq_ix2 j
  pointwise [Cert.Reference24Ideal.Ref.res0]
  split
  · rw [h, show (i 1 : ℕ) / 512 = 0 by omega, hj]
    refine if_congr Iff.rfl ?_ ?_ <;> blk_point []
  · rw [h, show (i 1 : ℕ) / 512 = 1 by omega, hj]
    refine if_congr Iff.rfl ?_ ?_ <;> blk_point []

/-- What the kernel writes from one entry of its gradient and of the three other arrays. -/
theorem pay345_at (g : FVec Ideal S128x2568 .f32) (a0 a3 a4 : FVec Ideal S1x128x2568 .f32) (y : S1x128x2568.Idx) :
    k0_pay3 (F := Ideal) g (k0_pay8 a0) (k0_pay9 a4) (k0_pay10 a3) y = change (a0 y) (a3 y) (a4 y) (g (ix2 (y 1) (y 2)))
    ∧ k0_pay4 (F := Ideal) g (k0_pay10 a3) y = first (a3 y) (g (ix2 (y 1) (y 2)))
    ∧ k0_pay5 (F := Ideal) g (k0_pay9 a4) y = second (a4 y) (g (ix2 (y 1) (y 2))) := by
  unfold change first second
  refine ⟨?_, ?_, ?_⟩ <;> (pointwise [k0_pay1, k0_pay2, k0_pay3, k0_pay4, k0_pay5, k0_pay8, k0_pay9, k0_pay10])

theorem res_at (x0 x3 x4 g : FVec Ideal S1x1024x2568 .f32) (i : S1x1024x2568.Idx) :
    Cert.Reference24Ideal.Ref.res1 x0 x3 x4 g i = change (x0 i) (x3 i) (x4 i) (g i) ∧ Cert.Reference24Ideal.Ref.res2 x3 g i = first (x3 i) (g i) ∧ Cert.Reference24Ideal.Ref.res3 x4 g i = second (x4 i) (g i) := by
  unfold change first second
  refine ⟨?_, ?_, ?_⟩ <;> pointwise

variable (m : (ℓ : Loc nD τ sig) → Buf (Elt Ideal) ℓ)

theorem ok : Ok m := trivial

theorem idx0 : ∀ t : Fin grid0.N, cc0_transform_0 (grid0.coords t) = ![0, t.val, 0] ∧ cc0_transform_1 (grid0.coords t) = ![t.val % 4, 0] ∧ cc0_transform_2 (grid0.coords t) = ![t.val % 4, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] := by
  decide +kernel

theorem idx (t : Fin (cfgM m (ok m)).N) : ((cfgM m (ok m)).win 0).index t = ![0, t.val, 0] ∧ ((cfgM m (ok m)).win 1).index t = ![t.val % 4, 0] ∧ ((cfgM m (ok m)).win 2).index t = ![t.val % 4, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  idx0 t

theorem covers : ((cfgM m (ok m)).win 5).Covers ∧ ((cfgM m (ok m)).win 6).Covers ∧ ((cfgM m (ok m)).win 7).Covers ∧ ((cfgM m (ok m)).win 8).Covers := by
  refine ⟨?_, ?_, ?_, ?_⟩
  all_goals
    refine Pipeline.Window.covers_of_index_surj _ rfl (show ∀ a : Fin 3, 0 < (![1, 128, 2568] : Fin 3 → ℕ) a by decide) fun β => ?_
    have h1 : (β (1 : Fin 3)).val < grid0.N := lt_of_lt_of_eq (β (1 : Fin 3)).isLt (by sl_kernel_rfl)
    have h0 : (β (0 : Fin 3)).val < 1 := lt_of_lt_of_eq (β (0 : Fin 3)).isLt (by sl_kernel_rfl)
    have h2 : (β (2 : Fin 3)).val < 1 := lt_of_lt_of_eq (β (2 : Fin 3)).isLt (by sl_kernel_rfl)
    refine ⟨⟨(β (1 : Fin 3)).val, h1⟩, ?_⟩
    simp only [idx m _]
    show ∀ a : Fin 3, (![0, (β (1 : Fin 3)).val, 0] : Fin 3 → ℕ) a = (β a).val
    intro a
    match a with
    | 0 => show 0 = _; omega
    | 1 => rfl
    | 2 => show 0 = _; omega

/-- The word the points read. -/
theorem word (c : Dev nD) (q : (Rect.unit (s := S1) ![0] ![1] inb_S1_S1_0).shape.Idx) : View.readAt (Elt Ideal) (View.whole main_arg5) (Rect.unit ![0] ![1] inb_S1_S1_0).toLoadRect (tbl m 0) q = (m ((c : Thread nD τ).loc main_arg5)) (ix1 0) := by
  obtain rfl : c = 0 := Subsingleton.elim _ _
  refine congrArg (m (((0 : Dev nD) : Thread nD τ).loc main_arg5)) (funext fun a => ?_)
  match a with
  | 0 => exact Subsingleton.elim (α := Fin 1) _ _

/-- The blocks of the three arrays of the weight's shape. -/
theorem blk_at (c : Dev nD) (t : Fin (cfgM m (ok m)).N) (y : S1x128x2568.Idx) (i : S1x1024x2568.Idx) (h1 : (i 1 : ℕ) = t.val * 128 + y 1) (h2 : (i 2 : ℕ) = y 2) :
    (iblk m (ok m) c 0 t : FVec Ideal S1x128x2568 .f32) y = (m ((c : Thread nD τ).loc main_arg0)) i ∧ (iblk m (ok m) c 3 t : FVec Ideal S1x128x2568 .f32) y = (m ((c : Thread nD τ).loc main_arg3)) i
    ∧ (iblk m (ok m) c 4 t : FVec Ideal S1x128x2568 .f32) y = (m ((c : Thread nD τ).loc main_arg4)) i := by
  have hi : (i 0 : ℕ) < 1 := (i 0).isLt
  have hy : (y 0 : ℕ) < 1 := (y 0).isLt
  refine ⟨?_, ?_, ?_⟩ <;> blk_ext [iblk, V, idx m t]

/-- The gradient of a point at an entry. -/
theorem grad_at (c : Dev nD) (t : Fin (cfgM m (ok m)).N) (y : S1x128x2568.Idx) (i : S1x1024x2568.Idx) (h1 : (i 1 : ℕ) = t.val * 128 + y 1) (h2 : (i 2 : ℕ) = y 2) :
    k0_pay6 (F := Ideal) (grid0.coords t) ((m ((c : Thread nD τ).loc main_arg5)) (ix1 0)) (iblk m (ok m) c 1 t) (iblk m (ok m) c 2 t) (ix2 (y 1) (y 2)) = Cert.Reference24Ideal.Ref.res0 (m ((c : Thread nD τ).loc main_arg1)) (m ((c : Thread nD τ).loc main_arg2)) (m ((c : Thread nD τ).loc main_arg5)) i := by
  have hc : ∀ t : Fin grid0.N, (grid0.coords t 0 : ℕ) = t.val ∧ t.val < 8 := by decide +kernel
  have hy : (y 1 : ℕ) < 128 := (y 1).isLt
  obtain ⟨ht, hN⟩ := hc t
  have hi : (i 1 : ℕ) % 512 < 512 := Nat.mod_lt _ (by decide)
  rw [res0_at _ _ _ i (ix2 ⟨(i 1 : ℕ) % 512, hi⟩ (i 2)) rfl rfl]
  refine (pay6_at _ _ _ _ _).trans ?_
  rw [ht, show (i 1 : ℕ) / 512 = t.val / 4 by omega]
  refine if_congr Iff.rfl ?_ ?_
  all_goals blk_ext [iblk, V, idx m t]

/-- What a point leaves in the blocks of the four outputs. -/
theorem outs_at (c : Dev nD) (t : Fin (cfgM m (ok m)).N) (y : S1x128x2568.Idx) (i : S1x1024x2568.Idx) (h1 : (i 1 : ℕ) = t.val * 128 + y 1) (h2 : (i 2 : ℕ) = y 2) :
    (outsAt0 m (ok m) c t).1 y = (Cert.Reference24Ideal.Ref.res0 (m ((c : Thread nD τ).loc main_arg1)) (m ((c : Thread nD τ).loc main_arg2)) (m ((c : Thread nD τ).loc main_arg5))) i
    ∧ (outsAt0 m (ok m) c t).2.1 y = Cert.Reference24Ideal.Ref.res1 (m ((c : Thread nD τ).loc main_arg0)) (m ((c : Thread nD τ).loc main_arg3)) (m ((c : Thread nD τ).loc main_arg4)) (Cert.Reference24Ideal.Ref.res0 (m ((c : Thread nD τ).loc main_arg1)) (m ((c : Thread nD τ).loc main_arg2)) (m ((c : Thread nD τ).loc main_arg5))) i
    ∧ (outsAt0 m (ok m) c t).2.2.1 y = Cert.Reference24Ideal.Ref.res2 (m ((c : Thread nD τ).loc main_arg3)) (Cert.Reference24Ideal.Ref.res0 (m ((c : Thread nD τ).loc main_arg1)) (m ((c : Thread nD τ).loc main_arg2)) (m ((c : Thread nD τ).loc main_arg5))) i
    ∧ (outsAt0 m (ok m) c t).2.2.2 y = Cert.Reference24Ideal.Ref.res3 (m ((c : Thread nD τ).loc main_arg4)) (Cert.Reference24Ideal.Ref.res0 (m ((c : Thread nD τ).loc main_arg1)) (m ((c : Thread nD τ).loc main_arg2)) (m ((c : Thread nD τ).loc main_arg5))) i := by
  obtain ⟨b0, b3, b4⟩ := blk_at m c t y i h1 h2
  have hg := grad_at m c t y i h1 h2
  obtain ⟨r1, r2, r3⟩ := res_at (m ((c : Thread nD τ).loc main_arg0)) (m ((c : Thread nD τ).loc main_arg3)) (m ((c : Thread nD τ).loc main_arg4)) (Cert.Reference24Ideal.Ref.res0 (m ((c : Thread nD τ).loc main_arg1)) (m ((c : Thread nD τ).loc main_arg2)) (m ((c : Thread nD τ).loc main_arg5))) i
  have e0 := (hs0_0 m (ok m) t).read_unread (Val := Elt Ideal) (iblk m (ok m) c 0 t)
  have e1 := (hs0_1 m (ok m) t).read_unread (Val := Elt Ideal) (iblk m (ok m) c 1 t)
  have e2 := (hs0_2 m (ok m) t).read_unread (Val := Elt Ideal) (iblk m (ok m) c 2 t)
  have e3 := (hs0_3 m (ok m) t).read_unread (Val := Elt Ideal) (iblk m (ok m) c 3 t)
  have e4 := (hs0_4 m (ok m) t).read_unread (Val := Elt Ideal) (iblk m (ok m) c 4 t)
  obtain ⟨p3, p4, p5⟩ := pay345_at (k0_pay6 (grid0.coords t) ((m ((c : Thread nD τ).loc main_arg5)) (ix1 0)) (iblk m (ok m) c 1 t) (iblk m (ok m) c 2 t)) (iblk m (ok m) c 0 t) (iblk m (ok m) c 3 t) (iblk m (ok m) c 4 t) y
  rw [r1, r2, r3, ← hg, ← b0, ← b3, ← b4]
  unfold outsAt0
  refine ⟨?_, ?_, ?_, ?_⟩
  · frame_out
    refine (congrFun (congr (congr (congrArg (k0_pay7 _) (word m c _)) e1) e2) y).trans ?_
    unfold k0_pay7
    pointwise
  · frame_out
    exact (congrFun (congr (congr (congr (congrArg k0_pay3 (congr (congr (congrArg (k0_pay6 _) (word m c _)) e1) e2)) (congrArg k0_pay8 e0)) (congrArg k0_pay9 e4)) (congrArg k0_pay10 e3)) y).trans p3
  · frame_out
    exact (congrFun (congr (congrArg k0_pay4 (congr (congr (congrArg (k0_pay6 _) (word m c _)) e1) e2)) (congrArg k0_pay10 e3)) y).trans p4
  · frame_out
    exact (congrFun (congr (congrArg k0_pay5 (congr (congr (congrArg (k0_pay6 _) (word m c _)) e1) e2)) (congrArg k0_pay9 e4)) y).trans p5

theorem final5 (c : Dev nD) : (dats m (ok m) 0 c).arrAt 5 (cfgM m (ok m)).N = Cert.Reference24Ideal.Ref.res0 (m ((c : Thread nD τ).loc main_arg1)) (m ((c : Thread nD τ).loc main_arg2)) (m ((c : Thread nD τ).loc main_arg5)) := by
  refine (dats m (ok m) 0 c).arrAt_eq_of_covers 5 _ (covers m).1 fun t _ y => ?_
  blk_simp
  rw [after0_5]
  exact (outs_at m c t y _ (by blk_simp [idx m t]) (by blk_simp [idx m t])).1

theorem final6 (c : Dev nD) : (dats m (ok m) 0 c).arrAt 6 (cfgM m (ok m)).N = Cert.Reference24Ideal.Ref.res1 (m ((c : Thread nD τ).loc main_arg0)) (m ((c : Thread nD τ).loc main_arg3)) (m ((c : Thread nD τ).loc main_arg4)) (Cert.Reference24Ideal.Ref.res0 (m ((c : Thread nD τ).loc main_arg1)) (m ((c : Thread nD τ).loc main_arg2)) (m ((c : Thread nD τ).loc main_arg5))) := by
  refine (dats m (ok m) 0 c).arrAt_eq_of_covers 6 _ (covers m).2.1 fun t _ y => ?_
  blk_simp
  rw [after0_6]
  exact (outs_at m c t y _ (by blk_simp [idx m t]) (by blk_simp [idx m t])).2.1

theorem final7 (c : Dev nD) : (dats m (ok m) 0 c).arrAt 7 (cfgM m (ok m)).N = Cert.Reference24Ideal.Ref.res2 (m ((c : Thread nD τ).loc main_arg3)) (Cert.Reference24Ideal.Ref.res0 (m ((c : Thread nD τ).loc main_arg1)) (m ((c : Thread nD τ).loc main_arg2)) (m ((c : Thread nD τ).loc main_arg5))) := by
  refine (dats m (ok m) 0 c).arrAt_eq_of_covers 7 _ (covers m).2.2.1 fun t _ y => ?_
  blk_simp
  rw [after0_7]
  exact (outs_at m c t y _ (by blk_simp [idx m t]) (by blk_simp [idx m t])).2.2.1

theorem final8 (c : Dev nD) : (dats m (ok m) 0 c).arrAt 8 (cfgM m (ok m)).N = Cert.Reference24Ideal.Ref.res3 (m ((c : Thread nD τ).loc main_arg4)) (Cert.Reference24Ideal.Ref.res0 (m ((c : Thread nD τ).loc main_arg1)) (m ((c : Thread nD τ).loc main_arg2)) (m ((c : Thread nD τ).loc main_arg5))) := by
  refine (dats m (ok m) 0 c).arrAt_eq_of_covers 8 _ (covers m).2.2.2 fun t _ y => ?_
  blk_simp
  rw [after0_8]
  exact (outs_at m c t y _ (by blk_simp [idx m t]) (by blk_simp [idx m t])).2.2.2

end Cert.Kernel24Ideal.Update

end
-- ==== Proof.Claim24.lean ====
module

public import proofs.«01_k».proof.Proof.Upd24
public import proofs.«01_k».proof.Proof.Ref24
public import proofs.«01_k».proof.Proof.Gen.Kernel24.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the update of the mixer's input weight. -/

namespace Cert.Proof

theorem frame24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem algebraic24 : Cert.algebraic_Kernel24Ideal_Reference24Ideal := by
  intro m g m' g' hpre hagree
  let A (c : Dev Cert.Kernel24Ideal.nD) (b) := m ((c.tc : Thread Cert.Kernel24Ideal.nD Cert.Kernel24Ideal.τ).loc b)
  let G (c : Dev Cert.Kernel24Ideal.nD) := Cert.Reference24Ideal.Ref.res0 (A c Cert.Kernel24Ideal.main_arg1) (A c Cert.Kernel24Ideal.main_arg2) (A c Cert.Kernel24Ideal.main_arg5)
  refine ⟨G, fun c => Cert.Reference24Ideal.Ref.res1 (A c Cert.Kernel24Ideal.main_arg0) (A c Cert.Kernel24Ideal.main_arg3) (A c Cert.Kernel24Ideal.main_arg4) (G c),
    fun c => Cert.Reference24Ideal.Ref.res2 (A c Cert.Kernel24Ideal.main_arg3) (G c), fun c => Cert.Reference24Ideal.Ref.res3 (A c Cert.Kernel24Ideal.main_arg4) (G c), ?_, ?_⟩
  · exact (θ_run Cert.Kernel24Ideal.defs _ _).mono (fun r h c => ⟨((h.2 c).1 5).trans (Cert.Kernel24Ideal.Update.final5 m c), ((h.2 c).1 6).trans (Cert.Kernel24Ideal.Update.final6 m c),
        ((h.2 c).1 7).trans (Cert.Kernel24Ideal.Update.final7 m c), ((h.2 c).1 8).trans (Cert.Kernel24Ideal.Update.final8 m c), h.1 c⟩)
      (θ_run_and (Cert.Kernel24Ideal.Gen.unchanged m g (Cert.Kernel24Ideal.Update.ok m)) (Cert.Kernel24Ideal.Gen.run_main m g (Cert.Kernel24Ideal.Update.ok m)))
  · refine (θ_run Cert.Reference24Ideal.defs _ _).mono (fun r h c => ⟨(h c).1.trans ?_, (h c).2.1.trans ?_, (h c).2.2.1.trans ?_, (h c).2.2.2.1.trans ?_, (h c).2.2.2.2⟩)
      (Cert.Reference24Ideal.Value.run (F := Ideal) m' g') <;> obtain ⟨a0, a1, a2, a3, a4, a5⟩ := hagree c
    · rw [a1, a2, a5]
    · rw [a0, a1, a2, a3, a4, a5]
    · rw [a1, a2, a3, a5]
    · rw [a1, a2, a4, a5]

end Cert.Proof

end
-- ==== Proof.Ref25.lean ====
module

public import proofs.«01_k».proof.Defs
public import proofs.«01_k».proof.Proof.Gen.Reference25Ideal.Run

@[expose] public section

set_option maxRecDepth 16384

noncomputable section

/-! The results of the reference as terms over its argument arrays. -/

open Idealize.ShloMosaic Idealize.ShloMosaic.TcCoe Idealize.SL.Sem

namespace Cert.Reference25Ideal.Ref

open Cert.Reference25Ideal Cert.Reference25Ideal.Gen

/-- The gradient put together from its two halves: the first result. -/
abbrev res0 (x1 : FVec Ideal S128x1024 .f32) (x2 : FVec Ideal S128x1024 .f32) (x5 : IVec S1 32) : FVec Ideal S1x256x1024 .f32 :=
  broadcastInDim S1x256x1024 ![1, 2] bcast_S256x1024_S1x256x1024_1_2 (concatenate S256x1024 0 [⟨S128x1024, (select (broadcastInDim S128x1024 ![] bcast_S_S128x1024 (cmpi .eq (shapeCast _ x5 shapeCasts_S1_S_) (constantI S_ 32 0#32))) x1 x2)⟩, ⟨S128x1024, (select (broadcastInDim S128x1024 ![] bcast_S_S128x1024 (cmpi .eq (shapeCast _ x5 shapeCasts_S1_S_) (constantI S_ 32 1#32))) x1 x2)⟩] concatenates_S128x1024_S128x1024_S256x1024_d0)

/-- The new first moment: the third result. -/
abbrev res2 (x3 : FVec Ideal S1x256x1024 .f32) (g : FVec Ideal S1x256x1024 .f32) : FVec Ideal S1x256x1024 .f32 :=
  addf (mulf (broadcastInDim S1x256x1024 ![] bcast_S_S1x256x1024 (constant S_ .f32 0x3F666666#32)) x3) (mulf (broadcastInDim S1x256x1024 ![] bcast_S_S1x256x1024 (constant S_ .f32 0x3DCCCCCD#32)) g)

/-- The new second moment: the fourth result. -/
abbrev res3 (x4 : FVec Ideal S1x256x1024 .f32) (g : FVec Ideal S1x256x1024 .f32) : FVec Ideal S1x256x1024 .f32 :=
  addf (mulf (broadcastInDim S1x256x1024 ![] bcast_S_S1x256x1024 (constant S_ .f32 0x3F7FBE77#32)) x4) (mulf (broadcastInDim S1x256x1024 ![] bcast_S_S1x256x1024 (constant S_ .f32 0x3A83126F#32)) (mulf g g))

/-- The change of the weight: the second result. -/
abbrev res1 (x0 : FVec Ideal S1x256x1024 .f32) (x3 : FVec Ideal S1x256x1024 .f32) (x4 : FVec Ideal S1x256x1024 .f32) (g : FVec Ideal S1x256x1024 .f32) : FVec Ideal S1x256x1024 .f32 :=
  mulf (broadcastInDim S1x256x1024 ![] bcast_S_S1x256x1024 (constant S_ .f32 0xBA83126F#32)) (addf (Host.divf (Host.divf (res2 x3 g) (broadcastInDim S1x256x1024 ![] bcast_S_S1x256x1024 (constant S_ .f32 0x3F26BD02#32))) (addf (Host.sqrt (Host.divf (res3 x4 g) (broadcastInDim S1x256x1024 ![] bcast_S_S1x256x1024 (constant S_ .f32 0x3C231ACC#32)))) (broadcastInDim S1x256x1024 ![] bcast_S_S1x256x1024 (constant S_ .f32 0x322BCC77#32)))) (mulf (broadcastInDim S1x256x1024 ![] bcast_S_S1x256x1024 (constant S_ .f32 0x3C23D70A#32)) x0))

end Cert.Reference25Ideal.Ref

end
-- ==== Proof.Upd25.lean ====
module

public import proofs.«01_k».proof.Proof.Gen.Kernel25Ideal.Frame
public import proofs.«01_k».proof.Proof.Ref25
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Covers

@[expose] public section

set_option maxRecDepth 16384

noncomputable section

/-! The update of a weight of the query's shape: each block, and the four arrays. -/

open Idealize.ShloMosaic Idealize.ShloMosaic.TcCoe Idealize.SL.Sem
open Idealize.ShloMosaic.Pipeline (Dat)

namespace Cert.Kernel25Ideal.Update

open Cert.Kernel25Ideal Cert.Kernel25Ideal.Gen
open Cert.Adam

/-- The half a point takes its gradient from: the core's own where the point's half has the core's number. -/
theorem pay6_at (i : grid0.Coords) (w : BitVec 32) (a b : FVec Ideal S128x1024 .f32) (y : S128x1024.Idx) :
    k0_pay6 (F := Ideal) i w a b y = if BitVec.ofNat 32 ((i 0 : ℕ) / 1) = w then a y else b y := by
  have h : ∀ v : BitVec 32, Scalar.select (Scalar.cmpi .eq v w) a b y = if v = w then a y else b y := fun v =>
    (congrFun (select_eq v w a b) y).trans (by split <;> rfl)
  obtain ⟨n, hn⟩ : ∃ n, n = i 0 := ⟨_, rfl⟩
  rw [← h]
  unfold k0_pay6
  rw [← hn]
  fin_cases n <;> rfl

/-- The joined gradient at an entry. -/
theorem res0_at (x1 x2 : FVec Ideal S128x1024 .f32) (x5 : IVec S1 32) (i : S1x256x1024.Idx) (j : S128x1024.Idx) (h0 : (j 0 : ℕ) = (i 1 : ℕ) % 128) (h1 : (j 1 : ℕ) = (i 2 : ℕ)) :
    Cert.Reference25Ideal.Ref.res0 x1 x2 x5 i = if BitVec.ofNat 32 ((i 1 : ℕ) / 128) = x5 (ix1 0) then x1 j else x2 j := by
  have h : ∀ (w v : BitVec 32) (a b : EReal), Scalar.select (IntOp.cmpi .eq w v) a b = if v = w then a else b := fun w v a b =>
    (select_eq w v a b).trans (if_congr eq_comm rfl rfl)
  have hi : (i 1 : ℕ) < 256 := (i 1).isLt
  have hj : j = ix2 (j 0) (j 1) := eq_ix2 j
  pointwise [Cert.Reference25Ideal.Ref.res0]
  split
  · rw [h, show (i 1 : ℕ) / 128 = 0 by omega, hj]
    refine if_congr Iff.rfl ?_ ?_ <;> blk_point []
  · rw [h, show (i 1 : ℕ) / 128 = 1 by omega, hj]
    refine if_congr Iff.rfl ?_ ?_ <;> blk_point []

/-- What the kernel writes from one entry of its gradient and of the three other arrays. -/
theorem pay345_at (g : FVec Ideal S128x1024 .f32) (a0 a3 a4 : FVec Ideal S1x128x1024 .f32) (y : S1x128x1024.Idx) :
    k0_pay3 (F := Ideal) g (k0_pay8 a0) (k0_pay9 a4) (k0_pay10 a3) y = change (a0 y) (a3 y) (a4 y) (g (ix2 (y 1) (y 2)))
    ∧ k0_pay4 (F := Ideal) g (k0_pay10 a3) y = first (a3 y) (g (ix2 (y 1) (y 2)))
    ∧ k0_pay5 (F := Ideal) g (k0_pay9 a4) y = second (a4 y) (g (ix2 (y 1) (y 2))) := by
  unfold change first second
  refine ⟨?_, ?_, ?_⟩ <;> (pointwise [k0_pay1, k0_pay2, k0_pay3, k0_pay4, k0_pay5, k0_pay8, k0_pay9, k0_pay10])

theorem res_at (x0 x3 x4 g : FVec Ideal S1x256x1024 .f32) (i : S1x256x1024.Idx) :
    Cert.Reference25Ideal.Ref.res1 x0 x3 x4 g i = change (x0 i) (x3 i) (x4 i) (g i) ∧ Cert.Reference25Ideal.Ref.res2 x3 g i = first (x3 i) (g i) ∧ Cert.Reference25Ideal.Ref.res3 x4 g i = second (x4 i) (g i) := by
  unfold change first second
  refine ⟨?_, ?_, ?_⟩ <;> pointwise

variable (m : (ℓ : Loc nD τ sig) → Buf (Elt Ideal) ℓ)

theorem ok : Ok m := trivial

theorem idx0 : ∀ t : Fin grid0.N, cc0_transform_0 (grid0.coords t) = ![0, t.val, 0] ∧ cc0_transform_1 (grid0.coords t) = ![0, 0] ∧ cc0_transform_2 (grid0.coords t) = ![0, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] := by
  decide +kernel

theorem idx (t : Fin (cfgM m (ok m)).N) : ((cfgM m (ok m)).win 0).index t = ![0, t.val, 0] ∧ ((cfgM m (ok m)).win 1).index t = ![0, 0] ∧ ((cfgM m (ok m)).win 2).index t = ![0, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  idx0 t

theorem covers : ((cfgM m (ok m)).win 5).Covers ∧ ((cfgM m (ok m)).win 6).Covers ∧ ((cfgM m (ok m)).win 7).Covers ∧ ((cfgM m (ok m)).win 8).Covers := by
  refine ⟨?_, ?_, ?_, ?_⟩
  all_goals
    refine Pipeline.Window.covers_of_index_surj _ rfl (show ∀ a : Fin 3, 0 < (![1, 128, 1024] : Fin 3 → ℕ) a by decide) fun β => ?_
    have h1 : (β (1 : Fin 3)).val < grid0.N := lt_of_lt_of_eq (β (1 : Fin 3)).isLt (by sl_kernel_rfl)
    have h0 : (β (0 : Fin 3)).val < 1 := lt_of_lt_of_eq (β (0 : Fin 3)).isLt (by sl_kernel_rfl)
    have h2 : (β (2 : Fin 3)).val < 1 := lt_of_lt_of_eq (β (2 : Fin 3)).isLt (by sl_kernel_rfl)
    refine ⟨⟨(β (1 : Fin 3)).val, h1⟩, ?_⟩
    simp only [idx m _]
    show ∀ a : Fin 3, (![0, (β (1 : Fin 3)).val, 0] : Fin 3 → ℕ) a = (β a).val
    intro a
    match a with
    | 0 => show 0 = _; omega
    | 1 => rfl
    | 2 => show 0 = _; omega

/-- The word the points read. -/
theorem word (c : Dev nD) (q : (Rect.unit (s := S1) ![0] ![1] inb_S1_S1_0).shape.Idx) : View.readAt (Elt Ideal) (View.whole main_arg5) (Rect.unit ![0] ![1] inb_S1_S1_0).toLoadRect (tbl m 0) q = (m ((c : Thread nD τ).loc main_arg5)) (ix1 0) := by
  obtain rfl : c = 0 := Subsingleton.elim _ _
  refine congrArg (m (((0 : Dev nD) : Thread nD τ).loc main_arg5)) (funext fun a => ?_)
  match a with
  | 0 => exact Subsingleton.elim (α := Fin 1) _ _

/-- The blocks of the three arrays of the weight's shape. -/
theorem blk_at (c : Dev nD) (t : Fin (cfgM m (ok m)).N) (y : S1x128x1024.Idx) (i : S1x256x1024.Idx) (h1 : (i 1 : ℕ) = t.val * 128 + y 1) (h2 : (i 2 : ℕ) = y 2) :
    (iblk m (ok m) c 0 t : FVec Ideal S1x128x1024 .f32) y = (m ((c : Thread nD τ).loc main_arg0)) i ∧ (iblk m (ok m) c 3 t : FVec Ideal S1x128x1024 .f32) y = (m ((c : Thread nD τ).loc main_arg3)) i
    ∧ (iblk m (ok m) c 4 t : FVec Ideal S1x128x1024 .f32) y = (m ((c : Thread nD τ).loc main_arg4)) i := by
  have hi : (i 0 : ℕ) < 1 := (i 0).isLt
  have hy : (y 0 : ℕ) < 1 := (y 0).isLt
  refine ⟨?_, ?_, ?_⟩ <;> blk_ext [iblk, V, idx m t]

/-- The gradient of a point at an entry. -/
theorem grad_at (c : Dev nD) (t : Fin (cfgM m (ok m)).N) (y : S1x128x1024.Idx) (i : S1x256x1024.Idx) (h1 : (i 1 : ℕ) = t.val * 128 + y 1) (h2 : (i 2 : ℕ) = y 2) :
    k0_pay6 (F := Ideal) (grid0.coords t) ((m ((c : Thread nD τ).loc main_arg5)) (ix1 0)) (iblk m (ok m) c 1 t) (iblk m (ok m) c 2 t) (ix2 (y 1) (y 2)) = Cert.Reference25Ideal.Ref.res0 (m ((c : Thread nD τ).loc main_arg1)) (m ((c : Thread nD τ).loc main_arg2)) (m ((c : Thread nD τ).loc main_arg5)) i := by
  have hc : ∀ t : Fin grid0.N, (grid0.coords t 0 : ℕ) = t.val ∧ t.val < 2 := by decide +kernel
  have hy : (y 1 : ℕ) < 128 := (y 1).isLt
  obtain ⟨ht, hN⟩ := hc t
  have hi : (i 1 : ℕ) % 128 < 128 := Nat.mod_lt _ (by decide)
  rw [res0_at _ _ _ i (ix2 ⟨(i 1 : ℕ) % 128, hi⟩ (i 2)) rfl rfl]
  refine (pay6_at _ _ _ _ _).trans ?_
  rw [ht, show (i 1 : ℕ) / 128 = t.val / 1 by omega]
  refine if_congr Iff.rfl ?_ ?_
  all_goals blk_ext [iblk, V, idx m t]

/-- What a point leaves in the blocks of the four outputs. -/
theorem outs_at (c : Dev nD) (t : Fin (cfgM m (ok m)).N) (y : S1x128x1024.Idx) (i : S1x256x1024.Idx) (h1 : (i 1 : ℕ) = t.val * 128 + y 1) (h2 : (i 2 : ℕ) = y 2) :
    (outsAt0 m (ok m) c t).1 y = (Cert.Reference25Ideal.Ref.res0 (m ((c : Thread nD τ).loc main_arg1)) (m ((c : Thread nD τ).loc main_arg2)) (m ((c : Thread nD τ).loc main_arg5))) i
    ∧ (outsAt0 m (ok m) c t).2.1 y = Cert.Reference25Ideal.Ref.res1 (m ((c : Thread nD τ).loc main_arg0)) (m ((c : Thread nD τ).loc main_arg3)) (m ((c : Thread nD τ).loc main_arg4)) (Cert.Reference25Ideal.Ref.res0 (m ((c : Thread nD τ).loc main_arg1)) (m ((c : Thread nD τ).loc main_arg2)) (m ((c : Thread nD τ).loc main_arg5))) i
    ∧ (outsAt0 m (ok m) c t).2.2.1 y = Cert.Reference25Ideal.Ref.res2 (m ((c : Thread nD τ).loc main_arg3)) (Cert.Reference25Ideal.Ref.res0 (m ((c : Thread nD τ).loc main_arg1)) (m ((c : Thread nD τ).loc main_arg2)) (m ((c : Thread nD τ).loc main_arg5))) i
    ∧ (outsAt0 m (ok m) c t).2.2.2 y = Cert.Reference25Ideal.Ref.res3 (m ((c : Thread nD τ).loc main_arg4)) (Cert.Reference25Ideal.Ref.res0 (m ((c : Thread nD τ).loc main_arg1)) (m ((c : Thread nD τ).loc main_arg2)) (m ((c : Thread nD τ).loc main_arg5))) i := by
  obtain ⟨b0, b3, b4⟩ := blk_at m c t y i h1 h2
  have hg := grad_at m c t y i h1 h2
  obtain ⟨r1, r2, r3⟩ := res_at (m ((c : Thread nD τ).loc main_arg0)) (m ((c : Thread nD τ).loc main_arg3)) (m ((c : Thread nD τ).loc main_arg4)) (Cert.Reference25Ideal.Ref.res0 (m ((c : Thread nD τ).loc main_arg1)) (m ((c : Thread nD τ).loc main_arg2)) (m ((c : Thread nD τ).loc main_arg5))) i
  have e0 := (hs0_0 m (ok m) t).read_unread (Val := Elt Ideal) (iblk m (ok m) c 0 t)
  have e1 := (hs0_1 m (ok m) t).read_unread (Val := Elt Ideal) (iblk m (ok m) c 1 t)
  have e2 := (hs0_2 m (ok m) t).read_unread (Val := Elt Ideal) (iblk m (ok m) c 2 t)
  have e3 := (hs0_3 m (ok m) t).read_unread (Val := Elt Ideal) (iblk m (ok m) c 3 t)
  have e4 := (hs0_4 m (ok m) t).read_unread (Val := Elt Ideal) (iblk m (ok m) c 4 t)
  obtain ⟨p3, p4, p5⟩ := pay345_at (k0_pay6 (grid0.coords t) ((m ((c : Thread nD τ).loc main_arg5)) (ix1 0)) (iblk m (ok m) c 1 t) (iblk m (ok m) c 2 t)) (iblk m (ok m) c 0 t) (iblk m (ok m) c 3 t) (iblk m (ok m) c 4 t) y
  rw [r1, r2, r3, ← hg, ← b0, ← b3, ← b4]
  unfold outsAt0
  refine ⟨?_, ?_, ?_, ?_⟩
  · frame_out
    refine (congrFun (congr (congr (congrArg (k0_pay7 _) (word m c _)) e1) e2) y).trans ?_
    unfold k0_pay7
    pointwise
  · frame_out
    exact (congrFun (congr (congr (congr (congrArg k0_pay3 (congr (congr (congrArg (k0_pay6 _) (word m c _)) e1) e2)) (congrArg k0_pay8 e0)) (congrArg k0_pay9 e4)) (congrArg k0_pay10 e3)) y).trans p3
  · frame_out
    exact (congrFun (congr (congrArg k0_pay4 (congr (congr (congrArg (k0_pay6 _) (word m c _)) e1) e2)) (congrArg k0_pay10 e3)) y).trans p4
  · frame_out
    exact (congrFun (congr (congrArg k0_pay5 (congr (congr (congrArg (k0_pay6 _) (word m c _)) e1) e2)) (congrArg k0_pay9 e4)) y).trans p5

theorem final5 (c : Dev nD) : (dats m (ok m) 0 c).arrAt 5 (cfgM m (ok m)).N = Cert.Reference25Ideal.Ref.res0 (m ((c : Thread nD τ).loc main_arg1)) (m ((c : Thread nD τ).loc main_arg2)) (m ((c : Thread nD τ).loc main_arg5)) := by
  refine (dats m (ok m) 0 c).arrAt_eq_of_covers 5 _ (covers m).1 fun t _ y => ?_
  blk_simp
  rw [after0_5]
  exact (outs_at m c t y _ (by blk_simp [idx m t]) (by blk_simp [idx m t])).1

theorem final6 (c : Dev nD) : (dats m (ok m) 0 c).arrAt 6 (cfgM m (ok m)).N = Cert.Reference25Ideal.Ref.res1 (m ((c : Thread nD τ).loc main_arg0)) (m ((c : Thread nD τ).loc main_arg3)) (m ((c : Thread nD τ).loc main_arg4)) (Cert.Reference25Ideal.Ref.res0 (m ((c : Thread nD τ).loc main_arg1)) (m ((c : Thread nD τ).loc main_arg2)) (m ((c : Thread nD τ).loc main_arg5))) := by
  refine (dats m (ok m) 0 c).arrAt_eq_of_covers 6 _ (covers m).2.1 fun t _ y => ?_
  blk_simp
  rw [after0_6]
  exact (outs_at m c t y _ (by blk_simp [idx m t]) (by blk_simp [idx m t])).2.1

theorem final7 (c : Dev nD) : (dats m (ok m) 0 c).arrAt 7 (cfgM m (ok m)).N = Cert.Reference25Ideal.Ref.res2 (m ((c : Thread nD τ).loc main_arg3)) (Cert.Reference25Ideal.Ref.res0 (m ((c : Thread nD τ).loc main_arg1)) (m ((c : Thread nD τ).loc main_arg2)) (m ((c : Thread nD τ).loc main_arg5))) := by
  refine (dats m (ok m) 0 c).arrAt_eq_of_covers 7 _ (covers m).2.2.1 fun t _ y => ?_
  blk_simp
  rw [after0_7]
  exact (outs_at m c t y _ (by blk_simp [idx m t]) (by blk_simp [idx m t])).2.2.1

theorem final8 (c : Dev nD) : (dats m (ok m) 0 c).arrAt 8 (cfgM m (ok m)).N = Cert.Reference25Ideal.Ref.res3 (m ((c : Thread nD τ).loc main_arg4)) (Cert.Reference25Ideal.Ref.res0 (m ((c : Thread nD τ).loc main_arg1)) (m ((c : Thread nD τ).loc main_arg2)) (m ((c : Thread nD τ).loc main_arg5))) := by
  refine (dats m (ok m) 0 c).arrAt_eq_of_covers 8 _ (covers m).2.2.2 fun t _ y => ?_
  blk_simp
  rw [after0_8]
  exact (outs_at m c t y _ (by blk_simp [idx m t]) (by blk_simp [idx m t])).2.2.2

end Cert.Kernel25Ideal.Update

end
-- ==== Proof.Claim25.lean ====
module

public import proofs.«01_k».proof.Proof.Upd25
public import proofs.«01_k».proof.Proof.Ref25
public import proofs.«01_k».proof.Proof.Gen.Kernel25.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the update of a weight of the query's shape. -/

namespace Cert.Proof

theorem frame25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem algebraic25 : Cert.algebraic_Kernel25Ideal_Reference25Ideal := by
  intro m g m' g' hpre hagree
  let A (c : Dev Cert.Kernel25Ideal.nD) (b) := m ((c.tc : Thread Cert.Kernel25Ideal.nD Cert.Kernel25Ideal.τ).loc b)
  let G (c : Dev Cert.Kernel25Ideal.nD) := Cert.Reference25Ideal.Ref.res0 (A c Cert.Kernel25Ideal.main_arg1) (A c Cert.Kernel25Ideal.main_arg2) (A c Cert.Kernel25Ideal.main_arg5)
  refine ⟨G, fun c => Cert.Reference25Ideal.Ref.res1 (A c Cert.Kernel25Ideal.main_arg0) (A c Cert.Kernel25Ideal.main_arg3) (A c Cert.Kernel25Ideal.main_arg4) (G c),
    fun c => Cert.Reference25Ideal.Ref.res2 (A c Cert.Kernel25Ideal.main_arg3) (G c), fun c => Cert.Reference25Ideal.Ref.res3 (A c Cert.Kernel25Ideal.main_arg4) (G c), ?_, ?_⟩
  · exact (θ_run Cert.Kernel25Ideal.defs _ _).mono (fun r h c => ⟨((h.2 c).1 5).trans (Cert.Kernel25Ideal.Update.final5 m c), ((h.2 c).1 6).trans (Cert.Kernel25Ideal.Update.final6 m c),
        ((h.2 c).1 7).trans (Cert.Kernel25Ideal.Update.final7 m c), ((h.2 c).1 8).trans (Cert.Kernel25Ideal.Update.final8 m c), h.1 c⟩)
      (θ_run_and (Cert.Kernel25Ideal.Gen.unchanged m g (Cert.Kernel25Ideal.Update.ok m)) (Cert.Kernel25Ideal.Gen.run_main m g (Cert.Kernel25Ideal.Update.ok m)))
  · refine (θ_run Cert.Reference25Ideal.defs _ _).mono (fun r h c => ⟨(h c).1.trans ?_, (h c).2.1.trans ?_, (h c).2.2.1.trans ?_, (h c).2.2.2.1.trans ?_, (h c).2.2.2.2⟩)
      (Cert.Reference25Ideal.Value.run (F := Ideal) m' g') <;> obtain ⟨a0, a1, a2, a3, a4, a5⟩ := hagree c
    · rw [a1, a2, a5]
    · rw [a0, a1, a2, a3, a4, a5]
    · rw [a1, a2, a3, a5]
    · rw [a1, a2, a4, a5]

end Cert.Proof

end
-- ==== Proof.Ref26.lean ====
module

public import proofs.«01_k».proof.Defs
public import proofs.«01_k».proof.Proof.Gen.Reference26Ideal.Run

@[expose] public section

set_option maxRecDepth 16384

noncomputable section

/-! The results of the reference as terms over its argument arrays. -/

open Idealize.ShloMosaic Idealize.ShloMosaic.TcCoe Idealize.SL.Sem

namespace Cert.Reference26Ideal.Ref

open Cert.Reference26Ideal Cert.Reference26Ideal.Gen

/-- The gradient put together from its two halves: the first result. -/
abbrev res0 (x1 : FVec Ideal S256x1024 .f32) (x2 : FVec Ideal S256x1024 .f32) (x5 : IVec S1 32) : FVec Ideal S1x512x1024 .f32 :=
  broadcastInDim S1x512x1024 ![1, 2] bcast_S512x1024_S1x512x1024_1_2 (concatenate S512x1024 0 [⟨S256x1024, (select (broadcastInDim S256x1024 ![] bcast_S_S256x1024 (cmpi .eq (shapeCast _ x5 shapeCasts_S1_S_) (constantI S_ 32 0#32))) x1 x2)⟩, ⟨S256x1024, (select (broadcastInDim S256x1024 ![] bcast_S_S256x1024 (cmpi .eq (shapeCast _ x5 shapeCasts_S1_S_) (constantI S_ 32 1#32))) x1 x2)⟩] concatenates_S256x1024_S256x1024_S512x1024_d0)

/-- The new first moment: the third result. -/
abbrev res2 (x3 : FVec Ideal S1x512x1024 .f32) (g : FVec Ideal S1x512x1024 .f32) : FVec Ideal S1x512x1024 .f32 :=
  addf (mulf (broadcastInDim S1x512x1024 ![] bcast_S_S1x512x1024 (constant S_ .f32 0x3F666666#32)) x3) (mulf (broadcastInDim S1x512x1024 ![] bcast_S_S1x512x1024 (constant S_ .f32 0x3DCCCCCD#32)) g)

/-- The new second moment: the fourth result. -/
abbrev res3 (x4 : FVec Ideal S1x512x1024 .f32) (g : FVec Ideal S1x512x1024 .f32) : FVec Ideal S1x512x1024 .f32 :=
  addf (mulf (broadcastInDim S1x512x1024 ![] bcast_S_S1x512x1024 (constant S_ .f32 0x3F7FBE77#32)) x4) (mulf (broadcastInDim S1x512x1024 ![] bcast_S_S1x512x1024 (constant S_ .f32 0x3A83126F#32)) (mulf g g))

/-- The change of the weight: the second result. -/
abbrev res1 (x0 : FVec Ideal S1x512x1024 .f32) (x3 : FVec Ideal S1x512x1024 .f32) (x4 : FVec Ideal S1x512x1024 .f32) (g : FVec Ideal S1x512x1024 .f32) : FVec Ideal S1x512x1024 .f32 :=
  mulf (broadcastInDim S1x512x1024 ![] bcast_S_S1x512x1024 (constant S_ .f32 0xBA83126F#32)) (addf (Host.divf (Host.divf (res2 x3 g) (broadcastInDim S1x512x1024 ![] bcast_S_S1x512x1024 (constant S_ .f32 0x3F26BD02#32))) (addf (Host.sqrt (Host.divf (res3 x4 g) (broadcastInDim S1x512x1024 ![] bcast_S_S1x512x1024 (constant S_ .f32 0x3C231ACC#32)))) (broadcastInDim S1x512x1024 ![] bcast_S_S1x512x1024 (constant S_ .f32 0x322BCC77#32)))) (mulf (broadcastInDim S1x512x1024 ![] bcast_S_S1x512x1024 (constant S_ .f32 0x3C23D70A#32)) x0))

end Cert.Reference26Ideal.Ref

end
-- ==== Proof.Upd26.lean ====
module

public import proofs.«01_k».proof.Proof.Gen.Kernel26Ideal.Frame
public import proofs.«01_k».proof.Proof.Ref26
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Covers

@[expose] public section

set_option maxRecDepth 16384

noncomputable section

/-! The update of the state path's output weight: each block, and the four arrays. -/

open Idealize.ShloMosaic Idealize.ShloMosaic.TcCoe Idealize.SL.Sem
open Idealize.ShloMosaic.Pipeline (Dat)

namespace Cert.Kernel26Ideal.Update

open Cert.Kernel26Ideal Cert.Kernel26Ideal.Gen
open Cert.Adam

/-- The half a point takes its gradient from: the core's own where the point's half has the core's number. -/
theorem pay6_at (i : grid0.Coords) (w : BitVec 32) (a b : FVec Ideal S256x1024 .f32) (y : S256x1024.Idx) :
    k0_pay6 (F := Ideal) i w a b y = if BitVec.ofNat 32 ((i 0 : ℕ) / 1) = w then a y else b y := by
  have h : ∀ v : BitVec 32, Scalar.select (Scalar.cmpi .eq v w) a b y = if v = w then a y else b y := fun v =>
    (congrFun (select_eq v w a b) y).trans (by split <;> rfl)
  obtain ⟨n, hn⟩ : ∃ n, n = i 0 := ⟨_, rfl⟩
  rw [← h]
  unfold k0_pay6
  rw [← hn]
  fin_cases n <;> rfl

/-- The joined gradient at an entry. -/
theorem res0_at (x1 x2 : FVec Ideal S256x1024 .f32) (x5 : IVec S1 32) (i : S1x512x1024.Idx) (j : S256x1024.Idx) (h0 : (j 0 : ℕ) = (i 1 : ℕ) % 256) (h1 : (j 1 : ℕ) = (i 2 : ℕ)) :
    Cert.Reference26Ideal.Ref.res0 x1 x2 x5 i = if BitVec.ofNat 32 ((i 1 : ℕ) / 256) = x5 (ix1 0) then x1 j else x2 j := by
  have h : ∀ (w v : BitVec 32) (a b : EReal), Scalar.select (IntOp.cmpi .eq w v) a b = if v = w then a else b := fun w v a b =>
    (select_eq w v a b).trans (if_congr eq_comm rfl rfl)
  have hi : (i 1 : ℕ) < 512 := (i 1).isLt
  have hj : j = ix2 (j 0) (j 1) := eq_ix2 j
  pointwise [Cert.Reference26Ideal.Ref.res0]
  split
  · rw [h, show (i 1 : ℕ) / 256 = 0 by omega, hj]
    refine if_congr Iff.rfl ?_ ?_ <;> blk_point []
  · rw [h, show (i 1 : ℕ) / 256 = 1 by omega, hj]
    refine if_congr Iff.rfl ?_ ?_ <;> blk_point []

/-- What the kernel writes from one entry of its gradient and of the three other arrays. -/
theorem pay345_at (g : FVec Ideal S256x1024 .f32) (a0 a3 a4 : FVec Ideal S1x256x1024 .f32) (y : S1x256x1024.Idx) :
    k0_pay3 (F := Ideal) g (k0_pay8 a0) (k0_pay9 a4) (k0_pay10 a3) y = change (a0 y) (a3 y) (a4 y) (g (ix2 (y 1) (y 2)))
    ∧ k0_pay4 (F := Ideal) g (k0_pay10 a3) y = first (a3 y) (g (ix2 (y 1) (y 2)))
    ∧ k0_pay5 (F := Ideal) g (k0_pay9 a4) y = second (a4 y) (g (ix2 (y 1) (y 2))) := by
  unfold change first second
  refine ⟨?_, ?_, ?_⟩ <;> (pointwise [k0_pay1, k0_pay2, k0_pay3, k0_pay4, k0_pay5, k0_pay8, k0_pay9, k0_pay10])

theorem res_at (x0 x3 x4 g : FVec Ideal S1x512x1024 .f32) (i : S1x512x1024.Idx) :
    Cert.Reference26Ideal.Ref.res1 x0 x3 x4 g i = change (x0 i) (x3 i) (x4 i) (g i) ∧ Cert.Reference26Ideal.Ref.res2 x3 g i = first (x3 i) (g i) ∧ Cert.Reference26Ideal.Ref.res3 x4 g i = second (x4 i) (g i) := by
  unfold change first second
  refine ⟨?_, ?_, ?_⟩ <;> pointwise

variable (m : (ℓ : Loc nD τ sig) → Buf (Elt Ideal) ℓ)

theorem ok : Ok m := trivial

theorem idx0 : ∀ t : Fin grid0.N, cc0_transform_0 (grid0.coords t) = ![0, t.val, 0] ∧ cc0_transform_1 (grid0.coords t) = ![0, 0] ∧ cc0_transform_2 (grid0.coords t) = ![0, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] := by
  decide +kernel

theorem idx (t : Fin (cfgM m (ok m)).N) : ((cfgM m (ok m)).win 0).index t = ![0, t.val, 0] ∧ ((cfgM m (ok m)).win 1).index t = ![0, 0] ∧ ((cfgM m (ok m)).win 2).index t = ![0, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  idx0 t

theorem covers : ((cfgM m (ok m)).win 5).Covers ∧ ((cfgM m (ok m)).win 6).Covers ∧ ((cfgM m (ok m)).win 7).Covers ∧ ((cfgM m (ok m)).win 8).Covers := by
  refine ⟨?_, ?_, ?_, ?_⟩
  all_goals
    refine Pipeline.Window.covers_of_index_surj _ rfl (show ∀ a : Fin 3, 0 < (![1, 256, 1024] : Fin 3 → ℕ) a by decide) fun β => ?_
    have h1 : (β (1 : Fin 3)).val < grid0.N := lt_of_lt_of_eq (β (1 : Fin 3)).isLt (by sl_kernel_rfl)
    have h0 : (β (0 : Fin 3)).val < 1 := lt_of_lt_of_eq (β (0 : Fin 3)).isLt (by sl_kernel_rfl)
    have h2 : (β (2 : Fin 3)).val < 1 := lt_of_lt_of_eq (β (2 : Fin 3)).isLt (by sl_kernel_rfl)
    refine ⟨⟨(β (1 : Fin 3)).val, h1⟩, ?_⟩
    simp only [idx m _]
    show ∀ a : Fin 3, (![0, (β (1 : Fin 3)).val, 0] : Fin 3 → ℕ) a = (β a).val
    intro a
    match a with
    | 0 => show 0 = _; omega
    | 1 => rfl
    | 2 => show 0 = _; omega

/-- The word the points read. -/
theorem word (c : Dev nD) (q : (Rect.unit (s := S1) ![0] ![1] inb_S1_S1_0).shape.Idx) : View.readAt (Elt Ideal) (View.whole main_arg5) (Rect.unit ![0] ![1] inb_S1_S1_0).toLoadRect (tbl m 0) q = (m ((c : Thread nD τ).loc main_arg5)) (ix1 0) := by
  obtain rfl : c = 0 := Subsingleton.elim _ _
  refine congrArg (m (((0 : Dev nD) : Thread nD τ).loc main_arg5)) (funext fun a => ?_)
  match a with
  | 0 => exact Subsingleton.elim (α := Fin 1) _ _

/-- The blocks of the three arrays of the weight's shape. -/
theorem blk_at (c : Dev nD) (t : Fin (cfgM m (ok m)).N) (y : S1x256x1024.Idx) (i : S1x512x1024.Idx) (h1 : (i 1 : ℕ) = t.val * 256 + y 1) (h2 : (i 2 : ℕ) = y 2) :
    (iblk m (ok m) c 0 t : FVec Ideal S1x256x1024 .f32) y = (m ((c : Thread nD τ).loc main_arg0)) i ∧ (iblk m (ok m) c 3 t : FVec Ideal S1x256x1024 .f32) y = (m ((c : Thread nD τ).loc main_arg3)) i
    ∧ (iblk m (ok m) c 4 t : FVec Ideal S1x256x1024 .f32) y = (m ((c : Thread nD τ).loc main_arg4)) i := by
  have hi : (i 0 : ℕ) < 1 := (i 0).isLt
  have hy : (y 0 : ℕ) < 1 := (y 0).isLt
  refine ⟨?_, ?_, ?_⟩ <;> blk_ext [iblk, V, idx m t]

/-- The gradient of a point at an entry. -/
theorem grad_at (c : Dev nD) (t : Fin (cfgM m (ok m)).N) (y : S1x256x1024.Idx) (i : S1x512x1024.Idx) (h1 : (i 1 : ℕ) = t.val * 256 + y 1) (h2 : (i 2 : ℕ) = y 2) :
    k0_pay6 (F := Ideal) (grid0.coords t) ((m ((c : Thread nD τ).loc main_arg5)) (ix1 0)) (iblk m (ok m) c 1 t) (iblk m (ok m) c 2 t) (ix2 (y 1) (y 2)) = Cert.Reference26Ideal.Ref.res0 (m ((c : Thread nD τ).loc main_arg1)) (m ((c : Thread nD τ).loc main_arg2)) (m ((c : Thread nD τ).loc main_arg5)) i := by
  have hc : ∀ t : Fin grid0.N, (grid0.coords t 0 : ℕ) = t.val ∧ t.val < 2 := by decide +kernel
  have hy : (y 1 : ℕ) < 256 := (y 1).isLt
  obtain ⟨ht, hN⟩ := hc t
  have hi : (i 1 : ℕ) % 256 < 256 := Nat.mod_lt _ (by decide)
  rw [res0_at _ _ _ i (ix2 ⟨(i 1 : ℕ) % 256, hi⟩ (i 2)) rfl rfl]
  refine (pay6_at _ _ _ _ _).trans ?_
  rw [ht, show (i 1 : ℕ) / 256 = t.val / 1 by omega]
  refine if_congr Iff.rfl ?_ ?_
  all_goals blk_ext [iblk, V, idx m t]

/-- What a point leaves in the blocks of the four outputs. -/
theorem outs_at (c : Dev nD) (t : Fin (cfgM m (ok m)).N) (y : S1x256x1024.Idx) (i : S1x512x1024.Idx) (h1 : (i 1 : ℕ) = t.val * 256 + y 1) (h2 : (i 2 : ℕ) = y 2) :
    (outsAt0 m (ok m) c t).1 y = (Cert.Reference26Ideal.Ref.res0 (m ((c : Thread nD τ).loc main_arg1)) (m ((c : Thread nD τ).loc main_arg2)) (m ((c : Thread nD τ).loc main_arg5))) i
    ∧ (outsAt0 m (ok m) c t).2.1 y = Cert.Reference26Ideal.Ref.res1 (m ((c : Thread nD τ).loc main_arg0)) (m ((c : Thread nD τ).loc main_arg3)) (m ((c : Thread nD τ).loc main_arg4)) (Cert.Reference26Ideal.Ref.res0 (m ((c : Thread nD τ).loc main_arg1)) (m ((c : Thread nD τ).loc main_arg2)) (m ((c : Thread nD τ).loc main_arg5))) i
    ∧ (outsAt0 m (ok m) c t).2.2.1 y = Cert.Reference26Ideal.Ref.res2 (m ((c : Thread nD τ).loc main_arg3)) (Cert.Reference26Ideal.Ref.res0 (m ((c : Thread nD τ).loc main_arg1)) (m ((c : Thread nD τ).loc main_arg2)) (m ((c : Thread nD τ).loc main_arg5))) i
    ∧ (outsAt0 m (ok m) c t).2.2.2 y = Cert.Reference26Ideal.Ref.res3 (m ((c : Thread nD τ).loc main_arg4)) (Cert.Reference26Ideal.Ref.res0 (m ((c : Thread nD τ).loc main_arg1)) (m ((c : Thread nD τ).loc main_arg2)) (m ((c : Thread nD τ).loc main_arg5))) i := by
  obtain ⟨b0, b3, b4⟩ := blk_at m c t y i h1 h2
  have hg := grad_at m c t y i h1 h2
  obtain ⟨r1, r2, r3⟩ := res_at (m ((c : Thread nD τ).loc main_arg0)) (m ((c : Thread nD τ).loc main_arg3)) (m ((c : Thread nD τ).loc main_arg4)) (Cert.Reference26Ideal.Ref.res0 (m ((c : Thread nD τ).loc main_arg1)) (m ((c : Thread nD τ).loc main_arg2)) (m ((c : Thread nD τ).loc main_arg5))) i
  have e0 := (hs0_0 m (ok m) t).read_unread (Val := Elt Ideal) (iblk m (ok m) c 0 t)
  have e1 := (hs0_1 m (ok m) t).read_unread (Val := Elt Ideal) (iblk m (ok m) c 1 t)
  have e2 := (hs0_2 m (ok m) t).read_unread (Val := Elt Ideal) (iblk m (ok m) c 2 t)
  have e3 := (hs0_3 m (ok m) t).read_unread (Val := Elt Ideal) (iblk m (ok m) c 3 t)
  have e4 := (hs0_4 m (ok m) t).read_unread (Val := Elt Ideal) (iblk m (ok m) c 4 t)
  obtain ⟨p3, p4, p5⟩ := pay345_at (k0_pay6 (grid0.coords t) ((m ((c : Thread nD τ).loc main_arg5)) (ix1 0)) (iblk m (ok m) c 1 t) (iblk m (ok m) c 2 t)) (iblk m (ok m) c 0 t) (iblk m (ok m) c 3 t) (iblk m (ok m) c 4 t) y
  rw [r1, r2, r3, ← hg, ← b0, ← b3, ← b4]
  unfold outsAt0
  refine ⟨?_, ?_, ?_, ?_⟩
  · frame_out
    refine (congrFun (congr (congr (congrArg (k0_pay7 _) (word m c _)) e1) e2) y).trans ?_
    unfold k0_pay7
    pointwise
  · frame_out
    exact (congrFun (congr (congr (congr (congrArg k0_pay3 (congr (congr (congrArg (k0_pay6 _) (word m c _)) e1) e2)) (congrArg k0_pay8 e0)) (congrArg k0_pay9 e4)) (congrArg k0_pay10 e3)) y).trans p3
  · frame_out
    exact (congrFun (congr (congrArg k0_pay4 (congr (congr (congrArg (k0_pay6 _) (word m c _)) e1) e2)) (congrArg k0_pay10 e3)) y).trans p4
  · frame_out
    exact (congrFun (congr (congrArg k0_pay5 (congr (congr (congrArg (k0_pay6 _) (word m c _)) e1) e2)) (congrArg k0_pay9 e4)) y).trans p5

theorem final5 (c : Dev nD) : (dats m (ok m) 0 c).arrAt 5 (cfgM m (ok m)).N = Cert.Reference26Ideal.Ref.res0 (m ((c : Thread nD τ).loc main_arg1)) (m ((c : Thread nD τ).loc main_arg2)) (m ((c : Thread nD τ).loc main_arg5)) := by
  refine (dats m (ok m) 0 c).arrAt_eq_of_covers 5 _ (covers m).1 fun t _ y => ?_
  blk_simp
  rw [after0_5]
  exact (outs_at m c t y _ (by blk_simp [idx m t]) (by blk_simp [idx m t])).1

theorem final6 (c : Dev nD) : (dats m (ok m) 0 c).arrAt 6 (cfgM m (ok m)).N = Cert.Reference26Ideal.Ref.res1 (m ((c : Thread nD τ).loc main_arg0)) (m ((c : Thread nD τ).loc main_arg3)) (m ((c : Thread nD τ).loc main_arg4)) (Cert.Reference26Ideal.Ref.res0 (m ((c : Thread nD τ).loc main_arg1)) (m ((c : Thread nD τ).loc main_arg2)) (m ((c : Thread nD τ).loc main_arg5))) := by
  refine (dats m (ok m) 0 c).arrAt_eq_of_covers 6 _ (covers m).2.1 fun t _ y => ?_
  blk_simp
  rw [after0_6]
  exact (outs_at m c t y _ (by blk_simp [idx m t]) (by blk_simp [idx m t])).2.1

theorem final7 (c : Dev nD) : (dats m (ok m) 0 c).arrAt 7 (cfgM m (ok m)).N = Cert.Reference26Ideal.Ref.res2 (m ((c : Thread nD τ).loc main_arg3)) (Cert.Reference26Ideal.Ref.res0 (m ((c : Thread nD τ).loc main_arg1)) (m ((c : Thread nD τ).loc main_arg2)) (m ((c : Thread nD τ).loc main_arg5))) := by
  refine (dats m (ok m) 0 c).arrAt_eq_of_covers 7 _ (covers m).2.2.1 fun t _ y => ?_
  blk_simp
  rw [after0_7]
  exact (outs_at m c t y _ (by blk_simp [idx m t]) (by blk_simp [idx m t])).2.2.1

theorem final8 (c : Dev nD) : (dats m (ok m) 0 c).arrAt 8 (cfgM m (ok m)).N = Cert.Reference26Ideal.Ref.res3 (m ((c : Thread nD τ).loc main_arg4)) (Cert.Reference26Ideal.Ref.res0 (m ((c : Thread nD τ).loc main_arg1)) (m ((c : Thread nD τ).loc main_arg2)) (m ((c : Thread nD τ).loc main_arg5))) := by
  refine (dats m (ok m) 0 c).arrAt_eq_of_covers 8 _ (covers m).2.2.2 fun t _ y => ?_
  blk_simp
  rw [after0_8]
  exact (outs_at m c t y _ (by blk_simp [idx m t]) (by blk_simp [idx m t])).2.2.2

end Cert.Kernel26Ideal.Update

end
-- ==== Proof.Claim26.lean ====
module

public import proofs.«01_k».proof.Proof.Upd26
public import proofs.«01_k».proof.Proof.Ref26
public import proofs.«01_k».proof.Proof.Gen.Kernel26.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the update of the state path's output weight. -/

namespace Cert.Proof

theorem frame26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem algebraic26 : Cert.algebraic_Kernel26Ideal_Reference26Ideal := by
  intro m g m' g' hpre hagree
  let A (c : Dev Cert.Kernel26Ideal.nD) (b) := m ((c.tc : Thread Cert.Kernel26Ideal.nD Cert.Kernel26Ideal.τ).loc b)
  let G (c : Dev Cert.Kernel26Ideal.nD) := Cert.Reference26Ideal.Ref.res0 (A c Cert.Kernel26Ideal.main_arg1) (A c Cert.Kernel26Ideal.main_arg2) (A c Cert.Kernel26Ideal.main_arg5)
  refine ⟨G, fun c => Cert.Reference26Ideal.Ref.res1 (A c Cert.Kernel26Ideal.main_arg0) (A c Cert.Kernel26Ideal.main_arg3) (A c Cert.Kernel26Ideal.main_arg4) (G c),
    fun c => Cert.Reference26Ideal.Ref.res2 (A c Cert.Kernel26Ideal.main_arg3) (G c), fun c => Cert.Reference26Ideal.Ref.res3 (A c Cert.Kernel26Ideal.main_arg4) (G c), ?_, ?_⟩
  · exact (θ_run Cert.Kernel26Ideal.defs _ _).mono (fun r h c => ⟨((h.2 c).1 5).trans (Cert.Kernel26Ideal.Update.final5 m c), ((h.2 c).1 6).trans (Cert.Kernel26Ideal.Update.final6 m c),
        ((h.2 c).1 7).trans (Cert.Kernel26Ideal.Update.final7 m c), ((h.2 c).1 8).trans (Cert.Kernel26Ideal.Update.final8 m c), h.1 c⟩)
      (θ_run_and (Cert.Kernel26Ideal.Gen.unchanged m g (Cert.Kernel26Ideal.Update.ok m)) (Cert.Kernel26Ideal.Gen.run_main m g (Cert.Kernel26Ideal.Update.ok m)))
  · refine (θ_run Cert.Reference26Ideal.defs _ _).mono (fun r h c => ⟨(h c).1.trans ?_, (h c).2.1.trans ?_, (h c).2.2.1.trans ?_, (h c).2.2.2.1.trans ?_, (h c).2.2.2.2⟩)
      (Cert.Reference26Ideal.Value.run (F := Ideal) m' g') <;> obtain ⟨a0, a1, a2, a3, a4, a5⟩ := hagree c
    · rw [a1, a2, a5]
    · rw [a0, a1, a2, a3, a4, a5]
    · rw [a1, a2, a3, a5]
    · rw [a1, a2, a4, a5]

end Cert.Proof

end
-- ==== Proof.Ref27.lean ====
module

public import proofs.«01_k».proof.Defs
public import proofs.«01_k».proof.Proof.Gen.Reference27Ideal.Run

@[expose] public section

set_option maxRecDepth 16384

noncomputable section

/-! The results of the reference as terms over its argument arrays. -/

open Idealize.ShloMosaic Idealize.ShloMosaic.TcCoe Idealize.SL.Sem

namespace Cert.Reference27Ideal.Ref

open Cert.Reference27Ideal Cert.Reference27Ideal.Gen

/-- The gradient put together from its two halves: the first result. -/
abbrev res0 (x1 : FVec Ideal S512x512 .f32) (x2 : FVec Ideal S512x512 .f32) (x5 : IVec S1 32) : FVec Ideal S1x1024x512 .f32 :=
  broadcastInDim S1x1024x512 ![1, 2] bcast_S1024x512_S1x1024x512_1_2 (concatenate S1024x512 0 [⟨S512x512, (select (broadcastInDim S512x512 ![] bcast_S_S512x512 (cmpi .eq (shapeCast _ x5 shapeCasts_S1_S_) (constantI S_ 32 0#32))) x1 x2)⟩, ⟨S512x512, (select (broadcastInDim S512x512 ![] bcast_S_S512x512 (cmpi .eq (shapeCast _ x5 shapeCasts_S1_S_) (constantI S_ 32 1#32))) x1 x2)⟩] concatenates_S512x512_S512x512_S1024x512_d0)

/-- The new first moment: the third result. -/
abbrev res2 (x3 : FVec Ideal S1x1024x512 .f32) (g : FVec Ideal S1x1024x512 .f32) : FVec Ideal S1x1024x512 .f32 :=
  addf (mulf (broadcastInDim S1x1024x512 ![] bcast_S_S1x1024x512 (constant S_ .f32 0x3F666666#32)) x3) (mulf (broadcastInDim S1x1024x512 ![] bcast_S_S1x1024x512 (constant S_ .f32 0x3DCCCCCD#32)) g)

/-- The new second moment: the fourth result. -/
abbrev res3 (x4 : FVec Ideal S1x1024x512 .f32) (g : FVec Ideal S1x1024x512 .f32) : FVec Ideal S1x1024x512 .f32 :=
  addf (mulf (broadcastInDim S1x1024x512 ![] bcast_S_S1x1024x512 (constant S_ .f32 0x3F7FBE77#32)) x4) (mulf (broadcastInDim S1x1024x512 ![] bcast_S_S1x1024x512 (constant S_ .f32 0x3A83126F#32)) (mulf g g))

/-- The change of the weight: the second result. -/
abbrev res1 (x0 : FVec Ideal S1x1024x512 .f32) (x3 : FVec Ideal S1x1024x512 .f32) (x4 : FVec Ideal S1x1024x512 .f32) (g : FVec Ideal S1x1024x512 .f32) : FVec Ideal S1x1024x512 .f32 :=
  mulf (broadcastInDim S1x1024x512 ![] bcast_S_S1x1024x512 (constant S_ .f32 0xBA83126F#32)) (addf (Host.divf (Host.divf (res2 x3 g) (broadcastInDim S1x1024x512 ![] bcast_S_S1x1024x512 (constant S_ .f32 0x3F26BD02#32))) (addf (Host.sqrt (Host.divf (res3 x4 g) (broadcastInDim S1x1024x512 ![] bcast_S_S1x1024x512 (constant S_ .f32 0x3C231ACC#32)))) (broadcastInDim S1x1024x512 ![] bcast_S_S1x1024x512 (constant S_ .f32 0x322BCC77#32)))) (mulf (broadcastInDim S1x1024x512 ![] bcast_S_S1x1024x512 (constant S_ .f32 0x3C23D70A#32)) x0))

end Cert.Reference27Ideal.Ref

end
-- ==== Proof.Upd27.lean ====
module

public import proofs.«01_k».proof.Proof.Gen.Kernel27Ideal.Frame
public import proofs.«01_k».proof.Proof.Ref27
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Covers

@[expose] public section

set_option maxRecDepth 16384

noncomputable section

/-! The update of the memory's weight: each block, and the four arrays. -/

open Idealize.ShloMosaic Idealize.ShloMosaic.TcCoe Idealize.SL.Sem
open Idealize.ShloMosaic.Pipeline (Dat)

namespace Cert.Kernel27Ideal.Update

open Cert.Kernel27Ideal Cert.Kernel27Ideal.Gen
open Cert.Adam

/-- The half a point takes its gradient from: the core's own where the point's half has the core's number. -/
theorem pay6_at (i : grid0.Coords) (w : BitVec 32) (a b : FVec Ideal S512x512 .f32) (y : S512x512.Idx) :
    k0_pay6 (F := Ideal) i w a b y = if BitVec.ofNat 32 ((i 0 : ℕ) / 1) = w then a y else b y := by
  have h : ∀ v : BitVec 32, Scalar.select (Scalar.cmpi .eq v w) a b y = if v = w then a y else b y := fun v =>
    (congrFun (select_eq v w a b) y).trans (by split <;> rfl)
  obtain ⟨n, hn⟩ : ∃ n, n = i 0 := ⟨_, rfl⟩
  rw [← h]
  unfold k0_pay6
  rw [← hn]
  fin_cases n <;> rfl

/-- The joined gradient at an entry. -/
theorem res0_at (x1 x2 : FVec Ideal S512x512 .f32) (x5 : IVec S1 32) (i : S1x1024x512.Idx) (j : S512x512.Idx) (h0 : (j 0 : ℕ) = (i 1 : ℕ) % 512) (h1 : (j 1 : ℕ) = (i 2 : ℕ)) :
    Cert.Reference27Ideal.Ref.res0 x1 x2 x5 i = if BitVec.ofNat 32 ((i 1 : ℕ) / 512) = x5 (ix1 0) then x1 j else x2 j := by
  have h : ∀ (w v : BitVec 32) (a b : EReal), Scalar.select (IntOp.cmpi .eq w v) a b = if v = w then a else b := fun w v a b =>
    (select_eq w v a b).trans (if_congr eq_comm rfl rfl)
  have hi : (i 1 : ℕ) < 1024 := (i 1).isLt
  have hj : j = ix2 (j 0) (j 1) := eq_ix2 j
  pointwise [Cert.Reference27Ideal.Ref.res0]
  split
  · rw [h, show (i 1 : ℕ) / 512 = 0 by omega, hj]
    refine if_congr Iff.rfl ?_ ?_ <;> blk_point []
  · rw [h, show (i 1 : ℕ) / 512 = 1 by omega, hj]
    refine if_congr Iff.rfl ?_ ?_ <;> blk_point []

/-- What the kernel writes from one entry of its gradient and of the three other arrays. -/
theorem pay345_at (g : FVec Ideal S512x512 .f32) (a0 a3 a4 : FVec Ideal S1x512x512 .f32) (y : S1x512x512.Idx) :
    k0_pay3 (F := Ideal) g (k0_pay8 a0) (k0_pay9 a4) (k0_pay10 a3) y = change (a0 y) (a3 y) (a4 y) (g (ix2 (y 1) (y 2)))
    ∧ k0_pay4 (F := Ideal) g (k0_pay10 a3) y = first (a3 y) (g (ix2 (y 1) (y 2)))
    ∧ k0_pay5 (F := Ideal) g (k0_pay9 a4) y = second (a4 y) (g (ix2 (y 1) (y 2))) := by
  unfold change first second
  refine ⟨?_, ?_, ?_⟩ <;> (pointwise [k0_pay1, k0_pay2, k0_pay3, k0_pay4, k0_pay5, k0_pay8, k0_pay9, k0_pay10])

theorem res_at (x0 x3 x4 g : FVec Ideal S1x1024x512 .f32) (i : S1x1024x512.Idx) :
    Cert.Reference27Ideal.Ref.res1 x0 x3 x4 g i = change (x0 i) (x3 i) (x4 i) (g i) ∧ Cert.Reference27Ideal.Ref.res2 x3 g i = first (x3 i) (g i) ∧ Cert.Reference27Ideal.Ref.res3 x4 g i = second (x4 i) (g i) := by
  unfold change first second
  refine ⟨?_, ?_, ?_⟩ <;> pointwise

variable (m : (ℓ : Loc nD τ sig) → Buf (Elt Ideal) ℓ)

theorem ok : Ok m := trivial

theorem idx0 : ∀ t : Fin grid0.N, cc0_transform_0 (grid0.coords t) = ![0, t.val, 0] ∧ cc0_transform_1 (grid0.coords t) = ![0, 0] ∧ cc0_transform_2 (grid0.coords t) = ![0, 0] ∧ cc0_transform_3 (grid0.coords t) = ![0, t.val, 0] ∧ cc0_transform_4 (grid0.coords t) = ![0, t.val, 0] ∧ cc0_transform_5 (grid0.coords t) = ![0, t.val, 0] ∧ cc0_transform_6 (grid0.coords t) = ![0, t.val, 0] ∧ cc0_transform_7 (grid0.coords t) = ![0, t.val, 0] ∧ cc0_transform_8 (grid0.coords t) = ![0, t.val, 0] := by
  decide +kernel

theorem idx (t : Fin (cfgM m (ok m)).N) : ((cfgM m (ok m)).win 0).index t = ![0, t.val, 0] ∧ ((cfgM m (ok m)).win 1).index t = ![0, 0] ∧ ((cfgM m (ok m)).win 2).index t = ![0, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  idx0 t

theorem covers : ((cfgM m (ok m)).win 5).Covers ∧ ((cfgM m (ok m)).win 6).Covers ∧ ((cfgM m (ok m)).win 7).Covers ∧ ((cfgM m (ok m)).win 8).Covers := by
  refine ⟨?_, ?_, ?_, ?_⟩
  all_goals
    refine Pipeline.Window.covers_of_index_surj _ rfl (show ∀ a : Fin 3, 0 < (![1, 512, 512] : Fin 3 → ℕ) a by decide) fun β => ?_
    have h1 : (β (1 : Fin 3)).val < grid0.N := lt_of_lt_of_eq (β (1 : Fin 3)).isLt (by sl_kernel_rfl)
    have h0 : (β (0 : Fin 3)).val < 1 := lt_of_lt_of_eq (β (0 : Fin 3)).isLt (by sl_kernel_rfl)
    have h2 : (β (2 : Fin 3)).val < 1 := lt_of_lt_of_eq (β (2 : Fin 3)).isLt (by sl_kernel_rfl)
    refine ⟨⟨(β (1 : Fin 3)).val, h1⟩, ?_⟩
    simp only [idx m _]
    show ∀ a : Fin 3, (![0, (β (1 : Fin 3)).val, 0] : Fin 3 → ℕ) a = (β a).val
    intro a
    match a with
    | 0 => show 0 = _; omega
    | 1 => rfl
    | 2 => show 0 = _; omega

/-- The word the points read. -/
theorem word (c : Dev nD) (q : (Rect.unit (s := S1) ![0] ![1] inb_S1_S1_0).shape.Idx) : View.readAt (Elt Ideal) (View.whole main_arg5) (Rect.unit ![0] ![1] inb_S1_S1_0).toLoadRect (tbl m 0) q = (m ((c : Thread nD τ).loc main_arg5)) (ix1 0) := by
  obtain rfl : c = 0 := Subsingleton.elim _ _
  refine congrArg (m (((0 : Dev nD) : Thread nD τ).loc main_arg5)) (funext fun a => ?_)
  match a with
  | 0 => exact Subsingleton.elim (α := Fin 1) _ _

/-- The blocks of the three arrays of the weight's shape. -/
theorem blk_at (c : Dev nD) (t : Fin (cfgM m (ok m)).N) (y : S1x512x512.Idx) (i : S1x1024x512.Idx) (h1 : (i 1 : ℕ) = t.val * 512 + y 1) (h2 : (i 2 : ℕ) = y 2) :
    (iblk m (ok m) c 0 t : FVec Ideal S1x512x512 .f32) y = (m ((c : Thread nD τ).loc main_arg0)) i ∧ (iblk m (ok m) c 3 t : FVec Ideal S1x512x512 .f32) y = (m ((c : Thread nD τ).loc main_arg3)) i
    ∧ (iblk m (ok m) c 4 t : FVec Ideal S1x512x512 .f32) y = (m ((c : Thread nD τ).loc main_arg4)) i := by
  have hi : (i 0 : ℕ) < 1 := (i 0).isLt
  have hy : (y 0 : ℕ) < 1 := (y 0).isLt
  refine ⟨?_, ?_, ?_⟩ <;> blk_ext [iblk, V, idx m t]

/-- The gradient of a point at an entry. -/
theorem grad_at (c : Dev nD) (t : Fin (cfgM m (ok m)).N) (y : S1x512x512.Idx) (i : S1x1024x512.Idx) (h1 : (i 1 : ℕ) = t.val * 512 + y 1) (h2 : (i 2 : ℕ) = y 2) :
    k0_pay6 (F := Ideal) (grid0.coords t) ((m ((c : Thread nD τ).loc main_arg5)) (ix1 0)) (iblk m (ok m) c 1 t) (iblk m (ok m) c 2 t) (ix2 (y 1) (y 2)) = Cert.Reference27Ideal.Ref.res0 (m ((c : Thread nD τ).loc main_arg1)) (m ((c : Thread nD τ).loc main_arg2)) (m ((c : Thread nD τ).loc main_arg5)) i := by
  have hc : ∀ t : Fin grid0.N, (grid0.coords t 0 : ℕ) = t.val ∧ t.val < 2 := by decide +kernel
  have hy : (y 1 : ℕ) < 512 := (y 1).isLt
  obtain ⟨ht, hN⟩ := hc t
  have hi : (i 1 : ℕ) % 512 < 512 := Nat.mod_lt _ (by decide)
  rw [res0_at _ _ _ i (ix2 ⟨(i 1 : ℕ) % 512, hi⟩ (i 2)) rfl rfl]
  refine (pay6_at _ _ _ _ _).trans ?_
  rw [ht, show (i 1 : ℕ) / 512 = t.val / 1 by omega]
  refine if_congr Iff.rfl ?_ ?_
  all_goals blk_ext [iblk, V, idx m t]

/-- What a point leaves in the blocks of the four outputs. -/
theorem outs_at (c : Dev nD) (t : Fin (cfgM m (ok m)).N) (y : S1x512x512.Idx) (i : S1x1024x512.Idx) (h1 : (i 1 : ℕ) = t.val * 512 + y 1) (h2 : (i 2 : ℕ) = y 2) :
    (outsAt0 m (ok m) c t).1 y = (Cert.Reference27Ideal.Ref.res0 (m ((c : Thread nD τ).loc main_arg1)) (m ((c : Thread nD τ).loc main_arg2)) (m ((c : Thread nD τ).loc main_arg5))) i
    ∧ (outsAt0 m (ok m) c t).2.1 y = Cert.Reference27Ideal.Ref.res1 (m ((c : Thread nD τ).loc main_arg0)) (m ((c : Thread nD τ).loc main_arg3)) (m ((c : Thread nD τ).loc main_arg4)) (Cert.Reference27Ideal.Ref.res0 (m ((c : Thread nD τ).loc main_arg1)) (m ((c : Thread nD τ).loc main_arg2)) (m ((c : Thread nD τ).loc main_arg5))) i
    ∧ (outsAt0 m (ok m) c t).2.2.1 y = Cert.Reference27Ideal.Ref.res2 (m ((c : Thread nD τ).loc main_arg3)) (Cert.Reference27Ideal.Ref.res0 (m ((c : Thread nD τ).loc main_arg1)) (m ((c : Thread nD τ).loc main_arg2)) (m ((c : Thread nD τ).loc main_arg5))) i
    ∧ (outsAt0 m (ok m) c t).2.2.2 y = Cert.Reference27Ideal.Ref.res3 (m ((c : Thread nD τ).loc main_arg4)) (Cert.Reference27Ideal.Ref.res0 (m ((c : Thread nD τ).loc main_arg1)) (m ((c : Thread nD τ).loc main_arg2)) (m ((c : Thread nD τ).loc main_arg5))) i := by
  obtain ⟨b0, b3, b4⟩ := blk_at m c t y i h1 h2
  have hg := grad_at m c t y i h1 h2
  obtain ⟨r1, r2, r3⟩ := res_at (m ((c : Thread nD τ).loc main_arg0)) (m ((c : Thread nD τ).loc main_arg3)) (m ((c : Thread nD τ).loc main_arg4)) (Cert.Reference27Ideal.Ref.res0 (m ((c : Thread nD τ).loc main_arg1)) (m ((c : Thread nD τ).loc main_arg2)) (m ((c : Thread nD τ).loc main_arg5))) i
  have e0 := (hs0_0 m (ok m) t).read_unread (Val := Elt Ideal) (iblk m (ok m) c 0 t)
  have e1 := (hs0_1 m (ok m) t).read_unread (Val := Elt Ideal) (iblk m (ok m) c 1 t)
  have e2 := (hs0_2 m (ok m) t).read_unread (Val := Elt Ideal) (iblk m (ok m) c 2 t)
  have e3 := (hs0_3 m (ok m) t).read_unread (Val := Elt Ideal) (iblk m (ok m) c 3 t)
  have e4 := (hs0_4 m (ok m) t).read_unread (Val := Elt Ideal) (iblk m (ok m) c 4 t)
  obtain ⟨p3, p4, p5⟩ := pay345_at (k0_pay6 (grid0.coords t) ((m ((c : Thread nD τ).loc main_arg5)) (ix1 0)) (iblk m (ok m) c 1 t) (iblk m (ok m) c 2 t)) (iblk m (ok m) c 0 t) (iblk m (ok m) c 3 t) (iblk m (ok m) c 4 t) y
  rw [r1, r2, r3, ← hg, ← b0, ← b3, ← b4]
  unfold outsAt0
  refine ⟨?_, ?_, ?_, ?_⟩
  · frame_out
    refine (congrFun (congr (congr (congrArg (k0_pay7 _) (word m c _)) e1) e2) y).trans ?_
    unfold k0_pay7
    pointwise
  · frame_out
    exact (congrFun (congr (congr (congr (congrArg k0_pay3 (congr (congr (congrArg (k0_pay6 _) (word m c _)) e1) e2)) (congrArg k0_pay8 e0)) (congrArg k0_pay9 e4)) (congrArg k0_pay10 e3)) y).trans p3
  · frame_out
    exact (congrFun (congr (congrArg k0_pay4 (congr (congr (congrArg (k0_pay6 _) (word m c _)) e1) e2)) (congrArg k0_pay10 e3)) y).trans p4
  · frame_out
    exact (congrFun (congr (congrArg k0_pay5 (congr (congr (congrArg (k0_pay6 _) (word m c _)) e1) e2)) (congrArg k0_pay9 e4)) y).trans p5

theorem final5 (c : Dev nD) : (dats m (ok m) 0 c).arrAt 5 (cfgM m (ok m)).N = Cert.Reference27Ideal.Ref.res0 (m ((c : Thread nD τ).loc main_arg1)) (m ((c : Thread nD τ).loc main_arg2)) (m ((c : Thread nD τ).loc main_arg5)) := by
  refine (dats m (ok m) 0 c).arrAt_eq_of_covers 5 _ (covers m).1 fun t _ y => ?_
  blk_simp
  rw [after0_5]
  exact (outs_at m c t y _ (by blk_simp [idx m t]) (by blk_simp [idx m t])).1

theorem final6 (c : Dev nD) : (dats m (ok m) 0 c).arrAt 6 (cfgM m (ok m)).N = Cert.Reference27Ideal.Ref.res1 (m ((c : Thread nD τ).loc main_arg0)) (m ((c : Thread nD τ).loc main_arg3)) (m ((c : Thread nD τ).loc main_arg4)) (Cert.Reference27Ideal.Ref.res0 (m ((c : Thread nD τ).loc main_arg1)) (m ((c : Thread nD τ).loc main_arg2)) (m ((c : Thread nD τ).loc main_arg5))) := by
  refine (dats m (ok m) 0 c).arrAt_eq_of_covers 6 _ (covers m).2.1 fun t _ y => ?_
  blk_simp
  rw [after0_6]
  exact (outs_at m c t y _ (by blk_simp [idx m t]) (by blk_simp [idx m t])).2.1

theorem final7 (c : Dev nD) : (dats m (ok m) 0 c).arrAt 7 (cfgM m (ok m)).N = Cert.Reference27Ideal.Ref.res2 (m ((c : Thread nD τ).loc main_arg3)) (Cert.Reference27Ideal.Ref.res0 (m ((c : Thread nD τ).loc main_arg1)) (m ((c : Thread nD τ).loc main_arg2)) (m ((c : Thread nD τ).loc main_arg5))) := by
  refine (dats m (ok m) 0 c).arrAt_eq_of_covers 7 _ (covers m).2.2.1 fun t _ y => ?_
  blk_simp
  rw [after0_7]
  exact (outs_at m c t y _ (by blk_simp [idx m t]) (by blk_simp [idx m t])).2.2.1

theorem final8 (c : Dev nD) : (dats m (ok m) 0 c).arrAt 8 (cfgM m (ok m)).N = Cert.Reference27Ideal.Ref.res3 (m ((c : Thread nD τ).loc main_arg4)) (Cert.Reference27Ideal.Ref.res0 (m ((c : Thread nD τ).loc main_arg1)) (m ((c : Thread nD τ).loc main_arg2)) (m ((c : Thread nD τ).loc main_arg5))) := by
  refine (dats m (ok m) 0 c).arrAt_eq_of_covers 8 _ (covers m).2.2.2 fun t _ y => ?_
  blk_simp
  rw [after0_8]
  exact (outs_at m c t y _ (by blk_simp [idx m t]) (by blk_simp [idx m t])).2.2.2

end Cert.Kernel27Ideal.Update

end
-- ==== Proof.Claim27.lean ====
module

public import proofs.«01_k».proof.Proof.Upd27
public import proofs.«01_k».proof.Proof.Ref27
public import proofs.«01_k».proof.Proof.Gen.Kernel27.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the update of the memory's weight. -/

namespace Cert.Proof

theorem frame27 : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem algebraic27 : Cert.algebraic_Kernel27Ideal_Reference27Ideal := by
  intro m g m' g' hpre hagree
  let A (c : Dev Cert.Kernel27Ideal.nD) (b) := m ((c.tc : Thread Cert.Kernel27Ideal.nD Cert.Kernel27Ideal.τ).loc b)
  let G (c : Dev Cert.Kernel27Ideal.nD) := Cert.Reference27Ideal.Ref.res0 (A c Cert.Kernel27Ideal.main_arg1) (A c Cert.Kernel27Ideal.main_arg2) (A c Cert.Kernel27Ideal.main_arg5)
  refine ⟨G, fun c => Cert.Reference27Ideal.Ref.res1 (A c Cert.Kernel27Ideal.main_arg0) (A c Cert.Kernel27Ideal.main_arg3) (A c Cert.Kernel27Ideal.main_arg4) (G c),
    fun c => Cert.Reference27Ideal.Ref.res2 (A c Cert.Kernel27Ideal.main_arg3) (G c), fun c => Cert.Reference27Ideal.Ref.res3 (A c Cert.Kernel27Ideal.main_arg4) (G c), ?_, ?_⟩
  · exact (θ_run Cert.Kernel27Ideal.defs _ _).mono (fun r h c => ⟨((h.2 c).1 5).trans (Cert.Kernel27Ideal.Update.final5 m c), ((h.2 c).1 6).trans (Cert.Kernel27Ideal.Update.final6 m c),
        ((h.2 c).1 7).trans (Cert.Kernel27Ideal.Update.final7 m c), ((h.2 c).1 8).trans (Cert.Kernel27Ideal.Update.final8 m c), h.1 c⟩)
      (θ_run_and (Cert.Kernel27Ideal.Gen.unchanged m g (Cert.Kernel27Ideal.Update.ok m)) (Cert.Kernel27Ideal.Gen.run_main m g (Cert.Kernel27Ideal.Update.ok m)))
  · refine (θ_run Cert.Reference27Ideal.defs _ _).mono (fun r h c => ⟨(h c).1.trans ?_, (h c).2.1.trans ?_, (h c).2.2.1.trans ?_, (h c).2.2.2.1.trans ?_, (h c).2.2.2.2⟩)
      (Cert.Reference27Ideal.Value.run (F := Ideal) m' g') <;> obtain ⟨a0, a1, a2, a3, a4, a5⟩ := hagree c
    · rw [a1, a2, a5]
    · rw [a0, a1, a2, a3, a4, a5]
    · rw [a1, a2, a3, a5]
    · rw [a1, a2, a4, a5]

end Cert.Proof

end
-- ==== Proof.MixOutF.lean ====
module

public import proofs.«01_k».proof.Proof.Gen.Kernel28Ideal.Frame
public import proofs.«01_k».proof.Proof.Ffn
public import Idealize.ShloMosaic.Lib.Pipeline.ReadBack
public import Idealize.ShloMosaic.Lib.Pointwise
public import Idealize.ShloMosaic.Lib.Pipeline.ValueKit

@[expose] public section

set_option maxRecDepth 16384

noncomputable section

/-! The projection out of the mixer with its residual and the normalised rows after it: each block, and the two arrays. -/

open Idealize.ShloMosaic Idealize.ShloMosaic.TcCoe Idealize.SL.Sem
open Idealize.ShloMosaic.Pipeline (Dat)
open Cert.Kernel5Ideal.Ffn (rr)

namespace Cert.Kernel28Ideal.Prod

open Cert.Kernel28Ideal Cert.Kernel28Ideal.Gen

/-- The product with the weight, and the residual. -/
def row (x0 : FVec Ideal S8192x1024 .bf16) (x1 : FVec Ideal S1024x1024 .f32) (x2 : FVec Ideal S8192x1024 .f32) (p : Fin 8192) (q : Fin 1024) : EReal :=
  (∑ k : Fin 1024, x0 (ix2 p k) * x1 (ix2 k q)) + x2 (ix2 p q)

/-- The same over a block. -/
def rowB (x0 : FVec Ideal S1024x1024 .bf16) (x1 : FVec Ideal S1024x1024 .f32) (x2 : FVec Ideal S1024x1024 .f32) (p q : Fin 1024) : EReal :=
  (∑ k : Fin 1024, x0 (ix2 p k) * x1 (ix2 k q)) + x2 (ix2 p q)

/-- The first result array. -/
def G4 (x0 : FVec Ideal S8192x1024 .bf16) (x1 : FVec Ideal S1024x1024 .f32) (x2 : FVec Ideal S8192x1024 .f32) (i : S8192x1024.Idx) : EReal := row x0 x1 x2 (i 0) (i 1)

/-- The second: the rows normalised, times the gain. -/
def G5 (x0 : FVec Ideal S8192x1024 .bf16) (x1 : FVec Ideal S1024x1024 .f32) (x2 : FVec Ideal S8192x1024 .f32) (x3 : FVec Ideal S1x1024 .f32) (i : S8192x1024.Idx) : EReal :=
  row x0 x1 x2 (i 0) (i 1) * rr (∑ k : Fin 1024, row x0 x1 x2 (i 0) k * row x0 x1 x2 (i 0) k) * x3 (ix2 0 (i 1))

/-- The same over a block. -/
def B5 (x0 : FVec Ideal S1024x1024 .bf16) (x1 : FVec Ideal S1024x1024 .f32) (x2 : FVec Ideal S1024x1024 .f32) (x3 : FVec Ideal S1x1024 .f32) (i : S1024x1024.Idx) : EReal :=
  rowB x0 x1 x2 (i 0) (i 1) * rr (∑ k : Fin 1024, rowB x0 x1 x2 (i 0) k * rowB x0 x1 x2 (i 0) k) * x3 (ix2 0 (i 1))

theorem out4_at (x0 : FVec Ideal S1024x1024 .bf16) (x1 : FVec Ideal S1024x1024 .f32) (x2 : FVec Ideal S1024x1024 .f32) (x3 : FVec Ideal S1x1024 .f32) (y : S1024x1024.Idx) : out0_4 (F := Ideal) x0 x1 x2 x3 y = rowB x0 x1 x2 (y 0) (y 1) := by
  unfold out0_4
  unfold rowB
  canon_tiles x h
  all_goals (open_payloads; pointwise; try blk_point [])

theorem out5_at (x0 : FVec Ideal S1024x1024 .bf16) (x1 : FVec Ideal S1024x1024 .f32) (x2 : FVec Ideal S1024x1024 .f32) (x3 : FVec Ideal S1x1024 .f32) (y : S1024x1024.Idx) : out0_5 (F := Ideal) x0 x1 x2 x3 y = B5 x0 x1 x2 x3 y := by
  unfold out0_5
  unfold B5 rowB rr
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem final4 (c : Dev nD) (i : S8192x1024.Idx) : (dats m 0 c).arrAt 4 (cfgs 0).N i = G4 (m ((c : Thread nD τ).loc main_arg0)) (m ((c : Thread nD τ).loc main_arg1)) (m ((c : Thread nD τ).loc main_arg2)) i := by
  refine congrFun ((dats m 0 c).arrAt_eq_of_covers 4 (fun i => G4 (m ((c : Thread nD τ).loc main_arg0)) (m ((c : Thread nD τ).loc main_arg1)) (m ((c : Thread nD τ).loc main_arg2)) i) (by decide +kernel) fun t _ y => ?_) i
  blk_simp
  rw [after0_4, out4_at]
  unfold G4 row rowB
  blk_point [iblk, V, idx t]

theorem final5 (c : Dev nD) (i : S8192x1024.Idx) : (dats m 0 c).arrAt 5 (cfgs 0).N i = G5 (m ((c : Thread nD τ).loc main_arg0)) (m ((c : Thread nD τ).loc main_arg1)) (m ((c : Thread nD τ).loc main_arg2)) (m ((c : Thread nD τ).loc main_arg3)) i := by
  refine congrFun ((dats m 0 c).arrAt_eq_of_covers 5 (fun i => G5 (m ((c : Thread nD τ).loc main_arg0)) (m ((c : Thread nD τ).loc main_arg1)) (m ((c : Thread nD τ).loc main_arg2)) (m ((c : Thread nD τ).loc main_arg3)) i) (by decide +kernel) fun t _ y => ?_) i
  blk_simp
  rw [after0_5, out5_at]
  unfold G5 B5 row rowB
  blk_point [iblk, V, idx t]

end Cert.Kernel28Ideal.Prod

end
-- ==== Proof.Ref28.lean ====
module

public import proofs.«01_k».proof.Defs
public import proofs.«01_k».proof.Proof.Gen.Reference28Ideal.Run

@[expose] public section

set_option maxRecDepth 16384

noncomputable section

/-! The results of the reference as terms over its argument arrays. -/

namespace Cert.Reference28Ideal.Ref

open Cert.Reference28Ideal Cert.Reference28Ideal.Gen Idealize.ShloMosaic Idealize.ShloMosaic.TcCoe Idealize.SL.Sem

/-- Result 0 of the reference. -/
abbrev res0 (x0 : FVec Ideal S8192x1024 .bf16) (x1 : FVec Ideal S1024x1024 .f32) (x2 : FVec Ideal S8192x1024 .f32) (x3 : FVec Ideal S1x1024 .f32) : FVec Ideal S8192x1024 .f32 :=
  addf x2 (Host.dotGeneral dot_S8192x1024_S1024x1024_S8192x1024_1_0_0_1_n_n none (extf .f32 x0 bitsLt_bf16_f32) x1)

/-- Result 1 of the reference. -/
abbrev res1 (x0 : FVec Ideal S8192x1024 .bf16) (x1 : FVec Ideal S1024x1024 .f32) (x2 : FVec Ideal S8192x1024 .f32) (x3 : FVec Ideal S1x1024 .f32) : FVec Ideal S8192x1024 .bf16 :=
  truncf .bf16 (mulf (mulf (addf x2 (Host.dotGeneral dot_S8192x1024_S1024x1024_S8192x1024_1_0_0_1_n_n none (extf .f32 x0 bitsLt_bf16_f32) x1)) (broadcastInDim S8192x1024 ![0, 1] bcast_S8192x1_S8192x1024_0_1 (Host.rsqrt (addf (Host.divf (broadcastInDim S8192x1 ![0] bcast_S8192_S8192x1_0 (Host.reduceAdd (mulf (addf x2 (Host.dotGeneral dot_S8192x1024_S1024x1024_S8192x1024_1_0_0_1_n_n none (extf .f32 x0 bitsLt_bf16_f32) x1)) (addf x2 (Host.dotGeneral dot_S8192x1024_S1024x1024_S8192x1024_1_0_0_1_n_n none (extf .f32 x0 bitsLt_bf16_f32) x1))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x3)) bitsLt_bf16_f32

end Cert.Reference28Ideal.Ref

end
-- ==== Proof.Claim28.lean ====
module

public import proofs.«01_k».proof.Proof.MixOutF
public import proofs.«01_k».proof.Proof.Ref28
public import proofs.«01_k».proof.Proof.Gen.Kernel28.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the projection out of the mixer. -/

namespace Cert.Proof

theorem frame28 : Cert.quiescent_Reference28Ideal := fun m ρ _ =>
  (θ_run Cert.Reference28Ideal.defs _ _).mono (fun r h => ⟨fun c => (h c).2.2, sem_eq_zero_of_no_sems (by decide) r.2⟩)
    (Cert.Reference28Ideal.Value.run (F := Ideal) m ρ)

theorem sum28 (x0 : FVec Ideal Cert.Kernel28Ideal.S8192x1024 .bf16) (x1 : FVec Ideal Cert.Kernel28Ideal.S1024x1024 .f32) (x2 : FVec Ideal Cert.Kernel28Ideal.S8192x1024 .f32)
    (x3 : FVec Ideal Cert.Kernel28Ideal.S1x1024 .f32)
    (p : Fin 8192) (q : Fin 1024) : Cert.Reference28Ideal.Ref.res0 x0 x1 x2 x3 (ix2 p q) = Cert.Kernel28Ideal.Prod.row x0 x1 x2 p q := by
  unfold Cert.Reference28Ideal.Ref.res0 Cert.Kernel28Ideal.Prod.row
  pointwise
  rw [add_comm]

theorem res28_at (x0 : FVec Ideal Cert.Kernel28Ideal.S8192x1024 .bf16) (x1 : FVec Ideal Cert.Kernel28Ideal.S1024x1024 .f32) (x2 : FVec Ideal Cert.Kernel28Ideal.S8192x1024 .f32)
    (x3 : FVec Ideal Cert.Kernel28Ideal.S1x1024 .f32)
    (i : Cert.Kernel28Ideal.S8192x1024.Idx) : Cert.Reference28Ideal.Ref.res0 x0 x1 x2 x3 i = Cert.Kernel28Ideal.Prod.G4 x0 x1 x2 i := by
  rw [eq_ix2 i]
  exact sum28 x0 x1 x2 x3 (i 0) (i 1)

theorem norm28_at (x0 : FVec Ideal Cert.Kernel28Ideal.S8192x1024 .bf16) (x1 : FVec Ideal Cert.Kernel28Ideal.S1024x1024 .f32) (x2 : FVec Ideal Cert.Kernel28Ideal.S8192x1024 .f32)
    (x3 : FVec Ideal Cert.Kernel28Ideal.S1x1024 .f32)
    (p : Fin 8192) (q : Fin 1024) : Cert.Reference28Ideal.Ref.res1 x0 x1 x2 x3 (ix2 p q) = Cert.Kernel28Ideal.Prod.G5 x0 x1 x2 x3 (ix2 p q) := by
  have e : ∀ (p : Fin 8192) (q : Fin 1024), Cert.Kernel28Ideal.Prod.row x0 x1 x2 p q
      = x2 (ix2 p q) + ∑ k : Fin 1024, x0 (ix2 p k) * x1 (ix2 k q) := fun p q => by
    unfold Cert.Kernel28Ideal.Prod.row
    rw [add_comm]
  unfold Cert.Reference28Ideal.Ref.res1 Cert.Kernel28Ideal.Prod.G5 Cert.Kernel5Ideal.Ffn.rr
  pointwise
  simp only [e]

theorem algebraic28 : Cert.algebraic_Kernel28Ideal_Reference28Ideal := by
  pair_intro
  · run_from Cert.Kernel28Ideal.Gen.run_main m g
  · refine (θ_run Cert.Reference28Ideal.defs _ _).mono (fun r h c => ⟨(h c).1.trans ?_, (h c).2.1.trans ?_, (h c).2.2⟩)
      (Cert.Reference28Ideal.Value.run (F := Ideal) m' g')
    · obtain ⟨a0, a1, a2, a3⟩ := hagree c
      rw [a0, a1, a2]
      funext i
      exact (res28_at _ _ _ (m ((c.tc : Thread Cert.Kernel28Ideal.nD Cert.Kernel28Ideal.τ).loc Cert.Kernel28Ideal.main_arg3)) i).trans (Cert.Kernel28Ideal.Prod.final4 m c i).symm
    · obtain ⟨a0, a1, a2, a3⟩ := hagree c
      rw [a0, a1, a2, a3]
      funext i
      refine Eq.trans ?_ (Cert.Kernel28Ideal.Prod.final5 m c i).symm
      rw [eq_ix2 i]
      exact norm28_at _ _ _ _ (i 0) (i 1)

end Cert.Proof

end
-- ==== Proof.QProj.lean ====
module

public import proofs.«01_k».proof.Proof.Gen.Kernel29Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The query projection: each block of the product, and the whole array. -/

open Idealize.ShloMosaic Idealize.ShloMosaic.TcCoe Idealize.SL.Sem
open Idealize.ShloMosaic.Pipeline (Dat)

namespace Cert.Kernel29Ideal.Prod

open Cert.Kernel29Ideal Cert.Kernel29Ideal.Gen

/-- The product with the weight. -/
def G (x0 : FVec Ideal S8192x1024 .bf16) (x1 : FVec Ideal S1024x1024 .f32) (i : S8192x1024.Idx) : EReal :=
  ∑ k : Fin 1024, x0 (ix2 (i 0) k) * x1 (ix2 k (i 1))

/-- The same over the blocks of a point. -/
def B (x0 : FVec Ideal S1024x1024 .bf16) (x1 : FVec Ideal S1024x1024 .f32) (y : S1024x1024.Idx) : EReal :=
  ∑ k : Fin 1024, x0 (ix2 (y 0) k) * x1 (ix2 k (y 1))

theorem out_at (x0 : FVec Ideal S1024x1024 .bf16) (x1 : FVec Ideal S1024x1024 .f32) (y : S1024x1024.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S8192x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel29Ideal.Prod

end
-- ==== Proof.Ref29.lean ====
module

public import proofs.«01_k».proof.Defs
public import proofs.«01_k».proof.Proof.Gen.Reference29Ideal.Run

@[expose] public section

set_option maxRecDepth 16384

noncomputable section

/-! The results of the reference as terms over its argument arrays. -/

namespace Cert.Reference29Ideal.Ref

open Cert.Reference29Ideal Cert.Reference29Ideal.Gen Idealize.ShloMosaic Idealize.ShloMosaic.TcCoe Idealize.SL.Sem

/-- Result 0 of the reference. -/
abbrev res0 (x0 : FVec Ideal S8192x1024 .bf16) (x1 : FVec Ideal S1024x1024 .f32) : FVec Ideal S8192x1024 .bf16 :=
  truncf .bf16 (Host.dotGeneral dot_S8192x1024_S1024x1024_S8192x1024_1_0_0_1_n_n none (extf .f32 x0 bitsLt_bf16_f32) x1) bitsLt_bf16_f32

end Cert.Reference29Ideal.Ref

end
-- ==== Proof.Claim29.lean ====
module

public import proofs.«01_k».proof.Proof.QProj
public import proofs.«01_k».proof.Proof.Ref29
public import proofs.«01_k».proof.Proof.Gen.Kernel29.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the query projection. -/

namespace Cert.Proof

theorem frame29 : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

theorem res29_at (x0 : FVec Ideal Cert.Kernel29Ideal.S8192x1024 .bf16) (x1 : FVec Ideal Cert.Kernel29Ideal.S1024x1024 .f32) (i : Cert.Kernel29Ideal.S8192x1024.Idx) :
    Cert.Reference29Ideal.Ref.res0 x0 x1 i = Cert.Kernel29Ideal.Prod.G x0 x1 i := by
  unfold Cert.Reference29Ideal.Ref.res0 Cert.Kernel29Ideal.Prod.G
  pointwise

theorem algebraic29 : Cert.algebraic_Kernel29Ideal_Reference29Ideal := by
  pair_intro
  · run_from Cert.Kernel29Ideal.Gen.run_main m g
  · refine (θ_run Cert.Reference29Ideal.defs _ _).mono (fun r h c => ⟨(h c).1.trans ?_, (h c).2⟩)
      (Cert.Reference29Ideal.Value.run (F := Ideal) m' g')
    obtain ⟨a0, a1⟩ := hagree c
    rw [a0, a1]
    funext i
    exact (res29_at _ _ i).trans (Cert.Kernel29Ideal.Prod.final m c i).symm

end Cert.Proof

end
-- ==== Proof.OutSsmF.lean ====
module

public import proofs.«01_k».proof.Proof.Gen.Kernel30Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The second branch's projection: each block of the product, and the whole array. -/

open Idealize.ShloMosaic Idealize.ShloMosaic.TcCoe Idealize.SL.Sem
open Idealize.ShloMosaic.Pipeline (Dat)

namespace Cert.Kernel30Ideal.Prod

open Cert.Kernel30Ideal Cert.Kernel30Ideal.Gen

/-- The product with the weight. -/
def G (x0 : FVec Ideal S8192x2048 .bf16) (x1 : FVec Ideal S2048x1024 .f32) (i : S8192x1024.Idx) : EReal :=
  ∑ k : Fin 2048, x0 (ix2 (i 0) k) * x1 (ix2 k (i 1))

/-- The same over the blocks of a point. -/
def B (x0 : FVec Ideal S1024x2048 .bf16) (x1 : FVec Ideal S2048x1024 .f32) (y : S1024x1024.Idx) : EReal :=
  ∑ k : Fin 2048, x0 (ix2 (y 0) k) * x1 (ix2 k (y 1))

theorem out_at (x0 : FVec Ideal S1024x2048 .bf16) (x1 : FVec Ideal S2048x1024 .f32) (y : S1024x1024.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S8192x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel30Ideal.Prod

end
-- ==== Proof.Ref30.lean ====
module

public import proofs.«01_k».proof.Defs
public import proofs.«01_k».proof.Proof.Gen.Reference30Ideal.Run

@[expose] public section

set_option maxRecDepth 16384

noncomputable section

/-! The results of the reference as terms over its argument arrays. -/

namespace Cert.Reference30Ideal.Ref

open Cert.Reference30Ideal Cert.Reference30Ideal.Gen Idealize.ShloMosaic Idealize.ShloMosaic.TcCoe Idealize.SL.Sem

/-- Result 0 of the reference. -/
abbrev res0 (x0 : FVec Ideal S8192x2048 .bf16) (x1 : FVec Ideal S2048x1024 .f32) : FVec Ideal S8192x1024 .bf16 :=
  truncf .bf16 (Host.dotGeneral dot_S8192x2048_S2048x1024_S8192x1024_1_0_0_1_n_n none (extf .f32 x0 bitsLt_bf16_f32) x1) bitsLt_bf16_f32

end Cert.Reference30Ideal.Ref

end
-- ==== Proof.Claim30.lean ====
module

public import proofs.«01_k».proof.Proof.OutSsmF
public import proofs.«01_k».proof.Proof.Ref30
public import proofs.«01_k».proof.Proof.Gen.Kernel30.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the second branch's projection. -/

namespace Cert.Proof

theorem frame30 : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

theorem res30_at (x0 : FVec Ideal Cert.Kernel30Ideal.S8192x2048 .bf16) (x1 : FVec Ideal Cert.Kernel30Ideal.S2048x1024 .f32) (i : Cert.Kernel30Ideal.S8192x1024.Idx) :
    Cert.Reference30Ideal.Ref.res0 x0 x1 i = Cert.Kernel30Ideal.Prod.G x0 x1 i := by
  unfold Cert.Reference30Ideal.Ref.res0 Cert.Kernel30Ideal.Prod.G
  pointwise

theorem algebraic30 : Cert.algebraic_Kernel30Ideal_Reference30Ideal := by
  pair_intro
  · run_from Cert.Kernel30Ideal.Gen.run_main m g
  · refine (θ_run Cert.Reference30Ideal.defs _ _).mono (fun r h c => ⟨(h c).1.trans ?_, (h c).2⟩)
      (Cert.Reference30Ideal.Value.run (F := Ideal) m' g')
    obtain ⟨a0, a1⟩ := hagree c
    rw [a0, a1]
    funext i
    exact (res30_at _ _ i).trans (Cert.Kernel30Ideal.Prod.final m c i).symm

end Cert.Proof

end
-- ==== Proof.KvProj.lean ====
module

public import proofs.«01_k».proof.Proof.Gen.Kernel31Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The projection to keys and values: each block of the product, and the whole array. -/

open Idealize.ShloMosaic Idealize.ShloMosaic.TcCoe Idealize.SL.Sem
open Idealize.ShloMosaic.Pipeline (Dat)

namespace Cert.Kernel31Ideal.Prod

open Cert.Kernel31Ideal Cert.Kernel31Ideal.Gen

/-- The product with the weight. -/
def G (x0 : FVec Ideal S1024x1024 .bf16) (x1 : FVec Ideal S1024x2048 .f32) (i : S1024x2048.Idx) : EReal :=
  ∑ k : Fin 1024, x0 (ix2 (i 0) k) * x1 (ix2 k (i 1))

/-- The same over the blocks of a point. -/
def B (x0 : FVec Ideal S1024x1024 .bf16) (x1 : FVec Ideal S1024x1024 .f32) (y : S1024x1024.Idx) : EReal :=
  ∑ k : Fin 1024, x0 (ix2 (y 0) k) * x1 (ix2 k (y 1))

theorem out_at (x0 : FVec Ideal S1024x1024 .bf16) (x1 : FVec Ideal S1024x1024 .f32) (y : S1024x1024.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

theorem final (c : Dev nD) (i : S1024x2048.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel31Ideal.Prod

end
-- ==== Proof.Ref31.lean ====
module

public import proofs.«01_k».proof.Defs
public import proofs.«01_k».proof.Proof.Gen.Reference31Ideal.Run

@[expose] public section

set_option maxRecDepth 16384

noncomputable section

/-! The results of the reference as terms over its argument arrays. -/

namespace Cert.Reference31Ideal.Ref

open Cert.Reference31Ideal Cert.Reference31Ideal.Gen Idealize.ShloMosaic Idealize.ShloMosaic.TcCoe Idealize.SL.Sem

/-- Result 0 of the reference. -/
abbrev res0 (x0 : FVec Ideal S1024x1024 .bf16) (x1 : FVec Ideal S1024x2048 .f32) : FVec Ideal S1024x2048 .bf16 :=
  truncf .bf16 (Host.dotGeneral dot_S1024x1024_S1024x2048_S1024x2048_1_0_0_1_n_n none (extf .f32 x0 bitsLt_bf16_f32) x1) bitsLt_bf16_f32

end Cert.Reference31Ideal.Ref

end
-- ==== Proof.Claim31.lean ====
module

public import proofs.«01_k».proof.Proof.KvProj
public import proofs.«01_k».proof.Proof.Ref31
public import proofs.«01_k».proof.Proof.Gen.Kernel31.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the projection to keys and values. -/

namespace Cert.Proof

theorem frame31 : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

theorem res31_at (x0 : FVec Ideal Cert.Kernel31Ideal.S1024x1024 .bf16) (x1 : FVec Ideal Cert.Kernel31Ideal.S1024x2048 .f32) (i : Cert.Kernel31Ideal.S1024x2048.Idx) :
    Cert.Reference31Ideal.Ref.res0 x0 x1 i = Cert.Kernel31Ideal.Prod.G x0 x1 i := by
  unfold Cert.Reference31Ideal.Ref.res0 Cert.Kernel31Ideal.Prod.G
  pointwise

theorem algebraic31 : Cert.algebraic_Kernel31Ideal_Reference31Ideal := by
  pair_intro
  · run_from Cert.Kernel31Ideal.Gen.run_main m g
  · refine (θ_run Cert.Reference31Ideal.defs _ _).mono (fun r h c => ⟨(h c).1.trans ?_, (h c).2⟩)
      (Cert.Reference31Ideal.Value.run (F := Ideal) m' g')
    obtain ⟨a0, a1⟩ := hagree c
    rw [a0, a1]
    funext i
    exact (res31_at _ _ i).trans (Cert.Kernel31Ideal.Prod.final m c i).symm

end Cert.Proof

end
-- ==== Proof.Ref32.lean ====
module

public import proofs.«01_k».proof.Defs
public import proofs.«01_k».proof.Proof.Ref2
public import proofs.«01_k».proof.Proof.Gen.Reference32Ideal.Run

@[expose] public section

set_option maxRecDepth 16384

noncomputable section

/-! The result of the reference as a term over its argument arrays. The scores and the probabilities are those of the gradient's reference. -/

namespace Cert.Reference32Ideal.Ref

open Cert.Reference32Ideal Cert.Reference32Ideal.Gen Idealize.ShloMosaic Idealize.ShloMosaic.TcCoe Idealize.SL.Sem
open Cert.Reference2Ideal.Ref (exA sm pr v4)

/-- The values weighted by the probabilities, by row and column. -/
def av (v : FVec Ideal S4x256x4x256 .f32) (p : FVec Ideal S4x4x2048x256 .f32) : FVec Ideal S8192x1024 .bf16 :=
  truncf .bf16 (shapeCast _ (transpose S4x2048x4x256 [0, 3, 1, 2] (Host.dotGeneral dot_S4x256x4x256_S4x4x2048x256_S4x4x256x2048_1_3_3_2_02_01 none v p) transposes_S4x4x256x2048_S4x2048x4x256_0_3_1_2) shapeCasts_S4x2048x4x256_S8192x1024) bitsLt_bf16_f32

/-- The attended values. -/
def res0 (x0 : FVec Ideal S8192x1024 .bf16) (x1 : FVec Ideal S1024x2048 .bf16) : FVec Ideal S8192x1024 .bf16 :=
  av (v4 x1) (pr (exA x0 x1) (sm (exA x0 x1)))

end Cert.Reference32Ideal.Ref

end
-- ==== Proof.AttnF.lean ====
module

public import proofs.«01_k».proof.Proof.AttnEq
public import proofs.«01_k».proof.Proof.Ref32
public import proofs.«01_k».proof.Proof.Gen.Kernel32Ideal.Frame

@[expose] public section

set_option maxRecDepth 16384

noncomputable section

open Idealize.ShloMosaic Idealize.ShloMosaic.TcCoe Idealize.SL.Sem
open Idealize.ShloMosaic.Pipeline (Dat)

/-! What the attention kernel leaves in its result array, and that the reference says the same. -/

namespace Cert.Kernel32Ideal.Attn

open Cert.Kernel32Ideal Cert.Kernel32Ideal.Gen Cert.Attn
open Cert.Kernel2Ideal.Attn (bq rq hd ln bq_eq rq_eq hd_eq ln_eq)

/-- The attended value of a row at a lane. -/
def F (q : Fin 2048 → Fin 256 → EReal) (k v : Fin 256 → Fin 256 → EReal) (i : Fin 2048) (d : Fin 256) : EReal :=
  ∑ j : Fin 256, P (S q k) i j * v j d

/-- The attended value at an entry of the result. -/
def G (x0 : FVec Ideal S8192x1024 .bf16) (x1 : FVec Ideal S1024x2048 .bf16) (a : Fin 8192) (e : Fin 1024) : EReal :=
  F (Qf x0 (bq a) (hd e)) (Kf x1 (bq a) (hd e)) (Vf x1 (bq a) (hd e)) (rq a) (ln e)

theorem pay1_at (q : FVec Ideal S2048x256 .bf16) (k v : FVec Ideal S256x256 .bf16) (i : Fin 2048) (d : Fin 256) :
    k0_pay1 (F := Ideal) q k v (ix2 i d) = F (fun i d => q (ix2 i d)) (fun j d => k (ix2 j d)) (fun j d => v (ix2 j d)) i d := by
  unfold F P Z E S
  pointwise [k0_pay1]

theorem av_at (v : FVec Ideal Cert.Reference32Ideal.S4x256x4x256 .f32) (p : FVec Ideal Cert.Reference32Ideal.S4x4x2048x256 .f32) (b h : Fin 4) (i : Fin 2048) (d : Fin 256) (a : Fin 8192) (e : Fin 1024)
    (ha : a.val = b.val * 2048 + i.val) (he : e.val = h.val * 256 + d.val) :
    Cert.Reference32Ideal.Ref.av v p (ix2 a e) = ∑ j : Fin 256, v (ix4 b j h d) * p (ix4 b h i j) := by
  pointwise [Cert.Reference32Ideal.Ref.av]
  blk_point []

theorem res0_at (x0 : FVec Ideal S8192x1024 .bf16) (x1 : FVec Ideal S1024x2048 .bf16) (a : Fin 8192) (e : Fin 1024) :
    Cert.Reference32Ideal.Ref.res0 x0 x1 (ix2 a e) = G x0 x1 a e := by
  unfold Cert.Reference32Ideal.Ref.res0 G F
  rw [av_at _ _ (bq a) (hd e) (rq a) (ln e) a e (by unfold bq rq; dsimp only; omega) (by unfold hd ln; dsimp only; omega)]
  simp only [prA_at, v4_at]
  exact Finset.sum_congr rfl fun j _ => mul_comm _ _

variable (m : (ℓ : Loc nD τ sig) → Buf (Elt Ideal) ℓ)

theorem outs3 (c : Dev nD) (t : Fin cfg0.N) (i : Fin 2048) (d : Fin 256) : out0_3 (iblk m c 0 t) (iblk m c 1 t) (iblk m c 2 t) (ix2 i d)
    = F (fun i d => iblk m c 0 t (ix2 i d)) (fun j d => iblk m c 1 t (ix2 j d)) (fun j d => iblk m c 2 t (ix2 j d)) i d := by
  unfold out0_3
  frame_out
  rw [pay1_at]

theorem idx : ∀ t : Fin cfg0.N, win0_0.index t = ![t.val / 4, t.val % 4] ∧ win0_1.index t = ![t.val / 4, t.val % 4] ∧ win0_2.index t = ![t.val / 4, 4 + t.val % 4]
    ∧ win0_3.index t = ![t.val / 4, t.val % 4] :=
  (by decide +kernel : ∀ t : Fin grid0.N, _)

/-- The batch of a grid point. -/
def tb (t : Fin cfg0.N) : Fin 4 := ⟨t.val / 4, by have : t.val < 16 := lt_of_lt_of_eq t.isLt (show cfg0.N = 16 from N_0); omega⟩

/-- The head of a grid point. -/
def th (t : Fin cfg0.N) : Fin 4 := ⟨t.val % 4, by omega⟩

theorem blks (c : Dev nD) (t : Fin cfg0.N) : (fun (i : Fin 2048) (d : Fin 256) => iblk m c 0 t (ix2 i d)) = Qf (m ((c : Thread nD τ).loc main_arg0)) (tb t) (th t)
    ∧ (fun (i : Fin 256) (d : Fin 256) => iblk m c 1 t (ix2 i d)) = Kf (m ((c : Thread nD τ).loc main_arg1)) (tb t) (th t)
    ∧ (fun (i : Fin 256) (d : Fin 256) => iblk m c 2 t (ix2 i d)) = Vf (m ((c : Thread nD τ).loc main_arg1)) (tb t) (th t) := by
  refine ⟨?_, ?_, ?_⟩ <;> funext i d
  · unfold Qf tb th
    blk_ext [iblk, V, idx t]
  · unfold Kf tb th
    blk_ext [iblk, V, idx t]
  · unfold Vf tb th
    blk_ext [iblk, V, idx t]

/-- The result array. -/
def R (x0 : FVec Ideal S8192x1024 .bf16) (x1 : FVec Ideal S1024x2048 .bf16) : FVec Ideal S8192x1024 .bf16 := fun i => G x0 x1 (i 0) (i 1)

theorem point (c : Dev nD) (t : Fin cfg0.N) (y : S2048x256.Idx) (i : S8192x1024.Idx)
    (ha : (i 0).val = (tb t).val * 2048 + (y 0).val) (he : (i 1).val = (th t).val * 256 + (y 1).val) : out0_3 (iblk m c 0 t) (iblk m c 1 t) (iblk m c 2 t) y
    = R (m ((c : Thread nD τ).loc main_arg0)) (m ((c : Thread nD τ).loc main_arg1)) i := by
  obtain ⟨b0, b1, b2⟩ := blks m c t
  rw [eq_ix2 y, outs3 m c t (y 0) (y 1)]
  unfold R G
  rw [bq_eq (i 0) _ (y 0) ha, rq_eq (i 0) _ (y 0) ha, hd_eq (i 1) _ (y 1) he, ln_eq (i 1) _ (y 1) he, ← b0, ← b1, ← b2]

theorem final (c : Dev nD) : (dats m 0 c).arrAt 3 (cfgs 0).N = R (m ((c : Thread nD τ).loc main_arg0)) (m ((c : Thread nD τ).loc main_arg1)) := by
  refine (dats m 0 c).arrAt_eq_of_covers 3 _ (by decide +kernel) fun t _ y => ?_
  rw [after0_3]
  have h0 : (((cfg0.win 3).blk t).view.emb y 0 : ℕ) = (tb t).val * 2048 + (y 0 : ℕ) := by
    unfold tb; blk_simp; simp [idx t]
  have h1 : (((cfg0.win 3).blk t).view.emb y 1 : ℕ) = (th t).val * 256 + (y 1 : ℕ) := by
    unfold th; blk_simp; simp [idx t]
  have h := point m c t y (((cfg0.win 3).blk t).view.emb y) h0 h1
  generalize out0_3 (iblk m c 0 t) (iblk m c 1 t) (iblk m c 2 t) = o at h ⊢
  exact h

end Cert.Kernel32Ideal.Attn

end
-- ==== Proof.Claim32.lean ====
module

public import proofs.«01_k».proof.Proof.AttnF
public import proofs.«01_k».proof.Proof.Ref32
public import proofs.«01_k».proof.Proof.Gen.Kernel32.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the attention. -/

namespace Cert.Proof

theorem frame32 : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

theorem algebraic32 : Cert.algebraic_Kernel32Ideal_Reference32Ideal := by
  pair_intro
  · run_from Cert.Kernel32Ideal.Gen.run_main m g
  · refine (θ_run Cert.Reference32Ideal.defs _ _).mono (fun r h c => ⟨(h c).1.trans ((show _ = Cert.Reference32Ideal.Ref.res0 (m' ((c.tc : Thread Cert.Reference32Ideal.nD Cert.Reference32Ideal.τ).loc Cert.Reference32Ideal.main_arg0)) (m' ((c.tc : Thread Cert.Reference32Ideal.nD Cert.Reference32Ideal.τ).loc Cert.Reference32Ideal.main_arg1)) from rfl).trans ?_), (h c).2⟩)
      (Cert.Reference32Ideal.Value.run (F := Ideal) m' g')
    obtain ⟨a0, a1⟩ := hagree c
    rw [a0, a1]
    funext i
    refine Eq.trans ?_ (congrFun (Cert.Kernel32Ideal.Attn.final m c) i).symm
    rw [eq_ix2 i]
    exact Cert.Kernel32Ideal.Attn.res0_at _ _ (i 0) (i 1)

end Cert.Proof

end
-- ==== Proof.Ref33.lean ====
module

public import proofs.«01_k».proof.Defs
public import proofs.«01_k».proof.Proof.Gen.Reference33Ideal.Run

@[expose] public section

set_option maxRecDepth 16384

noncomputable section

/-! The results of the reference as terms over its argument arrays. -/

namespace Cert.Reference33Ideal.Ref

open Cert.Reference33Ideal Cert.Reference33Ideal.Gen Idealize.ShloMosaic Idealize.ShloMosaic.TcCoe Idealize.SL.Sem

/-- Result 0 of the reference. -/
abbrev res0 (x0 : FVec Ideal S8192x10368 .f32) (x1 : FVec Ideal S8192x1024 .bf16) (x2 : FVec Ideal S8192x1024 .bf16) : FVec Ideal S8192x1024 .bf16 :=
  truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 8192] x0 slices_S8192x10368_S8192x1024_0_8192))))) (extf .f32 x1 bitsLt_bf16_f32)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 9216] x0 slices_S8192x10368_S8192x1024_0_9216))))) (extf .f32 x2 bitsLt_bf16_f32))) bitsLt_bf16_f32

end Cert.Reference33Ideal.Ref

end
-- ==== Proof.MergeF.lean ====
module

public import proofs.«01_k».proof.Proof.Gen.Kernel33Ideal.Frame
public import proofs.«01_k».proof.Proof.Ref33
public import proofs.«01_k».proof.Proof.Real
public import Idealize.ShloMosaic.Lib.Pointwise
public import Idealize.ShloMosaic.Lib.Pipeline.ValueKit

@[expose] public section

set_option maxRecDepth 16384

noncomputable section

/-! The merge of the two branches: each block, and the whole array. -/

open Idealize.ShloMosaic Idealize.ShloMosaic.TcCoe Idealize.SL.Sem
open Idealize.ShloMosaic.Pipeline (Dat)

namespace Cert.Kernel33Ideal.Merge

open Cert.Kernel33Ideal Cert.Kernel33Ideal.Gen

variable (m : (ℓ : Loc nD τ sig) → Buf (Elt Ideal) ℓ)

theorem idx : ∀ t : Fin cfg0.N, win0_0.index t = ![t.val, 8] ∧ win0_1.index t = ![t.val, 9] ∧ win0_2.index t = ![t.val, 0] ∧ win0_3.index t = ![t.val, 0]
    ∧ win0_4.index t = ![t.val, 0] :=
  (by decide +kernel : ∀ t : Fin grid0.N, _)

/-- The first gate block of a point: columns 8192 to 9215 of the rows of the point. -/
theorem X0_at (c : Dev nD) (t : Fin cfg0.N) (j : S512x1024.Idx) (i : S8192x10368.Idx) (h0 : (i 0 : ℕ) = t.val * 512 + j 0) (h1 : (i 1 : ℕ) = 8192 + j 1) :
    X0_0 m c t j = m ((c : Thread nD τ).loc main_arg0) i := by
  unfold X0_0 Pipeline.Window.fill
  rw [dif_pos (moved0_0 t j)]
  blk_ext [iblk, V, idx t]

/-- The second gate block of a point: columns 9216 to 10239. -/
theorem X1_at (c : Dev nD) (t : Fin cfg0.N) (j : S512x1024.Idx) (i : S8192x10368.Idx) (h0 : (i 0 : ℕ) = t.val * 512 + j 0) (h1 : (i 1 : ℕ) = 9216 + j 1) :
    X0_1 m c t j = m ((c : Thread nD τ).loc main_arg0) i := by
  unfold X0_1 Pipeline.Window.fill
  rw [dif_pos (moved0_1 t j)]
  blk_ext [iblk, V, idx t]

theorem final4 (c : Dev nD) : (dats m 0 c).arrAt 4 (cfgs 0).N
    = Cert.Reference33Ideal.Ref.res0 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  pointwise [k0_pay1, Cert.Reference33Ideal.Ref.res0]
  simp only [← Ideal.logistic.eq_1]
  refine congrArg₂ (· + ·) (congrArg₂ (· * ·) (congrArg Ideal.logistic (X0_at m c t _ _ ?_ ?_)) ?_)
    (congrArg₂ (· * ·) (congrArg Ideal.logistic (X1_at m c t _ _ ?_ ?_)) ?_)
  · blk_simp [idx t]
  · blk_simp [idx t] <;> omega
  · blk_point [iblk, V, idx t]
  · blk_simp [idx t]
  · blk_simp [idx t] <;> omega
  · blk_point [iblk, V, idx t]

end Cert.Kernel33Ideal.Merge

end
-- ==== Proof.Claim33.lean ====
module

public import proofs.«01_k».proof.Proof.MergeF
public import proofs.«01_k».proof.Proof.Gen.Kernel33.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

/-! The claims about the merge. -/

namespace Cert.Proof

theorem frame33 : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

theorem algebraic33 : Cert.algebraic_Kernel33Ideal_Reference33Ideal := by
  pair_intro
  · run_from Cert.Kernel33Ideal.Gen.run_main m g
  · run_from Cert.Reference33Ideal.Value.run m' g'
    exact (Cert.Kernel33Ideal.Merge.final4 m c).symm

end Cert.Proof

end
-- ==== Proof.SumG.lean ====
module

public import proofs.«01_k».proof.Proof.Gen.Kernel34Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The sum of the gathered gradients of the small weights: the one block, and the whole array. -/

open Idealize.ShloMosaic Idealize.ShloMosaic.TcCoe Idealize.SL.Sem
open Idealize.ShloMosaic.Pipeline (Dat)

namespace Cert.Kernel34Ideal.Sum

open Cert.Kernel34Ideal Cert.Kernel34Ideal.Gen

/-- The sum over the first axis. -/
def G (x0 : FVec Ideal S8x8x1920 .f32) (i : S8x1920.Idx) : EReal :=
  ∑ k : Fin 8, x0 (ix3 k (i 0) (i 1))

/-- The same over the blocks of a point. -/
def B (x0 : FVec Ideal S8x8x1920 .f32) (y : S8x1920.Idx) : EReal :=
  ∑ k : Fin 8, x0 (ix3 k (y 0) (y 1))

theorem out_at (x0 : FVec Ideal S8x8x1920 .f32) (y : S8x1920.Idx) : out0_1 (F := Ideal) x0 y = B x0 y := by
  unfold out0_1
  unfold B
  rw [Fin.sum_univ_eight]
  canon_tiles x h
  all_goals (open_payloads; pointwise; try blk_point [])

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

theorem final (c : Dev nD) (i : S8x1920.Idx) : (dats m 0 c).arrAt 1 (cfgs 0).N i
    = G (m ((c : Thread nD τ).loc main_arg0)) i := by
  refine congrFun ((dats m 0 c).arrAt_eq_of_covers 1 (fun i => G (m ((c : Thread nD τ).loc main_arg0)) i) (by decide +kernel) fun t _ y => ?_) i
  blk_simp
  rw [after0_1, out_at]
  unfold G B
  blk_point [iblk, V, idx t]

end Cert.Kernel34Ideal.Sum

end
-- ==== Proof.Ref34.lean ====
module

public import proofs.«01_k».proof.Defs
public import proofs.«01_k».proof.Proof.Gen.Reference34Ideal.Run

@[expose] public section

set_option maxRecDepth 16384

noncomputable section

/-! The results of the reference as terms over its argument arrays. -/

namespace Cert.Reference34Ideal.Ref

open Cert.Reference34Ideal Cert.Reference34Ideal.Gen Idealize.ShloMosaic Idealize.ShloMosaic.TcCoe Idealize.SL.Sem

/-- Result 0 of the reference. -/
abbrev res0 (x0 : FVec Ideal S8x8x1920 .f32) : FVec Ideal S8x1920 .f32 :=
  Host.reduceAdd x0 (constant S_ .f32 0x00000000#32) reducesTo_S8x8x1920_S8x1920_d0 h_S_

end Cert.Reference34Ideal.Ref

end
-- ==== Proof.Claim34.lean ====
module

public import proofs.«01_k».proof.Proof.SumG
public import proofs.«01_k».proof.Proof.Ref34
public import proofs.«01_k».proof.Proof.Gen.Kernel34.Frame
public import Idealize.ShloMosaic.Lib.Claim
public import Idealize.ShloMosaic.Lib.Quiescent

@[expose] public section

set_option maxRecDepth 16384

noncomputable section

/-! The claims about the sum of the gathered gradients of the small weights. -/

open Idealize.ShloMosaic Idealize.ShloMosaic.TcCoe Idealize.SL.Sem

namespace Cert.Proof

theorem frame34 : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

theorem res34_at (x0 : FVec Ideal Cert.Kernel34Ideal.S8x8x1920 .f32) (i : Cert.Kernel34Ideal.S8x1920.Idx) :
    Cert.Reference34Ideal.Ref.res0 x0 i = Cert.Kernel34Ideal.Sum.G x0 i := by
  unfold Cert.Reference34Ideal.Ref.res0 Cert.Kernel34Ideal.Sum.G
  pointwise

theorem algebraic34 : Cert.algebraic_Kernel34Ideal_Reference34Ideal := by
  pair_intro
  · run_from Cert.Kernel34Ideal.Gen.run_main m g
  · refine (θ_run Cert.Reference34Ideal.defs _ _).mono (fun r h c => ⟨(h c).1.trans ?_, (h c).2⟩)
      (Cert.Reference34Ideal.Value.run (F := Ideal) m' g')
    obtain a0 := hagree c
    rw [a0]
    funext i
    exact (res34_at _ i).trans (Cert.Kernel34Ideal.Sum.final m c i).symm

end Cert.Proof

end
-- ==== Proof.LossN.lean ====
module

public import proofs.«01_k».proof.Proof.Gen.Kernel35Ideal.Frame
public import proofs.«01_k».proof.Proof.Ffn
public import Idealize.ShloMosaic.Lib.Pipeline.ReadBack
public import Idealize.ShloMosaic.Lib.Pointwise
public import Idealize.ShloMosaic.Lib.Pipeline.ValueKit

@[expose] public section

set_option maxRecDepth 16384

noncomputable section

/-! The last norm, the squared error and the gradient of the loss: the blocks, and the three arrays. -/

open Idealize.ShloMosaic Idealize.ShloMosaic.TcCoe Idealize.SL.Sem
open Idealize.ShloMosaic.Pipeline (Dat)
open Cert.Kernel5Ideal.Ffn (rr)

namespace Cert.Kernel35Ideal.Loss

open Cert.Kernel35Ideal Cert.Kernel35Ideal.Gen

/-- The sum of squares of row `i`. -/
def sqAll (x0 : FVec Ideal S8192x1024 .f32) (i : Fin 8192) : EReal := ∑ k : Fin 1024, x0 (ix2 i k) * x0 (ix2 i k)

/-- The sum of squares of a block's row `i`. -/
def sqB (x0 : FVec Ideal S512x1024 .f32) (i : Fin 512) : EReal := ∑ k : Fin 1024, x0 (ix2 i k) * x0 (ix2 i k)

/-- The error: the normalised entry times the gain, less the target. -/
def erAll (x0 : FVec Ideal S8192x1024 .f32) (x1 : FVec Ideal S1x1024 .f32) (x2 : FVec Ideal S8192x1024 .f32) (i : Fin 8192) (j : Fin 1024) : EReal :=
  x0 (ix2 i j) * rr (sqAll x0 i) * x1 (ix2 0 j) - x2 (ix2 i j)

/-- The same over a block. -/
def erB (x0 : FVec Ideal S512x1024 .f32) (x1 : FVec Ideal S1x1024 .f32) (x2 : FVec Ideal S512x1024 .f32) (i : Fin 512) (j : Fin 1024) : EReal :=
  x0 (ix2 i j) * rr (sqB x0 i) * x1 (ix2 0 j) - x2 (ix2 i j)

/-- The gradient of the normalised row: the error over the width. -/
def dnAll (x0 : FVec Ideal S8192x1024 .f32) (x1 : FVec Ideal S1x1024 .f32) (x2 : FVec Ideal S8192x1024 .f32) (i : Fin 8192) (j : Fin 1024) : EReal := erAll x0 x1 x2 i j * Ideal.ofBits .f32 0x3A800000#32

/-- The same over a block. -/
def dnB (x0 : FVec Ideal S512x1024 .f32) (x1 : FVec Ideal S1x1024 .f32) (x2 : FVec Ideal S512x1024 .f32) (i : Fin 512) (j : Fin 1024) : EReal := erB x0 x1 x2 i j * Ideal.ofBits .f32 0x3A800000#32

/-- The gradient of a row of the normalisation at one entry, as in the feed-forward block's but without a residual. -/
def rowOf (s p d g x : EReal) : EReal := rr s * (d * g - x * rr s * Ideal.div p (Ideal.ofBits .f32 0x44800000#32))

/-- The first result: the sums of the squared errors of each column. -/
def G3 (x0 : FVec Ideal S8192x1024 .f32) (x1 : FVec Ideal S1x1024 .f32) (x2 : FVec Ideal S8192x1024 .f32) (i : S1x1024.Idx) : EReal := ∑ k : Fin 8192, erAll x0 x1 x2 k (i 1) * erAll x0 x1 x2 k (i 1)

/-- One block's part of it. -/
def B3 (x0 : FVec Ideal S512x1024 .f32) (x1 : FVec Ideal S1x1024 .f32) (x2 : FVec Ideal S512x1024 .f32) (i : S1x1024.Idx) : EReal := ∑ k : Fin 512, erB x0 x1 x2 k (i 1) * erB x0 x1 x2 k (i 1)

/-- The second result: the gradient of the rows. -/
def G4 (x0 : FVec Ideal S8192x1024 .f32) (x1 : FVec Ideal S1x1024 .f32) (x2 : FVec Ideal S8192x1024 .f32) (i : S8192x1024.Idx) : EReal :=
  rowOf (sqAll x0 (i 0)) (∑ k : Fin 1024, dnAll x0 x1 x2 (i 0) k * x1 (ix2 0 k) * (x0 (ix2 (i 0) k) * rr (sqAll x0 (i 0)))) (dnAll x0 x1 x2 (i 0) (i 1))
    (x1 (ix2 0 (i 1))) (x0 i)

/-- The same over a block. -/
def B4 (x0 : FVec Ideal S512x1024 .f32) (x1 : FVec Ideal S1x1024 .f32) (x2 : FVec Ideal S512x1024 .f32) (i : S512x1024.Idx) : EReal :=
  rowOf (sqB x0 (i 0)) (∑ k : Fin 1024, dnB x0 x1 x2 (i 0) k * x1 (ix2 0 k) * (x0 (ix2 (i 0) k) * rr (sqB x0 (i 0)))) (dnB x0 x1 x2 (i 0) (i 1))
    (x1 (ix2 0 (i 1))) (x0 i)

/-- The third result: the gradient of the gain. -/
def G5 (x0 : FVec Ideal S8192x1024 .f32) (x1 : FVec Ideal S1x1024 .f32) (x2 : FVec Ideal S8192x1024 .f32) (i : S1x1024.Idx) : EReal := ∑ k : Fin 8192, dnAll x0 x1 x2 k (i 1) * (x0 (ix2 k (i 1)) * rr (sqAll x0 k))

/-- One block's part of it. -/
def B5 (x0 : FVec Ideal S512x1024 .f32) (x1 : FVec Ideal S1x1024 .f32) (x2 : FVec Ideal S512x1024 .f32) (i : S1x1024.Idx) : EReal := ∑ k : Fin 512, dnB x0 x1 x2 k (i 1) * (x0 (ix2 k (i 1)) * rr (sqB x0 k))

theorem pay1_at (x0 : FVec Ideal S512x1024 .f32) (x1 : FVec Ideal S1x1024 .f32) (x2 : FVec Ideal S512x1024 .f32) (y : S512x1024.Idx) :
    k0_pay1 (F := Ideal) (k0_pay4 x0) (k0_pay5 x0) (k0_pay8 x0 x1 x2) x1 y = B4 x0 x1 x2 y := by
  unfold B4 rowOf dnB erB sqB rr
  pointwise [k0_pay1, k0_pay8, k0_pay6, k0_pay5, k0_pay4]

theorem pay7_at (x0 : FVec Ideal S512x1024 .f32) (x1 : FVec Ideal S1x1024 .f32) (x2 : FVec Ideal S512x1024 .f32) (acc : FVec Ideal S1x1024 .f32) (y : S1x1024.Idx) : k0_pay7 (F := Ideal) x0 x1 x2 acc y = acc y + B3 x0 x1 x2 y := by
  unfold B3 erB sqB rr
  pointwise [k0_pay7, k0_pay6, k0_pay5, k0_pay4]

theorem pay9_at (x0 : FVec Ideal S512x1024 .f32) (x1 : FVec Ideal S1x1024 .f32) (x2 : FVec Ideal S512x1024 .f32) (acc : FVec Ideal S1x1024 .f32) (y : S1x1024.Idx) : k0_pay9 (F := Ideal) x0 x1 x2 acc y = acc y + B5 x0 x1 x2 y := by
  unfold B5 dnB erB sqB rr
  pointwise [k0_pay9, k0_pay8, k0_pay6, k0_pay5, k0_pay4]

theorem pay2_at (y : S1x1024.Idx) : k0_pay2 (F := Ideal) y = 0 := by
  pointwise [k0_pay2]

theorem pay3_at (y : S1x1024.Idx) : k0_pay3 (F := Ideal) y = 0 := by
  pointwise [k0_pay3]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

theorem rows_at (c : Dev nD) (t : Fin cfg0.N) (y : S512x1024.Idx) : (outsAt0 m c t.val t.isLt).2.1 y = B4 (iblk m c 0 t) (iblk m c 1 t) (iblk m c 2 t) y := by
  by_cases h : t.val % 16 = 0
  · rw [outsAt0_A m c t h]
    frame_out
    rw [pay1_at]
  · rw [outsAt0_B m c t h]
    frame_out
    rw [pay1_at]

theorem final4 (c : Dev nD) (i : S8192x1024.Idx) : (dats m 0 c).arrAt 4 (cfgs 0).N i = G4 (m ((c : Thread nD τ).loc main_arg0)) (m ((c : Thread nD τ).loc main_arg1)) (m ((c : Thread nD τ).loc main_arg2)) i := by
  refine congrFun ((dats m 0 c).arrAt_eq_of_covers 4 (fun i => G4 (m ((c : Thread nD τ).loc main_arg0)) (m ((c : Thread nD τ).loc main_arg1)) (m ((c : Thread nD τ).loc main_arg2)) i) (by decide +kernel) fun t _ y => ?_) i
  blk_simp
  rw [after0_4, rows_at m c t]
  unfold B4 G4 dnB dnAll erB erAll sqB sqAll
  blk_point [iblk, V, idx t]

theorem sum_first (c : Dev nD) (t : Fin cfg0.N) (h : t.val % 16 = 0) (y : S1x1024.Idx) :
    (outsAt0 m c t.val t.isLt).1 y = 0 + B3 (iblk m c 0 t) (iblk m c 1 t) (iblk m c 2 t) y := by
  rw [outsAt0_A m c t h]
  frame_out
  rw [pay7_at, pay2_at]

theorem sum_next (c : Dev nD) (t : Fin cfg0.N) (h : ¬t.val % 16 = 0) (y : S1x1024.Idx) :
    (outsAt0 m c t.val t.isLt).1 y = (outsAt0 m c (t.val - 1) (Nat.lt_of_le_of_lt (Nat.sub_le _ _) t.isLt)).1 y + B3 (iblk m c 0 t) (iblk m c 1 t) (iblk m c 2 t) y := by
  rw [outsAt0_B m c t h]
  frame_out
  rw [pay7_at]

theorem final3 (c : Dev nD) (i : S1x1024.Idx) : (dats m 0 c).arrAt 3 (cfgs 0).N i = G3 (m ((c : Thread nD τ).loc main_arg0)) (m ((c : Thread nD τ).loc main_arg1)) (m ((c : Thread nD τ).loc main_arg2)) i := by
  refine congrFun ((dats m 0 c).arrAt_eq_of_covers 3 (fun i => G3 (m ((c : Thread nD τ).loc main_arg0)) (m ((c : Thread nD τ).loc main_arg1)) (m ((c : Thread nD τ).loc main_arg2)) i) (by decide +kernel) fun t hf y => ?_) i
  blk_simp
  rw [after0_3, Pipeline.eq_sum_fin_of_reset_step_apply_of_flush (fun n h => (outsAt0 m c n h).1) 16 (fun _ => 0)
    (fun p y => B3 (iblk m c 0 p) (iblk m c 1 p) (iblk m c 2 p) y)
    (fun t h j => sum_first m c t h j) (fun t h j => sum_next m c t h j) t ((flush0_3 t).mp hf) _, zero_add]
  unfold B3 G3
  refine Fin.sum_mul_add_congr fun s k hl => ?_
  have hN : t.val < 16 := lt_of_lt_of_eq t.isLt (show cfg0.N = 16 from N_0)
  unfold erB erAll sqB sqAll
  blk_point [iblk, V, idx t, idx ⟨_, Pipeline.run_point_lt_of_flush t ((flush0_3 t).mp hf) s⟩]

theorem gain_first (c : Dev nD) (t : Fin cfg0.N) (h : t.val % 16 = 0) (y : S1x1024.Idx) :
    (outsAt0 m c t.val t.isLt).2.2 y = 0 + B5 (iblk m c 0 t) (iblk m c 1 t) (iblk m c 2 t) y := by
  rw [outsAt0_A m c t h]
  frame_out
  rw [pay9_at, pay3_at]

theorem gain_next (c : Dev nD) (t : Fin cfg0.N) (h : ¬t.val % 16 = 0) (y : S1x1024.Idx) :
    (outsAt0 m c t.val t.isLt).2.2 y = (outsAt0 m c (t.val - 1) (Nat.lt_of_le_of_lt (Nat.sub_le _ _) t.isLt)).2.2 y + B5 (iblk m c 0 t) (iblk m c 1 t) (iblk m c 2 t) y := by
  rw [outsAt0_B m c t h]
  frame_out
  rw [pay9_at]

theorem final5 (c : Dev nD) (i : S1x1024.Idx) : (dats m 0 c).arrAt 5 (cfgs 0).N i = G5 (m ((c : Thread nD τ).loc main_arg0)) (m ((c : Thread nD τ).loc main_arg1)) (m ((c : Thread nD τ).loc main_arg2)) i := by
  refine congrFun ((dats m 0 c).arrAt_eq_of_covers 5 (fun i => G5 (m ((c : Thread nD τ).loc main_arg0)) (m ((c : Thread nD τ).loc main_arg1)) (m ((c : Thread nD τ).loc main_arg2)) i) (by decide +kernel) fun t hf y => ?_) i
  blk_simp
  rw [after0_5, Pipeline.eq_sum_fin_of_reset_step_apply_of_flush (fun n h => (outsAt0 m c n h).2.2) 16 (fun _ => 0)
    (fun p y => B5 (iblk m c 0 p) (iblk m c 1 p) (iblk m c 2 p) y)
    (fun t h j => gain_first m c t h j) (fun t h j => gain_next m c t h j) t ((flush0_5 t).mp hf) _, zero_add]
  unfold B5 G5
  refine Fin.sum_mul_add_congr fun s k hl => ?_
  have hN : t.val < 16 := lt_of_lt_of_eq t.isLt (show cfg0.N = 16 from N_0)
  unfold dnB dnAll erB erAll sqB sqAll
  blk_point [iblk, V, idx t, idx ⟨_, Pipeline.run_point_lt_of_flush t ((flush0_5 t).mp hf) s⟩]

end Cert.Kernel35Ideal.Loss

end
-- ==== Proof.Ref35.lean ====
module

public import proofs.«01_k».proof.Defs
public import proofs.«01_k».proof.Proof.Gen.Reference35Ideal.Run

@[expose] public section

set_option maxRecDepth 16384

noncomputable section

/-! The results of the reference as terms over its argument arrays. -/

namespace Cert.Reference35Ideal.Ref

open Cert.Reference35Ideal Cert.Reference35Ideal.Gen Idealize.ShloMosaic Idealize.ShloMosaic.TcCoe Idealize.SL.Sem

/-- Result 0 of the reference. -/
abbrev res0 (x0 : FVec Ideal S8192x1024 .f32) (x1 : FVec Ideal S1x1024 .f32) (x2 : FVec Ideal S8192x1024 .f32) : FVec Ideal S1x1024 .f32 :=
  broadcastInDim S1x1024 ![1] bcast_S1024_S1x1024_1 (Host.reduceAdd (mulf (subf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) x2) (subf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) x2)) (constant S_ .f32 0x00000000#32) reducesTo_S8192x1024_S1024_d0 h_S_)

/-- An intermediate array of the reference. -/
abbrev main_v62 (x0 : FVec Ideal S8192x1024 .f32) (x1 : FVec Ideal S1x1024 .f32) (x2 : FVec Ideal S8192x1024 .f32) : FVec Ideal S8192x1024 .f32 :=
  addf (addf (mulf (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) x2))) (broadcastInDim S8192x1024 ![0, 1] bcast_S1x1024_S8192x1024_0_1 x1)) (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x0 (broadcastInDim S8192x1024 ![0] bcast_S8192_S8192x1024_0 (Host.reduceAdd (Host.divf (mulf (shapeCast _ (Host.reduceAdd (mulf x0 (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) x2))) (broadcastInDim S8192x1024 ![0, 1] bcast_S1x1024_S8192x1024_0_1 x1))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x0 (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) x2))) (broadcastInDim S8192x1024 ![0, 1] bcast_S1x1024_S8192x1024_0_1 x1))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x0)

/-- Result 1 of the reference. -/
abbrev res1 (x0 : FVec Ideal S8192x1024 .f32) (x1 : FVec Ideal S1x1024 .f32) (x2 : FVec Ideal S8192x1024 .f32) : FVec Ideal S8192x1024 .f32 :=
  (main_v62 x0 x1 x2)

/-- Result 2 of the reference. -/
abbrev res2 (x0 : FVec Ideal S8192x1024 .f32) (x1 : FVec Ideal S1x1024 .f32) (x2 : FVec Ideal S8192x1024 .f32) : FVec Ideal S1x1024 .f32 :=
  shapeCast _ (Host.reduceAdd (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) x2)))) (constant S_ .f32 0x00000000#32) reducesTo_S8192x1024_S1024_d0 h_S_) shapeCasts_S1024_S1x1024

end Cert.Reference35Ideal.Ref

end
-- ==== Proof.LossRef.lean ====
module

public import proofs.«01_k».proof.Proof.LossN
public import proofs.«01_k».proof.Proof.Ref35
public import proofs.«01_k».proof.Proof.Norm

@[expose] public section

set_option maxRecDepth 16384

noncomputable section

/-! The reference's three results as the same closed forms. -/

open Idealize.ShloMosaic Idealize.ShloMosaic.TcCoe Idealize.SL.Sem
open Cert.Kernel5Ideal.Ffn (rr)

namespace Cert.Kernel35Ideal.Loss

open Cert.Kernel35Ideal Cert.Kernel35Ideal.Gen

theorem two_bits : Ideal.ofBits .f32 0x40000000#32 = ((2 : ℝ) : EReal) := by
  simp [Ideal.ofBits, Ideal.ieee, -EReal.coe_mul]; try norm_num

theorem part_bits : Ideal.ofBits .f32 0x3A800000#32 = ((1 / 1024 : ℝ) : EReal) := by
  simp [Ideal.ofBits, Ideal.ieee, -EReal.coe_mul]; try norm_num

/-- Half over the width times twice the error is the error over the width. -/
theorem part_eq (e : EReal) : Ideal.div (Ideal.ofBits .f32 0x3F000000#32) (Ideal.ofBits .f32 0x44800000#32)
    * (Ideal.ofBits .f32 0x40000000#32 * e) = e * Ideal.ofBits .f32 0x3A800000#32 := by
  rw [two_bits, part_bits, Cert.Real.half_bits, Cert.Norm.div_width, ← mul_assoc, ← EReal.coe_mul, mul_comm]
  norm_num

theorem res0_at (x0 : FVec Ideal S8192x1024 .f32) (x1 : FVec Ideal S1x1024 .f32) (x2 : FVec Ideal S8192x1024 .f32) (b : Fin 1024) : Cert.Reference35Ideal.Ref.res0 x0 x1 x2 (ix2 0 b) = G3 x0 x1 x2 (ix2 0 b) := by
  unfold Cert.Reference35Ideal.Ref.res0 G3 erAll rr sqAll
  pointwise

theorem res2_at (x0 : FVec Ideal S8192x1024 .f32) (x1 : FVec Ideal S1x1024 .f32) (x2 : FVec Ideal S8192x1024 .f32) (b : Fin 1024) : Cert.Reference35Ideal.Ref.res2 x0 x1 x2 (ix2 0 b) = G5 x0 x1 x2 (ix2 0 b) := by
  unfold Cert.Reference35Ideal.Ref.res2 G5 dnAll erAll rr sqAll
  pointwise
  refine Finset.sum_congr rfl fun k _ => ?_
  rw [part_eq, mul_comm]

/-- The gradient of the normalised row is real. -/
theorem dn_real (x0 : FVec Ideal S8192x1024 .f32) (x1 : FVec Ideal S1x1024 .f32) (x2 : FVec Ideal S8192x1024 .f32) (h0 : ∀ i, ∃ r : ℝ, x0 i = (r : EReal)) (h1 : ∀ i, ∃ r : ℝ, x1 i = (r : EReal)) (h2 : ∀ i, ∃ r : ℝ, x2 i = (r : EReal))
    (i : Fin 8192) (j : Fin 1024) : ∃ r : ℝ, dnAll x0 x1 x2 i j = (r : EReal) := by
  choose f0 e0 using h0
  choose f1 e1 using h1
  choose f2 e2 using h2
  have hS : sqAll x0 i = ((∑ k : Fin 1024, f0 (ix2 i k) * f0 (ix2 i k) : ℝ) : EReal) := by
    unfold sqAll; simp only [e0]; exact Cert.Real.sum_mul_coe _ _
  have hv := Cert.Norm.var_pos (s := ∑ k : Fin 1024, f0 (ix2 i k) * f0 (ix2 i k)) (Finset.sum_nonneg fun k _ => mul_self_nonneg _)
  unfold dnAll erAll rr
  rw [hS, Cert.Norm.var_real, Cert.Norm.rsqrt_real hv, part_bits, e0, e1, e2]
  simp only [← EReal.coe_mul, ← EReal.coe_sub]
  exact ⟨_, rfl⟩

theorem res1_at (x0 : FVec Ideal S8192x1024 .f32) (x1 : FVec Ideal S1x1024 .f32) (x2 : FVec Ideal S8192x1024 .f32) (h0 : ∀ i, ∃ r : ℝ, x0 i = (r : EReal)) (h1 : ∀ i, ∃ r : ℝ, x1 i = (r : EReal)) (h2 : ∀ i, ∃ r : ℝ, x2 i = (r : EReal))
    (a : Fin 8192) (b : Fin 1024) : Cert.Reference35Ideal.Ref.res1 x0 x1 x2 (ix2 a b) = G4 x0 x1 x2 (ix2 a b) := by
  have hd := dn_real x0 x1 x2 h0 h1 h2
  choose D eD using hd
  choose f0 e0 using h0
  choose f1 e1 using h1
  have hS : sqAll x0 a = ((∑ k : Fin 1024, f0 (ix2 a k) * f0 (ix2 a k) : ℝ) : EReal) := by
    unfold sqAll; simp only [e0]; exact Cert.Real.sum_mul_coe _ _
  have hv := Cert.Norm.var_pos (s := ∑ k : Fin 1024, f0 (ix2 a k) * f0 (ix2 a k)) (Finset.sum_nonneg fun k _ => mul_self_nonneg _)
  unfold Cert.Reference35Ideal.Ref.res1 Cert.Reference35Ideal.Ref.main_v62
  unfold G4 rowOf rr
  pointwise
  unfold dnAll erAll rr at eD ⊢
  simp only [part_eq]
  unfold sqAll at eD hS ⊢
  simp only [eD]
  simp only [hS]
  generalize ∑ k : Fin 1024, f0 (ix2 a k) * f0 (ix2 a k) = S at hv ⊢
  rw [Cert.Norm.var_real, Cert.Norm.rsqrt_real hv, Cert.Real.div_real _ _ hv.ne', Cert.Norm.neg_half_bits]
  simp only [e0, e1, ← EReal.coe_mul, ← Cert.Real.coe_sum, Cert.Norm.div_width, ← EReal.coe_add, ← EReal.coe_sub, Finset.univ_unique, Finset.sum_singleton]
  congr 1
  have hp : ∑ k : Fin 1024, D a k * f1 (ix2 0 k) * (f0 (ix2 a k) * (Real.sqrt (Cert.Norm.var S))⁻¹)
      = (∑ k : Fin 1024, f0 (ix2 a k) * (D a k * f1 (ix2 0 k))) * (Real.sqrt (Cert.Norm.var S))⁻¹ := by
    rw [Finset.sum_mul]
    exact Finset.sum_congr rfl fun k _ => by ring
  rw [hp]
  have h := Cert.Norm.row hv (D a b * f1 (ix2 0 b)) (∑ k : Fin 1024, f0 (ix2 a k) * (D a k * f1 (ix2 0 k))) (f0 (ix2 a b)) 0
  rw [zero_add, add_zero] at h
  exact h

end Cert.Kernel35Ideal.Loss

end
-- ==== Proof.Claim35.lean ====
module

public import proofs.«01_k».proof.Proof.LossRef
public import proofs.«01_k».proof.Proof.Gen.Kernel35.Frame
public import Idealize.ShloMosaic.Lib.Claim
public import Idealize.ShloMosaic.Lib.Quiescent

@[expose] public section

set_option maxRecDepth 16384

noncomputable section

/-! The claims about the loss and its gradient. -/

open Idealize.ShloMosaic Idealize.ShloMosaic.TcCoe Idealize.SL.Sem

namespace Cert.Proof

theorem facts35 : Cert.Pre_finite35.Facts := by
  constructor <;> decide

/-- What the precondition says: every entry of every argument is a real number. -/
theorem pre35 [Cert.Pre_finite35.Facts] (x0 : FVec Ideal Cert.Pre_finite35.S8192x1024 .f32) (x1 : FVec Ideal Cert.Pre_finite35.S1x1024 .f32)
    (x2 : FVec Ideal Cert.Pre_finite35.S8192x1024 .f32)
    (h : Cert.Pre_finite35.fn (F := Ideal) x0 x1 x2 = fun _ => 1#1) :
    (∀ i, ∃ r : ℝ, x0 i = (r : EReal)) ∧ (∀ i, ∃ r : ℝ, x1 i = (r : EReal)) ∧ ∀ i, ∃ r : ℝ, x2 i = (r : EReal) := by
  have h' := congrFun h (fun a => a.elim0)
  unfold Cert.Pre_finite35.fn at h'
  obtain ⟨h', e2⟩ := Cert.Real.andi_one h'
  obtain ⟨h', e1⟩ := Cert.Real.andi_one h'
  obtain ⟨-, e0⟩ := Cert.Real.andi_one h'
  exact ⟨Cert.Real.all_finite _ _ _ _ _ _ _ e0, Cert.Real.all_finite _ _ _ _ _ _ _ e1, Cert.Real.all_finite _ _ _ _ _ _ _ e2⟩

theorem frame35 : Cert.quiescent_Reference35Ideal := fun m ρ _ =>
  (θ_run Cert.Reference35Ideal.defs _ _).mono (fun r h => ⟨fun c => (h c).2.2.2, sem_eq_zero_of_no_sems (by decide) r.2⟩)
    (Cert.Reference35Ideal.Value.run (F := Ideal) m ρ)

theorem res1_val35 (m' : (ℓ : Loc Cert.Reference35Ideal.nD Cert.Reference35Ideal.τ Cert.Reference35Ideal.sig) → Buf (Elt Ideal) ℓ) (c : Dev Cert.Reference35Ideal.nD) :
    Cert.Reference35Ideal.Value.res_main_v62 (F := Ideal) m' c
      = Cert.Reference35Ideal.Ref.res1 (m' ((c.tc : Thread _ _).loc Cert.Reference35Ideal.main_arg0)) (m' ((c.tc : Thread _ _).loc Cert.Reference35Ideal.main_arg1)) (m' ((c.tc : Thread _ _).loc Cert.Reference35Ideal.main_arg2)) := rfl

theorem rows35 (m : (ℓ : Loc Cert.Kernel35Ideal.nD Cert.Kernel35Ideal.τ Cert.Kernel35Ideal.sig) → Buf (Elt Ideal) ℓ) (c : Dev Cert.Kernel35Ideal.nD)
    [Cert.Pre_finite35.Facts] (hpre : Cert.Pre_Kernel35Ideal_finite35 m) :
    Cert.Reference35Ideal.Ref.res1 (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))
      = (Cert.Kernel35Ideal.Gen.dats m 0 c).arrAt 4 (Cert.Kernel35Ideal.cfgs 0).N := by
  obtain ⟨h0, h1, h2⟩ := pre35 _ _ _ (hpre c)
  funext i
  refine Eq.trans ?_ (Cert.Kernel35Ideal.Loss.final4 m c i).symm
  rw [eq_ix2 i]
  exact Cert.Kernel35Ideal.Loss.res1_at _ _ _ h0 h1 h2 (i 0) (i 1)

theorem sum35 (m : (ℓ : Loc Cert.Kernel35Ideal.nD Cert.Kernel35Ideal.τ Cert.Kernel35Ideal.sig) → Buf (Elt Ideal) ℓ) (c : Dev Cert.Kernel35Ideal.nD) :
    Cert.Reference35Ideal.Ref.res0 (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))
      = (Cert.Kernel35Ideal.Gen.dats m 0 c).arrAt 3 (Cert.Kernel35Ideal.cfgs 0).N := by
  funext i
  refine Eq.trans ?_ (Cert.Kernel35Ideal.Loss.final3 m c i).symm
  have e : i = ix2 0 (i 1) := (eq_ix2 i).trans (congrArg (fun a => ix2 a (i 1)) (Subsingleton.elim (α := Fin 1) _ _))
  rw [e]
  exact Cert.Kernel35Ideal.Loss.res0_at _ _ _ (i 1)

theorem gain35 (m : (ℓ : Loc Cert.Kernel35Ideal.nD Cert.Kernel35Ideal.τ Cert.Kernel35Ideal.sig) → Buf (Elt Ideal) ℓ) (c : Dev Cert.Kernel35Ideal.nD) :
    Cert.Reference35Ideal.Ref.res2 (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))
      = (Cert.Kernel35Ideal.Gen.dats m 0 c).arrAt 5 (Cert.Kernel35Ideal.cfgs 0).N := by
  funext i
  refine Eq.trans ?_ (Cert.Kernel35Ideal.Loss.final5 m c i).symm
  have e : i = ix2 0 (i 1) := (eq_ix2 i).trans (congrArg (fun a => ix2 a (i 1)) (Subsingleton.elim (α := Fin 1) _ _))
  rw [e]
  exact Cert.Kernel35Ideal.Loss.res2_at _ _ _ (i 1)

theorem algebraic35 : Cert.algebraic_Kernel35Ideal_Reference35Ideal_pre_finite35 (hPre_finite35 := facts35) := by
  haveI := facts35
  pair_intro
  · run_from Cert.Kernel35Ideal.Gen.run_main m g
  · refine (θ_run Cert.Reference35Ideal.defs _ _).mono (fun r h c => ⟨(h c).1.trans ?_, (h c).2.1.trans ((res1_val35 m' c).trans ?_), (h c).2.2.1.trans ?_, (h c).2.2.2⟩)
      (Cert.Reference35Ideal.Value.run (F := Ideal) m' g')
    · obtain ⟨a0, a1, a2⟩ := hagree c
      rw [a0, a1, a2]
      exact sum35 m c
    · obtain ⟨a0, a1, a2⟩ := hagree c
      rw [a0, a1, a2]
      exact rows35 m c hpre
    · obtain ⟨a0, a1, a2⟩ := hagree c
      rw [a0, a1, a2]
      exact gain35 m c

end Cert.Proof

end
-- ==== Proof.NormF.lean ====
module

public import proofs.«01_k».proof.Proof.Gen.Kernel36Ideal.Frame
public import proofs.«01_k».proof.Proof.Ffn
public import Idealize.ShloMosaic.Lib.Pipeline.ReadBack
public import Idealize.ShloMosaic.Lib.Pointwise
public import Idealize.ShloMosaic.Lib.Pipeline.ValueKit

@[expose] public section

set_option maxRecDepth 16384

noncomputable section

/-! The norm before the first feed-forward block: each block of the normalised rows, and the whole array. -/

open Idealize.ShloMosaic Idealize.ShloMosaic.TcCoe Idealize.SL.Sem
open Idealize.ShloMosaic.Pipeline (Dat)
open Cert.Kernel5Ideal.Ffn (rr)

namespace Cert.Kernel36Ideal.Norm

open Cert.Kernel36Ideal Cert.Kernel36Ideal.Gen

/-- The rows over the root of their mean square, times the gain. -/
def G (x0 : FVec Ideal S8192x1024 .f32) (x1 : FVec Ideal S1x1024 .f32) (i : S8192x1024.Idx) : EReal :=
  x0 i * rr (∑ k : Fin 1024, x0 (ix2 (i 0) k) * x0 (ix2 (i 0) k)) * x1 (ix2 0 (i 1))

/-- The same over the blocks of a point. -/
def B (x0 : FVec Ideal S512x1024 .f32) (x1 : FVec Ideal S1x1024 .f32) (y : S512x1024.Idx) : EReal :=
  x0 y * rr (∑ k : Fin 1024, x0 (ix2 (y 0) k) * x0 (ix2 (y 0) k)) * x1 (ix2 0 (y 1))

theorem out_at (x0 : FVec Ideal S512x1024 .f32) (x1 : FVec Ideal S1x1024 .f32) (y : S512x1024.Idx) : out0_2 (F := Ideal) x0 x1 y = B x0 x1 y := by
  unfold out0_2
  unfold B rr
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S8192x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel36Ideal.Norm

end
-- ==== Proof.Ref36.lean ====
module

public import proofs.«01_k».proof.Defs
public import proofs.«01_k».proof.Proof.Gen.Reference36Ideal.Run

@[expose] public section

set_option maxRecDepth 16384

noncomputable section

/-! The results of the reference as terms over its argument arrays. -/

namespace Cert.Reference36Ideal.Ref

open Cert.Reference36Ideal Cert.Reference36Ideal.Gen Idealize.ShloMosaic Idealize.ShloMosaic.TcCoe Idealize.SL.Sem

/-- Result 0 of the reference. -/
abbrev res0 (x0 : FVec Ideal S8192x1024 .f32) (x1 : FVec Ideal S1x1024 .f32) : FVec Ideal S8192x1024 .bf16 :=
  truncf .bf16 (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) bitsLt_bf16_f32

end Cert.Reference36Ideal.Ref

end
-- ==== Proof.Claim36.lean ====
module

public import proofs.«01_k».proof.Proof.NormF
public import proofs.«01_k».proof.Proof.Ref36
public import proofs.«01_k».proof.Proof.Gen.Kernel36.Frame
public import Idealize.ShloMosaic.Lib.Claim
public import Idealize.ShloMosaic.Lib.Quiescent

@[expose] public section

set_option maxRecDepth 16384

noncomputable section

/-! The claims about the norm before the first feed-forward block. -/

open Idealize.ShloMosaic Idealize.ShloMosaic.TcCoe Idealize.SL.Sem

namespace Cert.Proof

theorem frame36 : Cert.quiescent_Reference36Ideal := fun m ρ _ =>
  (θ_run Cert.Reference36Ideal.defs _ _).mono (fun r h => ⟨fun c => (h c).2, sem_eq_zero_of_no_sems (by decide) r.2⟩)
    (Cert.Reference36Ideal.Value.run (F := Ideal) m ρ)

theorem res36_at (x0 : FVec Ideal Cert.Kernel36Ideal.S8192x1024 .f32) (x1 : FVec Ideal Cert.Kernel36Ideal.S1x1024 .f32) (i : Cert.Kernel36Ideal.S8192x1024.Idx) :
    Cert.Reference36Ideal.Ref.res0 x0 x1 i = Cert.Kernel36Ideal.Norm.G x0 x1 i := by
  unfold Cert.Reference36Ideal.Ref.res0 Cert.Kernel36Ideal.Norm.G
  unfold Cert.Kernel5Ideal.Ffn.rr
  pointwise

theorem algebraic36 : Cert.algebraic_Kernel36Ideal_Reference36Ideal := by
  pair_intro
  · run_from Cert.Kernel36Ideal.Gen.run_main m g
  · refine (θ_run Cert.Reference36Ideal.defs _ _).mono (fun r h c => ⟨(h c).1.trans ?_, (h c).2⟩)
      (Cert.Reference36Ideal.Value.run (F := Ideal) m' g')
    obtain ⟨a0, a1⟩ := hagree c
    rw [a0, a1]
    funext i
    exact (res36_at _ _ i).trans (Cert.Kernel36Ideal.Norm.final m c i).symm

end Cert.Proof

end
-- ==== Proof.NormMem.lean ====
module

public import proofs.«01_k».proof.Proof.Gen.Kernel37Ideal.Frame
public import proofs.«01_k».proof.Proof.Ffn
public import Idealize.ShloMosaic.Lib.Pipeline.ReadBack
public import Idealize.ShloMosaic.Lib.Pointwise
public import Idealize.ShloMosaic.Lib.Pipeline.ValueKit

@[expose] public section

set_option maxRecDepth 16384

noncomputable section

/-! The memory's norm: each block of the normalised rows, and the whole array. -/

open Idealize.ShloMosaic Idealize.ShloMosaic.TcCoe Idealize.SL.Sem
open Idealize.ShloMosaic.Pipeline (Dat)
open Cert.Kernel5Ideal.Ffn (rr)

namespace Cert.Kernel37Ideal.Norm

open Cert.Kernel37Ideal Cert.Kernel37Ideal.Gen

/-- The rows over the root of their mean square, times the gain. -/
def G (x0 : FVec Ideal S1024x1024 .f32) (x1 : FVec Ideal S1x1024 .f32) (i : S1024x1024.Idx) : EReal :=
  x0 i * rr (∑ k : Fin 1024, x0 (ix2 (i 0) k) * x0 (ix2 (i 0) k)) * x1 (ix2 0 (i 1))

/-- The same over the blocks of a point. -/
def B (x0 : FVec Ideal S512x1024 .f32) (x1 : FVec Ideal S1x1024 .f32) (y : S512x1024.Idx) : EReal :=
  x0 y * rr (∑ k : Fin 1024, x0 (ix2 (y 0) k) * x0 (ix2 (y 0) k)) * x1 (ix2 0 (y 1))

theorem out_at (x0 : FVec Ideal S512x1024 .f32) (x1 : FVec Ideal S1x1024 .f32) (y : S512x1024.Idx) : out0_2 (F := Ideal) x0 x1 y = B x0 x1 y := by
  unfold out0_2
  unfold B rr
  canon_tiles x h
  all_goals (open_payloads; pointwise; try blk_point [])

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) (i : S1024x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel37Ideal.Norm

end
-- ==== Proof.Ref37.lean ====
module

public import proofs.«01_k».proof.Defs
public import proofs.«01_k».proof.Proof.Gen.Reference37Ideal.Run

@[expose] public section

set_option maxRecDepth 16384

noncomputable section

/-! The results of the reference as terms over its argument arrays. -/

namespace Cert.Reference37Ideal.Ref

open Cert.Reference37Ideal Cert.Reference37Ideal.Gen Idealize.ShloMosaic Idealize.ShloMosaic.TcCoe Idealize.SL.Sem

/-- Result 0 of the reference. -/
abbrev res0 (x0 : FVec Ideal S1024x1024 .f32) (x1 : FVec Ideal S1x1024 .f32) : FVec Ideal S1024x1024 .bf16 :=
  truncf .bf16 (mulf (mulf x0 (broadcastInDim S1024x1024 ![0, 1] bcast_S1024x1_S1024x1024_0_1 (Host.rsqrt (addf (Host.divf (broadcastInDim S1024x1 ![0] bcast_S1024_S1024x1_0 (Host.reduceAdd (mulf x0 x0) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 x1)) bitsLt_bf16_f32

end Cert.Reference37Ideal.Ref

end
-- ==== Proof.Claim37.lean ====
module

public import proofs.«01_k».proof.Proof.NormMem
public import proofs.«01_k».proof.Proof.Ref37
public import proofs.«01_k».proof.Proof.Gen.Kernel37.Frame
public import Idealize.ShloMosaic.Lib.Claim
public import Idealize.ShloMosaic.Lib.Quiescent

@[expose] public section

set_option maxRecDepth 16384

noncomputable section

/-! The claims about the memory's norm. -/

open Idealize.ShloMosaic Idealize.ShloMosaic.TcCoe Idealize.SL.Sem

namespace Cert.Proof

theorem frame37 : Cert.quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

theorem res37_at (x0 : FVec Ideal Cert.Kernel37Ideal.S1024x1024 .f32) (x1 : FVec Ideal Cert.Kernel37Ideal.S1x1024 .f32) (i : Cert.Kernel37Ideal.S1024x1024.Idx) :
    Cert.Reference37Ideal.Ref.res0 x0 x1 i = Cert.Kernel37Ideal.Norm.G x0 x1 i := by
  unfold Cert.Reference37Ideal.Ref.res0 Cert.Kernel37Ideal.Norm.G
  unfold Cert.Kernel5Ideal.Ffn.rr
  pointwise

theorem algebraic37 : Cert.algebraic_Kernel37Ideal_Reference37Ideal := by
  pair_intro
  · run_from Cert.Kernel37Ideal.Gen.run_main m g
  · refine (θ_run Cert.Reference37Ideal.defs _ _).mono (fun r h c => ⟨(h c).1.trans ?_, (h c).2⟩)
      (Cert.Reference37Ideal.Value.run (F := Ideal) m' g')
    obtain ⟨a0, a1⟩ := hagree c
    rw [a0, a1]
    funext i
    exact (res37_at _ _ i).trans (Cert.Kernel37Ideal.Norm.final m c i).symm

end Cert.Proof

end
-- ==== Proof.MemN.lean ====
module

public import proofs.«01_k».proof.Proof.Gen.Kernel38Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the memory's normalised rows: the block of the product, and the whole array. -/

open Idealize.ShloMosaic Idealize.ShloMosaic.TcCoe Idealize.SL.Sem
open Idealize.ShloMosaic.Pipeline (Dat)

namespace Cert.Kernel38Ideal.Prod

open Cert.Kernel38Ideal Cert.Kernel38Ideal.Gen

/-- The product with the transposed weight. -/
def G (x0 : FVec Ideal S1024x2048 .f32) (x1 : FVec Ideal S1024x2048 .f32) (i : S1024x1024.Idx) : EReal :=
  ∑ k : Fin 2048, x0 (ix2 (i 0) k) * x1 (ix2 (i 1) k)

/-- The same over the blocks of a point. -/
def B (x0 : FVec Ideal S1024x2048 .f32) (x1 : FVec Ideal S1024x2048 .f32) (y : S1024x1024.Idx) : EReal :=
  ∑ k : Fin 2048, x0 (ix2 (y 0) k) * x1 (ix2 (y 1) k)

theorem out_at (x0 : FVec Ideal S1024x2048 .f32) (x1 : FVec Ideal S1024x2048 .f32) (y : S1024x1024.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem final (c : Dev nD) (i : S1024x1024.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel38Ideal.Prod

end
-- ==== Proof.Ref38.lean ====
module

public import proofs.«01_k».proof.Defs
public import proofs.«01_k».proof.Proof.Gen.Reference38Ideal.Run

@[expose] public section

set_option maxRecDepth 16384

noncomputable section

/-! The results of the reference as terms over its argument arrays. -/

namespace Cert.Reference38Ideal.Ref

open Cert.Reference38Ideal Cert.Reference38Ideal.Gen Idealize.ShloMosaic Idealize.ShloMosaic.TcCoe Idealize.SL.Sem

/-- Result 0 of the reference. -/
abbrev res0 (x0 : FVec Ideal S1024x2048 .f32) (x1 : FVec Ideal S1024x2048 .f32) : FVec Ideal S1024x1024 .f32 :=
  Host.dotGeneral dot_S1024x2048_S1024x2048_S1024x1024_1_1_0_0_n_n none x0 x1

end Cert.Reference38Ideal.Ref

end
-- ==== Proof.Claim38.lean ====
module

public import proofs.«01_k».proof.Proof.MemN
public import proofs.«01_k».proof.Proof.Ref38
public import proofs.«01_k».proof.Proof.Gen.Kernel38.Frame
public import Idealize.ShloMosaic.Lib.Claim
public import Idealize.ShloMosaic.Lib.Quiescent

@[expose] public section

set_option maxRecDepth 16384

noncomputable section

/-! The claims about the gradient of the memory's normalised rows. -/

open Idealize.ShloMosaic Idealize.ShloMosaic.TcCoe Idealize.SL.Sem

namespace Cert.Proof

theorem frame38 : Cert.quiescent_Reference38Ideal := fun m ρ _ =>
  (θ_run Cert.Reference38Ideal.defs _ _).mono (fun r h => ⟨fun c => (h c).2, sem_eq_zero_of_no_sems (by decide) r.2⟩)
    (Cert.Reference38Ideal.Value.run (F := Ideal) m ρ)

theorem res38_at (x0 : FVec Ideal Cert.Kernel38Ideal.S1024x2048 .f32) (x1 : FVec Ideal Cert.Kernel38Ideal.S1024x2048 .f32) (i : Cert.Kernel38Ideal.S1024x1024.Idx) :
    Cert.Reference38Ideal.Ref.res0 x0 x1 i = Cert.Kernel38Ideal.Prod.G x0 x1 i := by
  unfold Cert.Reference38Ideal.Ref.res0 Cert.Kernel38Ideal.Prod.G
  pointwise

theorem algebraic38 : Cert.algebraic_Kernel38Ideal_Reference38Ideal := by
  pair_intro
  · run_from Cert.Kernel38Ideal.Gen.run_main m g
  · refine (θ_run Cert.Reference38Ideal.defs _ _).mono (fun r h c => ⟨(h c).1.trans ?_, (h c).2⟩)
      (Cert.Reference38Ideal.Value.run (F := Ideal) m' g')
    obtain ⟨a0, a1⟩ := hagree c
    rw [a0, a1]
    funext i
    exact (res38_at _ _ i).trans (Cert.Kernel38Ideal.Prod.final m c i).symm

end Cert.Proof

end
-- ==== Proof.KvW.lean ====
module

public import proofs.«01_k».proof.Proof.Gen.Kernel39Ideal.Frame
public import Idealize.ShloMosaic.Lib.Pipeline.ReadBack
public import Idealize.ShloMosaic.Lib.Pointwise
public import Idealize.ShloMosaic.Lib.Pipeline.ValueKit

@[expose] public section

set_option maxRecDepth 16384

noncomputable section

/-! The gradient of the keys' and values' weight, in its four column shards: each block of the product, and the whole array. -/

open Idealize.ShloMosaic Idealize.ShloMosaic.TcCoe Idealize.SL.Sem
open Idealize.ShloMosaic.Pipeline (Dat)

namespace Cert.Kernel39Ideal.Weight

open Cert.Kernel39Ideal Cert.Kernel39Ideal.Gen

/-- The product over all rows. -/
def G (x0 : FVec Ideal S1024x1024 .bf16) (x1 : FVec Ideal S1024x2048 .f32) (i : S4x1024x512.Idx) : EReal :=
  ∑ k : Fin 1024, x0 (ix2 k (i 1)) * x1 (ix2 k ⟨(i 0).val * 512 + (i 2).val, by have h0 : (i 0).val < 4 := (i 0).isLt; have h2 : (i 2).val < 512 := (i 2).isLt; omega⟩)

/-- The same over the blocks of a point. -/
def B (x0 : FVec Ideal S1024x1024 .bf16) (x1 : FVec Ideal S1024x512 .f32) (y : S1x1024x512.Idx) : EReal :=
  ∑ k : Fin 1024, x0 (ix2 k (y 1)) * x1 (ix2 k (y 2))

theorem out_at (x0 : FVec Ideal S1024x1024 .bf16) (x1 : FVec Ideal S1024x512 .f32) (y : S1x1024x512.Idx) : out0_2 (F := Ideal) x0 x1 y = B x0 x1 y := by
  unfold out0_2
  unfold B
  canon_tiles x h
  all_goals (open_payloads; pointwise; try blk_point [])

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

theorem final (c : Dev nD) (i : S4x1024x512.Idx) : (dats m 0 c).arrAt 2 (cfgs 0).N i
    = G (m ((c : Thread nD τ).loc main_arg0)) (m ((c : Thread nD τ).loc main_arg1)) i := by
  refine congrFun ((dats m 0 c).arrAt_eq_of_covers 2 (fun i => G (m ((c : Thread nD τ).loc main_arg0)) (m ((c : Thread nD τ).loc main_arg1)) i) (by decide +kernel) fun t _ y => ?_) i
  blk_simp
  rw [after0_2, out_at]
  unfold G B
  blk_point [iblk, V, idx t]

end Cert.Kernel39Ideal.Weight

end
-- ==== Proof.Ref39.lean ====
module

public import proofs.«01_k».proof.Defs
public import proofs.«01_k».proof.Proof.Gen.Reference39Ideal.Run

@[expose] public section

set_option maxRecDepth 16384

noncomputable section

/-! The results of the reference as terms over its argument arrays. -/

namespace Cert.Reference39Ideal.Ref

open Cert.Reference39Ideal Cert.Reference39Ideal.Gen Idealize.ShloMosaic Idealize.ShloMosaic.TcCoe Idealize.SL.Sem

/-- Result 0 of the reference. -/
abbrev res0 (x0 : FVec Ideal S1024x1024 .bf16) (x1 : FVec Ideal S1024x2048 .f32) : FVec Ideal S4x1024x512 .f32 :=
  (concatenate S4x1024x512 0 [⟨S1x1024x512, ((broadcastInDim S1x1024x512 ![1, 2] bcast_S1024x512_S1x1024x512_1_2 (extractStridedSlice S1024x512 ![0, 0] (transpose S1024x2048 [1, 0] (Host.dotGeneral dot_S1024x2048_S1024x1024_S2048x1024_0_0_1_1_n_n none x1 (extf .f32 x0 bitsLt_bf16_f32)) transposes_S2048x1024_S1024x2048_1_0) slices_S1024x2048_S1024x512_0_0)) : (⟨S1x1024x512, .f32⟩ : BufTy).Contents (Elt Ideal))⟩, ⟨S1x1024x512, ((broadcastInDim S1x1024x512 ![1, 2] bcast_S1024x512_S1x1024x512_1_2 (extractStridedSlice S1024x512 ![0, 512] (transpose S1024x2048 [1, 0] (Host.dotGeneral dot_S1024x2048_S1024x1024_S2048x1024_0_0_1_1_n_n none x1 (extf .f32 x0 bitsLt_bf16_f32)) transposes_S2048x1024_S1024x2048_1_0) slices_S1024x2048_S1024x512_0_512)) : (⟨S1x1024x512, .f32⟩ : BufTy).Contents (Elt Ideal))⟩, ⟨S1x1024x512, ((broadcastInDim S1x1024x512 ![1, 2] bcast_S1024x512_S1x1024x512_1_2 (extractStridedSlice S1024x512 ![0, 1024] (transpose S1024x2048 [1, 0] (Host.dotGeneral dot_S1024x2048_S1024x1024_S2048x1024_0_0_1_1_n_n none x1 (extf .f32 x0 bitsLt_bf16_f32)) transposes_S2048x1024_S1024x2048_1_0) slices_S1024x2048_S1024x512_0_1024)) : (⟨S1x1024x512, .f32⟩ : BufTy).Contents (Elt Ideal))⟩, ⟨S1x1024x512, ((broadcastInDim S1x1024x512 ![1, 2] bcast_S1024x512_S1x1024x512_1_2 (extractStridedSlice S1024x512 ![0, 1536] (transpose S1024x2048 [1, 0] (Host.dotGeneral dot_S1024x2048_S1024x1024_S2048x1024_0_0_1_1_n_n none x1 (extf .f32 x0 bitsLt_bf16_f32)) transposes_S2048x1024_S1024x2048_1_0) slices_S1024x2048_S1024x512_0_1536)) : (⟨S1x1024x512, .f32⟩ : BufTy).Contents (Elt Ideal))⟩] concatenates_S1x1024x512_S1x1024x512_S1x1024x512_S1x1024x512_S4x1024x512_d0 : (⟨S4x1024x512, .f32⟩ : BufTy).Contents (Elt Ideal))

end Cert.Reference39Ideal.Ref

end
-- ==== Proof.Claim39.lean ====
module

public import proofs.«01_k».proof.Proof.KvW
public import proofs.«01_k».proof.Proof.Ref39
public import proofs.«01_k».proof.Proof.Gen.Kernel39.Frame
public import Idealize.ShloMosaic.Lib.Claim
public import Idealize.ShloMosaic.Lib.Quiescent

@[expose] public section

set_option maxRecDepth 16384

noncomputable section

/-! The claims about the gradient of the keys' and values' weight. -/

open Idealize.ShloMosaic Idealize.ShloMosaic.TcCoe Idealize.SL.Sem

namespace Cert.Proof

theorem frame39 : Cert.quiescent_Reference39Ideal := fun m ρ _ =>
  (θ_run Cert.Reference39Ideal.defs _ _).mono (fun r h => ⟨fun c => (h c).2, sem_eq_zero_of_no_sems (by decide) r.2⟩)
    (Cert.Reference39Ideal.Value.run (F := Ideal) m ρ)

theorem res39_at (x0 : FVec Ideal Cert.Kernel39Ideal.S1024x1024 .bf16) (x1 : FVec Ideal Cert.Kernel39Ideal.S1024x2048 .f32) (i : Cert.Kernel39Ideal.S4x1024x512.Idx) :
    Cert.Reference39Ideal.Ref.res0 x0 x1 i = Cert.Kernel39Ideal.Weight.G x0 x1 i := by
  unfold Cert.Reference39Ideal.Ref.res0 Cert.Kernel39Ideal.Weight.G
  pointwise
  have h0 : (i 0).val < 4 := (i 0).isLt
  have h2 : (i 2).val < 512 := (i 2).isLt
  repeat' split
  all_goals
    refine Finset.sum_congr rfl fun k _ => (mul_comm _ _).trans ?_
    refine congrArg₂ (· * ·) rfl (congrArg x1 ?_)
    congr 1
    apply Fin.ext
    simp only [Fin.val_mk]
    omega

theorem algebraic39 : Cert.algebraic_Kernel39Ideal_Reference39Ideal := by
  pair_intro
  · run_from Cert.Kernel39Ideal.Gen.run_main m g
  · refine (θ_run Cert.Reference39Ideal.defs _ _).mono (fun r h c => ⟨(h c).1.trans ?_, (h c).2⟩)
      (Cert.Reference39Ideal.Value.run (F := Ideal) m' g')
    obtain ⟨a0, a1⟩ := hagree c
    rw [a0, a1]
    funext i
    exact (res39_at _ _ i).trans (Cert.Kernel39Ideal.Weight.final m c i).symm

end Cert.Proof

end
-- ==== Proof.lean ====
module

public import proofs.«01_k».proof.Defs
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import proofs.«01_k».proof.Proof.Claim8
public import proofs.«01_k».proof.Proof.Claim9
public import proofs.«01_k».proof.Proof.Claim10
public import proofs.«01_k».proof.Proof.Claim11
public import proofs.«01_k».proof.Proof.Claim12
public import proofs.«01_k».proof.Proof.Claim13
public import proofs.«01_k».proof.Proof.Claim14
public import proofs.«01_k».proof.Proof.Claim15
public import proofs.«01_k».proof.Proof.Claim16
public import proofs.«01_k».proof.Proof.Claim17
public import proofs.«01_k».proof.Proof.Claim18
public import proofs.«01_k».proof.Proof.Claim19
public import proofs.«01_k».proof.Proof.Claim20
public import proofs.«01_k».proof.Proof.Claim21
public import proofs.«01_k».proof.Proof.Claim22
public import proofs.«01_k».proof.Proof.Claim23
public import proofs.«01_k».proof.Proof.Claim24
public import proofs.«01_k».proof.Proof.Claim25
public import proofs.«01_k».proof.Proof.Claim26
public import proofs.«01_k».proof.Proof.Claim27
public import proofs.«01_k».proof.Proof.Claim28
public import proofs.«01_k».proof.Proof.Claim29
public import proofs.«01_k».proof.Proof.Claim30
public import proofs.«01_k».proof.Proof.Claim31
public import proofs.«01_k».proof.Proof.Claim32
public import proofs.«01_k».proof.Proof.Claim33
public import proofs.«01_k».proof.Proof.Claim34
public import proofs.«01_k».proof.Proof.Claim35
public import proofs.«01_k».proof.Proof.Claim36
public import proofs.«01_k».proof.Proof.Claim37
public import proofs.«01_k».proof.Proof.Claim38
public import proofs.«01_k».proof.Proof.Claim39
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Reference39Ideal.Run

@[expose] public section

noncomputable section

/-! The claims of all programs together: the frames, then each kernel's value against its reference. -/

namespace Cert.Proof

open Idealize.ShloMosaic Idealize.SL.Sem

theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, facts2, facts3, facts5, facts6, facts17, facts35,
    fun m ρ _ => Cert.Kernel2.Gen.frame m ρ,
    fun m ρ _ => Cert.Kernel2Ideal.Gen.frame m ρ,
    fun m ρ _ => Cert.Kernel2Ideal.Gen.frame m ρ,
    frame2,
    fun m ρ _ => frame2 m ρ trivial,
    fun m ρ _ => Cert.Kernel3.Gen.frame m ρ,
    fun m ρ _ => Cert.Kernel3Ideal.Gen.frame m ρ,
    fun m ρ _ => Cert.Kernel3Ideal.Gen.frame m ρ,
    frame3,
    fun m ρ _ => frame3 m ρ trivial,
    fun m ρ _ => Cert.Kernel4.Gen.frame m ρ,
    fun m ρ _ => Cert.Kernel4Ideal.Gen.frame m ρ,
    frame4,
    fun m ρ _ => Cert.Kernel5.Gen.frame m ρ,
    fun m ρ _ => Cert.Kernel5Ideal.Gen.frame m ρ,
    fun m ρ _ => Cert.Kernel5Ideal.Gen.frame m ρ,
    frame5,
    fun m ρ _ => frame5 m ρ trivial,
    fun m ρ _ => Cert.Kernel6.Gen.frame m ρ,
    fun m ρ _ => Cert.Kernel6Ideal.Gen.frame m ρ,
    fun m ρ _ => Cert.Kernel6Ideal.Gen.frame m ρ,
    frame6,
    fun m ρ _ => frame6 m ρ trivial,
    fun m ρ _ => Cert.Kernel7.Gen.frame m ρ,
    fun m ρ _ => Cert.Kernel7Ideal.Gen.frame m ρ,
    frame7,
    fun m ρ _ => Cert.Kernel8.Gen.frame m ρ,
    fun m ρ _ => Cert.Kernel8Ideal.Gen.frame m ρ,
    frame8,
    fun m ρ _ => Cert.Kernel9.Gen.frame m ρ,
    fun m ρ _ => Cert.Kernel9Ideal.Gen.frame m ρ,
    frame9,
    fun m ρ _ => Cert.Kernel10.Gen.frame m ρ,
    fun m ρ _ => Cert.Kernel10Ideal.Gen.frame m ρ,
    frame10,
    fun m ρ _ => Cert.Kernel11.Gen.frame m ρ,
    fun m ρ _ => Cert.Kernel11Ideal.Gen.frame m ρ,
    frame11,
    fun m ρ _ => Cert.Kernel12.Gen.frame m ρ,
    fun m ρ _ => Cert.Kernel12Ideal.Gen.frame m ρ,
    frame12,
    fun m ρ _ => Cert.Kernel13.Gen.frame m ρ,
    fun m ρ _ => Cert.Kernel13Ideal.Gen.frame m ρ,
    frame13,
    fun m ρ _ => Cert.Kernel14.Gen.frame m ρ,
    fun m ρ _ => Cert.Kernel14Ideal.Gen.frame m ρ,
    frame14,
    fun m ρ _ => Cert.Kernel15.Gen.frame m ρ,
    fun m ρ _ => Cert.Kernel15Ideal.Gen.frame m ρ,
    frame15,
    fun m ρ _ => Cert.Kernel16.Gen.frame m ρ,
    fun m ρ _ => Cert.Kernel16Ideal.Gen.frame m ρ,
    frame16,
    fun m ρ _ => Cert.Kernel17.Gen.frame m ρ,
    fun m ρ _ => Cert.Kernel17Ideal.Gen.frame m ρ,
    fun m ρ _ => Cert.Kernel17Ideal.Gen.frame m ρ,
    frame17,
    fun m ρ _ => frame17 m ρ trivial,
    fun m ρ _ => Cert.Kernel18.Gen.frame m ρ,
    fun m ρ _ => Cert.Kernel18Ideal.Gen.frame m ρ,
    frame18,
    fun m ρ _ => Cert.Kernel19.Gen.frame m ρ,
    fun m ρ _ => Cert.Kernel19Ideal.Gen.frame m ρ,
    frame19,
    fun m ρ _ => Cert.Kernel20.Gen.frame m ρ,
    fun m ρ _ => Cert.Kernel20Ideal.Gen.frame m ρ,
    frame20,
    fun m ρ _ => Cert.Kernel21.Gen.frame m ρ,
    fun m ρ _ => Cert.Kernel21Ideal.Gen.frame m ρ,
    frame21,
    fun m ρ _ => Cert.Kernel22.Gen.frame m ρ trivial,
    fun m ρ _ => Cert.Kernel22Ideal.Gen.frame m ρ trivial,
    frame22,
    fun m ρ _ => Cert.Kernel23.Gen.frame m ρ trivial,
    fun m ρ _ => Cert.Kernel23Ideal.Gen.frame m ρ trivial,
    frame23,
    fun m ρ _ => Cert.Kernel24.Gen.frame m ρ trivial,
    fun m ρ _ => Cert.Kernel24Ideal.Gen.frame m ρ trivial,
    frame24,
    fun m ρ _ => Cert.Kernel25.Gen.frame m ρ trivial,
    fun m ρ _ => Cert.Kernel25Ideal.Gen.frame m ρ trivial,
    frame25,
    fun m ρ _ => Cert.Kernel26.Gen.frame m ρ trivial,
    fun m ρ _ => Cert.Kernel26Ideal.Gen.frame m ρ trivial,
    frame26,
    fun m ρ _ => Cert.Kernel27.Gen.frame m ρ trivial,
    fun m ρ _ => Cert.Kernel27Ideal.Gen.frame m ρ trivial,
    frame27,
    fun m ρ _ => Cert.Kernel28.Gen.frame m ρ,
    fun m ρ _ => Cert.Kernel28Ideal.Gen.frame m ρ,
    frame28,
    fun m ρ _ => Cert.Kernel29.Gen.frame m ρ,
    fun m ρ _ => Cert.Kernel29Ideal.Gen.frame m ρ,
    frame29,
    fun m ρ _ => Cert.Kernel30.Gen.frame m ρ,
    fun m ρ _ => Cert.Kernel30Ideal.Gen.frame m ρ,
    frame30,
    fun m ρ _ => Cert.Kernel31.Gen.frame m ρ,
    fun m ρ _ => Cert.Kernel31Ideal.Gen.frame m ρ,
    frame31,
    fun m ρ _ => Cert.Kernel32.Gen.frame m ρ,
    fun m ρ _ => Cert.Kernel32Ideal.Gen.frame m ρ,
    frame32,
    fun m ρ _ => Cert.Kernel33.Gen.frame m ρ,
    fun m ρ _ => Cert.Kernel33Ideal.Gen.frame m ρ,
    frame33,
    fun m ρ _ => Cert.Kernel34.Gen.frame m ρ,
    fun m ρ _ => Cert.Kernel34Ideal.Gen.frame m ρ,
    frame34,
    fun m ρ _ => Cert.Kernel35.Gen.frame m ρ,
    fun m ρ _ => Cert.Kernel35Ideal.Gen.frame m ρ,
    fun m ρ _ => Cert.Kernel35Ideal.Gen.frame m ρ,
    frame35,
    fun m ρ _ => frame35 m ρ trivial,
    fun m ρ _ => Cert.Kernel36.Gen.frame m ρ,
    fun m ρ _ => Cert.Kernel36Ideal.Gen.frame m ρ,
    frame36,
    fun m ρ _ => Cert.Kernel37.Gen.frame m ρ,
    fun m ρ _ => Cert.Kernel37Ideal.Gen.frame m ρ,
    frame37,
    fun m ρ _ => Cert.Kernel38.Gen.frame m ρ,
    fun m ρ _ => Cert.Kernel38Ideal.Gen.frame m ρ,
    frame38,
    fun m ρ _ => Cert.Kernel39.Gen.frame m ρ,
    fun m ρ _ => Cert.Kernel39Ideal.Gen.frame m ρ,
    frame39,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16,
    trivial,
    algebraic17,
    trivial,
    algebraic18,
    trivial,
    algebraic19,
    trivial,
    algebraic20,
    trivial,
    algebraic21,
    trivial,
    algebraic22,
    trivial,
    algebraic23,
    trivial,
    algebraic24,
    trivial,
    algebraic25,
    trivial,
    algebraic26,
    trivial,
    algebraic27,
    trivial,
    algebraic28,
    trivial,
    algebraic29,
    trivial,
    algebraic30,
    trivial,
    algebraic31,
    trivial,
    algebraic32,
    trivial,
    algebraic33,
    trivial,
    algebraic34,
    trivial,
    algebraic35,
    trivial,
    algebraic36,
    trivial,
    algebraic37,
    trivial,
    algebraic38,
    trivial,
    algebraic39⟩

end Cert.Proof

end
